-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_S5Proj (m : (ℓ : Loc Cert.S5Proj.nD Cert.S5Proj.τ Cert.S5Proj.sig) → Buf (Elt Bits) ℓ) : Prop :=
  True

def Pre_S5ProjIdeal (m : (ℓ : Loc Cert.S5ProjIdeal.nD Cert.S5ProjIdeal.τ Cert.S5ProjIdeal.sig) → Buf (Elt Ideal) ℓ) : Prop :=
  True

def Pre_S5ProjReferenceIdeal (m : (ℓ : Loc Cert.S5ProjReferenceIdeal.nD Cert.S5ProjReferenceIdeal.τ Cert.S5ProjReferenceIdeal.sig) → Buf (Elt Ideal) ℓ) : Prop :=
  True

def Pre_S5Post (m : (ℓ : Loc Cert.S5Post.nD Cert.S5Post.τ Cert.S5Post.sig) → Buf (Elt Bits) ℓ) : Prop :=
  True

def Pre_S5PostIdeal (m : (ℓ : Loc Cert.S5PostIdeal.nD Cert.S5PostIdeal.τ Cert.S5PostIdeal.sig) → Buf (Elt Ideal) ℓ) : Prop :=
  True

def Pre_S5PostReferenceIdeal (m : (ℓ : Loc Cert.S5PostReferenceIdeal.nD Cert.S5PostReferenceIdeal.τ Cert.S5PostReferenceIdeal.sig) → Buf (Elt Ideal) ℓ) : Prop :=
  True

def Pre_DnPost (m : (ℓ : Loc Cert.DnPost.nD Cert.DnPost.τ Cert.DnPost.sig) → Buf (Elt Bits) ℓ) : Prop :=
  True

def Pre_DnPostIdeal (m : (ℓ : Loc Cert.DnPostIdeal.nD Cert.DnPostIdeal.τ Cert.DnPostIdeal.sig) → Buf (Elt Ideal) ℓ) : Prop :=
  True

def Pre_DnPostIdeal_dn_post_finite [hPre_dn_post_finite : Cert.Pre_dn_post_finite.Facts] (m : (ℓ : Loc Cert.DnPostIdeal.nD Cert.DnPostIdeal.τ Cert.DnPostIdeal.sig) → Buf (Elt Ideal) ℓ) : Prop :=
  ∀ c : Dev Cert.DnPostIdeal.nD,
    (Cert.Pre_dn_post_finite.fn (F := Ideal) (m ((c.tc : Thread Cert.DnPostIdeal.nD Cert.DnPostIdeal.τ).loc Cert.DnPostIdeal.main_arg0)) (m ((c.tc : Thread Cert.DnPostIdeal.nD Cert.DnPostIdeal.τ).loc Cert.DnPostIdeal.main_arg1)) (m ((c.tc : Thread Cert.DnPostIdeal.nD Cert.DnPostIdeal.τ).loc Cert.DnPostIdeal.main_arg2)) (m ((c.tc : Thread Cert.DnPostIdeal.nD Cert.DnPostIdeal.τ).loc Cert.DnPostIdeal.main_arg3))).1 = (fun _ => 1#1)
    ∧ (Cert.Pre_dn_post_finite.fn (F := Ideal) (m ((c.tc : Thread Cert.DnPostIdeal.nD Cert.DnPostIdeal.τ).loc Cert.DnPostIdeal.main_arg0)) (m ((c.tc : Thread Cert.DnPostIdeal.nD Cert.DnPostIdeal.τ).loc Cert.DnPostIdeal.main_arg1)) (m ((c.tc : Thread Cert.DnPostIdeal.nD Cert.DnPostIdeal.τ).loc Cert.DnPostIdeal.main_arg2)) (m ((c.tc : Thread Cert.DnPostIdeal.nD Cert.DnPostIdeal.τ).loc Cert.DnPostIdeal.main_arg3))).2 = (fun _ => 1#1)

def Pre_DnPostReferenceIdeal (m : (ℓ : Loc Cert.DnPostReferenceIdeal.nD Cert.DnPostReferenceIdeal.τ Cert.DnPostReferenceIdeal.sig) → Buf (Elt Ideal) ℓ) : Prop :=
  True

def Pre_DnPostReferenceIdeal_dn_post_finite [hPre_dn_post_finite : Cert.Pre_dn_post_finite.Facts] (m : (ℓ : Loc Cert.DnPostReferenceIdeal.nD Cert.DnPostReferenceIdeal.τ Cert.DnPostReferenceIdeal.sig) → Buf (Elt Ideal) ℓ) : Prop :=
  ∀ c : Dev Cert.DnPostReferenceIdeal.nD,
    (Cert.Pre_dn_post_finite.fn (F := Ideal) (m ((c.tc : Thread Cert.DnPostReferenceIdeal.nD Cert.DnPostReferenceIdeal.τ).loc Cert.DnPostReferenceIdeal.main_arg0)) (m ((c.tc : Thread Cert.DnPostReferenceIdeal.nD Cert.DnPostReferenceIdeal.τ).loc Cert.DnPostReferenceIdeal.main_arg1)) (m ((c.tc : Thread Cert.DnPostReferenceIdeal.nD Cert.DnPostReferenceIdeal.τ).loc Cert.DnPostReferenceIdeal.main_arg2)) (m ((c.tc : Thread Cert.DnPostReferenceIdeal.nD Cert.DnPostReferenceIdeal.τ).loc Cert.DnPostReferenceIdeal.main_arg3))).1 = (fun _ => 1#1)
    ∧ (Cert.Pre_dn_post_finite.fn (F := Ideal) (m ((c.tc : Thread Cert.DnPostReferenceIdeal.nD Cert.DnPostReferenceIdeal.τ).loc Cert.DnPostReferenceIdeal.main_arg0)) (m ((c.tc : Thread Cert.DnPostReferenceIdeal.nD Cert.DnPostReferenceIdeal.τ).loc Cert.DnPostReferenceIdeal.main_arg1)) (m ((c.tc : Thread Cert.DnPostReferenceIdeal.nD Cert.DnPostReferenceIdeal.τ).loc Cert.DnPostReferenceIdeal.main_arg2)) (m ((c.tc : Thread Cert.DnPostReferenceIdeal.nD Cert.DnPostReferenceIdeal.τ).loc Cert.DnPostReferenceIdeal.main_arg3))).2 = (fun _ => 1#1)

def Pre_RwkvPost (m : (ℓ : Loc Cert.RwkvPost.nD Cert.RwkvPost.τ Cert.RwkvPost.sig) → Buf (Elt Bits) ℓ) : Prop :=
  True

def Pre_RwkvPostIdeal (m : (ℓ : Loc Cert.RwkvPostIdeal.nD Cert.RwkvPostIdeal.τ Cert.RwkvPostIdeal.sig) → Buf (Elt Ideal) ℓ) : Prop :=
  True

def Pre_RwkvPostIdeal_rwkv_post_finite [hPre_rwkv_post_finite : Cert.Pre_rwkv_post_finite.Facts] (m : (ℓ : Loc Cert.RwkvPostIdeal.nD Cert.RwkvPostIdeal.τ Cert.RwkvPostIdeal.sig) → Buf (Elt Ideal) ℓ) : Prop :=
  ∀ c : Dev Cert.RwkvPostIdeal.nD,
    (Cert.Pre_rwkv_post_finite.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5))).1 = (fun _ => 1#1)
    ∧ (Cert.Pre_rwkv_post_finite.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5))).2 = (fun _ => 1#1)

def Pre_RwkvPostReferenceIdeal (m : (ℓ : Loc Cert.RwkvPostReferenceIdeal.nD Cert.RwkvPostReferenceIdeal.τ Cert.RwkvPostReferenceIdeal.sig) → Buf (Elt Ideal) ℓ) : Prop :=
  True

def Pre_RwkvPostReferenceIdeal_rwkv_post_finite [hPre_rwkv_post_finite : Cert.Pre_rwkv_post_finite.Facts] (m : (ℓ : Loc Cert.RwkvPostReferenceIdeal.nD Cert.RwkvPostReferenceIdeal.τ Cert.RwkvPostReferenceIdeal.sig) → Buf (Elt Ideal) ℓ) : Prop :=
  ∀ c : Dev Cert.RwkvPostReferenceIdeal.nD,
    (Cert.Pre_rwkv_post_finite.fn (F := Ideal) (m ((c.tc : Thread Cert.RwkvPostReferenceIdeal.nD Cert.RwkvPostReferenceIdeal.τ).loc Cert.RwkvPostReferenceIdeal.main_arg0)) (m ((c.tc : Thread Cert.RwkvPostReferenceIdeal.nD Cert.RwkvPostReferenceIdeal.τ).loc Cert.RwkvPostReferenceIdeal.main_arg1)) (m ((c.tc : Thread Cert.RwkvPostReferenceIdeal.nD Cert.RwkvPostReferenceIdeal.τ).loc Cert.RwkvPostReferenceIdeal.main_arg2)) (m ((c.tc : Thread Cert.RwkvPostReferenceIdeal.nD Cert.RwkvPostReferenceIdeal.τ).loc Cert.RwkvPostReferenceIdeal.main_arg3)) (m ((c.tc : Thread Cert.RwkvPostReferenceIdeal.nD Cert.RwkvPostReferenceIdeal.τ).loc Cert.RwkvPostReferenceIdeal.main_arg4)) (m ((c.tc : Thread Cert.RwkvPostReferenceIdeal.nD Cert.RwkvPostReferenceIdeal.τ).loc Cert.RwkvPostReferenceIdeal.main_arg5))).1 = (fun _ => 1#1)
    ∧ (Cert.Pre_rwkv_post_finite.fn (F := Ideal) (m ((c.tc : Thread Cert.RwkvPostReferenceIdeal.nD Cert.RwkvPostReferenceIdeal.τ).loc Cert.RwkvPostReferenceIdeal.main_arg0)) (m ((c.tc : Thread Cert.RwkvPostReferenceIdeal.nD Cert.RwkvPostReferenceIdeal.τ).loc Cert.RwkvPostReferenceIdeal.main_arg1)) (m ((c.tc : Thread Cert.RwkvPostReferenceIdeal.nD Cert.RwkvPostReferenceIdeal.τ).loc Cert.RwkvPostReferenceIdeal.main_arg2)) (m ((c.tc : Thread Cert.RwkvPostReferenceIdeal.nD Cert.RwkvPostReferenceIdeal.τ).loc Cert.RwkvPostReferenceIdeal.main_arg3)) (m ((c.tc : Thread Cert.RwkvPostReferenceIdeal.nD Cert.RwkvPostReferenceIdeal.τ).loc Cert.RwkvPostReferenceIdeal.main_arg4)) (m ((c.tc : Thread Cert.RwkvPostReferenceIdeal.nD Cert.RwkvPostReferenceIdeal.τ).loc Cert.RwkvPostReferenceIdeal.main_arg5))).2 = (fun _ => 1#1)

def Pre_DnPrep (m : (ℓ : Loc Cert.DnPrep.nD Cert.DnPrep.τ Cert.DnPrep.sig) → Buf (Elt Bits) ℓ) : Prop :=
  True

def Pre_DnPrepIdeal (m : (ℓ : Loc Cert.DnPrepIdeal.nD Cert.DnPrepIdeal.τ Cert.DnPrepIdeal.sig) → Buf (Elt Ideal) ℓ) : Prop :=
  True

def Pre_DnPrepIdeal_dn_prep_finite [hPre_dn_prep_finite : Cert.Pre_dn_prep_finite.Facts] (m : (ℓ : Loc Cert.DnPrepIdeal.nD Cert.DnPrepIdeal.τ Cert.DnPrepIdeal.sig) → Buf (Elt Ideal) ℓ) : Prop :=
  ∀ c : Dev Cert.DnPrepIdeal.nD,
    (Cert.Pre_dn_prep_finite.fn (F := Ideal) (m ((c.tc : Thread Cert.DnPrepIdeal.nD Cert.DnPrepIdeal.τ).loc Cert.DnPrepIdeal.main_arg0)) (m ((c.tc : Thread Cert.DnPrepIdeal.nD Cert.DnPrepIdeal.τ).loc Cert.DnPrepIdeal.main_arg1))).1 = (fun _ => 1#1)
    ∧ (Cert.Pre_dn_prep_finite.fn (F := Ideal) (m ((c.tc : Thread Cert.DnPrepIdeal.nD Cert.DnPrepIdeal.τ).loc Cert.DnPrepIdeal.main_arg0)) (m ((c.tc : Thread Cert.DnPrepIdeal.nD Cert.DnPrepIdeal.τ).loc Cert.DnPrepIdeal.main_arg1))).2 = (fun _ => 1#1)

def Pre_DnPrepReferenceIdeal (m : (ℓ : Loc Cert.DnPrepReferenceIdeal.nD Cert.DnPrepReferenceIdeal.τ Cert.DnPrepReferenceIdeal.sig) → Buf (Elt Ideal) ℓ) : Prop :=
  True

def Pre_DnPrepReferenceIdeal_dn_prep_finite [hPre_dn_prep_finite : Cert.Pre_dn_prep_finite.Facts] (m : (ℓ : Loc Cert.DnPrepReferenceIdeal.nD Cert.DnPrepReferenceIdeal.τ Cert.DnPrepReferenceIdeal.sig) → Buf (Elt Ideal) ℓ) : Prop :=
  ∀ c : Dev Cert.DnPrepReferenceIdeal.nD,
    (Cert.Pre_dn_prep_finite.fn (F := Ideal) (m ((c.tc : Thread Cert.DnPrepReferenceIdeal.nD Cert.DnPrepReferenceIdeal.τ).loc Cert.DnPrepReferenceIdeal.main_arg0)) (m ((c.tc : Thread Cert.DnPrepReferenceIdeal.nD Cert.DnPrepReferenceIdeal.τ).loc Cert.DnPrepReferenceIdeal.main_arg1))).1 = (fun _ => 1#1)
    ∧ (Cert.Pre_dn_prep_finite.fn (F := Ideal) (m ((c.tc : Thread Cert.DnPrepReferenceIdeal.nD Cert.DnPrepReferenceIdeal.τ).loc Cert.DnPrepReferenceIdeal.main_arg0)) (m ((c.tc : Thread Cert.DnPrepReferenceIdeal.nD Cert.DnPrepReferenceIdeal.τ).loc Cert.DnPrepReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def quiescent_S5Proj [hS5Proj : Cert.S5Proj.Facts] : Prop :=
  ∀ (m : (ℓ : Loc Cert.S5Proj.nD Cert.S5Proj.τ Cert.S5Proj.sig) → Buf (Elt Bits) ℓ) (g : Dev Cert.S5Proj.nD → PrngReg), Pre_S5Proj m →
    θ_run (Cert.S5Proj.defs (F := Bits)) (onTc (τ := Cert.S5Proj.τ) (Cert.S5Proj.main (F := Bits))) ⟨m, fun _ => 0, g⟩ (fun r => (∀ c : Dev Cert.S5Proj.nD,
      r.2.mem ((c.tc : Thread Cert.S5Proj.nD Cert.S5Proj.τ).loc Cert.S5Proj.main_arg0) = m ((c.tc : Thread Cert.S5Proj.nD Cert.S5Proj.τ).loc Cert.S5Proj.main_arg0)
      ∧ r.2.mem ((c.tc : Thread Cert.S5Proj.nD Cert.S5Proj.τ).loc Cert.S5Proj.main_arg1) = m ((c.tc : Thread Cert.S5Proj.nD Cert.S5Proj.τ).loc Cert.S5Proj.main_arg1)
      ∧ r.2.mem ((c.tc : Thread Cert.S5Proj.nD Cert.S5Proj.τ).loc Cert.S5Proj.main_arg2) = m ((c.tc : Thread Cert.S5Proj.nD Cert.S5Proj.τ).loc Cert.S5Proj.main_arg2))
      ∧ r.2.sem = fun _ => 0)

def quiescent_S5ProjIdeal [hS5ProjIdeal : Cert.S5ProjIdeal.Facts] : Prop :=
  ∀ (m : (ℓ : Loc Cert.S5ProjIdeal.nD Cert.S5ProjIdeal.τ Cert.S5ProjIdeal.sig) → Buf (Elt Ideal) ℓ) (g : Dev Cert.S5ProjIdeal.nD → PrngReg), Pre_S5ProjIdeal m →
    θ_run (Cert.S5ProjIdeal.defs (F := Ideal)) (onTc (τ := Cert.S5ProjIdeal.τ) (Cert.S5ProjIdeal.main (F := Ideal))) ⟨m, fun _ => 0, g⟩ (fun r => (∀ c : Dev Cert.S5ProjIdeal.nD,
      r.2.mem ((c.tc : Thread Cert.S5ProjIdeal.nD Cert.S5ProjIdeal.τ).loc Cert.S5ProjIdeal.main_arg0) = m ((c.tc : Thread Cert.S5ProjIdeal.nD Cert.S5ProjIdeal.τ).loc Cert.S5ProjIdeal.main_arg0)
      ∧ r.2.mem ((c.tc : Thread Cert.S5ProjIdeal.nD Cert.S5ProjIdeal.τ).loc Cert.S5ProjIdeal.main_arg1) = m ((c.tc : Thread Cert.S5ProjIdeal.nD Cert.S5ProjIdeal.τ).loc Cert.S5ProjIdeal.main_arg1)
      ∧ r.2.mem ((c.tc : Thread Cert.S5ProjIdeal.nD Cert.S5ProjIdeal.τ).loc Cert.S5ProjIdeal.main_arg2) = m ((c.tc : Thread Cert.S5ProjIdeal.nD Cert.S5ProjIdeal.τ).loc Cert.S5ProjIdeal.main_arg2))
      ∧ r.2.sem = fun _ => 0)

def quiescent_S5ProjReferenceIdeal [hS5ProjReferenceIdeal : Cert.S5ProjReferenceIdeal.Facts] : Prop :=
  ∀ (m : (ℓ : Loc Cert.S5ProjReferenceIdeal.nD Cert.S5ProjReferenceIdeal.τ Cert.S5ProjReferenceIdeal.sig) → Buf (Elt Ideal) ℓ) (g : Dev Cert.S5ProjReferenceIdeal.nD → PrngReg), Pre_S5ProjReferenceIdeal m →
    θ_run (Cert.S5ProjReferenceIdeal.defs (F := Ideal)) (onTc (τ := Cert.S5ProjReferenceIdeal.τ) (Cert.S5ProjReferenceIdeal.main (F := Ideal))) ⟨m, fun _ => 0, g⟩ (fun r => (∀ c : Dev Cert.S5ProjReferenceIdeal.nD,
      r.2.mem ((c.tc : Thread Cert.S5ProjReferenceIdeal.nD Cert.S5ProjReferenceIdeal.τ).loc Cert.S5ProjReferenceIdeal.main_arg0) = m ((c.tc : Thread Cert.S5ProjReferenceIdeal.nD Cert.S5ProjReferenceIdeal.τ).loc Cert.S5ProjReferenceIdeal.main_arg0)
      ∧ r.2.mem ((c.tc : Thread Cert.S5ProjReferenceIdeal.nD Cert.S5ProjReferenceIdeal.τ).loc Cert.S5ProjReferenceIdeal.main_arg1) = m ((c.tc : Thread Cert.S5ProjReferenceIdeal.nD Cert.S5ProjReferenceIdeal.τ).loc Cert.S5ProjReferenceIdeal.main_arg1)
      ∧ r.2.mem ((c.tc : Thread Cert.S5ProjReferenceIdeal.nD Cert.S5ProjReferenceIdeal.τ).loc Cert.S5ProjReferenceIdeal.main_arg2) = m ((c.tc : Thread Cert.S5ProjReferenceIdeal.nD Cert.S5ProjReferenceIdeal.τ).loc Cert.S5ProjReferenceIdeal.main_arg2))
      ∧ r.2.sem = fun _ => 0)

def quiescent_S5Post [hS5Post : Cert.S5Post.Facts] : Prop :=
  ∀ (m : (ℓ : Loc Cert.S5Post.nD Cert.S5Post.τ Cert.S5Post.sig) → Buf (Elt Bits) ℓ) (g : Dev Cert.S5Post.nD → PrngReg), Pre_S5Post m →
    θ_run (Cert.S5Post.defs (F := Bits)) (onTc (τ := Cert.S5Post.τ) (Cert.S5Post.main (F := Bits))) ⟨m, fun _ => 0, g⟩ (fun r => (∀ c : Dev Cert.S5Post.nD,
      r.2.mem ((c.tc : Thread Cert.S5Post.nD Cert.S5Post.τ).loc Cert.S5Post.main_arg0) = m ((c.tc : Thread Cert.S5Post.nD Cert.S5Post.τ).loc Cert.S5Post.main_arg0)
      ∧ r.2.mem ((c.tc : Thread Cert.S5Post.nD Cert.S5Post.τ).loc Cert.S5Post.main_arg1) = m ((c.tc : Thread Cert.S5Post.nD Cert.S5Post.τ).loc Cert.S5Post.main_arg1)
      ∧ r.2.mem ((c.tc : Thread Cert.S5Post.nD Cert.S5Post.τ).loc Cert.S5Post.main_arg2) = m ((c.tc : Thread Cert.S5Post.nD Cert.S5Post.τ).loc Cert.S5Post.main_arg2)
      ∧ r.2.mem ((c.tc : Thread Cert.S5Post.nD Cert.S5Post.τ).loc Cert.S5Post.main_arg3) = m ((c.tc : Thread Cert.S5Post.nD Cert.S5Post.τ).loc Cert.S5Post.main_arg3)
      ∧ r.2.mem ((c.tc : Thread Cert.S5Post.nD Cert.S5Post.τ).loc Cert.S5Post.main_arg4) = m ((c.tc : Thread Cert.S5Post.nD Cert.S5Post.τ).loc Cert.S5Post.main_arg4))
      ∧ r.2.sem = fun _ => 0)

def quiescent_S5PostIdeal [hS5PostIdeal : Cert.S5PostIdeal.Facts] : Prop :=
  ∀ (m : (ℓ : Loc Cert.S5PostIdeal.nD Cert.S5PostIdeal.τ Cert.S5PostIdeal.sig) → Buf (Elt Ideal) ℓ) (g : Dev Cert.S5PostIdeal.nD → PrngReg), Pre_S5PostIdeal m →
    θ_run (Cert.S5PostIdeal.defs (F := Ideal)) (onTc (τ := Cert.S5PostIdeal.τ) (Cert.S5PostIdeal.main (F := Ideal))) ⟨m, fun _ => 0, g⟩ (fun r => (∀ c : Dev Cert.S5PostIdeal.nD,
      r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
      ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
      ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
      ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3)
      ∧ r.2.mem ((c.tc : Thread Cert.S5PostIdeal.nD Cert.S5PostIdeal.τ).loc Cert.S5PostIdeal.main_arg4) = m ((c.tc : Thread Cert.S5PostIdeal.nD Cert.S5PostIdeal.τ).loc Cert.S5PostIdeal.main_arg4))
      ∧ r.2.sem = fun _ => 0)

def quiescent_S5PostReferenceIdeal [hS5PostReferenceIdeal : Cert.S5PostReferenceIdeal.Facts] : Prop :=
  ∀ (m : (ℓ : Loc Cert.S5PostReferenceIdeal.nD Cert.S5PostReferenceIdeal.τ Cert.S5PostReferenceIdeal.sig) → Buf (Elt Ideal) ℓ) (g : Dev Cert.S5PostReferenceIdeal.nD → PrngReg), Pre_S5PostReferenceIdeal m →
    θ_run (Cert.S5PostReferenceIdeal.defs (F := Ideal)) (onTc (τ := Cert.S5PostReferenceIdeal.τ) (Cert.S5PostReferenceIdeal.main (F := Ideal))) ⟨m, fun _ => 0, g⟩ (fun r => (∀ c : Dev Cert.S5PostReferenceIdeal.nD,
      r.2.mem ((c.tc : Thread Cert.S5PostReferenceIdeal.nD Cert.S5PostReferenceIdeal.τ).loc Cert.S5PostReferenceIdeal.main_arg0) = m ((c.tc : Thread Cert.S5PostReferenceIdeal.nD Cert.S5PostReferenceIdeal.τ).loc Cert.S5PostReferenceIdeal.main_arg0)
      ∧ r.2.mem ((c.tc : Thread Cert.S5PostReferenceIdeal.nD Cert.S5PostReferenceIdeal.τ).loc Cert.S5PostReferenceIdeal.main_arg1) = m ((c.tc : Thread Cert.S5PostReferenceIdeal.nD Cert.S5PostReferenceIdeal.τ).loc Cert.S5PostReferenceIdeal.main_arg1)
      ∧ r.2.mem ((c.tc : Thread Cert.S5PostReferenceIdeal.nD Cert.S5PostReferenceIdeal.τ).loc Cert.S5PostReferenceIdeal.main_arg2) = m ((c.tc : Thread Cert.S5PostReferenceIdeal.nD Cert.S5PostReferenceIdeal.τ).loc Cert.S5PostReferenceIdeal.main_arg2)
      ∧ r.2.mem ((c.tc : Thread Cert.S5PostReferenceIdeal.nD Cert.S5PostReferenceIdeal.τ).loc Cert.S5PostReferenceIdeal.main_arg3) = m ((c.tc : Thread Cert.S5PostReferenceIdeal.nD Cert.S5PostReferenceIdeal.τ).loc Cert.S5PostReferenceIdeal.main_arg3)
      ∧ r.2.mem ((c.tc : Thread Cert.S5PostReferenceIdeal.nD Cert.S5PostReferenceIdeal.τ).loc Cert.S5PostReferenceIdeal.main_arg4) = m ((c.tc : Thread Cert.S5PostReferenceIdeal.nD Cert.S5PostReferenceIdeal.τ).loc Cert.S5PostReferenceIdeal.main_arg4))
      ∧ r.2.sem = fun _ => 0)

def quiescent_DnPost [hDnPost : Cert.DnPost.Facts] : Prop :=
  ∀ (m : (ℓ : Loc Cert.DnPost.nD Cert.DnPost.τ Cert.DnPost.sig) → Buf (Elt Bits) ℓ) (g : Dev Cert.DnPost.nD → PrngReg), Pre_DnPost m →
    θ_run (Cert.DnPost.defs (F := Bits)) (onTc (τ := Cert.DnPost.τ) (Cert.DnPost.main (F := Bits))) ⟨m, fun _ => 0, g⟩ (fun r => (∀ c : Dev Cert.DnPost.nD,
      r.2.mem ((c.tc : Thread Cert.DnPost.nD Cert.DnPost.τ).loc Cert.DnPost.main_arg0) = m ((c.tc : Thread Cert.DnPost.nD Cert.DnPost.τ).loc Cert.DnPost.main_arg0)
      ∧ r.2.mem ((c.tc : Thread Cert.DnPost.nD Cert.DnPost.τ).loc Cert.DnPost.main_arg1) = m ((c.tc : Thread Cert.DnPost.nD Cert.DnPost.τ).loc Cert.DnPost.main_arg1)
      ∧ r.2.mem ((c.tc : Thread Cert.DnPost.nD Cert.DnPost.τ).loc Cert.DnPost.main_arg2) = m ((c.tc : Thread Cert.DnPost.nD Cert.DnPost.τ).loc Cert.DnPost.main_arg2)
      ∧ r.2.mem ((c.tc : Thread Cert.DnPost.nD Cert.DnPost.τ).loc Cert.DnPost.main_arg3) = m ((c.tc : Thread Cert.DnPost.nD Cert.DnPost.τ).loc Cert.DnPost.main_arg3))
      ∧ r.2.sem = fun _ => 0)

def quiescent_DnPostIdeal [hDnPostIdeal : Cert.DnPostIdeal.Facts] : Prop :=
  ∀ (m : (ℓ : Loc Cert.DnPostIdeal.nD Cert.DnPostIdeal.τ Cert.DnPostIdeal.sig) → Buf (Elt Ideal) ℓ) (g : Dev Cert.DnPostIdeal.nD → PrngReg), Pre_DnPostIdeal m →
    θ_run (Cert.DnPostIdeal.defs (F := Ideal)) (onTc (τ := Cert.DnPostIdeal.τ) (Cert.DnPostIdeal.main (F := Ideal))) ⟨m, fun _ => 0, g⟩ (fun r => (∀ c : Dev Cert.DnPostIdeal.nD,
      r.2.mem ((c.tc : Thread Cert.DnPostIdeal.nD Cert.DnPostIdeal.τ).loc Cert.DnPostIdeal.main_arg0) = m ((c.tc : Thread Cert.DnPostIdeal.nD Cert.DnPostIdeal.τ).loc Cert.DnPostIdeal.main_arg0)
      ∧ r.2.mem ((c.tc : Thread Cert.DnPostIdeal.nD Cert.DnPostIdeal.τ).loc Cert.DnPostIdeal.main_arg1) = m ((c.tc : Thread Cert.DnPostIdeal.nD Cert.DnPostIdeal.τ).loc Cert.DnPostIdeal.main_arg1)
      ∧ r.2.mem ((c.tc : Thread Cert.DnPostIdeal.nD Cert.DnPostIdeal.τ).loc Cert.DnPostIdeal.main_arg2) = m ((c.tc : Thread Cert.DnPostIdeal.nD Cert.DnPostIdeal.τ).loc Cert.DnPostIdeal.main_arg2)
      ∧ r.2.mem ((c.tc : Thread Cert.DnPostIdeal.nD Cert.DnPostIdeal.τ).loc Cert.DnPostIdeal.main_arg3) = m ((c.tc : Thread Cert.DnPostIdeal.nD Cert.DnPostIdeal.τ).loc Cert.DnPostIdeal.main_arg3))
      ∧ r.2.sem = fun _ => 0)

def quiescent_DnPostIdeal_pre_dn_post_finite [hDnPostIdeal : Cert.DnPostIdeal.Facts] [hPre_dn_post_finite : Cert.Pre_dn_post_finite.Facts] : Prop :=
  ∀ (m : (ℓ : Loc Cert.DnPostIdeal.nD Cert.DnPostIdeal.τ Cert.DnPostIdeal.sig) → Buf (Elt Ideal) ℓ) (g : Dev Cert.DnPostIdeal.nD → PrngReg), Pre_DnPostIdeal_dn_post_finite m →
    θ_run (Cert.DnPostIdeal.defs (F := Ideal)) (onTc (τ := Cert.DnPostIdeal.τ) (Cert.DnPostIdeal.main (F := Ideal))) ⟨m, fun _ => 0, g⟩ (fun r => (∀ c : Dev Cert.DnPostIdeal.nD,
      r.2.mem ((c.tc : Thread Cert.DnPostIdeal.nD Cert.DnPostIdeal.τ).loc Cert.DnPostIdeal.main_arg0) = m ((c.tc : Thread Cert.DnPostIdeal.nD Cert.DnPostIdeal.τ).loc Cert.DnPostIdeal.main_arg0)
      ∧ r.2.mem ((c.tc : Thread Cert.DnPostIdeal.nD Cert.DnPostIdeal.τ).loc Cert.DnPostIdeal.main_arg1) = m ((c.tc : Thread Cert.DnPostIdeal.nD Cert.DnPostIdeal.τ).loc Cert.DnPostIdeal.main_arg1)
      ∧ r.2.mem ((c.tc : Thread Cert.DnPostIdeal.nD Cert.DnPostIdeal.τ).loc Cert.DnPostIdeal.main_arg2) = m ((c.tc : Thread Cert.DnPostIdeal.nD Cert.DnPostIdeal.τ).loc Cert.DnPostIdeal.main_arg2)
      ∧ r.2.mem ((c.tc : Thread Cert.DnPostIdeal.nD Cert.DnPostIdeal.τ).loc Cert.DnPostIdeal.main_arg3) = m ((c.tc : Thread Cert.DnPostIdeal.nD Cert.DnPostIdeal.τ).loc Cert.DnPostIdeal.main_arg3))
      ∧ r.2.sem = fun _ => 0)

def quiescent_DnPostReferenceIdeal [hDnPostReferenceIdeal : Cert.DnPostReferenceIdeal.Facts] : Prop :=
  ∀ (m : (ℓ : Loc Cert.DnPostReferenceIdeal.nD Cert.DnPostReferenceIdeal.τ Cert.DnPostReferenceIdeal.sig) → Buf (Elt Ideal) ℓ) (g : Dev Cert.DnPostReferenceIdeal.nD → PrngReg), Pre_DnPostReferenceIdeal m →
    θ_run (Cert.DnPostReferenceIdeal.defs (F := Ideal)) (onTc (τ := Cert.DnPostReferenceIdeal.τ) (Cert.DnPostReferenceIdeal.main (F := Ideal))) ⟨m, fun _ => 0, g⟩ (fun r => (∀ c : Dev Cert.DnPostReferenceIdeal.nD,
      r.2.mem ((c.tc : Thread Cert.DnPostReferenceIdeal.nD Cert.DnPostReferenceIdeal.τ).loc Cert.DnPostReferenceIdeal.main_arg0) = m ((c.tc : Thread Cert.DnPostReferenceIdeal.nD Cert.DnPostReferenceIdeal.τ).loc Cert.DnPostReferenceIdeal.main_arg0)
      ∧ r.2.mem ((c.tc : Thread Cert.DnPostReferenceIdeal.nD Cert.DnPostReferenceIdeal.τ).loc Cert.DnPostReferenceIdeal.main_arg1) = m ((c.tc : Thread Cert.DnPostReferenceIdeal.nD Cert.DnPostReferenceIdeal.τ).loc Cert.DnPostReferenceIdeal.main_arg1)
      ∧ r.2.mem ((c.tc : Thread Cert.DnPostReferenceIdeal.nD Cert.DnPostReferenceIdeal.τ).loc Cert.DnPostReferenceIdeal.main_arg2) = m ((c.tc : Thread Cert.DnPostReferenceIdeal.nD Cert.DnPostReferenceIdeal.τ).loc Cert.DnPostReferenceIdeal.main_arg2)
      ∧ r.2.mem ((c.tc : Thread Cert.DnPostReferenceIdeal.nD Cert.DnPostReferenceIdeal.τ).loc Cert.DnPostReferenceIdeal.main_arg3) = m ((c.tc : Thread Cert.DnPostReferenceIdeal.nD Cert.DnPostReferenceIdeal.τ).loc Cert.DnPostReferenceIdeal.main_arg3))
      ∧ r.2.sem = fun _ => 0)

def quiescent_DnPostReferenceIdeal_pre_dn_post_finite [hDnPostReferenceIdeal : Cert.DnPostReferenceIdeal.Facts] [hPre_dn_post_finite : Cert.Pre_dn_post_finite.Facts] : Prop :=
  ∀ (m : (ℓ : Loc Cert.DnPostReferenceIdeal.nD Cert.DnPostReferenceIdeal.τ Cert.DnPostReferenceIdeal.sig) → Buf (Elt Ideal) ℓ) (g : Dev Cert.DnPostReferenceIdeal.nD → PrngReg), Pre_DnPostReferenceIdeal_dn_post_finite m →
    θ_run (Cert.DnPostReferenceIdeal.defs (F := Ideal)) (onTc (τ := Cert.DnPostReferenceIdeal.τ) (Cert.DnPostReferenceIdeal.main (F := Ideal))) ⟨m, fun _ => 0, g⟩ (fun r => (∀ c : Dev Cert.DnPostReferenceIdeal.nD,
      r.2.mem ((c.tc : Thread Cert.DnPostReferenceIdeal.nD Cert.DnPostReferenceIdeal.τ).loc Cert.DnPostReferenceIdeal.main_arg0) = m ((c.tc : Thread Cert.DnPostReferenceIdeal.nD Cert.DnPostReferenceIdeal.τ).loc Cert.DnPostReferenceIdeal.main_arg0)
      ∧ r.2.mem ((c.tc : Thread Cert.DnPostReferenceIdeal.nD Cert.DnPostReferenceIdeal.τ).loc Cert.DnPostReferenceIdeal.main_arg1) = m ((c.tc : Thread Cert.DnPostReferenceIdeal.nD Cert.DnPostReferenceIdeal.τ).loc Cert.DnPostReferenceIdeal.main_arg1)
      ∧ r.2.mem ((c.tc : Thread Cert.DnPostReferenceIdeal.nD Cert.DnPostReferenceIdeal.τ).loc Cert.DnPostReferenceIdeal.main_arg2) = m ((c.tc : Thread Cert.DnPostReferenceIdeal.nD Cert.DnPostReferenceIdeal.τ).loc Cert.DnPostReferenceIdeal.main_arg2)
      ∧ r.2.mem ((c.tc : Thread Cert.DnPostReferenceIdeal.nD Cert.DnPostReferenceIdeal.τ).loc Cert.DnPostReferenceIdeal.main_arg3) = m ((c.tc : Thread Cert.DnPostReferenceIdeal.nD Cert.DnPostReferenceIdeal.τ).loc Cert.DnPostReferenceIdeal.main_arg3))
      ∧ r.2.sem = fun _ => 0)

def quiescent_RwkvPost [hRwkvPost : Cert.RwkvPost.Facts] : Prop :=
  ∀ (m : (ℓ : Loc Cert.RwkvPost.nD Cert.RwkvPost.τ Cert.RwkvPost.sig) → Buf (Elt Bits) ℓ) (g : Dev Cert.RwkvPost.nD → PrngReg), Pre_RwkvPost m →
    θ_run (Cert.RwkvPost.defs (F := Bits)) (onTc (τ := Cert.RwkvPost.τ) (Cert.RwkvPost.main (F := Bits))) ⟨m, fun _ => 0, g⟩ (fun r => (∀ c : Dev Cert.RwkvPost.nD,
      r.2.mem ((c.tc : Thread Cert.RwkvPost.nD Cert.RwkvPost.τ).loc Cert.RwkvPost.main_arg0) = m ((c.tc : Thread Cert.RwkvPost.nD Cert.RwkvPost.τ).loc Cert.RwkvPost.main_arg0)
      ∧ r.2.mem ((c.tc : Thread Cert.RwkvPost.nD Cert.RwkvPost.τ).loc Cert.RwkvPost.main_arg1) = m ((c.tc : Thread Cert.RwkvPost.nD Cert.RwkvPost.τ).loc Cert.RwkvPost.main_arg1)
      ∧ r.2.mem ((c.tc : Thread Cert.RwkvPost.nD Cert.RwkvPost.τ).loc Cert.RwkvPost.main_arg2) = m ((c.tc : Thread Cert.RwkvPost.nD Cert.RwkvPost.τ).loc Cert.RwkvPost.main_arg2)
      ∧ r.2.mem ((c.tc : Thread Cert.RwkvPost.nD Cert.RwkvPost.τ).loc Cert.RwkvPost.main_arg3) = m ((c.tc : Thread Cert.RwkvPost.nD Cert.RwkvPost.τ).loc Cert.RwkvPost.main_arg3)
      ∧ r.2.mem ((c.tc : Thread Cert.RwkvPost.nD Cert.RwkvPost.τ).loc Cert.RwkvPost.main_arg4) = m ((c.tc : Thread Cert.RwkvPost.nD Cert.RwkvPost.τ).loc Cert.RwkvPost.main_arg4)
      ∧ r.2.mem ((c.tc : Thread Cert.RwkvPost.nD Cert.RwkvPost.τ).loc Cert.RwkvPost.main_arg5) = m ((c.tc : Thread Cert.RwkvPost.nD Cert.RwkvPost.τ).loc Cert.RwkvPost.main_arg5))
      ∧ r.2.sem = fun _ => 0)

def quiescent_RwkvPostIdeal [hRwkvPostIdeal : Cert.RwkvPostIdeal.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg), Pre_RwkvPostIdeal m →
    θ_run (Cert.RwkvPostIdeal.defs (F := Ideal)) (onTc (τ := Cert.RwkvPostIdeal.τ) (Cert.RwkvPostIdeal.main (F := Ideal))) ⟨m, fun _ => 0, g⟩ (fun r => (∀ c : Dev Cert.RwkvPostIdeal.nD,
      r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
      ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
      ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
      ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
      ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
      ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5))
      ∧ r.2.sem = fun _ => 0)

def quiescent_RwkvPostIdeal_pre_rwkv_post_finite [hRwkvPostIdeal : Cert.RwkvPostIdeal.Facts] [hPre_rwkv_post_finite : Cert.Pre_rwkv_post_finite.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg), Pre_RwkvPostIdeal_rwkv_post_finite m →
    θ_run (Cert.RwkvPostIdeal.defs (F := Ideal)) (onTc (τ := Cert.RwkvPostIdeal.τ) (Cert.RwkvPostIdeal.main (F := Ideal))) ⟨m, fun _ => 0, g⟩ (fun r => (∀ c : Dev Cert.RwkvPostIdeal.nD,
      r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
      ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
      ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
      ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
      ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
      ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5))
      ∧ r.2.sem = fun _ => 0)

def quiescent_RwkvPostReferenceIdeal [hRwkvPostReferenceIdeal : Cert.RwkvPostReferenceIdeal.Facts] : Prop :=
  ∀ (m : (ℓ : Loc Cert.RwkvPostReferenceIdeal.nD Cert.RwkvPostReferenceIdeal.τ Cert.RwkvPostReferenceIdeal.sig) → Buf (Elt Ideal) ℓ) (g : Dev Cert.RwkvPostReferenceIdeal.nD → PrngReg), Pre_RwkvPostReferenceIdeal m →
    θ_run (Cert.RwkvPostReferenceIdeal.defs (F := Ideal)) (onTc (τ := Cert.RwkvPostReferenceIdeal.τ) (Cert.RwkvPostReferenceIdeal.main (F := Ideal))) ⟨m, fun _ => 0, g⟩ (fun r => (∀ c : Dev Cert.RwkvPostReferenceIdeal.nD,
      r.2.mem ((c.tc : Thread Cert.RwkvPostReferenceIdeal.nD Cert.RwkvPostReferenceIdeal.τ).loc Cert.RwkvPostReferenceIdeal.main_arg0) = m ((c.tc : Thread Cert.RwkvPostReferenceIdeal.nD Cert.RwkvPostReferenceIdeal.τ).loc Cert.RwkvPostReferenceIdeal.main_arg0)
      ∧ r.2.mem ((c.tc : Thread Cert.RwkvPostReferenceIdeal.nD Cert.RwkvPostReferenceIdeal.τ).loc Cert.RwkvPostReferenceIdeal.main_arg1) = m ((c.tc : Thread Cert.RwkvPostReferenceIdeal.nD Cert.RwkvPostReferenceIdeal.τ).loc Cert.RwkvPostReferenceIdeal.main_arg1)
      ∧ r.2.mem ((c.tc : Thread Cert.RwkvPostReferenceIdeal.nD Cert.RwkvPostReferenceIdeal.τ).loc Cert.RwkvPostReferenceIdeal.main_arg2) = m ((c.tc : Thread Cert.RwkvPostReferenceIdeal.nD Cert.RwkvPostReferenceIdeal.τ).loc Cert.RwkvPostReferenceIdeal.main_arg2)
      ∧ r.2.mem ((c.tc : Thread Cert.RwkvPostReferenceIdeal.nD Cert.RwkvPostReferenceIdeal.τ).loc Cert.RwkvPostReferenceIdeal.main_arg3) = m ((c.tc : Thread Cert.RwkvPostReferenceIdeal.nD Cert.RwkvPostReferenceIdeal.τ).loc Cert.RwkvPostReferenceIdeal.main_arg3)
      ∧ r.2.mem ((c.tc : Thread Cert.RwkvPostReferenceIdeal.nD Cert.RwkvPostReferenceIdeal.τ).loc Cert.RwkvPostReferenceIdeal.main_arg4) = m ((c.tc : Thread Cert.RwkvPostReferenceIdeal.nD Cert.RwkvPostReferenceIdeal.τ).loc Cert.RwkvPostReferenceIdeal.main_arg4)
      ∧ r.2.mem ((c.tc : Thread Cert.RwkvPostReferenceIdeal.nD Cert.RwkvPostReferenceIdeal.τ).loc Cert.RwkvPostReferenceIdeal.main_arg5) = m ((c.tc : Thread Cert.RwkvPostReferenceIdeal.nD Cert.RwkvPostReferenceIdeal.τ).loc Cert.RwkvPostReferenceIdeal.main_arg5))
      ∧ r.2.sem = fun _ => 0)

def quiescent_RwkvPostReferenceIdeal_pre_rwkv_post_finite [hRwkvPostReferenceIdeal : Cert.RwkvPostReferenceIdeal.Facts] [hPre_rwkv_post_finite : Cert.Pre_rwkv_post_finite.Facts] : Prop :=
  ∀ (m : (ℓ : Loc Cert.RwkvPostReferenceIdeal.nD Cert.RwkvPostReferenceIdeal.τ Cert.RwkvPostReferenceIdeal.sig) → Buf (Elt Ideal) ℓ) (g : Dev Cert.RwkvPostReferenceIdeal.nD → PrngReg), Pre_RwkvPostReferenceIdeal_rwkv_post_finite m →
    θ_run (Cert.RwkvPostReferenceIdeal.defs (F := Ideal)) (onTc (τ := Cert.RwkvPostReferenceIdeal.τ) (Cert.RwkvPostReferenceIdeal.main (F := Ideal))) ⟨m, fun _ => 0, g⟩ (fun r => (∀ c : Dev Cert.RwkvPostReferenceIdeal.nD,
      r.2.mem ((c.tc : Thread Cert.RwkvPostReferenceIdeal.nD Cert.RwkvPostReferenceIdeal.τ).loc Cert.RwkvPostReferenceIdeal.main_arg0) = m ((c.tc : Thread Cert.RwkvPostReferenceIdeal.nD Cert.RwkvPostReferenceIdeal.τ).loc Cert.RwkvPostReferenceIdeal.main_arg0)
      ∧ r.2.mem ((c.tc : Thread Cert.RwkvPostReferenceIdeal.nD Cert.RwkvPostReferenceIdeal.τ).loc Cert.RwkvPostReferenceIdeal.main_arg1) = m ((c.tc : Thread Cert.RwkvPostReferenceIdeal.nD Cert.RwkvPostReferenceIdeal.τ).loc Cert.RwkvPostReferenceIdeal.main_arg1)
      ∧ r.2.mem ((c.tc : Thread Cert.RwkvPostReferenceIdeal.nD Cert.RwkvPostReferenceIdeal.τ).loc Cert.RwkvPostReferenceIdeal.main_arg2) = m ((c.tc : Thread Cert.RwkvPostReferenceIdeal.nD Cert.RwkvPostReferenceIdeal.τ).loc Cert.RwkvPostReferenceIdeal.main_arg2)
      ∧ r.2.mem ((c.tc : Thread Cert.RwkvPostReferenceIdeal.nD Cert.RwkvPostReferenceIdeal.τ).loc Cert.RwkvPostReferenceIdeal.main_arg3) = m ((c.tc : Thread Cert.RwkvPostReferenceIdeal.nD Cert.RwkvPostReferenceIdeal.τ).loc Cert.RwkvPostReferenceIdeal.main_arg3)
      ∧ r.2.mem ((c.tc : Thread Cert.RwkvPostReferenceIdeal.nD Cert.RwkvPostReferenceIdeal.τ).loc Cert.RwkvPostReferenceIdeal.main_arg4) = m ((c.tc : Thread Cert.RwkvPostReferenceIdeal.nD Cert.RwkvPostReferenceIdeal.τ).loc Cert.RwkvPostReferenceIdeal.main_arg4)
      ∧ r.2.mem ((c.tc : Thread Cert.RwkvPostReferenceIdeal.nD Cert.RwkvPostReferenceIdeal.τ).loc Cert.RwkvPostReferenceIdeal.main_arg5) = m ((c.tc : Thread Cert.RwkvPostReferenceIdeal.nD Cert.RwkvPostReferenceIdeal.τ).loc Cert.RwkvPostReferenceIdeal.main_arg5))
      ∧ r.2.sem = fun _ => 0)

def quiescent_DnPrep [hDnPrep : Cert.DnPrep.Facts] : Prop :=
  ∀ (m : (ℓ : Loc Cert.DnPrep.nD Cert.DnPrep.τ Cert.DnPrep.sig) → Buf (Elt Bits) ℓ) (g : Dev Cert.DnPrep.nD → PrngReg), Pre_DnPrep m →
    θ_run (Cert.DnPrep.defs (F := Bits)) (onTc (τ := Cert.DnPrep.τ) (Cert.DnPrep.main (F := Bits))) ⟨m, fun _ => 0, g⟩ (fun r => (∀ c : Dev Cert.DnPrep.nD,
      r.2.mem ((c.tc : Thread Cert.DnPrep.nD Cert.DnPrep.τ).loc Cert.DnPrep.main_arg0) = m ((c.tc : Thread Cert.DnPrep.nD Cert.DnPrep.τ).loc Cert.DnPrep.main_arg0)
      ∧ r.2.mem ((c.tc : Thread Cert.DnPrep.nD Cert.DnPrep.τ).loc Cert.DnPrep.main_arg1) = m ((c.tc : Thread Cert.DnPrep.nD Cert.DnPrep.τ).loc Cert.DnPrep.main_arg1))
      ∧ r.2.sem = fun _ => 0)

def quiescent_DnPrepIdeal [hDnPrepIdeal : Cert.DnPrepIdeal.Facts] : Prop :=
  ∀ (m : (ℓ : Loc Cert.DnPrepIdeal.nD Cert.DnPrepIdeal.τ Cert.DnPrepIdeal.sig) → Buf (Elt Ideal) ℓ) (g : Dev Cert.DnPrepIdeal.nD → PrngReg), Pre_DnPrepIdeal m →
    θ_run (Cert.DnPrepIdeal.defs (F := Ideal)) (onTc (τ := Cert.DnPrepIdeal.τ) (Cert.DnPrepIdeal.main (F := Ideal))) ⟨m, fun _ => 0, g⟩ (fun r => (∀ c : Dev Cert.DnPrepIdeal.nD,
      r.2.mem ((c.tc : Thread Cert.DnPrepIdeal.nD Cert.DnPrepIdeal.τ).loc Cert.DnPrepIdeal.main_arg0) = m ((c.tc : Thread Cert.DnPrepIdeal.nD Cert.DnPrepIdeal.τ).loc Cert.DnPrepIdeal.main_arg0)
      ∧ r.2.mem ((c.tc : Thread Cert.DnPrepIdeal.nD Cert.DnPrepIdeal.τ).loc Cert.DnPrepIdeal.main_arg1) = m ((c.tc : Thread Cert.DnPrepIdeal.nD Cert.DnPrepIdeal.τ).loc Cert.DnPrepIdeal.main_arg1))
      ∧ r.2.sem = fun _ => 0)

def quiescent_DnPrepIdeal_pre_dn_prep_finite [hDnPrepIdeal : Cert.DnPrepIdeal.Facts] [hPre_dn_prep_finite : Cert.Pre_dn_prep_finite.Facts] : Prop :=
  ∀ (m : (ℓ : Loc Cert.DnPrepIdeal.nD Cert.DnPrepIdeal.τ Cert.DnPrepIdeal.sig) → Buf (Elt Ideal) ℓ) (g : Dev Cert.DnPrepIdeal.nD → PrngReg), Pre_DnPrepIdeal_dn_prep_finite m →
    θ_run (Cert.DnPrepIdeal.defs (F := Ideal)) (onTc (τ := Cert.DnPrepIdeal.τ) (Cert.DnPrepIdeal.main (F := Ideal))) ⟨m, fun _ => 0, g⟩ (fun r => (∀ c : Dev Cert.DnPrepIdeal.nD,
      r.2.mem ((c.tc : Thread Cert.DnPrepIdeal.nD Cert.DnPrepIdeal.τ).loc Cert.DnPrepIdeal.main_arg0) = m ((c.tc : Thread Cert.DnPrepIdeal.nD Cert.DnPrepIdeal.τ).loc Cert.DnPrepIdeal.main_arg0)
      ∧ r.2.mem ((c.tc : Thread Cert.DnPrepIdeal.nD Cert.DnPrepIdeal.τ).loc Cert.DnPrepIdeal.main_arg1) = m ((c.tc : Thread Cert.DnPrepIdeal.nD Cert.DnPrepIdeal.τ).loc Cert.DnPrepIdeal.main_arg1))
      ∧ r.2.sem = fun _ => 0)

def quiescent_DnPrepReferenceIdeal [hDnPrepReferenceIdeal : Cert.DnPrepReferenceIdeal.Facts] : Prop :=
  ∀ (m : (ℓ : Loc Cert.DnPrepReferenceIdeal.nD Cert.DnPrepReferenceIdeal.τ Cert.DnPrepReferenceIdeal.sig) → Buf (Elt Ideal) ℓ) (g : Dev Cert.DnPrepReferenceIdeal.nD → PrngReg), Pre_DnPrepReferenceIdeal m →
    θ_run (Cert.DnPrepReferenceIdeal.defs (F := Ideal)) (onTc (τ := Cert.DnPrepReferenceIdeal.τ) (Cert.DnPrepReferenceIdeal.main (F := Ideal))) ⟨m, fun _ => 0, g⟩ (fun r => (∀ c : Dev Cert.DnPrepReferenceIdeal.nD,
      r.2.mem ((c.tc : Thread Cert.DnPrepReferenceIdeal.nD Cert.DnPrepReferenceIdeal.τ).loc Cert.DnPrepReferenceIdeal.main_arg0) = m ((c.tc : Thread Cert.DnPrepReferenceIdeal.nD Cert.DnPrepReferenceIdeal.τ).loc Cert.DnPrepReferenceIdeal.main_arg0)
      ∧ r.2.mem ((c.tc : Thread Cert.DnPrepReferenceIdeal.nD Cert.DnPrepReferenceIdeal.τ).loc Cert.DnPrepReferenceIdeal.main_arg1) = m ((c.tc : Thread Cert.DnPrepReferenceIdeal.nD Cert.DnPrepReferenceIdeal.τ).loc Cert.DnPrepReferenceIdeal.main_arg1))
      ∧ r.2.sem = fun _ => 0)

def quiescent_DnPrepReferenceIdeal_pre_dn_prep_finite [hDnPrepReferenceIdeal : Cert.DnPrepReferenceIdeal.Facts] [hPre_dn_prep_finite : Cert.Pre_dn_prep_finite.Facts] : Prop :=
  ∀ (m : (ℓ : Loc Cert.DnPrepReferenceIdeal.nD Cert.DnPrepReferenceIdeal.τ Cert.DnPrepReferenceIdeal.sig) → Buf (Elt Ideal) ℓ) (g : Dev Cert.DnPrepReferenceIdeal.nD → PrngReg), Pre_DnPrepReferenceIdeal_dn_prep_finite m →
    θ_run (Cert.DnPrepReferenceIdeal.defs (F := Ideal)) (onTc (τ := Cert.DnPrepReferenceIdeal.τ) (Cert.DnPrepReferenceIdeal.main (F := Ideal))) ⟨m, fun _ => 0, g⟩ (fun r => (∀ c : Dev Cert.DnPrepReferenceIdeal.nD,
      r.2.mem ((c.tc : Thread Cert.DnPrepReferenceIdeal.nD Cert.DnPrepReferenceIdeal.τ).loc Cert.DnPrepReferenceIdeal.main_arg0) = m ((c.tc : Thread Cert.DnPrepReferenceIdeal.nD Cert.DnPrepReferenceIdeal.τ).loc Cert.DnPrepReferenceIdeal.main_arg0)
      ∧ r.2.mem ((c.tc : Thread Cert.DnPrepReferenceIdeal.nD Cert.DnPrepReferenceIdeal.τ).loc Cert.DnPrepReferenceIdeal.main_arg1) = m ((c.tc : Thread Cert.DnPrepReferenceIdeal.nD Cert.DnPrepReferenceIdeal.τ).loc Cert.DnPrepReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v40) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v20) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v24) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v13) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def preserves_S5Proj_S5ProjIdeal : Prop :=
  True

def algebraic_S5ProjIdeal_S5ProjReferenceIdeal [hS5ProjIdeal : Cert.S5ProjIdeal.Facts] [hS5ProjReferenceIdeal : Cert.S5ProjReferenceIdeal.Facts] : Prop :=
  ∀ (m : (ℓ : Loc Cert.S5ProjIdeal.nD Cert.S5ProjIdeal.τ Cert.S5ProjIdeal.sig) → Buf (Elt Ideal) ℓ) (g : Dev Cert.S5ProjIdeal.nD → PrngReg)
    (m' : (ℓ : Loc Cert.S5ProjReferenceIdeal.nD Cert.S5ProjReferenceIdeal.τ Cert.S5ProjReferenceIdeal.sig) → Buf (Elt Ideal) ℓ) (g' : Dev Cert.S5ProjReferenceIdeal.nD → PrngReg), Pre_S5ProjIdeal m →
    (∀ c : Dev Cert.S5ProjIdeal.nD,
      m' ((c.tc : Thread Cert.S5ProjReferenceIdeal.nD Cert.S5ProjReferenceIdeal.τ).loc Cert.S5ProjReferenceIdeal.main_arg0) = m ((c.tc : Thread Cert.S5ProjIdeal.nD Cert.S5ProjIdeal.τ).loc Cert.S5ProjIdeal.main_arg0)
      ∧ m' ((c.tc : Thread Cert.S5ProjReferenceIdeal.nD Cert.S5ProjReferenceIdeal.τ).loc Cert.S5ProjReferenceIdeal.main_arg1) = m ((c.tc : Thread Cert.S5ProjIdeal.nD Cert.S5ProjIdeal.τ).loc Cert.S5ProjIdeal.main_arg1)
      ∧ m' ((c.tc : Thread Cert.S5ProjReferenceIdeal.nD Cert.S5ProjReferenceIdeal.τ).loc Cert.S5ProjReferenceIdeal.main_arg2) = m ((c.tc : Thread Cert.S5ProjIdeal.nD Cert.S5ProjIdeal.τ).loc Cert.S5ProjIdeal.main_arg2)) →
    ∃ (v0 : (c : Dev Cert.S5ProjIdeal.nD) → Buf (Elt Ideal) ((c.tc : Thread Cert.S5ProjIdeal.nD Cert.S5ProjIdeal.τ).loc Cert.S5ProjIdeal.main_v3)),
      θ_run (Cert.S5ProjIdeal.defs (F := Ideal)) (onTc (τ := Cert.S5ProjIdeal.τ) (Cert.S5ProjIdeal.main (F := Ideal))) ⟨m, fun _ => 0, g⟩ (fun r => ∀ c : Dev Cert.S5ProjIdeal.nD,
          r.2.mem ((c.tc : Thread Cert.S5ProjIdeal.nD Cert.S5ProjIdeal.τ).loc Cert.S5ProjIdeal.main_v3) = v0 c
          ∧ r.2.mem ((c.tc : Thread Cert.S5ProjIdeal.nD Cert.S5ProjIdeal.τ).loc Cert.S5ProjIdeal.main_arg0) = m ((c.tc : Thread Cert.S5ProjIdeal.nD Cert.S5ProjIdeal.τ).loc Cert.S5ProjIdeal.main_arg0)
          ∧ r.2.mem ((c.tc : Thread Cert.S5ProjIdeal.nD Cert.S5ProjIdeal.τ).loc Cert.S5ProjIdeal.main_arg1) = m ((c.tc : Thread Cert.S5ProjIdeal.nD Cert.S5ProjIdeal.τ).loc Cert.S5ProjIdeal.main_arg1)
          ∧ r.2.mem ((c.tc : Thread Cert.S5ProjIdeal.nD Cert.S5ProjIdeal.τ).loc Cert.S5ProjIdeal.main_arg2) = m ((c.tc : Thread Cert.S5ProjIdeal.nD Cert.S5ProjIdeal.τ).loc Cert.S5ProjIdeal.main_arg2))
      ∧ θ_run (Cert.S5ProjReferenceIdeal.defs (F := Ideal)) (onTc (τ := Cert.S5ProjReferenceIdeal.τ) (Cert.S5ProjReferenceIdeal.main (F := Ideal))) ⟨m', fun _ => 0, g'⟩ (fun r => ∀ c : Dev Cert.S5ProjReferenceIdeal.nD,
          r.2.mem ((c.tc : Thread Cert.S5ProjReferenceIdeal.nD Cert.S5ProjReferenceIdeal.τ).loc Cert.S5ProjReferenceIdeal.main_v16) = v0 c
          ∧ r.2.mem ((c.tc : Thread Cert.S5ProjReferenceIdeal.nD Cert.S5ProjReferenceIdeal.τ).loc Cert.S5ProjReferenceIdeal.main_arg0) = m' ((c.tc : Thread Cert.S5ProjReferenceIdeal.nD Cert.S5ProjReferenceIdeal.τ).loc Cert.S5ProjReferenceIdeal.main_arg0)
          ∧ r.2.mem ((c.tc : Thread Cert.S5ProjReferenceIdeal.nD Cert.S5ProjReferenceIdeal.τ).loc Cert.S5ProjReferenceIdeal.main_arg1) = m' ((c.tc : Thread Cert.S5ProjReferenceIdeal.nD Cert.S5ProjReferenceIdeal.τ).loc Cert.S5ProjReferenceIdeal.main_arg1)
          ∧ r.2.mem ((c.tc : Thread Cert.S5ProjReferenceIdeal.nD Cert.S5ProjReferenceIdeal.τ).loc Cert.S5ProjReferenceIdeal.main_arg2) = m' ((c.tc : Thread Cert.S5ProjReferenceIdeal.nD Cert.S5ProjReferenceIdeal.τ).loc Cert.S5ProjReferenceIdeal.main_arg2))

def preserves_S5Post_S5PostIdeal : Prop :=
  True

def algebraic_S5PostIdeal_S5PostReferenceIdeal [hS5PostIdeal : Cert.S5PostIdeal.Facts] [hS5PostReferenceIdeal : Cert.S5PostReferenceIdeal.Facts] : Prop :=
  ∀ (m : (ℓ : Loc Cert.S5PostIdeal.nD Cert.S5PostIdeal.τ Cert.S5PostIdeal.sig) → Buf (Elt Ideal) ℓ) (g : Dev Cert.S5PostIdeal.nD → PrngReg)
    (m' : (ℓ : Loc Cert.S5PostReferenceIdeal.nD Cert.S5PostReferenceIdeal.τ Cert.S5PostReferenceIdeal.sig) → Buf (Elt Ideal) ℓ) (g' : Dev Cert.S5PostReferenceIdeal.nD → PrngReg), Pre_S5PostIdeal m →
    (∀ c : Dev Cert.S5PostIdeal.nD,
      m' ((c.tc : Thread Cert.S5PostReferenceIdeal.nD Cert.S5PostReferenceIdeal.τ).loc Cert.S5PostReferenceIdeal.main_arg0) = m ((c.tc : Thread Cert.S5PostIdeal.nD Cert.S5PostIdeal.τ).loc Cert.S5PostIdeal.main_arg0)
      ∧ m' ((c.tc : Thread Cert.S5PostReferenceIdeal.nD Cert.S5PostReferenceIdeal.τ).loc Cert.S5PostReferenceIdeal.main_arg1) = m ((c.tc : Thread Cert.S5PostIdeal.nD Cert.S5PostIdeal.τ).loc Cert.S5PostIdeal.main_arg1)
      ∧ m' ((c.tc : Thread Cert.S5PostReferenceIdeal.nD Cert.S5PostReferenceIdeal.τ).loc Cert.S5PostReferenceIdeal.main_arg2) = m ((c.tc : Thread Cert.S5PostIdeal.nD Cert.S5PostIdeal.τ).loc Cert.S5PostIdeal.main_arg2)
      ∧ m' ((c.tc : Thread Cert.S5PostReferenceIdeal.nD Cert.S5PostReferenceIdeal.τ).loc Cert.S5PostReferenceIdeal.main_arg3) = m ((c.tc : Thread Cert.S5PostIdeal.nD Cert.S5PostIdeal.τ).loc Cert.S5PostIdeal.main_arg3)
      ∧ m' ((c.tc : Thread Cert.S5PostReferenceIdeal.nD Cert.S5PostReferenceIdeal.τ).loc Cert.S5PostReferenceIdeal.main_arg4) = m ((c.tc : Thread Cert.S5PostIdeal.nD Cert.S5PostIdeal.τ).loc Cert.S5PostIdeal.main_arg4)) →
    ∃ (v0 : (c : Dev Cert.S5PostIdeal.nD) → Buf (Elt Ideal) ((c.tc : Thread Cert.S5PostIdeal.nD Cert.S5PostIdeal.τ).loc Cert.S5PostIdeal.main_v4)),
      θ_run (Cert.S5PostIdeal.defs (F := Ideal)) (onTc (τ := Cert.S5PostIdeal.τ) (Cert.S5PostIdeal.main (F := Ideal))) ⟨m, fun _ => 0, g⟩ (fun r => ∀ c : Dev Cert.S5PostIdeal.nD,
          r.2.mem ((c.tc : Thread Cert.S5PostIdeal.nD Cert.S5PostIdeal.τ).loc Cert.S5PostIdeal.main_v4) = v0 c
          ∧ r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
          ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
          ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
          ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3)
          ∧ r.2.mem ((c.tc : Thread Cert.S5PostIdeal.nD Cert.S5PostIdeal.τ).loc Cert.S5PostIdeal.main_arg4) = m ((c.tc : Thread Cert.S5PostIdeal.nD Cert.S5PostIdeal.τ).loc Cert.S5PostIdeal.main_arg4))
      ∧ θ_run (Cert.S5PostReferenceIdeal.defs (F := Ideal)) (onTc (τ := Cert.S5PostReferenceIdeal.τ) (Cert.S5PostReferenceIdeal.main (F := Ideal))) ⟨m', fun _ => 0, g'⟩ (fun r => ∀ c : Dev Cert.S5PostReferenceIdeal.nD,
          r.2.mem ((c.tc : Thread Cert.S5PostReferenceIdeal.nD Cert.S5PostReferenceIdeal.τ).loc Cert.S5PostReferenceIdeal.main_v41) = v0 c
          ∧ r.2.mem ((c.tc : Thread Cert.S5PostReferenceIdeal.nD Cert.S5PostReferenceIdeal.τ).loc Cert.S5PostReferenceIdeal.main_arg0) = m' ((c.tc : Thread Cert.S5PostReferenceIdeal.nD Cert.S5PostReferenceIdeal.τ).loc Cert.S5PostReferenceIdeal.main_arg0)
          ∧ r.2.mem ((c.tc : Thread Cert.S5PostReferenceIdeal.nD Cert.S5PostReferenceIdeal.τ).loc Cert.S5PostReferenceIdeal.main_arg1) = m' ((c.tc : Thread Cert.S5PostReferenceIdeal.nD Cert.S5PostReferenceIdeal.τ).loc Cert.S5PostReferenceIdeal.main_arg1)
          ∧ r.2.mem ((c.tc : Thread Cert.S5PostReferenceIdeal.nD Cert.S5PostReferenceIdeal.τ).loc Cert.S5PostReferenceIdeal.main_arg2) = m' ((c.tc : Thread Cert.S5PostReferenceIdeal.nD Cert.S5PostReferenceIdeal.τ).loc Cert.S5PostReferenceIdeal.main_arg2)
          ∧ r.2.mem ((c.tc : Thread Cert.S5PostReferenceIdeal.nD Cert.S5PostReferenceIdeal.τ).loc Cert.S5PostReferenceIdeal.main_arg3) = m' ((c.tc : Thread Cert.S5PostReferenceIdeal.nD Cert.S5PostReferenceIdeal.τ).loc Cert.S5PostReferenceIdeal.main_arg3)
          ∧ r.2.mem ((c.tc : Thread Cert.S5PostReferenceIdeal.nD Cert.S5PostReferenceIdeal.τ).loc Cert.S5PostReferenceIdeal.main_arg4) = m' ((c.tc : Thread Cert.S5PostReferenceIdeal.nD Cert.S5PostReferenceIdeal.τ).loc Cert.S5PostReferenceIdeal.main_arg4))

def preserves_DnPost_DnPostIdeal : Prop :=
  True

def algebraic_DnPostIdeal_DnPostReferenceIdeal_pre_dn_post_finite [hDnPostIdeal : Cert.DnPostIdeal.Facts] [hDnPostReferenceIdeal : Cert.DnPostReferenceIdeal.Facts] [hPre_dn_post_finite : Cert.Pre_dn_post_finite.Facts] : Prop :=
  ∀ (m : (ℓ : Loc Cert.DnPostIdeal.nD Cert.DnPostIdeal.τ Cert.DnPostIdeal.sig) → Buf (Elt Ideal) ℓ) (g : Dev Cert.DnPostIdeal.nD → PrngReg)
    (m' : (ℓ : Loc Cert.DnPostReferenceIdeal.nD Cert.DnPostReferenceIdeal.τ Cert.DnPostReferenceIdeal.sig) → Buf (Elt Ideal) ℓ) (g' : Dev Cert.DnPostReferenceIdeal.nD → PrngReg), Pre_DnPostIdeal_dn_post_finite m →
    (∀ c : Dev Cert.DnPostIdeal.nD,
      m' ((c.tc : Thread Cert.DnPostReferenceIdeal.nD Cert.DnPostReferenceIdeal.τ).loc Cert.DnPostReferenceIdeal.main_arg0) = m ((c.tc : Thread Cert.DnPostIdeal.nD Cert.DnPostIdeal.τ).loc Cert.DnPostIdeal.main_arg0)
      ∧ m' ((c.tc : Thread Cert.DnPostReferenceIdeal.nD Cert.DnPostReferenceIdeal.τ).loc Cert.DnPostReferenceIdeal.main_arg1) = m ((c.tc : Thread Cert.DnPostIdeal.nD Cert.DnPostIdeal.τ).loc Cert.DnPostIdeal.main_arg1)
      ∧ m' ((c.tc : Thread Cert.DnPostReferenceIdeal.nD Cert.DnPostReferenceIdeal.τ).loc Cert.DnPostReferenceIdeal.main_arg2) = m ((c.tc : Thread Cert.DnPostIdeal.nD Cert.DnPostIdeal.τ).loc Cert.DnPostIdeal.main_arg2)
      ∧ m' ((c.tc : Thread Cert.DnPostReferenceIdeal.nD Cert.DnPostReferenceIdeal.τ).loc Cert.DnPostReferenceIdeal.main_arg3) = m ((c.tc : Thread Cert.DnPostIdeal.nD Cert.DnPostIdeal.τ).loc Cert.DnPostIdeal.main_arg3)) →
    ∃ (v0 : (c : Dev Cert.DnPostIdeal.nD) → Buf (Elt Ideal) ((c.tc : Thread Cert.DnPostIdeal.nD Cert.DnPostIdeal.τ).loc Cert.DnPostIdeal.main_v15)),
      θ_run (Cert.DnPostIdeal.defs (F := Ideal)) (onTc (τ := Cert.DnPostIdeal.τ) (Cert.DnPostIdeal.main (F := Ideal))) ⟨m, fun _ => 0, g⟩ (fun r => ∀ c : Dev Cert.DnPostIdeal.nD,
          r.2.mem ((c.tc : Thread Cert.DnPostIdeal.nD Cert.DnPostIdeal.τ).loc Cert.DnPostIdeal.main_v15) = v0 c
          ∧ r.2.mem ((c.tc : Thread Cert.DnPostIdeal.nD Cert.DnPostIdeal.τ).loc Cert.DnPostIdeal.main_arg0) = m ((c.tc : Thread Cert.DnPostIdeal.nD Cert.DnPostIdeal.τ).loc Cert.DnPostIdeal.main_arg0)
          ∧ r.2.mem ((c.tc : Thread Cert.DnPostIdeal.nD Cert.DnPostIdeal.τ).loc Cert.DnPostIdeal.main_arg1) = m ((c.tc : Thread Cert.DnPostIdeal.nD Cert.DnPostIdeal.τ).loc Cert.DnPostIdeal.main_arg1)
          ∧ r.2.mem ((c.tc : Thread Cert.DnPostIdeal.nD Cert.DnPostIdeal.τ).loc Cert.DnPostIdeal.main_arg2) = m ((c.tc : Thread Cert.DnPostIdeal.nD Cert.DnPostIdeal.τ).loc Cert.DnPostIdeal.main_arg2)
          ∧ r.2.mem ((c.tc : Thread Cert.DnPostIdeal.nD Cert.DnPostIdeal.τ).loc Cert.DnPostIdeal.main_arg3) = m ((c.tc : Thread Cert.DnPostIdeal.nD Cert.DnPostIdeal.τ).loc Cert.DnPostIdeal.main_arg3))
      ∧ θ_run (Cert.DnPostReferenceIdeal.defs (F := Ideal)) (onTc (τ := Cert.DnPostReferenceIdeal.τ) (Cert.DnPostReferenceIdeal.main (F := Ideal))) ⟨m', fun _ => 0, g'⟩ (fun r => ∀ c : Dev Cert.DnPostReferenceIdeal.nD,
          r.2.mem ((c.tc : Thread Cert.DnPostReferenceIdeal.nD Cert.DnPostReferenceIdeal.τ).loc Cert.DnPostReferenceIdeal.main_v23) = v0 c
          ∧ r.2.mem ((c.tc : Thread Cert.DnPostReferenceIdeal.nD Cert.DnPostReferenceIdeal.τ).loc Cert.DnPostReferenceIdeal.main_arg0) = m' ((c.tc : Thread Cert.DnPostReferenceIdeal.nD Cert.DnPostReferenceIdeal.τ).loc Cert.DnPostReferenceIdeal.main_arg0)
          ∧ r.2.mem ((c.tc : Thread Cert.DnPostReferenceIdeal.nD Cert.DnPostReferenceIdeal.τ).loc Cert.DnPostReferenceIdeal.main_arg1) = m' ((c.tc : Thread Cert.DnPostReferenceIdeal.nD Cert.DnPostReferenceIdeal.τ).loc Cert.DnPostReferenceIdeal.main_arg1)
          ∧ r.2.mem ((c.tc : Thread Cert.DnPostReferenceIdeal.nD Cert.DnPostReferenceIdeal.τ).loc Cert.DnPostReferenceIdeal.main_arg2) = m' ((c.tc : Thread Cert.DnPostReferenceIdeal.nD Cert.DnPostReferenceIdeal.τ).loc Cert.DnPostReferenceIdeal.main_arg2)
          ∧ r.2.mem ((c.tc : Thread Cert.DnPostReferenceIdeal.nD Cert.DnPostReferenceIdeal.τ).loc Cert.DnPostReferenceIdeal.main_arg3) = m' ((c.tc : Thread Cert.DnPostReferenceIdeal.nD Cert.DnPostReferenceIdeal.τ).loc Cert.DnPostReferenceIdeal.main_arg3))

def preserves_RwkvPost_RwkvPostIdeal : Prop :=
  True

def algebraic_RwkvPostIdeal_RwkvPostReferenceIdeal_pre_rwkv_post_finite [hRwkvPostIdeal : Cert.RwkvPostIdeal.Facts] [hRwkvPostReferenceIdeal : Cert.RwkvPostReferenceIdeal.Facts] [hPre_rwkv_post_finite : Cert.Pre_rwkv_post_finite.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg)
    (m' : (ℓ : Loc Cert.RwkvPostReferenceIdeal.nD Cert.RwkvPostReferenceIdeal.τ Cert.RwkvPostReferenceIdeal.sig) → Buf (Elt Ideal) ℓ) (g' : Dev Cert.RwkvPostReferenceIdeal.nD → PrngReg), Pre_RwkvPostIdeal_rwkv_post_finite m →
    (∀ c : Dev Cert.RwkvPostIdeal.nD,
      m' ((c.tc : Thread Cert.RwkvPostReferenceIdeal.nD Cert.RwkvPostReferenceIdeal.τ).loc Cert.RwkvPostReferenceIdeal.main_arg0) = m ((c.tc : Thread Cert.RwkvPostIdeal.nD Cert.RwkvPostIdeal.τ).loc Cert.RwkvPostIdeal.main_arg0)
      ∧ m' ((c.tc : Thread Cert.RwkvPostReferenceIdeal.nD Cert.RwkvPostReferenceIdeal.τ).loc Cert.RwkvPostReferenceIdeal.main_arg1) = m ((c.tc : Thread Cert.RwkvPostIdeal.nD Cert.RwkvPostIdeal.τ).loc Cert.RwkvPostIdeal.main_arg1)
      ∧ m' ((c.tc : Thread Cert.RwkvPostReferenceIdeal.nD Cert.RwkvPostReferenceIdeal.τ).loc Cert.RwkvPostReferenceIdeal.main_arg2) = m ((c.tc : Thread Cert.RwkvPostIdeal.nD Cert.RwkvPostIdeal.τ).loc Cert.RwkvPostIdeal.main_arg2)
      ∧ m' ((c.tc : Thread Cert.RwkvPostReferenceIdeal.nD Cert.RwkvPostReferenceIdeal.τ).loc Cert.RwkvPostReferenceIdeal.main_arg3) = m ((c.tc : Thread Cert.RwkvPostIdeal.nD Cert.RwkvPostIdeal.τ).loc Cert.RwkvPostIdeal.main_arg3)
      ∧ m' ((c.tc : Thread Cert.RwkvPostReferenceIdeal.nD Cert.RwkvPostReferenceIdeal.τ).loc Cert.RwkvPostReferenceIdeal.main_arg4) = m ((c.tc : Thread Cert.RwkvPostIdeal.nD Cert.RwkvPostIdeal.τ).loc Cert.RwkvPostIdeal.main_arg4)
      ∧ m' ((c.tc : Thread Cert.RwkvPostReferenceIdeal.nD Cert.RwkvPostReferenceIdeal.τ).loc Cert.RwkvPostReferenceIdeal.main_arg5) = m ((c.tc : Thread Cert.RwkvPostIdeal.nD Cert.RwkvPostIdeal.τ).loc Cert.RwkvPostIdeal.main_arg5)) →
    ∃ (v0 : (c : Dev Cert.RwkvPostIdeal.nD) → Buf (Elt Ideal) ((c.tc : Thread Cert.RwkvPostIdeal.nD Cert.RwkvPostIdeal.τ).loc Cert.RwkvPostIdeal.main_v13)),
      θ_run (Cert.RwkvPostIdeal.defs (F := Ideal)) (onTc (τ := Cert.RwkvPostIdeal.τ) (Cert.RwkvPostIdeal.main (F := Ideal))) ⟨m, fun _ => 0, g⟩ (fun r => ∀ c : Dev Cert.RwkvPostIdeal.nD,
          r.2.mem ((c.tc : Thread Cert.RwkvPostIdeal.nD Cert.RwkvPostIdeal.τ).loc Cert.RwkvPostIdeal.main_v13) = v0 c
          ∧ r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
          ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
          ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
          ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
          ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
          ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5))
      ∧ θ_run (Cert.RwkvPostReferenceIdeal.defs (F := Ideal)) (onTc (τ := Cert.RwkvPostReferenceIdeal.τ) (Cert.RwkvPostReferenceIdeal.main (F := Ideal))) ⟨m', fun _ => 0, g'⟩ (fun r => ∀ c : Dev Cert.RwkvPostReferenceIdeal.nD,
          r.2.mem ((c.tc : Thread Cert.RwkvPostReferenceIdeal.nD Cert.RwkvPostReferenceIdeal.τ).loc Cert.RwkvPostReferenceIdeal.main_v35) = v0 c
          ∧ r.2.mem ((c.tc : Thread Cert.RwkvPostReferenceIdeal.nD Cert.RwkvPostReferenceIdeal.τ).loc Cert.RwkvPostReferenceIdeal.main_arg0) = m' ((c.tc : Thread Cert.RwkvPostReferenceIdeal.nD Cert.RwkvPostReferenceIdeal.τ).loc Cert.RwkvPostReferenceIdeal.main_arg0)
          ∧ r.2.mem ((c.tc : Thread Cert.RwkvPostReferenceIdeal.nD Cert.RwkvPostReferenceIdeal.τ).loc Cert.RwkvPostReferenceIdeal.main_arg1) = m' ((c.tc : Thread Cert.RwkvPostReferenceIdeal.nD Cert.RwkvPostReferenceIdeal.τ).loc Cert.RwkvPostReferenceIdeal.main_arg1)
          ∧ r.2.mem ((c.tc : Thread Cert.RwkvPostReferenceIdeal.nD Cert.RwkvPostReferenceIdeal.τ).loc Cert.RwkvPostReferenceIdeal.main_arg2) = m' ((c.tc : Thread Cert.RwkvPostReferenceIdeal.nD Cert.RwkvPostReferenceIdeal.τ).loc Cert.RwkvPostReferenceIdeal.main_arg2)
          ∧ r.2.mem ((c.tc : Thread Cert.RwkvPostReferenceIdeal.nD Cert.RwkvPostReferenceIdeal.τ).loc Cert.RwkvPostReferenceIdeal.main_arg3) = m' ((c.tc : Thread Cert.RwkvPostReferenceIdeal.nD Cert.RwkvPostReferenceIdeal.τ).loc Cert.RwkvPostReferenceIdeal.main_arg3)
          ∧ r.2.mem ((c.tc : Thread Cert.RwkvPostReferenceIdeal.nD Cert.RwkvPostReferenceIdeal.τ).loc Cert.RwkvPostReferenceIdeal.main_arg4) = m' ((c.tc : Thread Cert.RwkvPostReferenceIdeal.nD Cert.RwkvPostReferenceIdeal.τ).loc Cert.RwkvPostReferenceIdeal.main_arg4)
          ∧ r.2.mem ((c.tc : Thread Cert.RwkvPostReferenceIdeal.nD Cert.RwkvPostReferenceIdeal.τ).loc Cert.RwkvPostReferenceIdeal.main_arg5) = m' ((c.tc : Thread Cert.RwkvPostReferenceIdeal.nD Cert.RwkvPostReferenceIdeal.τ).loc Cert.RwkvPostReferenceIdeal.main_arg5))

def preserves_DnPrep_DnPrepIdeal : Prop :=
  True

def algebraic_DnPrepIdeal_DnPrepReferenceIdeal_pre_dn_prep_finite [hDnPrepIdeal : Cert.DnPrepIdeal.Facts] [hDnPrepReferenceIdeal : Cert.DnPrepReferenceIdeal.Facts] [hPre_dn_prep_finite : Cert.Pre_dn_prep_finite.Facts] : Prop :=
  ∀ (m : (ℓ : Loc Cert.DnPrepIdeal.nD Cert.DnPrepIdeal.τ Cert.DnPrepIdeal.sig) → Buf (Elt Ideal) ℓ) (g : Dev Cert.DnPrepIdeal.nD → PrngReg)
    (m' : (ℓ : Loc Cert.DnPrepReferenceIdeal.nD Cert.DnPrepReferenceIdeal.τ Cert.DnPrepReferenceIdeal.sig) → Buf (Elt Ideal) ℓ) (g' : Dev Cert.DnPrepReferenceIdeal.nD → PrngReg), Pre_DnPrepIdeal_dn_prep_finite m →
    (∀ c : Dev Cert.DnPrepIdeal.nD,
      m' ((c.tc : Thread Cert.DnPrepReferenceIdeal.nD Cert.DnPrepReferenceIdeal.τ).loc Cert.DnPrepReferenceIdeal.main_arg0) = m ((c.tc : Thread Cert.DnPrepIdeal.nD Cert.DnPrepIdeal.τ).loc Cert.DnPrepIdeal.main_arg0)
      ∧ m' ((c.tc : Thread Cert.DnPrepReferenceIdeal.nD Cert.DnPrepReferenceIdeal.τ).loc Cert.DnPrepReferenceIdeal.main_arg1) = m ((c.tc : Thread Cert.DnPrepIdeal.nD Cert.DnPrepIdeal.τ).loc Cert.DnPrepIdeal.main_arg1)) →
    ∃ (v0 : (c : Dev Cert.DnPrepIdeal.nD) → Buf (Elt Ideal) ((c.tc : Thread Cert.DnPrepIdeal.nD Cert.DnPrepIdeal.τ).loc Cert.DnPrepIdeal.main_v13_0)) (v1 : (c : Dev Cert.DnPrepIdeal.nD) → Buf (Elt Ideal) ((c.tc : Thread Cert.DnPrepIdeal.nD Cert.DnPrepIdeal.τ).loc Cert.DnPrepIdeal.main_v13_1)) (v2 : (c : Dev Cert.DnPrepIdeal.nD) → Buf (Elt Ideal) ((c.tc : Thread Cert.DnPrepIdeal.nD Cert.DnPrepIdeal.τ).loc Cert.DnPrepIdeal.main_v13_2)),
      θ_run (Cert.DnPrepIdeal.defs (F := Ideal)) (onTc (τ := Cert.DnPrepIdeal.τ) (Cert.DnPrepIdeal.main (F := Ideal))) ⟨m, fun _ => 0, g⟩ (fun r => ∀ c : Dev Cert.DnPrepIdeal.nD,
          r.2.mem ((c.tc : Thread Cert.DnPrepIdeal.nD Cert.DnPrepIdeal.τ).loc Cert.DnPrepIdeal.main_v13_0) = v0 c
          ∧ r.2.mem ((c.tc : Thread Cert.DnPrepIdeal.nD Cert.DnPrepIdeal.τ).loc Cert.DnPrepIdeal.main_v13_1) = v1 c
          ∧ r.2.mem ((c.tc : Thread Cert.DnPrepIdeal.nD Cert.DnPrepIdeal.τ).loc Cert.DnPrepIdeal.main_v13_2) = v2 c
          ∧ r.2.mem ((c.tc : Thread Cert.DnPrepIdeal.nD Cert.DnPrepIdeal.τ).loc Cert.DnPrepIdeal.main_arg0) = m ((c.tc : Thread Cert.DnPrepIdeal.nD Cert.DnPrepIdeal.τ).loc Cert.DnPrepIdeal.main_arg0)
          ∧ r.2.mem ((c.tc : Thread Cert.DnPrepIdeal.nD Cert.DnPrepIdeal.τ).loc Cert.DnPrepIdeal.main_arg1) = m ((c.tc : Thread Cert.DnPrepIdeal.nD Cert.DnPrepIdeal.τ).loc Cert.DnPrepIdeal.main_arg1))
      ∧ θ_run (Cert.DnPrepReferenceIdeal.defs (F := Ideal)) (onTc (τ := Cert.DnPrepReferenceIdeal.τ) (Cert.DnPrepReferenceIdeal.main (F := Ideal))) ⟨m', fun _ => 0, g'⟩ (fun r => ∀ c : Dev Cert.DnPrepReferenceIdeal.nD,
          r.2.mem ((c.tc : Thread Cert.DnPrepReferenceIdeal.nD Cert.DnPrepReferenceIdeal.τ).loc Cert.DnPrepReferenceIdeal.main_v54) = v0 c
          ∧ r.2.mem ((c.tc : Thread Cert.DnPrepReferenceIdeal.nD Cert.DnPrepReferenceIdeal.τ).loc Cert.DnPrepReferenceIdeal.main_v65) = v1 c
          ∧ r.2.mem ((c.tc : Thread Cert.DnPrepReferenceIdeal.nD Cert.DnPrepReferenceIdeal.τ).loc Cert.DnPrepReferenceIdeal.main_v66) = v2 c
          ∧ r.2.mem ((c.tc : Thread Cert.DnPrepReferenceIdeal.nD Cert.DnPrepReferenceIdeal.τ).loc Cert.DnPrepReferenceIdeal.main_arg0) = m' ((c.tc : Thread Cert.DnPrepReferenceIdeal.nD Cert.DnPrepReferenceIdeal.τ).loc Cert.DnPrepReferenceIdeal.main_arg0)
          ∧ r.2.mem ((c.tc : Thread Cert.DnPrepReferenceIdeal.nD Cert.DnPrepReferenceIdeal.τ).loc Cert.DnPrepReferenceIdeal.main_arg1) = m' ((c.tc : Thread Cert.DnPrepReferenceIdeal.nD Cert.DnPrepReferenceIdeal.τ).loc Cert.DnPrepReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hPle : Cert.Ple.Facts) (hPleIdeal : Cert.PleIdeal.Facts) (hPleReferenceIdeal : Cert.PleReferenceIdeal.Facts) (hFinal : Cert.Final.Facts) (hFinalIdeal : Cert.FinalIdeal.Facts) (hFinalReferenceIdeal : Cert.FinalReferenceIdeal.Facts) (hS5Proj : Cert.S5Proj.Facts) (hS5ProjIdeal : Cert.S5ProjIdeal.Facts) (hS5ProjReferenceIdeal : Cert.S5ProjReferenceIdeal.Facts) (hS5Post : Cert.S5Post.Facts) (hS5PostIdeal : Cert.S5PostIdeal.Facts) (hS5PostReferenceIdeal : Cert.S5PostReferenceIdeal.Facts) (hDnPost : Cert.DnPost.Facts) (hDnPostIdeal : Cert.DnPostIdeal.Facts) (hDnPostReferenceIdeal : Cert.DnPostReferenceIdeal.Facts) (hRwkvPost : Cert.RwkvPost.Facts) (hRwkvPostIdeal : Cert.RwkvPostIdeal.Facts) (hRwkvPostReferenceIdeal : Cert.RwkvPostReferenceIdeal.Facts) (hDnPrep : Cert.DnPrep.Facts) (hDnPrepIdeal : Cert.DnPrepIdeal.Facts) (hDnPrepReferenceIdeal : Cert.DnPrepReferenceIdeal.Facts) (hPre_finite : Cert.Pre_finite.Facts) (hPre_dn_post_finite : Cert.Pre_dn_post_finite.Facts) (hPre_rwkv_post_finite : Cert.Pre_rwkv_post_finite.Facts) (hPre_dn_prep_finite : Cert.Pre_dn_prep_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Ple (hPle := hPle)
    ∧ quiescent_PleIdeal (hPleIdeal := hPleIdeal)
    ∧ quiescent_PleReferenceIdeal (hPleReferenceIdeal := hPleReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_S5Proj (hS5Proj := hS5Proj)
    ∧ quiescent_S5ProjIdeal (hS5ProjIdeal := hS5ProjIdeal)
    ∧ quiescent_S5ProjReferenceIdeal (hS5ProjReferenceIdeal := hS5ProjReferenceIdeal)
    ∧ quiescent_S5Post (hS5Post := hS5Post)
    ∧ quiescent_S5PostIdeal (hS5PostIdeal := hS5PostIdeal)
    ∧ quiescent_S5PostReferenceIdeal (hS5PostReferenceIdeal := hS5PostReferenceIdeal)
    ∧ quiescent_DnPost (hDnPost := hDnPost)
    ∧ quiescent_DnPostIdeal (hDnPostIdeal := hDnPostIdeal)
    ∧ quiescent_DnPostIdeal_pre_dn_post_finite (hDnPostIdeal := hDnPostIdeal) (hPre_dn_post_finite := hPre_dn_post_finite)
    ∧ quiescent_DnPostReferenceIdeal (hDnPostReferenceIdeal := hDnPostReferenceIdeal)
    ∧ quiescent_DnPostReferenceIdeal_pre_dn_post_finite (hDnPostReferenceIdeal := hDnPostReferenceIdeal) (hPre_dn_post_finite := hPre_dn_post_finite)
    ∧ quiescent_RwkvPost (hRwkvPost := hRwkvPost)
    ∧ quiescent_RwkvPostIdeal (hRwkvPostIdeal := hRwkvPostIdeal)
    ∧ quiescent_RwkvPostIdeal_pre_rwkv_post_finite (hRwkvPostIdeal := hRwkvPostIdeal) (hPre_rwkv_post_finite := hPre_rwkv_post_finite)
    ∧ quiescent_RwkvPostReferenceIdeal (hRwkvPostReferenceIdeal := hRwkvPostReferenceIdeal)
    ∧ quiescent_RwkvPostReferenceIdeal_pre_rwkv_post_finite (hRwkvPostReferenceIdeal := hRwkvPostReferenceIdeal) (hPre_rwkv_post_finite := hPre_rwkv_post_finite)
    ∧ quiescent_DnPrep (hDnPrep := hDnPrep)
    ∧ quiescent_DnPrepIdeal (hDnPrepIdeal := hDnPrepIdeal)
    ∧ quiescent_DnPrepIdeal_pre_dn_prep_finite (hDnPrepIdeal := hDnPrepIdeal) (hPre_dn_prep_finite := hPre_dn_prep_finite)
    ∧ quiescent_DnPrepReferenceIdeal (hDnPrepReferenceIdeal := hDnPrepReferenceIdeal)
    ∧ quiescent_DnPrepReferenceIdeal_pre_dn_prep_finite (hDnPrepReferenceIdeal := hDnPrepReferenceIdeal) (hPre_dn_prep_finite := hPre_dn_prep_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
    ∧ preserves_Ple_PleIdeal
    ∧ algebraic_PleIdeal_PleReferenceIdeal (hPleIdeal := hPleIdeal) (hPleReferenceIdeal := hPleReferenceIdeal)
    ∧ preserves_Final_FinalIdeal
    ∧ algebraic_FinalIdeal_FinalReferenceIdeal (hFinalIdeal := hFinalIdeal) (hFinalReferenceIdeal := hFinalReferenceIdeal)
    ∧ preserves_S5Proj_S5ProjIdeal
    ∧ algebraic_S5ProjIdeal_S5ProjReferenceIdeal (hS5ProjIdeal := hS5ProjIdeal) (hS5ProjReferenceIdeal := hS5ProjReferenceIdeal)
    ∧ preserves_S5Post_S5PostIdeal
    ∧ algebraic_S5PostIdeal_S5PostReferenceIdeal (hS5PostIdeal := hS5PostIdeal) (hS5PostReferenceIdeal := hS5PostReferenceIdeal)
    ∧ preserves_DnPost_DnPostIdeal
    ∧ algebraic_DnPostIdeal_DnPostReferenceIdeal_pre_dn_post_finite (hDnPostIdeal := hDnPostIdeal) (hDnPostReferenceIdeal := hDnPostReferenceIdeal) (hPre_dn_post_finite := hPre_dn_post_finite)
    ∧ preserves_RwkvPost_RwkvPostIdeal
    ∧ algebraic_RwkvPostIdeal_RwkvPostReferenceIdeal_pre_rwkv_post_finite (hRwkvPostIdeal := hRwkvPostIdeal) (hRwkvPostReferenceIdeal := hRwkvPostReferenceIdeal) (hPre_rwkv_post_finite := hPre_rwkv_post_finite)
    ∧ preserves_DnPrep_DnPrepIdeal
    ∧ algebraic_DnPrepIdeal_DnPrepReferenceIdeal_pre_dn_prep_finite (hDnPrepIdeal := hDnPrepIdeal) (hDnPrepReferenceIdeal := hDnPrepReferenceIdeal) (hPre_dn_prep_finite := hPre_dn_prep_finite)
-- ==== Pre_dn_post_finite.lean ====
abbrev S16384x1024 : Shape := ⟨2, ![16384, 1024]⟩
abbrev S16384x8192 : Shape := ⟨2, ![16384, 8192]⟩
abbrev S128 : Shape := ⟨1, ![128]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .bf16) (main_arg1 : FVec F S16384x1024 .bf16) (main_arg2 : FVec F S16384x8192 .f32) (main_arg3 : FVec F S128 .f32) : IVec S16384x1024 1 × IVec S16384x1024 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_v3 : FVec F S16384x1024 .bf16 := Host.absf main_arg1
  let main_cst_0 : FVec F S_ .bf16 := constant S_ .bf16 0x7F80#16
  let main_v4 : FVec F S16384x1024 .bf16 := broadcastInDim S16384x1024 ![] bcast_S_S16384x1024 main_cst_0
  let main_v5 : IVec S16384x1024 1 := cmpf .olt main_v3 main_v4
  (main_v2, main_v5)
-- ==== Pre_dn_prep_finite.lean ====
abbrev S8x2048x8192 : Shape := ⟨3, ![8, 2048, 8192]⟩
abbrev S5x3072 : Shape := ⟨2, ![5, 3072]⟩
abbrev S8x2048x2048 : Shape := ⟨3, ![8, 2048, 2048]⟩
abbrev S_ : Shape := ⟨0, ![]⟩
abbrev S5x2048 : Shape := ⟨2, ![5, 2048]⟩

class Facts : Prop where
  slices_S8x2048x8192_S8x2048x2048_0_0_4096 : S8x2048x8192.Slices ![0, 0, 4096] S8x2048x2048
  bcast_S_S8x2048x2048 : S_.BroadcastsInDim S8x2048x2048 (![] : Fin 0 → Fin S8x2048x2048.rank)
  slices_S5x3072_S5x2048_0_0 : S5x3072.Slices ![0, 0] S5x2048
  bcast_S_S5x2048 : S_.BroadcastsInDim S5x2048 (![] : Fin 0 → Fin S5x2048.rank)

variable [Facts]

def fn {F : FTy → Type} [FloatOps F] (main_arg0 : FVec F S8x2048x8192 .f32) (main_arg1 : FVec F S5x3072 .f32) : IVec S8x2048x2048 1 × IVec S5x2048 1 :=
  let main_v0 : FVec F S8x2048x2048 .f32 := (extractStridedSlice S8x2048x2048 ![0, 0, 4096] · slices_S8x2048x8192_S8x2048x2048_0_0_4096) main_arg0
  let main_v1 : FVec F S8x2048x2048 .f32 := Host.absf main_v0
  let main_cst : FVec F S_ .f32 := constant S_ .f32 0x7F800000#32
  let main_v2 : FVec F S8x2048x2048 .f32 := broadcastInDim S8x2048x2048 ![] bcast_S_S8x2048x2048 main_cst
  let main_v3 : IVec S8x2048x2048 1 := cmpf .olt main_v1 main_v2
  let main_v4 : FVec F S5x2048 .f32 := (extractStridedSlice S5x2048 ![0, 0] · slices_S5x3072_S5x2048_0_0) main_arg1
  let main_v5 : FVec F S5x2048 .f32 := Host.absf main_v4
  let main_cst_0 : FVec F S_ .f32 := constant S_ .f32 0x7F800000#32
  let main_v6 : FVec F S5x2048 .f32 := broadcastInDim S5x2048 ![] bcast_S_S5x2048 main_cst_0
  let main_v7 : IVec S5x2048 1 := cmpf .olt main_v5 main_v6
  (main_v3, main_v7)
-- ==== Pre_finite.lean ====
abbrev S8x2048x1024 : Shape := ⟨3, ![8, 2048, 1024]⟩
abbrev S8x2048x8192 : Shape := ⟨3, ![8, 2048, 8192]⟩
abbrev S2x8 : Shape := ⟨2, ![2, 8]⟩
abbrev S_ : Shape := ⟨0, ![]⟩

class Facts : Prop where
  bcast_S_S8x2048x1024 : S_.BroadcastsInDim S8x2048x1024 (![] : Fin 0 → Fin S8x2048x1024.rank)
  bcast_S_S8x2048x8192 : S_.BroadcastsInDim S8x2048x8192 (![] : Fin 0 → Fin S8x2048x8192.rank)
  bcast_S_S2x8 : S_.BroadcastsInDim S2x8 (![] : Fin 0 → Fin S2x8.rank)

variable [Facts]

def fn {F : FTy → Type} [FloatOps F] (main_arg0 : FVec F S8x2048x1024 .bf16) (main_arg1 : FVec F S8x2048x1024 .bf16) (main_arg2 : FVec F S8x2048x1024 .bf16) (main_arg3 : FVec F S8x2048x8192 .f32) (main_arg4 : FVec F S2x8 .f32) (main_arg5 : FVec F S2x8 .f32) : IVec S8x2048x1024 1 × IVec S8x2048x1024 1 × IVec S8x2048x1024 1 × IVec S8x2048x8192 1 × IVec S2x8 1 × IVec S2x8 1 :=
  let main_v0 : FVec F S8x2048x1024 .bf16 := Host.absf main_arg0
  let main_cst : FVec F S_ .bf16 := constant S_ .bf16 0x7F80#16
  let main_v1 : FVec F S8x2048x1024 .bf16 := broadcastInDim S8x2048x1024 ![] bcast_S_S8x2048x1024 main_cst
  let main_v2 : IVec S8x2048x1024 1 := cmpf .olt main_v0 main_v1
  let main_v3 : FVec F S8x2048x1024 .bf16 := Host.absf main_arg1
  let main_cst_0 : FVec F S_ .bf16 := constant S_ .bf16 0x7F80#16
  let main_v4 : FVec F S8x2048x1024 .bf16 := broadcastInDim S8x2048x1024 ![] bcast_S_S8x2048x1024 main_cst_0
  let main_v5 : IVec S8x2048x1024 1 := cmpf .olt main_v3 main_v4
  let main_v6 : FVec F S8x2048x1024 .bf16 := Host.absf main_arg2
  let main_cst_1 : FVec F S_ .bf16 := constant S_ .bf16 0x7F80#16
  let main_v7 : FVec F S8x2048x1024 .bf16 := broadcastInDim S8x2048x1024 ![] bcast_S_S8x2048x1024 main_cst_1
  let main_v8 : IVec S8x2048x1024 1 := cmpf .olt main_v6 main_v7
  let main_v9 : FVec F S8x2048x8192 .f32 := Host.absf main_arg3
  let main_cst_2 : FVec F S_ .f32 := constant S_ .f32 0x7F800000#32
  let main_v10 : FVec F S8x2048x8192 .f32 := broadcastInDim S8x2048x8192 ![] bcast_S_S8x2048x8192 main_cst_2
  let main_v11 : IVec S8x2048x8192 1 := cmpf .olt main_v9 main_v10
  let main_v12 : FVec F S2x8 .f32 := Host.absf main_arg4
  let main_cst_3 : FVec F S_ .f32 := constant S_ .f32 0x7F800000#32
  let main_v13 : FVec F S2x8 .f32 := broadcastInDim S2x8 ![] bcast_S_S2x8 main_cst_3
  let main_v14 : IVec S2x8 1 := cmpf .olt main_v12 main_v13
  let main_v15 : FVec F S2x8 .f32 := Host.absf main_arg5
  let main_cst_4 : FVec F S_ .f32 := constant S_ .f32 0x7F800000#32
  let main_v16 : FVec F S2x8 .f32 := broadcastInDim S2x8 ![] bcast_S_S2x8 main_cst_4
  let main_v17 : IVec S2x8 1 := cmpf .olt main_v15 main_v16
  (main_v2, main_v5, main_v8, main_v11, main_v14, main_v17)
-- ==== Pre_rwkv_post_finite.lean ====
abbrev S16384x1024 : Shape := ⟨2, ![16384, 1024]⟩
abbrev S16x64 : Shape := ⟨2, ![16, 64]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .bf16) (main_arg1 : FVec F S16384x1024 .bf16) (main_arg2 : FVec F S16384x1024 .bf16) (main_arg3 : FVec F S16384x1024 .bf16) (main_arg4 : FVec F S16x64 .f32) (main_arg5 : FVec F S16x64 .f32) : IVec S16384x1024 1 × IVec S16384x1024 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_v3 : FVec F S16384x1024 .bf16 := Host.absf main_arg1
  let main_cst_0 : FVec F S_ .bf16 := constant S_ .bf16 0x7F80#16
  let main_v4 : FVec F S16384x1024 .bf16 := broadcastInDim S16384x1024 ![] bcast_S_S16384x1024 main_cst_0
  let main_v5 : IVec S16384x1024 1 := cmpf .olt main_v3 main_v4
  (main_v2, main_v5)
-- ==== Kernel.lean ====
abbrev S8x2048x1024 : Shape := ⟨3, ![8, 2048, 1024]⟩
abbrev S8x2048x8192 : Shape := ⟨3, ![8, 2048, 8192]⟩
abbrev S2x8 : Shape := ⟨2, ![2, 8]⟩
abbrev S_ : Shape := ⟨0, ![]⟩
abbrev S16 : Shape := ⟨1, ![16]⟩
abbrev S96 : Shape := ⟨1, ![96]⟩
abbrev S128 : Shape := ⟨1, ![128]⟩
abbrev S1x128 : Shape := ⟨2, ![1, 128]⟩
abbrev S1x64x1024 : Shape := ⟨3, ![1, 64, 1024]⟩
abbrev S1x64x128 : Shape := ⟨3, ![1, 64, 128]⟩
abbrev S16x128x128 : Shape := ⟨3, ![16, 128, 128]⟩
abbrev S64x64 : Shape := ⟨2, ![64, 64]⟩
abbrev S64x128 : Shape := ⟨2, ![64, 128]⟩
abbrev S128x64 : Shape := ⟨2, ![128, 64]⟩
abbrev S64x1024 : Shape := ⟨2, ![64, 1024]⟩
abbrev S64x1 : Shape := ⟨2, ![64, 1]⟩
abbrev S1x64 : Shape := ⟨2, ![1, 64]⟩
abbrev S16x64x128 : Shape := ⟨3, ![16, 64, 128]⟩
abbrev S1x1x64 : Shape := ⟨3, ![1, 1, 64]⟩
abbrev S16x1x64 : Shape := ⟨3, ![16, 1, 64]⟩
abbrev S16x64x64 : Shape := ⟨3, ![16, 64, 64]⟩
abbrev S8x64x64 : Shape := ⟨3, ![8, 64, 64]⟩
abbrev S1x64x64 : Shape := ⟨3, ![1, 64, 64]⟩
abbrev S16x128x64 : Shape := ⟨3, ![16, 128, 64]⟩
abbrev S16x64x256 : Shape := ⟨3, ![16, 64, 256]⟩
abbrev S8x64x128 : Shape := ⟨3, ![8, 64, 128]⟩
abbrev S8x1x128 : Shape := ⟨3, ![8, 1, 128]⟩
abbrev S16x1x128 : Shape := ⟨3, ![16, 1, 128]⟩

abbrev nBuf : Space → Nat
  | .hbm => 22
  | .vmem => 23
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S8x2048x8192, .f32⟩
  | .hbm, ⟨4, _⟩ => ⟨S2x8, .f32⟩
  | .hbm, ⟨5, _⟩ => ⟨S2x8, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S96, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S96, .f32⟩
  | .hbm, ⟨18, _⟩ => ⟨S128, .f32⟩
  | .hbm, ⟨19, _⟩ => ⟨S1x128, .f32⟩
  | .hbm, ⟨20, _⟩ => ⟨S8x2048x1024, .bf16⟩
  | .hbm, ⟨21, _⟩ => ⟨S8x2048x1024, .bf16⟩
  | .local _ .vmem, ⟨0, _⟩ => ⟨S1x64x1024, .bf16⟩
  | .local _ .vmem, ⟨1, _⟩ => ⟨S1x64x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x128, .f32⟩
  | .local _ .vmem, ⟨7, _⟩ => ⟨S1x64x128, .f32⟩
  | .local _ .vmem, ⟨8, _⟩ => ⟨S1x64x1024, .bf16⟩
  | .local _ .vmem, ⟨9, _⟩ => ⟨S1x64x1024, .bf16⟩
  | .local _ .vmem, ⟨10, _⟩ => ⟨S1x64x1024, .bf16⟩
  | .local _ .vmem, ⟨11, _⟩ => ⟨S1x64x1024, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x64x128, .f32⟩
  | .local _ .vmem, ⟨15, _⟩ => ⟨S1x64x128, .f32⟩
  | .local _ .vmem, ⟨16, _⟩ => ⟨S1x128, .f32⟩
  | .local _ .vmem, ⟨17, _⟩ => ⟨S1x128, .f32⟩
  | .local _ .vmem, ⟨18, _⟩ => ⟨S1x64x1024, .bf16⟩
  | .local _ .vmem, ⟨19, _⟩ => ⟨S1x64x1024, .bf16⟩
  | .local _ .vmem, ⟨20, _⟩ => ⟨S1x64x1024, .bf16⟩
  | .local _ .vmem, ⟨21, _⟩ => ⟨S1x64x1024, .bf16⟩
  | .local _ .vmem, ⟨22, _⟩ => ⟨S16x128x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c28_i32 : BitVec 32 := 28#32
  let c0_i32 : BitVec 32 := 0#32
  ![arg0.toNat, arg1.toNat, c28_i32.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c28_i32 : BitVec 32 := 28#32
  let c0_i32 : BitVec 32 := 0#32
  ![arg0.toNat, v0.toNat, c28_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x2048x1024 : Shape := ⟨3, ![8, 2048, 1024]⟩
abbrev S8x2048x8192 : Shape := ⟨3, ![8, 2048, 8192]⟩
abbrev S2x8 : Shape := ⟨2, ![2, 8]⟩
abbrev S8x2048x32 : Shape := ⟨3, ![8, 2048, 32]⟩
abbrev S8x2048x8 : Shape := ⟨3, ![8, 2048, 8]⟩
abbrev S8x2048x8x128 : Shape := ⟨4, ![8, 2048, 8, 128]⟩
abbrev S1x8x2048x8x128 : Shape := ⟨5, ![1, 8, 2048, 8, 128]⟩
abbrev S2x8x2048x8x128 : Shape := ⟨5, ![2, 8, 2048, 8, 128]⟩
abbrev S_ : Shape := ⟨0, ![]⟩
abbrev S1x8x2048x8 : Shape := ⟨4, ![1, 8, 2048, 8]⟩
abbrev S2x8x2048x8 : Shape := ⟨4, ![2, 8, 2048, 8]⟩
abbrev S1x8 : Shape := ⟨2, ![1, 8]⟩
abbrev S8 : Shape := ⟨1, ![8]⟩
abbrev S1x1x8 : Shape := ⟨3, ![1, 1, 8]⟩
abbrev S2048x2x8x8x128 : Shape := ⟨5, ![2048, 2, 8, 8, 128]⟩
abbrev S2048x2x8x8 : Shape := ⟨4, ![2048, 2, 8, 8]⟩
abbrev S2x8x8x128x128 : Shape := ⟨5, ![2, 8, 8, 128, 128]⟩
abbrev S1x2x8x8x128 : Shape := ⟨5, ![1, 2, 8, 8, 128]⟩
abbrev S2x8x8x128 : Shape := ⟨4, ![2, 8, 8, 128]⟩
abbrev S1x2x8x8 : Shape := ⟨4, ![1, 2, 8, 8]⟩
abbrev S2x8x8 : Shape := ⟨3, ![2, 8, 8]⟩
abbrev S2x8x8x1x1 : Shape := ⟨5, ![2, 8, 8, 1, 1]⟩
abbrev S2x8x8x1 : Shape := ⟨4, ![2, 8, 8, 1]⟩
abbrev S2x8x8x128x1 : Shape := ⟨5, ![2, 8, 8, 128, 1]⟩
abbrev S2x8x8x1x128 : Shape := ⟨5, ![2, 8, 8, 1, 128]⟩

abbrev nBuf : Space → Nat
  | .hbm => 195
  | .vmem => 0
  | .smem => 0
  | _ => 0

abbrev hbmTy0_0 (i : Nat) : BufTy := match i % 128 with
  | 0 => ⟨S8x2048x1024, .bf16⟩
  | 1 => ⟨S8x2048x1024, .bf16⟩
  | 2 => ⟨S8x2048x1024, .bf16⟩
  | 3 => ⟨S8x2048x8192, .f32⟩
  | 4 => ⟨S2x8, .f32⟩
  | 5 => ⟨S2x8, .f32⟩
  | 6 => ⟨S8x2048x32, .f32⟩
  | 7 => ⟨S8x2048x8, .f32⟩
  | 8 => ⟨S8x2048x8, .f32⟩
  | 9 => ⟨S8x2048x8, .f32⟩
  | 10 => ⟨S8x2048x8, .f32⟩
  | 11 => ⟨S8x2048x1024, .f32⟩
  | 12 => ⟨S8x2048x8x128, .f32⟩
  | 13 => ⟨S8x2048x1024, .f32⟩
  | 14 => ⟨S8x2048x8x128, .f32⟩
  | 15 => ⟨S8x2048x1024, .f32⟩
  | 16 => ⟨S8x2048x8x128, .f32⟩
  | 17 => ⟨S8x2048x8x128, .f32⟩
  | 18 => ⟨S1x8x2048x8x128, .f32⟩
  | 19 => ⟨S1x8x2048x8x128, .f32⟩
  | 20 => ⟨S2x8x2048x8x128, .f32⟩
  | 21 => ⟨S8x2048x8x128, .f32⟩
  | 22 => ⟨S1x8x2048x8x128, .f32⟩
  | 23 => ⟨S1x8x2048x8x128, .f32⟩
  | 24 => ⟨S2x8x2048x8x128, .f32⟩
  | 25 => ⟨S8x2048x8x128, .f32⟩
  | 26 => ⟨S1x8x2048x8x128, .f32⟩
  | 27 => ⟨S1x8x2048x8x128, .f32⟩
  | 28 => ⟨S2x8x2048x8x128, .f32⟩
  | 29 => ⟨S8x2048x8, .f32⟩
  | 30 => ⟨S8x2048x8, .f32⟩
  | 31 => ⟨S_, .f32⟩
  | 32 => ⟨S8x2048x8, .f32⟩
  | 33 => ⟨S8x2048x8, .f32⟩
  | 34 => ⟨S_, .f32⟩
  | 35 => ⟨S8x2048x8, .f32⟩
  | 36 => ⟨S8x2048x8, .f32⟩
  | 37 => ⟨S8x2048x8, .f32⟩
  | 38 => ⟨S8x2048x8, .f32⟩
  | 39 => ⟨S_, .f32⟩
  | 40 => ⟨S8x2048x8, .f32⟩
  | 41 => ⟨S8x2048x8, .f32⟩
  | 42 => ⟨S_, .f32⟩
  | 43 => ⟨S8x2048x8, .f32⟩
  | 44 => ⟨S8x2048x8, .f32⟩
  | 45 => ⟨S8x2048x8, .f32⟩
  | 46 => ⟨S1x8x2048x8, .f32⟩
  | 47 => ⟨S1x8x2048x8, .f32⟩
  | 48 => ⟨S2x8x2048x8, .f32⟩
  | 49 => ⟨S1x8, .f32⟩
  | 50 => ⟨S8, .f32⟩
  | 51 => ⟨S8, .f32⟩
  | 52 => ⟨S8, .f32⟩
  | 53 => ⟨S1x8, .f32⟩
  | 54 => ⟨S8, .f32⟩
  | 55 => ⟨S1x1x8, .f32⟩
  | 56 => ⟨S8x2048x8, .f32⟩
  | 57 => ⟨S8x2048x8, .f32⟩
  | 58 => ⟨S_, .f32⟩
  | 59 => ⟨S8x2048x8, .f32⟩
  | 60 => ⟨S8x2048x8, .f32⟩
  | 61 => ⟨S8x2048x8, .f32⟩
  | 62 => ⟨S8x2048x8, .f32⟩
  | 63 => ⟨S8x2048x8, .i1⟩
  | 64 => ⟨S8x2048x8, .f32⟩
  | 65 => ⟨S8x2048x8, .f32⟩
  | 66 => ⟨S8x2048x8, .f32⟩
  | 67 => ⟨S8x2048x8, .f32⟩
  | 68 => ⟨S8x2048x8, .f32⟩
  | 69 => ⟨S8x2048x8, .f32⟩
  | 70 => ⟨S8x2048x8, .f32⟩
  | 71 => ⟨S8x2048x8, .f32⟩
  | 72 => ⟨S1x1x8, .f32⟩
  | 73 => ⟨S8x2048x8, .f32⟩
  | 74 => ⟨S8x2048x8, .f32⟩
  | 75 => ⟨S1x8, .f32⟩
  | 76 => ⟨S8, .f32⟩
  | 77 => ⟨S8, .f32⟩
  | 78 => ⟨S8, .f32⟩
  | 79 => ⟨S1x8, .f32⟩
  | 80 => ⟨S8, .f32⟩
  | 81 => ⟨S1x1x8, .f32⟩
  | 82 => ⟨S8x2048x8, .f32⟩
  | 83 => ⟨S8x2048x8, .f32⟩
  | 84 => ⟨S_, .f32⟩
  | 85 => ⟨S8x2048x8, .f32⟩
  | 86 => ⟨S8x2048x8, .f32⟩
  | 87 => ⟨S8x2048x8, .f32⟩
  | 88 => ⟨S8x2048x8, .f32⟩
  | 89 => ⟨S8x2048x8, .i1⟩
  | 90 => ⟨S8x2048x8, .f32⟩
  | 91 => ⟨S8x2048x8, .f32⟩
  | 92 => ⟨S8x2048x8, .f32⟩
  | 93 => ⟨S8x2048x8, .f32⟩
  | 94 => ⟨S8x2048x8, .f32⟩
  | 95 => ⟨S8x2048x8, .f32⟩
  | 96 => ⟨S8x2048x8, .f32⟩
  | 97 => ⟨S8x2048x8, .f32⟩
  | 98 => ⟨S1x1x8, .f32⟩
  | 99 => ⟨S8x2048x8, .f32⟩
  | 100 => ⟨S8x2048x8, .f32⟩
  | 101 => ⟨S8x2048x8, .f32⟩
  | 102 => ⟨S1x8x2048x8, .f32⟩
  | 103 => ⟨S1x8x2048x8, .f32⟩
  | 104 => ⟨S2x8x2048x8, .f32⟩
  | 105 => ⟨S2048x2x8x8x128, .f32⟩
  | 106 => ⟨S2048x2x8x8x128, .f32⟩
  | 107 => ⟨S2048x2x8x8x128, .f32⟩
  | 108 => ⟨S2048x2x8x8, .f32⟩
  | 109 => ⟨S2048x2x8x8, .f32⟩
  | 110 => ⟨S_, .f32⟩
  | 111 => ⟨S2x8x8x128x128, .f32⟩
  | 112 => ⟨S_, .f32⟩
  | 113 => ⟨S2048x2x8x8x128, .f32⟩
  | 114 => ⟨S_, .i32⟩
  | 115 => ⟨S2048x2x8x8x128, .f32⟩
  | 116 => ⟨S2048x2x8x8x128, .f32⟩
  | 117 => ⟨S2048x2x8x8x128, .f32⟩
  | 118 => ⟨S2048x2x8x8, .f32⟩
  | 119 => ⟨S2048x2x8x8, .f32⟩
  | 120 => ⟨S_, .i32⟩
  | 121 => ⟨S2x8x8x128x128, .f32⟩
  | 122 => ⟨S2048x2x8x8x128, .f32⟩
  | 123 => ⟨S_, .i32⟩
  | 124 => ⟨S_, .i1⟩
  | 125 => ⟨S_, .i32⟩
  | 126 => ⟨S_, .i32⟩
  | 127 => ⟨S_, .i32⟩
  | _ => ⟨S8x2048x1024, .bf16⟩

abbrev hbmTy0_1 (i : Nat) : BufTy := match i % 128 with
  | 0 => ⟨S_, .i32⟩
  | 1 => ⟨S1x2x8x8x128, .f32⟩
  | 2 => ⟨S2x8x8x128, .f32⟩
  | 3 => ⟨S_, .i32⟩
  | 4 => ⟨S_, .i32⟩
  | 5 => ⟨S_, .i32⟩
  | 6 => ⟨S_, .i32⟩
  | 7 => ⟨S1x2x8x8x128, .f32⟩
  | 8 => ⟨S2x8x8x128, .f32⟩
  | 9 => ⟨S_, .i32⟩
  | 10 => ⟨S_, .i32⟩
  | 11 => ⟨S_, .i32⟩
  | 12 => ⟨S_, .i32⟩
  | 13 => ⟨S1x2x8x8x128, .f32⟩
  | 14 => ⟨S2x8x8x128, .f32⟩
  | 15 => ⟨S_, .i32⟩
  | 16 => ⟨S_, .i32⟩
  | 17 => ⟨S_, .i32⟩
  | 18 => ⟨S1x2x8x8, .f32⟩
  | 19 => ⟨S2x8x8, .f32⟩
  | 20 => ⟨S_, .i32⟩
  | 21 => ⟨S_, .i32⟩
  | 22 => ⟨S_, .i32⟩
  | 23 => ⟨S1x2x8x8, .f32⟩
  | 24 => ⟨S2x8x8, .f32⟩
  | 25 => ⟨S2x8x8, .f32⟩
  | 26 => ⟨S2x8x8x1x1, .f32⟩
  | 27 => ⟨S2x8x8x128x128, .f32⟩
  | 28 => ⟨S2x8x8x128x128, .f32⟩
  | 29 => ⟨S2x8x8x1, .f32⟩
  | 30 => ⟨S2x8x8x128x1, .f32⟩
  | 31 => ⟨S2x8x8x128x128, .f32⟩
  | 32 => ⟨S2x8x8x128x128, .f32⟩
  | 33 => ⟨S_, .f32⟩
  | 34 => ⟨S2x8x8x128, .f32⟩
  | 35 => ⟨S2x8x8x128, .f32⟩
  | 36 => ⟨S2x8x8x128, .f32⟩
  | 37 => ⟨S2x8x8x128, .f32⟩
  | 38 => ⟨S2x8x8x128x1, .f32⟩
  | 39 => ⟨S2x8x8x1x128, .f32⟩
  | 40 => ⟨S2x8x8x128x128, .f32⟩
  | 41 => ⟨S2x8x8x128x128, .f32⟩
  | 42 => ⟨S2x8x8x128x128, .f32⟩
  | 43 => ⟨S2x8x8x128x128, .f32⟩
  | 44 => ⟨S2x8x8x128x1, .f32⟩
  | 45 => ⟨S2x8x8x128x128, .f32⟩
  | 46 => ⟨S2x8x8x128x128, .f32⟩
  | 47 => ⟨S_, .f32⟩
  | 48 => ⟨S2x8x8x128, .f32⟩
  | 49 => ⟨S1x2x8x8x128, .f32⟩
  | 50 => ⟨S_, .i32⟩
  | 51 => ⟨S_, .i32⟩
  | 52 => ⟨S_, .i32⟩
  | 53 => ⟨S_, .i32⟩
  | 54 => ⟨S2048x2x8x8x128, .f32⟩
  | 55 => ⟨S_, .i32⟩
  | 56 => ⟨S_, .i32⟩
  | 57 => ⟨S2x8x2048x8x128, .f32⟩
  | 58 => ⟨S1x8x2048x8x128, .f32⟩
  | 59 => ⟨S8x2048x8x128, .f32⟩
  | 60 => ⟨S8x2048x1024, .f32⟩
  | 61 => ⟨S8x2048x1024, .bf16⟩
  | 62 => ⟨S1x8x2048x8x128, .f32⟩
  | 63 => ⟨S8x2048x8x128, .f32⟩
  | 64 => ⟨S8x2048x8x128, .f32⟩
  | 65 => ⟨S8x2048x1024, .f32⟩
  | 66 => ⟨S8x2048x1024, .bf16⟩
  | _ => ⟨S8x2048x1024, .bf16⟩

abbrev hbmTy (i : Nat) : BufTy := match i / 128 with
  | 0 => hbmTy0_0 i
  | 1 => hbmTy0_1 i
  | _ => ⟨S8x2048x1024, .bf16⟩

abbrev bufTy : (tb : Table) → Fin (tcTables nBuf tb) → BufTy
  | .hbm, ⟨i, _⟩ => hbmTy i
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_call4_cst : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_v5 : Ref sig .tc := ⟨.hbm, 64, rfl⟩
abbrev main_call4_v6 : Ref sig .tc := ⟨.hbm, 65, rfl⟩
abbrev main_call4_v7 : Ref sig .tc := ⟨.hbm, 66, rfl⟩
abbrev main_call4_v8 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call5_cst : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_v5 : Ref sig .tc := ⟨.hbm, 90, rfl⟩
abbrev main_call5_v6 : Ref sig .tc := ⟨.hbm, 91, rfl⟩
abbrev main_call5_v7 : Ref sig .tc := ⟨.hbm, 92, rfl⟩
abbrev main_call5_v8 : Ref sig .tc := ⟨.hbm, 93, rfl⟩
abbrev main_call5_v9 : Ref sig .tc := ⟨.hbm, 94, rfl⟩
abbrev main_call5_v10 : Ref sig .tc := ⟨.hbm, 95, rfl⟩
abbrev main_call5_v11 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_3 : Ref sig .tc := ⟨.hbm, 110, rfl⟩
abbrev main_v74 : Ref sig .tc := ⟨.hbm, 111, rfl⟩
abbrev main_cst_4 : Ref sig .tc := ⟨.hbm, 112, rfl⟩
abbrev main_v75 : Ref sig .tc := ⟨.hbm, 113, rfl⟩
abbrev main_c : Ref sig .tc := ⟨.hbm, 114, rfl⟩
abbrev main_v76_0 : Ref sig .tc := ⟨.hbm, 115, rfl⟩
abbrev main_v76_1 : Ref sig .tc := ⟨.hbm, 116, rfl⟩
abbrev main_v76_2 : Ref sig .tc := ⟨.hbm, 117, rfl⟩
abbrev main_v76_3 : Ref sig .tc := ⟨.hbm, 118, rfl⟩
abbrev main_v76_4 : Ref sig .tc := ⟨.hbm, 119, rfl⟩
abbrev main_v76_5 : Ref sig .tc := ⟨.hbm, 120, rfl⟩
abbrev main_v76_6 : Ref sig .tc := ⟨.hbm, 121, rfl⟩
abbrev main_v76_7 : Ref sig .tc := ⟨.hbm, 122, rfl⟩
abbrev main_while0c_c_12 : Ref sig .tc := ⟨.hbm, 123, rfl⟩
abbrev main_while0c_v87 : Ref sig .tc := ⟨.hbm, 124, rfl⟩
abbrev main_while0b_call7_c : Ref sig .tc := ⟨.hbm, 125, rfl⟩
abbrev main_while0b_call7_c_0 : Ref sig .tc := ⟨.hbm, 126, rfl⟩
abbrev main_while0b_call7_c_1 : Ref sig .tc := ⟨.hbm, 127, rfl⟩
abbrev main_while0b_call7_c_2 : Ref sig .tc := ⟨.hbm, 128, rfl⟩
abbrev main_while0b_call7_v0 : Ref sig .tc := ⟨.hbm, 129, rfl⟩
abbrev main_while0b_v87 : Ref sig .tc := ⟨.hbm, 130, rfl⟩
abbrev main_while0b_call8_c : Ref sig .tc := ⟨.hbm, 131, rfl⟩
abbrev main_while0b_call8_c_0 : Ref sig .tc := ⟨.hbm, 132, rfl⟩
abbrev main_while0b_call8_c_1 : Ref sig .tc := ⟨.hbm, 133, rfl⟩
abbrev main_while0b_call8_c_2 : Ref sig .tc := ⟨.hbm, 134, rfl⟩
abbrev main_while0b_call8_v0 : Ref sig .tc := ⟨.hbm, 135, rfl⟩
abbrev main_while0b_v88 : Ref sig .tc := ⟨.hbm, 136, rfl⟩
abbrev main_while0b_call9_c : Ref sig .tc := ⟨.hbm, 137, rfl⟩
abbrev main_while0b_call9_c_0 : Ref sig .tc := ⟨.hbm, 138, rfl⟩
abbrev main_while0b_call9_c_1 : Ref sig .tc := ⟨.hbm, 139, rfl⟩
abbrev main_while0b_call9_c_2 : Ref sig .tc := ⟨.hbm, 140, rfl⟩
abbrev main_while0b_call9_v0 : Ref sig .tc := ⟨.hbm, 141, rfl⟩
abbrev main_while0b_v89 : Ref sig .tc := ⟨.hbm, 142, rfl⟩
abbrev main_while0b_call10_c : Ref sig .tc := ⟨.hbm, 143, rfl⟩
abbrev main_while0b_call10_c_0 : Ref sig .tc := ⟨.hbm, 144, rfl⟩
abbrev main_while0b_call10_c_1 : Ref sig .tc := ⟨.hbm, 145, rfl⟩
abbrev main_while0b_call10_v0 : Ref sig .tc := ⟨.hbm, 146, rfl⟩
abbrev main_while0b_v90 : Ref sig .tc := ⟨.hbm, 147, rfl⟩
abbrev main_while0b_call11_c : Ref sig .tc := ⟨.hbm, 148, rfl⟩
abbrev main_while0b_call11_c_0 : Ref sig .tc := ⟨.hbm, 149, rfl⟩
abbrev main_while0b_call11_c_1 : Ref sig .tc := ⟨.hbm, 150, rfl⟩
abbrev main_while0b_call11_v0 : Ref sig .tc := ⟨.hbm, 151, rfl⟩
abbrev main_while0b_v91 : Ref sig .tc := ⟨.hbm, 152, rfl⟩
abbrev main_while0b_v92 : Ref sig .tc := ⟨.hbm, 153, rfl⟩
abbrev main_while0b_v93 : Ref sig .tc := ⟨.hbm, 154, rfl⟩
abbrev main_while0b_v94 : Ref sig .tc := ⟨.hbm, 155, rfl⟩
abbrev main_while0b_v95 : Ref sig .tc := ⟨.hbm, 156, rfl⟩
abbrev main_while0b_v96 : Ref sig .tc := ⟨.hbm, 157, rfl⟩
abbrev main_while0b_v97 : Ref sig .tc := ⟨.hbm, 158, rfl⟩
abbrev main_while0b_v98 : Ref sig .tc := ⟨.hbm, 159, rfl⟩
abbrev main_while0b_v99 : Ref sig .tc := ⟨.hbm, 160, rfl⟩
abbrev main_while0b_cst_12 : Ref sig .tc := ⟨.hbm, 161, rfl⟩
abbrev main_while0b_v100 : Ref sig .tc := ⟨.hbm, 162, rfl⟩
abbrev main_while0b_v101 : Ref sig .tc := ⟨.hbm, 163, rfl⟩
abbrev main_while0b_v102 : Ref sig .tc := ⟨.hbm, 164, rfl⟩
abbrev main_while0b_v103 : Ref sig .tc := ⟨.hbm, 165, rfl⟩
abbrev main_while0b_v104 : Ref sig .tc := ⟨.hbm, 166, rfl⟩
abbrev main_while0b_v105 : Ref sig .tc := ⟨.hbm, 167, rfl⟩
abbrev main_while0b_v106 : Ref sig .tc := ⟨.hbm, 168, rfl⟩
abbrev main_while0b_v107 : Ref sig .tc := ⟨.hbm, 169, rfl⟩
abbrev main_while0b_v108 : Ref sig .tc := ⟨.hbm, 170, rfl⟩
abbrev main_while0b_v109 : Ref sig .tc := ⟨.hbm, 171, rfl⟩
abbrev main_while0b_v110 : Ref sig .tc := ⟨.hbm, 172, rfl⟩
abbrev main_while0b_v111 : Ref sig .tc := ⟨.hbm, 173, rfl⟩
abbrev main_while0b_v112 : Ref sig .tc := ⟨.hbm, 174, rfl⟩
abbrev main_while0b_cst_13 : Ref sig .tc := ⟨.hbm, 175, rfl⟩
abbrev main_while0b_v113 : Ref sig .tc := ⟨.hbm, 176, rfl⟩
abbrev main_while0b_call12_v0 : Ref sig .tc := ⟨.hbm, 177, rfl⟩
abbrev main_while0b_call12_c : Ref sig .tc := ⟨.hbm, 178, rfl⟩
abbrev main_while0b_call12_c_0 : Ref sig .tc := ⟨.hbm, 179, rfl⟩
abbrev main_while0b_call12_c_1 : Ref sig .tc := ⟨.hbm, 180, rfl⟩
abbrev main_while0b_call12_c_2 : Ref sig .tc := ⟨.hbm, 181, rfl⟩
abbrev main_while0b_v114 : Ref sig .tc := ⟨.hbm, 182, rfl⟩
abbrev main_while0b_c_14 : Ref sig .tc := ⟨.hbm, 183, rfl⟩
abbrev main_while0b_v115 : Ref sig .tc := ⟨.hbm, 184, rfl⟩
abbrev main_v77 : Ref sig .tc := ⟨.hbm, 185, rfl⟩
abbrev main_v78 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S8x2048x2048 : Shape := ⟨3, ![8, 2048, 2048]⟩
abbrev S2048 : Shape := ⟨1, ![2048]⟩
abbrev S2048x5632 : Shape := ⟨2, ![2048, 5632]⟩
abbrev S5632x2048 : Shape := ⟨2, ![5632, 2048]⟩
abbrev S16384x2048 : Shape := ⟨2, ![16384, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S8x2048x2048 : Shape := ⟨3, ![8, 2048, 2048]⟩
abbrev S2048 : Shape := ⟨1, ![2048]⟩
abbrev S2048x5632 : Shape := ⟨2, ![2048, 5632]⟩
abbrev S5632x2048 : Shape := ⟨2, ![5632, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S_, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Merge.lean ====
abbrev S8x2048x2048 : Shape := ⟨3, ![8, 2048, 2048]⟩
abbrev S2048 : Shape := ⟨1, ![2048]⟩
abbrev S2048x14784 : Shape := ⟨2, ![2048, 14784]⟩
abbrev S8x2048x1024 : Shape := ⟨3, ![8, 2048, 1024]⟩
abbrev S1024x2048 : Shape := ⟨2, ![1024, 2048]⟩
abbrev S2048x2048 : Shape := ⟨2, ![2048, 2048]⟩
abbrev S2048x6144 : Shape := ⟨2, ![2048, 6144]⟩
abbrev S16384x2048 : Shape := ⟨2, ![16384, 2048]⟩
abbrev S1x2048 : Shape := ⟨2, ![1, 2048]⟩
abbrev S16384x1024 : Shape := ⟨2, ![16384, 1024]⟩
abbrev S512x2048 : Shape := ⟨2, ![512, 2048]⟩
abbrev S512x1024 : Shape := ⟨2, ![512, 1024]⟩
abbrev S2048x512 : Shape := ⟨2, ![2048, 512]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩

abbrev nBuf : Space → Nat
  | .hbm => 22
  | .vmem => 26
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x14784, .f32⟩
  | .hbm, ⟨3, _⟩ => ⟨S8x2048x1024, .bf16⟩
  | .hbm, ⟨4, _⟩ => ⟨S8x2048x1024, .bf16⟩
  | .hbm, ⟨5, _⟩ => ⟨S8x2048x1024, .bf16⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S2048x6144, .f32⟩
  | .hbm, ⟨11, _⟩ => ⟨S2048x6144, .bf16⟩
  | .hbm, ⟨12, _⟩ => ⟨S16384x2048, .f32⟩
  | .hbm, ⟨13, _⟩ => ⟨S1x2048, .f32⟩
  | .hbm, ⟨14, _⟩ => ⟨S16384x1024, .bf16⟩
  | .hbm, ⟨15, _⟩ => ⟨S16384x1024, .bf16⟩
  | .hbm, ⟨16, _⟩ => ⟨S16384x1024, .bf16⟩
  | .hbm, ⟨17, _⟩ => ⟨S1024x2048, .bf16⟩
  | .hbm, ⟨18, _⟩ => ⟨S1024x2048, .bf16⟩
  | .hbm, ⟨19, _⟩ => ⟨S1024x2048, .bf16⟩
  | .hbm, ⟨20, _⟩ => ⟨S2048x2048, .bf16⟩
  | .hbm, ⟨21, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .f32⟩
  | .local _ .vmem, ⟨24, _⟩ => ⟨S512x2048, .f32⟩
  | .local _ .vmem, ⟨25, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MergeReferenceIdeal.lean ====
abbrev S8x2048x2048 : Shape := ⟨3, ![8, 2048, 2048]⟩
abbrev S2048 : Shape := ⟨1, ![2048]⟩
abbrev S2048x14784 : Shape := ⟨2, ![2048, 14784]⟩
abbrev S8x2048x1024 : Shape := ⟨3, ![8, 2048, 1024]⟩
abbrev S1024x2048 : Shape := ⟨2, ![1024, 2048]⟩
abbrev S2048x2048 : Shape := ⟨2, ![2048, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x14784 : Shape := ⟨2, ![16384, 14784]⟩
abbrev S16384x6144 : Shape := ⟨2, ![16384, 6144]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x14784, .f32⟩
  | .hbm, ⟨3, _⟩ => ⟨S8x2048x1024, .bf16⟩
  | .hbm, ⟨4, _⟩ => ⟨S8x2048x1024, .bf16⟩
  | .hbm, ⟨5, _⟩ => ⟨S8x2048x1024, .bf16⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x14784, .f32⟩
  | .hbm, ⟨28, _⟩ => ⟨S16384x6144, .f32⟩
  | .hbm, ⟨29, _⟩ => ⟨S16384x6144, .f32⟩
  | .hbm, ⟨30, _⟩ => ⟨S16384x6144, .f32⟩
  | .hbm, ⟨31, _⟩ => ⟨S_, .f32⟩
  | .hbm, ⟨32, _⟩ => ⟨S16384x6144, .f32⟩
  | .hbm, ⟨33, _⟩ => ⟨S16384x6144, .f32⟩
  | .hbm, ⟨34, _⟩ => ⟨S_, .f32⟩
  | .hbm, ⟨35, _⟩ => ⟨S16384x6144, .f32⟩
  | .hbm, ⟨36, _⟩ => ⟨S16384x6144, .f32⟩
  | .hbm, ⟨37, _⟩ => ⟨S16384x2048, .f32⟩
  | .hbm, ⟨38, _⟩ => ⟨S16384x1024, .bf16⟩
  | .hbm, ⟨39, _⟩ => ⟨S16384x1024, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x1024, .bf16⟩
  | .hbm, ⟨44, _⟩ => ⟨S16384x1024, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x1024, .bf16⟩
  | .hbm, ⟨50, _⟩ => ⟨S16384x1024, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proj.lean ====
abbrev S8x2048x2048 : Shape := ⟨3, ![8, 2048, 2048]⟩
abbrev S2048 : Shape := ⟨1, ![2048]⟩
abbrev S2048x14784 : Shape := ⟨2, ![2048, 14784]⟩
abbrev S2048x3488 : Shape := ⟨2, ![2048, 3488]⟩
abbrev S_ : Shape := ⟨0, ![]⟩
abbrev S2048x96 : Shape := ⟨2, ![2048, 96]⟩
abbrev S2048x32 : Shape := ⟨2, ![2048, 32]⟩
abbrev S2048x480 : Shape := ⟨2, ![2048, 480]⟩
abbrev S2048x4096 : Shape := ⟨2, ![2048, 4096]⟩
abbrev S2048x8192 : Shape := ⟨2, ![2048, 8192]⟩
abbrev S16384x2048 : Shape := ⟨2, ![16384, 2048]⟩
abbrev S1x2048 : Shape := ⟨2, ![1, 2048]⟩
abbrev S16384x8192 : Shape := ⟨2, ![16384, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 15
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x14784, .f32⟩
  | .hbm, ⟨3, _⟩ => ⟨S2048x3488, .f32⟩
  | .hbm, ⟨4, _⟩ => ⟨S_, .f32⟩
  | .hbm, ⟨5, _⟩ => ⟨S2048x96, .f32⟩
  | .hbm, ⟨6, _⟩ => ⟨S2048x32, .f32⟩
  | .hbm, ⟨7, _⟩ => ⟨S_, .f32⟩
  | .hbm, ⟨8, _⟩ => ⟨S2048x480, .f32⟩
  | .hbm, ⟨9, _⟩ => ⟨S2048x4096, .f32⟩
  | .hbm, ⟨10, _⟩ => ⟨S2048x8192, .f32⟩
  | .hbm, ⟨11, _⟩ => ⟨S2048x8192, .bf16⟩
  | .hbm, ⟨12, _⟩ => ⟨S16384x2048, .f32⟩
  | .hbm, ⟨13, _⟩ => ⟨S1x2048, .f32⟩
  | .hbm, ⟨14, _⟩ => ⟨S16384x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjReferenceIdeal.lean ====
abbrev S8x2048x2048 : Shape := ⟨3, ![8, 2048, 2048]⟩
abbrev S2048 : Shape := ⟨1, ![2048]⟩
abbrev S2048x14784 : Shape := ⟨2, ![2048, 14784]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x14784 : Shape := ⟨2, ![16384, 14784]⟩
abbrev S16384x3488 : Shape := ⟨2, ![16384, 3488]⟩
abbrev S16384x96 : Shape := ⟨2, ![16384, 96]⟩
abbrev S16384x32 : Shape := ⟨2, ![16384, 32]⟩
abbrev S16384x480 : Shape := ⟨2, ![16384, 480]⟩
abbrev S16384x4096 : Shape := ⟨2, ![16384, 4096]⟩
abbrev S16384x8192 : Shape := ⟨2, ![16384, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x14784, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x14784, .f32⟩
  | .hbm, ⟨21, _⟩ => ⟨S16384x3488, .f32⟩
  | .hbm, ⟨22, _⟩ => ⟨S_, .f32⟩
  | .hbm, ⟨23, _⟩ => ⟨S16384x96, .f32⟩
  | .hbm, ⟨24, _⟩ => ⟨S16384x32, .f32⟩
  | .hbm, ⟨25, _⟩ => ⟨S_, .f32⟩
  | .hbm, ⟨26, _⟩ => ⟨S16384x480, .f32⟩
  | .hbm, ⟨27, _⟩ => ⟨S16384x4096, .f32⟩
  | .hbm, ⟨28, _⟩ => ⟨S16384x8192, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Ple.lean ====
abbrev S8x2048x2048 : Shape := ⟨3, ![8, 2048, 2048]⟩
abbrev S8x2048x256 : Shape := ⟨3, ![8, 2048, 256]⟩
abbrev S2048 : Shape := ⟨1, ![2048]⟩
abbrev S2048x2048 : Shape := ⟨2, ![2048, 2048]⟩
abbrev S256x2048 : Shape := ⟨2, ![256, 2048]⟩
abbrev S16384x2048 : Shape := ⟨2, ![16384, 2048]⟩
abbrev S16384x256 : Shape := ⟨2, ![16384, 256]⟩
abbrev S1x2048 : Shape := ⟨2, ![1, 2048]⟩
abbrev S512x2048 : Shape := ⟨2, ![512, 2048]⟩
abbrev S512x1024 : Shape := ⟨2, ![512, 1024]⟩
abbrev S512x256 : Shape := ⟨2, ![512, 256]⟩
abbrev S2048x1024 : Shape := ⟨2, ![2048, 1024]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S8x2048x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S16384x2048, .f32⟩
  | .hbm, ⟨6, _⟩ => ⟨S16384x256, .f32⟩
  | .hbm, ⟨7, _⟩ => ⟨S1x2048, .f32⟩
  | .hbm, ⟨8, _⟩ => ⟨S2048x2048, .bf16⟩
  | .hbm, ⟨9, _⟩ => ⟨S256x2048, .bf16⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S256x1024, .bf16⟩
  | .local _ .vmem, ⟨10, _⟩ => ⟨S256x1024, .bf16⟩
  | .local _ .vmem, ⟨11, _⟩ => ⟨S512x1024, .f32⟩
  | .local _ .vmem, ⟨12, _⟩ => ⟨S512x1024, .f32⟩
  | .local _ .vmem, ⟨13, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleReferenceIdeal.lean ====
abbrev S8x2048x2048 : Shape := ⟨3, ![8, 2048, 2048]⟩
abbrev S8x2048x256 : Shape := ⟨3, ![8, 2048, 256]⟩
abbrev S2048 : Shape := ⟨1, ![2048]⟩
abbrev S2048x2048 : Shape := ⟨2, ![2048, 2048]⟩
abbrev S256x2048 : Shape := ⟨2, ![256, 2048]⟩
abbrev S16384x2048 : Shape := ⟨2, ![16384, 2048]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S16384x2048, .f32⟩
  | .hbm, ⟨6, _⟩ => ⟨S16384x256, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Final.lean ====
abbrev S8x2048x2048 : Shape := ⟨3, ![8, 2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalReferenceIdeal.lean ====
abbrev S8x2048x2048 : Shape := ⟨3, ![8, 2048, 2048]⟩
abbrev S2048 : Shape := ⟨1, ![2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S16384x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== S5Proj.lean ====
abbrev S8x2048x2048 : Shape := ⟨3, ![8, 2048, 2048]⟩
abbrev S2048 : Shape := ⟨1, ![2048]⟩
abbrev S2048x14784 : Shape := ⟨2, ![2048, 14784]⟩
abbrev S1x2048 : Shape := ⟨2, ![1, 2048]⟩
abbrev S2048x1024 : Shape := ⟨2, ![2048, 1024]⟩
abbrev S128x8x16x1024 : Shape := ⟨4, ![128, 8, 16, 1024]⟩
abbrev S1x512x2048 : Shape := ⟨3, ![1, 512, 2048]⟩
abbrev S32x1x16x1024 : Shape := ⟨4, ![32, 1, 16, 1024]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩
abbrev S32x16x1024 : Shape := ⟨3, ![32, 16, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x14784, .f32⟩
  | .hbm, ⟨3, _⟩ => ⟨S1x2048, .f32⟩
  | .hbm, ⟨4, _⟩ => ⟨S2048x1024, .f32⟩
  | .hbm, ⟨5, _⟩ => ⟨S2048x1024, .bf16⟩
  | .hbm, ⟨6, _⟩ => ⟨S128x8x16x1024, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S2048x1024, .bf16⟩
  | .local _ .vmem, ⟨4, _⟩ => ⟨S32x1x16x1024, .f32⟩
  | .local _ .vmem, ⟨5, _⟩ => ⟨S32x1x16x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== S5ProjReferenceIdeal.lean ====
abbrev S8x2048x2048 : Shape := ⟨3, ![8, 2048, 2048]⟩
abbrev S2048 : Shape := ⟨1, ![2048]⟩
abbrev S2048x14784 : Shape := ⟨2, ![2048, 14784]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x14784 : Shape := ⟨3, ![8, 2048, 14784]⟩
abbrev S8x2048x1024 : Shape := ⟨3, ![8, 2048, 1024]⟩
abbrev S8x128x16x1024 : Shape := ⟨4, ![8, 128, 16, 1024]⟩
abbrev S128x8x16x1024 : Shape := ⟨4, ![128, 8, 16, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x14784, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | .hbm, ⟨19, _⟩ => ⟨S8x2048x14784, .f32⟩
  | .hbm, ⟨20, _⟩ => ⟨S8x2048x1024, .f32⟩
  | .hbm, ⟨21, _⟩ => ⟨S8x128x16x1024, .f32⟩
  | .hbm, ⟨22, _⟩ => ⟨S128x8x16x1024, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== S5Post.lean ====
abbrev S2x16384x1024 : Shape := ⟨3, ![2, 16384, 1024]⟩
abbrev S128x8x16x1024 : Shape := ⟨4, ![128, 8, 16, 1024]⟩
abbrev S1024 : Shape := ⟨1, ![1024]⟩
abbrev S1024x1024 : Shape := ⟨2, ![1024, 1024]⟩
abbrev S1x1024 : Shape := ⟨2, ![1, 1024]⟩
abbrev S2x128x8x16x1024 : Shape := ⟨5, ![2, 128, 8, 16, 1024]⟩
abbrev S16384x1024 : Shape := ⟨2, ![16384, 1024]⟩
abbrev S1x32x1x16x1024 : Shape := ⟨5, ![1, 32, 1, 16, 1024]⟩
abbrev S32x1x16x1024 : Shape := ⟨4, ![32, 1, 16, 1024]⟩
abbrev S512x1024 : Shape := ⟨2, ![512, 1024]⟩
abbrev S32x16x1024 : Shape := ⟨3, ![32, 16, 1024]⟩
abbrev S1x1x1024 : Shape := ⟨3, ![1, 1, 1024]⟩

abbrev nBuf : Space → Nat
  | .hbm => 10
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S128x8x16x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1024x1024, .bf16⟩
  | .hbm, ⟨7, _⟩ => ⟨S1x1024, .f32⟩
  | .hbm, ⟨8, _⟩ => ⟨S2x128x8x16x1024, .f32⟩
  | .hbm, ⟨9, _⟩ => ⟨S16384x1024, .bf16⟩
  | .local _ .vmem, ⟨0, _⟩ => ⟨S1x32x1x16x1024, .f32⟩
  | .local _ .vmem, ⟨1, _⟩ => ⟨S1x32x1x16x1024, .f32⟩
  | .local _ .vmem, ⟨2, _⟩ => ⟨S1x32x1x16x1024, .f32⟩
  | .local _ .vmem, ⟨3, _⟩ => ⟨S1x32x1x16x1024, .f32⟩
  | .local _ .vmem, ⟨4, _⟩ => ⟨S32x1x16x1024, .f32⟩
  | .local _ .vmem, ⟨5, _⟩ => ⟨S32x1x16x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, arg0.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x32x1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== S5PostReferenceIdeal.lean ====
abbrev S2x16384x1024 : Shape := ⟨3, ![2, 16384, 1024]⟩
abbrev S128x8x16x1024 : Shape := ⟨4, ![128, 8, 16, 1024]⟩
abbrev S1024 : Shape := ⟨1, ![1024]⟩
abbrev S1024x1024 : Shape := ⟨2, ![1024, 1024]⟩
abbrev S1x16384x1024 : Shape := ⟨3, ![1, 16384, 1024]⟩
abbrev S16384x1024 : Shape := ⟨2, ![16384, 1024]⟩
abbrev S8x128x16x1024 : Shape := ⟨4, ![8, 128, 16, 1024]⟩
abbrev S1x1024 : Shape := ⟨2, ![1, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S128x8x16x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1x16384x1024, .f32⟩
  | .hbm, ⟨6, _⟩ => ⟨S16384x1024, .f32⟩
  | .hbm, ⟨7, _⟩ => ⟨S128x8x16x1024, .f32⟩
  | .hbm, ⟨8, _⟩ => ⟨S8x128x16x1024, .f32⟩
  | .hbm, ⟨9, _⟩ => ⟨S16384x1024, .f32⟩
  | .hbm, ⟨10, _⟩ => ⟨S1x16384x1024, .f32⟩
  | .hbm, ⟨11, _⟩ => ⟨S16384x1024, .f32⟩
  | .hbm, ⟨12, _⟩ => ⟨S128x8x16x1024, .f32⟩
  | .hbm, ⟨13, _⟩ => ⟨S8x128x16x1024, .f32⟩
  | .hbm, ⟨14, _⟩ => ⟨S16384x1024, .f32⟩
  | .hbm, ⟨15, _⟩ => ⟨S16384x1024, .f32⟩
  | .hbm, ⟨16, _⟩ => ⟨S8x128x16x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== DnPost.lean ====
abbrev S16384x1024 : Shape := ⟨2, ![16384, 1024]⟩
abbrev S16384x8192 : Shape := ⟨2, ![16384, 8192]⟩
abbrev S128 : Shape := ⟨1, ![128]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S_ : Shape := ⟨0, ![]⟩
abbrev S1024x1 : Shape := ⟨2, ![1024, 1]⟩
abbrev S1024x1024 : Shape := ⟨2, ![1024, 1024]⟩
abbrev S512x1024 : Shape := ⟨2, ![512, 1024]⟩

abbrev nBuf : Space → Nat
  | .hbm => 38
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x8192, .f32⟩
  | .hbm, ⟨3, _⟩ => ⟨S128, .f32⟩
  | .hbm, ⟨4, _⟩ => ⟨S1x128, .f32⟩
  | .hbm, ⟨5, _⟩ => ⟨S8x128, .f32⟩
  | .hbm, ⟨6, _⟩ => ⟨S1024, .f32⟩
  | .hbm, ⟨7, _⟩ => ⟨S1x1024, .f32⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1x1024, .i32⟩
  | .hbm, ⟨29, _⟩ => ⟨S1024x1024, .i32⟩
  | .hbm, ⟨30, _⟩ => ⟨S1024x1024, .i32⟩
  | .hbm, ⟨31, _⟩ => ⟨S1024x1024, .i1⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .bf16⟩
  | .hbm, ⟨37, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DnPostReferenceIdeal.lean ====
abbrev S16384x1024 : Shape := ⟨2, ![16384, 1024]⟩
abbrev S16384x8192 : Shape := ⟨2, ![16384, 8192]⟩
abbrev S128 : Shape := ⟨1, ![128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x8192, .f32⟩
  | .hbm, ⟨3, _⟩ => ⟨S128, .f32⟩
  | .hbm, ⟨4, _⟩ => ⟨S16384x1024, .f32⟩
  | .hbm, ⟨5, _⟩ => ⟨S16384x8x128, .f32⟩
  | .hbm, ⟨6, _⟩ => ⟨S16384x1024, .f32⟩
  | .hbm, ⟨7, _⟩ => ⟨S16384x8x128, .f32⟩
  | .hbm, ⟨8, _⟩ => ⟨S16384x8x128, .f32⟩
  | .hbm, ⟨9, _⟩ => ⟨S16384x1024, .f32⟩
  | .hbm, ⟨10, _⟩ => ⟨S16384x8x128, .f32⟩
  | .hbm, ⟨11, _⟩ => ⟨S16384x8x128, .f32⟩
  | .hbm, ⟨12, _⟩ => ⟨S_, .f32⟩
  | .hbm, ⟨13, _⟩ => ⟨S16384x8, .f32⟩
  | .hbm, ⟨14, _⟩ => ⟨S16384x8x1, .f32⟩
  | .hbm, ⟨15, _⟩ => ⟨S_, .f32⟩
  | .hbm, ⟨16, _⟩ => ⟨S16384x8x1, .f32⟩
  | .hbm, ⟨17, _⟩ => ⟨S16384x8x1, .f32⟩
  | .hbm, ⟨18, _⟩ => ⟨S_, .f32⟩
  | .hbm, ⟨19, _⟩ => ⟨S16384x8x1, .f32⟩
  | .hbm, ⟨20, _⟩ => ⟨S16384x8x1, .f32⟩
  | .hbm, ⟨21, _⟩ => ⟨S16384x8x1, .f32⟩
  | .hbm, ⟨22, _⟩ => ⟨S16384x8x128, .f32⟩
  | .hbm, ⟨23, _⟩ => ⟨S16384x8x128, .f32⟩
  | .hbm, ⟨24, _⟩ => ⟨S1x1x128, .f32⟩
  | .hbm, ⟨25, _⟩ => ⟨S16384x8x128, .f32⟩
  | .hbm, ⟨26, _⟩ => ⟨S16384x8x128, .f32⟩
  | .hbm, ⟨27, _⟩ => ⟨S16384x8x128, .f32⟩
  | .hbm, ⟨28, _⟩ => ⟨S16384x8x128, .f32⟩
  | .hbm, ⟨29, _⟩ => ⟨S_, .f32⟩
  | .hbm, ⟨30, _⟩ => ⟨S16384x8x128, .f32⟩
  | .hbm, ⟨31, _⟩ => ⟨S16384x8x128, .f32⟩
  | .hbm, ⟨32, _⟩ => ⟨S_, .f32⟩
  | .hbm, ⟨33, _⟩ => ⟨S16384x8x128, .f32⟩
  | .hbm, ⟨34, _⟩ => ⟨S16384x8x128, .f32⟩
  | .hbm, ⟨35, _⟩ => ⟨S16384x8x128, .f32⟩
  | .hbm, ⟨36, _⟩ => ⟨S16384x8x128, .f32⟩
  | .hbm, ⟨37, _⟩ => ⟨S16384x1024, .f32⟩
  | .hbm, ⟨38, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== RwkvPost.lean ====
abbrev S16384x1024 : Shape := ⟨2, ![16384, 1024]⟩
abbrev S16x64 : Shape := ⟨2, ![16, 64]⟩
abbrev S1x1024 : Shape := ⟨2, ![1, 1024]⟩
abbrev S1024 : Shape := ⟨1, ![1024]⟩
abbrev S_ : Shape := ⟨0, ![]⟩
abbrev S1024x1 : Shape := ⟨2, ![1024, 1]⟩
abbrev S1024x1024 : Shape := ⟨2, ![1024, 1024]⟩
abbrev S512x1024 : Shape := ⟨2, ![512, 1024]⟩

abbrev nBuf : Space → Nat
  | .hbm => 38
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16x64, .f32⟩
  | .hbm, ⟨5, _⟩ => ⟨S16x64, .f32⟩
  | .hbm, ⟨6, _⟩ => ⟨S1x1024, .f32⟩
  | .hbm, ⟨7, _⟩ => ⟨S1x1024, .f32⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1x1024, .i32⟩
  | .hbm, ⟨29, _⟩ => ⟨S1024x1024, .i32⟩
  | .hbm, ⟨30, _⟩ => ⟨S1024x1024, .i32⟩
  | .hbm, ⟨31, _⟩ => ⟨S1024x1024, .i1⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .bf16⟩
  | .hbm, ⟨37, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RwkvPostReferenceIdeal.lean ====
abbrev S16384x1024 : Shape := ⟨2, ![16384, 1024]⟩
abbrev S16x64 : Shape := ⟨2, ![16, 64]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S1x16x64 : Shape := ⟨3, ![1, 16, 64]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16x64, .f32⟩
  | .hbm, ⟨5, _⟩ => ⟨S16x64, .f32⟩
  | .hbm, ⟨6, _⟩ => ⟨S16384x1024, .f32⟩
  | .hbm, ⟨7, _⟩ => ⟨S16384x16x64, .f32⟩
  | .hbm, ⟨8, _⟩ => ⟨S16384x1024, .f32⟩
  | .hbm, ⟨9, _⟩ => ⟨S16384x16x64, .f32⟩
  | .hbm, ⟨10, _⟩ => ⟨S16384x16x64, .f32⟩
  | .hbm, ⟨11, _⟩ => ⟨S_, .f32⟩
  | .hbm, ⟨12, _⟩ => ⟨S16384x16, .f32⟩
  | .hbm, ⟨13, _⟩ => ⟨S16384x16x1, .f32⟩
  | .hbm, ⟨14, _⟩ => ⟨S_, .f32⟩
  | .hbm, ⟨15, _⟩ => ⟨S16384x16x1, .f32⟩
  | .hbm, ⟨16, _⟩ => ⟨S16384x16x1, .f32⟩
  | .hbm, ⟨17, _⟩ => ⟨S16384x16x64, .f32⟩
  | .hbm, ⟨18, _⟩ => ⟨S16384x16x64, .f32⟩
  | .hbm, ⟨19, _⟩ => ⟨S16384x16x64, .f32⟩
  | .hbm, ⟨20, _⟩ => ⟨S_, .f32⟩
  | .hbm, ⟨21, _⟩ => ⟨S16384x16, .f32⟩
  | .hbm, ⟨22, _⟩ => ⟨S16384x16x1, .f32⟩
  | .hbm, ⟨23, _⟩ => ⟨S_, .f32⟩
  | .hbm, ⟨24, _⟩ => ⟨S16384x16x1, .f32⟩
  | .hbm, ⟨25, _⟩ => ⟨S16384x16x1, .f32⟩
  | .hbm, ⟨26, _⟩ => ⟨S16384x16x64, .f32⟩
  | .hbm, ⟨27, _⟩ => ⟨S16384x16x64, .f32⟩
  | .hbm, ⟨28, _⟩ => ⟨S_, .f32⟩
  | .hbm, ⟨29, _⟩ => ⟨S16384x16x1, .f32⟩
  | .hbm, ⟨30, _⟩ => ⟨S16384x16x1, .f32⟩
  | .hbm, ⟨31, _⟩ => ⟨S16384x16x1, .f32⟩
  | .hbm, ⟨32, _⟩ => ⟨S16384x16x64, .f32⟩
  | .hbm, ⟨33, _⟩ => ⟨S16384x16x64, .f32⟩
  | .hbm, ⟨34, _⟩ => ⟨S1x16x64, .f32⟩
  | .hbm, ⟨35, _⟩ => ⟨S16384x16x64, .f32⟩
  | .hbm, ⟨36, _⟩ => ⟨S16384x16x64, .f32⟩
  | .hbm, ⟨37, _⟩ => ⟨S1x16x64, .f32⟩
  | .hbm, ⟨38, _⟩ => ⟨S16384x16x64, .f32⟩
  | .hbm, ⟨39, _⟩ => ⟨S16384x16x64, .f32⟩
  | .hbm, ⟨40, _⟩ => ⟨S16384x1024, .f32⟩
  | .hbm, ⟨41, _⟩ => ⟨S16384x16x64, .f32⟩
  | .hbm, ⟨42, _⟩ => ⟨S16384x16x64, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== DnPrep.lean ====
abbrev S8x2048x8192 : Shape := ⟨3, ![8, 2048, 8192]⟩
abbrev S5x3072 : Shape := ⟨2, ![5, 3072]⟩
abbrev S_ : Shape := ⟨0, ![]⟩
abbrev S3x3072 : Shape := ⟨2, ![3, 3072]⟩
abbrev S8x3072 : Shape := ⟨2, ![8, 3072]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S8x2048x1024 : Shape := ⟨3, ![8, 2048, 1024]⟩
abbrev S1x8x1024 : Shape := ⟨3, ![1, 8, 1024]⟩
abbrev S1x256x1024 : Shape := ⟨3, ![1, 256, 1024]⟩
abbrev S8x1024 : Shape := ⟨2, ![8, 1024]⟩
abbrev S256x1024 : Shape := ⟨2, ![256, 1024]⟩
abbrev S272x1024 : Shape := ⟨2, ![272, 1024]⟩

abbrev nBuf : Space → Nat
  | .hbm => 37
  | .vmem => 26
  | .smem => 0
  | _ => 0

abbrev bufTy : (tb : Table) → Fin (tcTables nBuf tb) → BufTy
  | .hbm, ⟨0, _⟩ => ⟨S8x2048x8192, .f32⟩
  | .hbm, ⟨1, _⟩ => ⟨S5x3072, .f32⟩
  | .hbm, ⟨2, _⟩ => ⟨S_, .f32⟩
  | .hbm, ⟨3, _⟩ => ⟨S3x3072, .f32⟩
  | .hbm, ⟨4, _⟩ => ⟨S8x3072, .f32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1x1024, .i32⟩
  | .hbm, ⟨26, _⟩ => ⟨S1024x1024, .i32⟩
  | .hbm, ⟨27, _⟩ => ⟨S1024x1024, .i32⟩
  | .hbm, ⟨28, _⟩ => ⟨S1024x1024, .i1⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .bf16⟩
  | .hbm, ⟨34, _⟩ => ⟨S8x2048x1024, .bf16⟩
  | .hbm, ⟨35, _⟩ => ⟨S8x2048x1024, .bf16⟩
  | .hbm, ⟨36, _⟩ => ⟨S8x2048x1024, .bf16⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x8x1024, .f32⟩
  | .local _ .vmem, ⟨17, _⟩ => ⟨S1x8x1024, .f32⟩
  | .local _ .vmem, ⟨18, _⟩ => ⟨S8x3072, .f32⟩
  | .local _ .vmem, ⟨19, _⟩ => ⟨S1024x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | _, _ => ⟨S8x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev main_v13_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c4_i32 : BitVec 32 := 4#32
  let c0_i32 : BitVec 32 := 0#32
  ![arg0.toNat, v2.toNat, c4_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c5_i32 : BitVec 32 := 5#32
  let c0_i32 : BitVec 32 := 0#32
  ![arg0.toNat, v2.toNat, c5_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![arg0.toNat, v2.toNat, c6_i32.toNat]

def cc0_transform_7 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c6_i32 : BitVec 32 := 6#32
  let c0_i32 : BitVec 32 := 0#32
  ![arg0.toNat, v2.toNat, c6_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== DnPrepReferenceIdeal.lean ====
abbrev S8x2048x8192 : Shape := ⟨3, ![8, 2048, 8192]⟩
abbrev S5x3072 : Shape := ⟨2, ![5, 3072]⟩
abbrev S8x2048x3072 : Shape := ⟨3, ![8, 2048, 3072]⟩
abbrev S_ : Shape := ⟨0, ![]⟩
abbrev S8x2052x3072 : Shape := ⟨3, ![8, 2052, 3072]⟩
abbrev S1x3072 : Shape := ⟨2, ![1, 3072]⟩
abbrev S3072 : Shape := ⟨1, ![3072]⟩
abbrev S1x1x3072 : Shape := ⟨3, ![1, 1, 3072]⟩
abbrev S8x2048x1024 : Shape := ⟨3, ![8, 2048, 1024]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩

abbrev nBuf : Space → Nat
  | .hbm => 85
  | .vmem => 0
  | .smem => 0
  | _ => 0

abbrev bufTy : (tb : Table) → Fin (tcTables nBuf tb) → BufTy
  | .hbm, ⟨0, _⟩ => ⟨S8x2048x8192, .f32⟩
  | .hbm, ⟨1, _⟩ => ⟨S5x3072, .f32⟩
  | .hbm, ⟨2, _⟩ => ⟨S8x2048x3072, .f32⟩
  | .hbm, ⟨3, _⟩ => ⟨S_, .i32⟩
  | .hbm, ⟨4, _⟩ => ⟨S_, .f32⟩
  | .hbm, ⟨5, _⟩ => ⟨S8x2052x3072, .f32⟩
  | .hbm, ⟨6, _⟩ => ⟨S8x2048x3072, .f32⟩
  | .hbm, ⟨7, _⟩ => ⟨S1x3072, .f32⟩
  | .hbm, ⟨8, _⟩ => ⟨S3072, .f32⟩
  | .hbm, ⟨9, _⟩ => ⟨S1x1x3072, .f32⟩
  | .hbm, ⟨10, _⟩ => ⟨S8x2048x3072, .f32⟩
  | .hbm, ⟨11, _⟩ => ⟨S8x2048x3072, .f32⟩
  | .hbm, ⟨12, _⟩ => ⟨S_, .f32⟩
  | .hbm, ⟨13, _⟩ => ⟨S8x2048x3072, .f32⟩
  | .hbm, ⟨14, _⟩ => ⟨S8x2048x3072, .f32⟩
  | .hbm, ⟨15, _⟩ => ⟨S8x2048x3072, .f32⟩
  | .hbm, ⟨16, _⟩ => ⟨S1x3072, .f32⟩
  | .hbm, ⟨17, _⟩ => ⟨S3072, .f32⟩
  | .hbm, ⟨18, _⟩ => ⟨S1x1x3072, .f32⟩
  | .hbm, ⟨19, _⟩ => ⟨S8x2048x3072, .f32⟩
  | .hbm, ⟨20, _⟩ => ⟨S8x2048x3072, .f32⟩
  | .hbm, ⟨21, _⟩ => ⟨S8x2048x3072, .f32⟩
  | .hbm, ⟨22, _⟩ => ⟨S8x2048x3072, .f32⟩
  | .hbm, ⟨23, _⟩ => ⟨S1x3072, .f32⟩
  | .hbm, ⟨24, _⟩ => ⟨S3072, .f32⟩
  | .hbm, ⟨25, _⟩ => ⟨S1x1x3072, .f32⟩
  | .hbm, ⟨26, _⟩ => ⟨S8x2048x3072, .f32⟩
  | .hbm, ⟨27, _⟩ => ⟨S8x2048x3072, .f32⟩
  | .hbm, ⟨28, _⟩ => ⟨S8x2048x3072, .f32⟩
  | .hbm, ⟨29, _⟩ => ⟨S8x2048x3072, .f32⟩
  | .hbm, ⟨30, _⟩ => ⟨S1x3072, .f32⟩
  | .hbm, ⟨31, _⟩ => ⟨S3072, .f32⟩
  | .hbm, ⟨32, _⟩ => ⟨S1x1x3072, .f32⟩
  | .hbm, ⟨33, _⟩ => ⟨S8x2048x3072, .f32⟩
  | .hbm, ⟨34, _⟩ => ⟨S8x2048x3072, .f32⟩
  | .hbm, ⟨35, _⟩ => ⟨S8x2048x3072, .f32⟩
  | .hbm, ⟨36, _⟩ => ⟨S8x2048x3072, .f32⟩
  | .hbm, ⟨37, _⟩ => ⟨S1x3072, .f32⟩
  | .hbm, ⟨38, _⟩ => ⟨S3072, .f32⟩
  | .hbm, ⟨39, _⟩ => ⟨S1x1x3072, .f32⟩
  | .hbm, ⟨40, _⟩ => ⟨S8x2048x3072, .f32⟩
  | .hbm, ⟨41, _⟩ => ⟨S8x2048x3072, .f32⟩
  | .hbm, ⟨42, _⟩ => ⟨S8x2048x3072, .f32⟩
  | .hbm, ⟨43, _⟩ => ⟨S8x2048x3072, .f32⟩
  | .hbm, ⟨44, _⟩ => ⟨S8x2048x3072, .f32⟩
  | .hbm, ⟨45, _⟩ => ⟨S_, .f32⟩
  | .hbm, ⟨46, _⟩ => ⟨S8x2048x3072, .f32⟩
  | .hbm, ⟨47, _⟩ => ⟨S8x2048x3072, .f32⟩
  | .hbm, ⟨48, _⟩ => ⟨S_, .f32⟩
  | .hbm, ⟨49, _⟩ => ⟨S8x2048x3072, .f32⟩
  | .hbm, ⟨50, _⟩ => ⟨S8x2048x3072, .f32⟩
  | .hbm, ⟨51, _⟩ => ⟨S8x2048x3072, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x8x128, .f32⟩
  | .hbm, ⟨56, _⟩ => ⟨S8x2048x8x128, .f32⟩
  | .hbm, ⟨57, _⟩ => ⟨S_, .f32⟩
  | .hbm, ⟨58, _⟩ => ⟨S8x2048x8, .f32⟩
  | .hbm, ⟨59, _⟩ => ⟨S8x2048x8x1, .f32⟩
  | .hbm, ⟨60, _⟩ => ⟨S_, .f32⟩
  | .hbm, ⟨61, _⟩ => ⟨S8x2048x8x1, .f32⟩
  | .hbm, ⟨62, _⟩ => ⟨S8x2048x8x1, .f32⟩
  | .hbm, ⟨63, _⟩ => ⟨S8x2048x8x1, .f32⟩
  | .hbm, ⟨64, _⟩ => ⟨S8x2048x8x128, .f32⟩
  | .hbm, ⟨65, _⟩ => ⟨S8x2048x8x128, .f32⟩
  | .hbm, ⟨66, _⟩ => ⟨S_, .f32⟩
  | .hbm, ⟨67, _⟩ => ⟨S8x2048x8x128, .f32⟩
  | .hbm, ⟨68, _⟩ => ⟨S8x2048x8x128, .f32⟩
  | .hbm, ⟨69, _⟩ => ⟨S8x2048x1024, .f32⟩
  | .hbm, ⟨70, _⟩ => ⟨S8x2048x1024, .bf16⟩
  | .hbm, ⟨71, _⟩ => ⟨S8x2048x8x128, .f32⟩
  | .hbm, ⟨72, _⟩ => ⟨S8x2048x8x128, .f32⟩
  | .hbm, ⟨73, _⟩ => ⟨S_, .f32⟩
  | .hbm, ⟨74, _⟩ => ⟨S8x2048x8, .f32⟩
  | .hbm, ⟨75, _⟩ => ⟨S8x2048x8x1, .f32⟩
  | .hbm, ⟨76, _⟩ => ⟨S_, .f32⟩
  | .hbm, ⟨77, _⟩ => ⟨S8x2048x8x1, .f32⟩
  | .hbm, ⟨78, _⟩ => ⟨S8x2048x8x1, .f32⟩
  | .hbm, ⟨79, _⟩ => ⟨S8x2048x8x1, .f32⟩
  | .hbm, ⟨80, _⟩ => ⟨S8x2048x8x128, .f32⟩
  | .hbm, ⟨81, _⟩ => ⟨S8x2048x8x128, .f32⟩
  | .hbm, ⟨82, _⟩ => ⟨S8x2048x1024, .f32⟩
  | .hbm, ⟨83, _⟩ => ⟨S8x2048x1024, .bf16⟩
  | .hbm, ⟨84, _⟩ => ⟨S8x2048x1024, .bf16⟩
  | _, _ => ⟨S8x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_0 : Ref sig .tc := ⟨.hbm, 57, rfl⟩
abbrev main_v44 : Ref sig .tc := ⟨.hbm, 58, rfl⟩
abbrev main_v45 : Ref sig .tc := ⟨.hbm, 59, rfl⟩
abbrev main_cst_1 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_2 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_3 : Ref sig .tc := ⟨.hbm, 73, rfl⟩
abbrev main_v57 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Proof.TriInverse.lean ====
/-
  The inverse of a unit lower triangular matrix by recursive doubling, over the reals: starting from the inverse of the
  2 × 2 diagonal blocks, each step joins two neighbouring blocks of width `2^s` into one of width `2^(s+1)` through the
  entries in their lower left corner. Rows are ordered by an arbitrary number `t i`, so that the same statement serves
  a scan read forwards and a scan read backwards.
-/
module

public import Mathlib.Data.Matrix.Mul
public import Mathlib.Data.Real.Basic
public import Mathlib.Tactic.Abel
public import Mathlib.Tactic.NoncommRing

@[expose] public section

noncomputable section

namespace DeltaScan

open Matrix

variable {ι : Type} [Fintype ι] [DecidableEq ι]

/-- The entries of `M` between two rows of one block of width `2^s`. -/
def inBlock (t : ι → ℕ) (s : ℕ) (M : Matrix ι ι ℝ) : Matrix ι ι ℝ :=
  fun i j => if t i / 2 ^ s = t j / 2 ^ s then M i j else 0

/-- The entries of `M` in the lower left corner of a block of width `2^(s+1)`: from its first half to its second. -/
def corner (t : ι → ℕ) (s : ℕ) (M : Matrix ι ι ℝ) : Matrix ι ι ℝ :=
  fun i j => if t i / 2 ^ (s + 1) = t j / 2 ^ (s + 1) ∧ t i / 2 ^ s % 2 = 1 ∧ t j / 2 ^ s % 2 = 0 then M i j else 0

/-- The doubling: after `s` steps the inverse of the diagonal blocks of width `2^(s+1)` of `1 - M`. -/
def doubling (t : ι → ℕ) (M : Matrix ι ι ℝ) : ℕ → Matrix ι ι ℝ
  | 0 => 1 + inBlock t 1 M
  | s + 1 => doubling t M s + doubling t M s * (corner t (s + 1) M * doubling t M s)

variable {t : ι → ℕ} {M : Matrix ι ι ℝ}

/-- A strictly lower triangular block of width `2^(s+1)` is its two halves and the corner between them. -/
theorem inBlock_succ (hM : ∀ i j, ¬ t j < t i → M i j = 0) (s : ℕ) :
    inBlock t (s + 1) M = inBlock t s M + corner t s M := by
  ext i j
  simp only [inBlock, corner, Matrix.add_apply]
  have hi : t i / 2 ^ (s + 1) = t i / 2 ^ s / 2 := by rw [pow_succ, Nat.div_div_eq_div_mul]
  have hj : t j / 2 ^ (s + 1) = t j / 2 ^ s / 2 := by rw [pow_succ, Nat.div_div_eq_div_mul]
  by_cases h : t j < t i
  · have hle : t j / 2 ^ s ≤ t i / 2 ^ s := Nat.div_le_div_right h.le
    rw [hi, hj]
    generalize t i / 2 ^ s = a at *
    generalize t j / 2 ^ s = b at *
    by_cases h1 : a = b
    · subst h1
      have : ¬ (a % 2 = 1 ∧ a % 2 = 0) := by omega
      simp [this]
    · by_cases h2 : a / 2 = b / 2
      · have : a % 2 = 1 ∧ b % 2 = 0 := by omega
        simp [h1, h2, this]
      · simp [h1, h2]
  · simp [hM i j h]

/-- The doubling keeps to its blocks. -/
theorem doubling_block (s : ℕ) : ∀ i j, t i / 2 ^ (s + 1) ≠ t j / 2 ^ (s + 1) → doubling t M s i j = 0 := by
  induction s with
  | zero =>
    intro i j h
    have hij : i ≠ j := fun e => h (by rw [e])
    simp only [doubling, inBlock, Matrix.add_apply, Matrix.one_apply_ne hij, zero_add, if_neg h]
  | succ s ih =>
    intro i j h
    have up : ∀ a b : ι, t a / 2 ^ (s + 1) = t b / 2 ^ (s + 1) → t a / 2 ^ (s + 2) = t b / 2 ^ (s + 2) := by
      intro a b e
      rw [pow_succ, ← Nat.div_div_eq_div_mul, ← Nat.div_div_eq_div_mul, e]
    simp only [doubling, Matrix.add_apply]
    rw [ih i j (fun e => h (up i j e)), zero_add, Matrix.mul_apply]
    refine Finset.sum_eq_zero fun a _ => ?_
    by_cases h1 : t i / 2 ^ (s + 1) = t a / 2 ^ (s + 1)
    · refine mul_eq_zero_of_right _ ?_
      rw [Matrix.mul_apply]
      refine Finset.sum_eq_zero fun b _ => ?_
      by_cases h2 : t b / 2 ^ (s + 1) = t j / 2 ^ (s + 1)
      · refine mul_eq_zero_of_left ?_ _
        simp only [corner]
        rw [if_neg]
        intro hc
        exact h ((up _ _ h1).trans (hc.1.trans (up _ _ h2)))
      · exact mul_eq_zero_of_right _ (ih b j h2)
    · exact mul_eq_zero_of_left (ih i a h1) _

/-- A corner after a block after a corner is nothing: a corner leads from a first half to a second half. -/
theorem corner_doubling_corner (s : ℕ) : corner t (s + 1) M * doubling t M s * corner t (s + 1) M = 0 := by
  ext i j
  rw [Matrix.mul_apply]
  refine Finset.sum_eq_zero fun b _ => ?_
  rw [Matrix.mul_apply, Finset.sum_mul]
  refine Finset.sum_eq_zero fun a _ => ?_
  by_cases h2 : t a / 2 ^ (s + 1) = t b / 2 ^ (s + 1)
  · simp only [corner]
    by_cases ha : t a / 2 ^ (s + 1) % 2 = 0
    · have hb : ¬ t b / 2 ^ (s + 1) % 2 = 1 := by rw [← h2]; omega
      simp [hb]
    · simp [ha]
  · rw [doubling_block s a b h2, mul_zero, zero_mul]

/-- After `s` steps the doubling is a left inverse of the diagonal blocks of `1 - M`. -/
theorem doubling_mul (hM : ∀ i j, ¬ t j < t i → M i j = 0) (s : ℕ) :
    doubling t M s * (1 - inBlock t (s + 1) M) = 1 := by
  induction s with
  | zero =>
    have hsq : inBlock t 1 M * inBlock t 1 M = 0 := by
      ext i j
      rw [Matrix.mul_apply]
      refine Finset.sum_eq_zero fun a _ => ?_
      simp only [inBlock]
      by_cases h1 : t i / 2 ^ 1 = t a / 2 ^ 1
      · by_cases h2 : t a / 2 ^ 1 = t j / 2 ^ 1
        · by_cases h3 : t a < t i
          · have : ¬ t j < t a := by omega
            simp [hM a j this]
          · simp [hM i a h3]
        · simp only [if_neg h2, mul_zero]
      · simp only [if_neg h1, zero_mul]
    simp only [doubling, zero_add]
    rw [mul_sub, mul_one, add_mul, one_mul, hsq]
    abel
  | succ s ih =>
    rw [inBlock_succ hM (s + 1)]
    have hc := corner_doubling_corner (t := t) (M := M) s
    simp only [doubling]
    generalize doubling t M s = D at *
    generalize corner t (s + 1) M = C at *
    generalize inBlock t (s + 1) M = P at *
    have e : (D + D * (C * D)) * (1 - (P + C)) = D * (1 - P) + D * C * (D * (1 - P)) - D * C - D * (C * D * C) := by
      noncomm_ring
    rw [e, ih, hc]
    simp

/-- **The doubling inverts.** For rows numbered below `64`, five steps give a left inverse of `1 - M`. -/
theorem doubling_inverse (hM : ∀ i j, ¬ t j < t i → M i j = 0) (ht : ∀ i, t i < 64) :
    doubling t M 5 * (1 - M) = 1 := by
  have h := doubling_mul hM 5
  have e : inBlock t (5 + 1) M = M := by
    ext i j
    simp only [inBlock]
    rw [if_pos]
    have hi := ht i; have hj := ht j
    have : (2 : ℕ) ^ (5 + 1) = 64 := rfl
    rw [this, Nat.div_eq_of_lt hi, Nat.div_eq_of_lt hj]
  rwa [e] at h

end DeltaScan

end
-- ==== Proof.Chunk.lean ====
/-
  The gated delta rule over the reals, twice: one token at a time (`step`, `stateAt`, `outAt`), and a chunk of 64 tokens at
  a time by the WY form (`chunkOut`, `chunkState`), with the theorem that the two agree. A row `i` of a chunk holds the
  token number `σ i` of it: `σ` is the identity for a scan read forwards and the reversal for a scan read backwards.
-/
module

public import proofs.«01_k».proof.Proof.TriInverse
public import Mathlib.Analysis.SpecialFunctions.Exp
public import Mathlib.Tactic.Linarith
public import Mathlib.Tactic.Ring

@[expose] public section

noncomputable section

namespace DeltaScan

open Matrix

/-! ## One token at a time -/

/-- What one head's scan reads at every token: query, key, value, the logarithm of the decay, and the write strength. -/
structure Tokens where
  q : ℕ → Fin 128 → ℝ
  k : ℕ → Fin 128 → ℝ
  v : ℕ → Fin 128 → ℝ
  g : ℕ → ℝ
  b : ℕ → ℝ

/-- A head's state: one row per key coordinate, one column per value coordinate. -/
abbrev Mat := Fin 128 → Fin 128 → ℝ

/-- The correction a token writes: its value less what the decayed state answers to its key, scaled. -/
def err (x : Tokens) (S : Mat) (t : ℕ) (e : Fin 128) : ℝ :=
  x.b t * (x.v t e - ∑ d, S d e * Real.exp (x.g t) * x.k t d)

/-- The state after token `t`. -/
def step (x : Tokens) (S : Mat) (t : ℕ) : Mat :=
  fun d e => S d e * Real.exp (x.g t) + x.k t d * err x S t e

/-- The state before token `t`, from nothing. -/
def stateAt (x : Tokens) : ℕ → Mat
  | 0 => fun _ _ => 0
  | t + 1 => step x (stateAt x t) t

/-- The output of token `t`. -/
def outAt (x : Tokens) (t : ℕ) (e : Fin 128) : ℝ := ∑ d, stateAt x (t + 1) d e * x.q t d

/-- The correction token `t` writes in the scan. -/
def errAt (x : Tokens) (t : ℕ) (e : Fin 128) : ℝ := err x (stateAt x t) t e

/-! ## A chunk at a time -/

/-- What a chunk's rows hold. -/
structure Rows where
  q : Fin 64 → Fin 128 → ℝ
  k : Fin 64 → Fin 128 → ℝ
  v : Fin 64 → Fin 128 → ℝ
  g : Fin 64 → ℝ
  b : Fin 64 → ℝ

variable (σ : Equiv.Perm (Fin 64)) (r : Rows)

/-- The decay's logarithm summed up to row `i`'s token. -/
def cum (i : Fin 64) : ℝ := ∑ j, (if σ j ≤ σ i then 1 else 0) * r.g j

/-- The decay from row `j`'s token to row `i`'s, nothing if `j` comes later. -/
def dec (i j : Fin 64) : ℝ := if σ j ≤ σ i then Real.exp (cum σ r i - cum σ r j) else 0

/-- What row `j`'s correction takes from row `i`'s, for `j` strictly earlier. -/
def cross (i j : Fin 64) : ℝ := if σ j < σ i then (∑ d, r.k i d * r.b i * r.k j d) * dec σ r i j else 0

/-- The same with the sign turned, as a matrix: what the doubling inverts `1 -` of. -/
def negCross : Matrix (Fin 64) (Fin 64) ℝ := fun i j => 0 - cross σ r i j

/-- The inverse of the unit triangular matrix by doubling. -/
def tinv : Matrix (Fin 64) (Fin 64) ℝ := doubling (fun i => (σ i).val) (negCross σ r) 5

/-- The corrections of the chunk less their dependence on the entering state. -/
def uRow (i : Fin 64) (e : Fin 128) : ℝ := ∑ j, tinv σ r i j * (r.v j e * r.b j)

/-- What the entering state is read with. -/
def wRow (i : Fin 64) (d : Fin 128) : ℝ := ∑ j, tinv σ r i j * (r.k j d * r.b j * Real.exp (cum σ r j))

/-- The corrections of the chunk entered with state `S`. -/
def vNew (S : Mat) (i : Fin 64) (e : Fin 128) : ℝ := uRow σ r i e - ∑ d, wRow σ r i d * S d e

/-- Query against key with the decay between them. -/
def score (i j : Fin 64) : ℝ := (∑ d, r.q i d * r.k j d) * dec σ r i j

/-- The chunk's outputs. -/
def chunkOut (S : Mat) (i : Fin 64) (e : Fin 128) : ℝ :=
  (∑ d, r.q i d * Real.exp (cum σ r i) * S d e) + ∑ j, score σ r i j * vNew σ r S j e

/-- The decay of the whole chunk. -/
def total : ℝ := cum σ r (σ.symm 63)

/-- The state the chunk leaves. -/
def chunkState (S : Mat) : Mat := fun d e =>
  S d e * Real.exp (total σ r) + ∑ i, r.k i d * Real.exp (total σ r - cum σ r i) * vNew σ r S i e

/-! ## The two agree -/

/-- A sum over a chunk's rows not later than token `n` is a sum over the tokens up to it. -/
theorem sum_le (n : Fin 64) (f : ℕ → ℝ) :
    (∑ j : Fin 64, if σ j ≤ n then f (σ j).val else 0) = ∑ t ∈ Finset.range (n.val + 1), f t := by
  rw [Equiv.sum_comp σ (fun j : Fin 64 => if j ≤ n then f j.val else 0)]
  simp only [Fin.le_def]
  rw [Fin.sum_univ_eq_sum_range (fun t => if t ≤ n.val then f t else 0) 64, ← Finset.sum_filter]
  refine Finset.sum_congr ?_ fun _ _ => rfl
  ext t
  have := n.isLt
  simp only [Finset.mem_filter, Finset.mem_range]
  omega

/-- The same for the rows strictly earlier. -/
theorem sum_lt (n : Fin 64) (f : ℕ → ℝ) :
    (∑ j : Fin 64, if σ j < n then f (σ j).val else 0) = ∑ t ∈ Finset.range n.val, f t := by
  rw [Equiv.sum_comp σ (fun j : Fin 64 => if j < n then f j.val else 0)]
  simp only [Fin.lt_def]
  rw [Fin.sum_univ_eq_sum_range (fun t => if t < n.val then f t else 0) 64, ← Finset.sum_filter]
  refine Finset.sum_congr ?_ fun _ _ => rfl
  ext t
  have := n.isLt
  simp only [Finset.mem_filter, Finset.mem_range]
  omega

/-- The logarithm of the decay summed over the first `n` tokens after token `T`. -/
def logSum (x : Tokens) (T n : ℕ) : ℝ := ∑ t ∈ Finset.range n, x.g (T + t)

/-- The state `n` tokens after token `T`: the state there decayed, and each correction since, decayed. -/
theorem stateAt_add (x : Tokens) (T n : ℕ) (d e : Fin 128) :
    stateAt x (T + n) d e = Real.exp (logSum x T n) * stateAt x T d e
      + ∑ t ∈ Finset.range n, Real.exp (logSum x T n - logSum x T (t + 1)) * (x.k (T + t) d * errAt x (T + t) e) := by
  induction n with
  | zero => simp [logSum]
  | succ n ih =>
    have hs : logSum x T (n + 1) = logSum x T n + x.g (T + n) := by
      unfold logSum; rw [Finset.sum_range_succ]
    have h1 : stateAt x (T + (n + 1)) d e
        = stateAt x (T + n) d e * Real.exp (x.g (T + n)) + x.k (T + n) d * errAt x (T + n) e := rfl
    rw [h1, ih, Finset.sum_range_succ, sub_self, Real.exp_zero, one_mul, hs, Real.exp_add, add_mul, Finset.sum_mul]
    have h2 : ∀ t, Real.exp (logSum x T n + x.g (T + n) - logSum x T (t + 1)) * (x.k (T + t) d * errAt x (T + t) e)
        = Real.exp (logSum x T n - logSum x T (t + 1)) * (x.k (T + t) d * errAt x (T + t) e) * Real.exp (x.g (T + n)) := by
      intro t
      rw [show logSum x T n + x.g (T + n) - logSum x T (t + 1) = (logSum x T n - logSum x T (t + 1)) + x.g (T + n) by ring,
        Real.exp_add]
      ring
    simp only [h2]
    ring

/-- The rows of a chunk hold the 64 tokens from token `T` on. -/
structure Holds (x : Tokens) (T : ℕ) : Prop where
  q : ∀ i, r.q i = x.q (T + (σ i).val)
  k : ∀ i, r.k i = x.k (T + (σ i).val)
  v : ∀ i, r.v i = x.v (T + (σ i).val)
  g : ∀ i, r.g i = x.g (T + (σ i).val)
  b : ∀ i, r.b i = x.b (T + (σ i).val)

variable {σ r} {x : Tokens} {T : ℕ}

/-- The chunk's running sum is the tokens'. -/
theorem cum_eq (h : Holds σ r x T) (i : Fin 64) : cum σ r i = logSum x T ((σ i).val + 1) := by
  unfold cum logSum
  rw [← sum_le σ (σ i) (fun t => x.g (T + t))]
  refine Finset.sum_congr rfl fun j _ => ?_
  rw [h.g j]
  split <;> simp

/-- The correction of row `i`'s token, and what it takes from the earlier ones, from the entering state. -/
theorem errAt_add (h : Holds σ r x T) (i : Fin 64) (e : Fin 128) :
    errAt x (T + (σ i).val) e + ∑ j, cross σ r i j * errAt x (T + (σ j).val) e
      = r.v i e * r.b i - ∑ d, r.k i d * r.b i * Real.exp (cum σ r i) * stateAt x T d e := by
  have hG : logSum x T ((σ i).val + 1) = logSum x T (σ i).val + x.g (T + (σ i).val) := by
    unfold logSum; rw [Finset.sum_range_succ]
  have e1 : (∑ j, cross σ r i j * errAt x (T + (σ j).val) e)
      = ∑ t ∈ Finset.range (σ i).val, (∑ d, x.k (T + (σ i).val) d * x.b (T + (σ i).val) * x.k (T + t) d)
          * Real.exp (logSum x T ((σ i).val + 1) - logSum x T (t + 1)) * errAt x (T + t) e := by
    rw [← sum_lt σ (σ i)]
    refine Finset.sum_congr rfl fun j _ => ?_
    unfold cross dec
    by_cases hj : σ j < σ i
    · rw [if_pos hj, if_pos hj, if_pos hj.le, h.k i, h.k j, h.b i, cum_eq h, cum_eq h]
    · rw [if_neg hj, if_neg hj, zero_mul]
  rw [e1]
  unfold errAt err
  rw [h.v i, h.b i, h.k i, cum_eq h]
  have e2 : (∑ d, stateAt x (T + (σ i).val) d e * Real.exp (x.g (T + (σ i).val)) * x.k (T + (σ i).val) d)
      = (∑ d, Real.exp (logSum x T ((σ i).val + 1)) * stateAt x T d e * x.k (T + (σ i).val) d)
        + ∑ t ∈ Finset.range (σ i).val, (∑ d, x.k (T + (σ i).val) d * x.k (T + t) d)
          * Real.exp (logSum x T ((σ i).val + 1) - logSum x T (t + 1)) * errAt x (T + t) e := by
    simp only [Finset.sum_mul]
    rw [Finset.sum_comm, ← Finset.sum_add_distrib]
    refine Finset.sum_congr rfl fun d _ => ?_
    rw [stateAt_add x T (σ i).val d e, hG, add_mul, add_mul, Finset.sum_mul, Finset.sum_mul]
    congr 1
    · rw [Real.exp_add]; ring
    · refine Finset.sum_congr rfl fun t _ => ?_
      rw [show logSum x T (σ i).val + x.g (T + (σ i).val) - logSum x T (t + 1)
        = (logSum x T (σ i).val - logSum x T (t + 1)) + x.g (T + (σ i).val) by ring, Real.exp_add]
      ring
  rw [e2, mul_sub, mul_add, Finset.mul_sum, Finset.mul_sum]
  have e3 : ∀ t, (∑ d, x.k (T + (σ i).val) d * x.b (T + (σ i).val) * x.k (T + t) d)
      = x.b (T + (σ i).val) * ∑ d, x.k (T + (σ i).val) d * x.k (T + t) d := by
    intro t
    rw [Finset.mul_sum]
    exact Finset.sum_congr rfl fun d _ => by ring
  simp only [e3]
  have e4 : ∀ d, x.b (T + (σ i).val) * (Real.exp (logSum x T ((σ i).val + 1)) * stateAt x T d e * x.k (T + (σ i).val) d)
      = x.k (T + (σ i).val) d * x.b (T + (σ i).val) * Real.exp (logSum x T ((σ i).val + 1)) * stateAt x T d e :=
    fun d => by ring
  simp only [e4]
  have e5 : ∀ t, x.b (T + (σ i).val) * ((∑ d, x.k (T + (σ i).val) d * x.k (T + t) d)
        * Real.exp (logSum x T ((σ i).val + 1) - logSum x T (t + 1)) * errAt x (T + t) e)
      = x.b (T + (σ i).val) * (∑ d, x.k (T + (σ i).val) d * x.k (T + t) d)
        * Real.exp (logSum x T ((σ i).val + 1) - logSum x T (t + 1)) * errAt x (T + t) e :=
    fun t => by ring
  simp only [e5]
  unfold errAt err
  ring

/-- **The chunk's corrections are the tokens'**, when it is entered with the tokens' state. -/
theorem vNew_eq (h : Holds σ r x T) (i : Fin 64) (e : Fin 128) :
    vNew σ r (stateAt x T) i e = errAt x (T + (σ i).val) e := by
  have hinv : tinv σ r * (1 - negCross σ r) = 1 := by
    refine doubling_inverse (fun i j hij => ?_) (fun i => (σ i).isLt)
    have : ¬ σ j < σ i := hij
    simp only [negCross, cross, if_neg this, sub_zero]
  have hrow : ∀ j, ∑ l, (1 - negCross σ r) j l * errAt x (T + (σ l).val) e
      = r.v j e * r.b j - ∑ d, r.k j d * r.b j * Real.exp (cum σ r j) * stateAt x T d e := by
    intro j
    rw [← errAt_add h j e]
    simp only [Matrix.sub_apply, negCross, zero_sub, sub_neg_eq_add, add_mul, Finset.sum_add_distrib]
    congr 1
    simp [Matrix.one_apply]
  have key : errAt x (T + (σ i).val) e
      = ∑ j, tinv σ r i j * (r.v j e * r.b j - ∑ d, r.k j d * r.b j * Real.exp (cum σ r j) * stateAt x T d e) := by
    simp only [← hrow, Finset.mul_sum]
    rw [Finset.sum_comm]
    have : ∀ l, (∑ j, tinv σ r i j * ((1 - negCross σ r) j l * errAt x (T + (σ l).val) e))
        = (1 : Matrix (Fin 64) (Fin 64) ℝ) i l * errAt x (T + (σ l).val) e := by
      intro l
      rw [← congrFun (congrFun hinv i) l, Matrix.mul_apply, Finset.sum_mul]
      exact Finset.sum_congr rfl fun j _ => by ring
    simp only [this]
    simp [Matrix.one_apply]
  rw [key]
  unfold vNew uRow wRow
  simp only [mul_sub, Finset.sum_sub_distrib]
  congr 1
  simp only [Finset.sum_mul, Finset.mul_sum]
  rw [Finset.sum_comm]
  exact Finset.sum_congr rfl fun j _ => Finset.sum_congr rfl fun d _ => by ring

/-- **A chunk's outputs are its tokens'.** -/
theorem chunkOut_eq (h : Holds σ r x T) (i : Fin 64) (e : Fin 128) :
    chunkOut σ r (stateAt x T) i e = outAt x (T + (σ i).val) e := by
  unfold chunkOut outAt
  simp only [vNew_eq h]
  have e1 : (∑ j, score σ r i j * errAt x (T + (σ j).val) e)
      = ∑ t ∈ Finset.range ((σ i).val + 1), (∑ d, x.q (T + (σ i).val) d * x.k (T + t) d)
          * Real.exp (logSum x T ((σ i).val + 1) - logSum x T (t + 1)) * errAt x (T + t) e := by
    rw [← sum_le σ (σ i)]
    refine Finset.sum_congr rfl fun j _ => ?_
    unfold score dec
    by_cases hj : σ j ≤ σ i
    · rw [if_pos hj, if_pos hj, h.q i, h.k j, cum_eq h, cum_eq h]
    · rw [if_neg hj, if_neg hj, mul_zero, zero_mul]
  rw [e1]
  simp only [Finset.sum_mul]
  rw [Finset.sum_comm, ← Finset.sum_add_distrib]
  refine Finset.sum_congr rfl fun d _ => ?_
  rw [show T + (σ i).val + 1 = T + ((σ i).val + 1) by ring, stateAt_add, h.q i, cum_eq h, add_mul, Finset.sum_mul]
  congr 1
  · ring
  · exact Finset.sum_congr rfl fun t _ => by ring

/-- **A chunk leaves the state its last token leaves.** -/
theorem chunkState_eq (h : Holds σ r x T) : chunkState σ r (stateAt x T) = stateAt x (T + 64) := by
  funext d e
  unfold chunkState
  have ht : total σ r = logSum x T 64 := by
    unfold total
    rw [cum_eq h, Equiv.apply_symm_apply]
    rfl
  simp only [vNew_eq h, ht, cum_eq h, h.k]
  rw [stateAt_add, Equiv.sum_comp σ (fun j : Fin 64 => x.k (T + j.val) d
    * Real.exp (logSum x T 64 - logSum x T (j.val + 1)) * errAt x (T + j.val) e),
    Fin.sum_univ_eq_sum_range (fun t => x.k (T + t) d
    * Real.exp (logSum x T 64 - logSum x T (t + 1)) * errAt x (T + t) e) 64, mul_comm (stateAt x T d e)]
  congr 1
  exact Finset.sum_congr rfl fun t _ => by ring

end DeltaScan

end
-- ==== Proof.Coe.lean ====
/- Scalars at exact arithmetic: sums, the sigmoid, the softplus and the log decay of real numbers. -/
module

public import proofs.«01_k».proof.Proof.Chunk
public import Idealize.ShloMosaic.Lib.Pointwise

@[expose] public section

namespace DeltaScan

open Idealize.ShloMosaic

noncomputable section

/-- A sum of real numbers taken in the extended reals is the real sum. -/
theorem sum_coe {ι : Type*} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- `log (1 + exp x)` in the form that does not overflow. -/
def softplus (x : ℝ) : ℝ := max x 0 + Real.log (1 + Real.exp (-|x|))

/-- The log of the decay of one step. -/
def logDecay (a d x : ℝ) : ℝ := -Real.exp a * softplus (x + d)

/-- The logistic function. -/
def sigmoid (x : ℝ) : ℝ := (1 + Real.exp (-x))⁻¹

/-- The larger of two reals. -/
theorem max_coe (x y : ℝ) : max (x : EReal) (y : EReal) = ((max x y : ℝ) : EReal) :=
  (EReal.coe_strictMono.monotone.map_max).symm

/-- The negation of a real. -/
theorem neg_coe (x : ℝ) : -(x : EReal) = ((-x : ℝ) : EReal) := (EReal.coe_neg x).symm

/-- Zero less a real. -/
theorem zero_sub_coe (x : ℝ) : (0 : EReal) - (x : EReal) = ((-x : ℝ) : EReal) := by
  rw [← EReal.coe_zero, ← EReal.coe_sub, zero_sub]

/-- One more than a real. -/
theorem one_add_coe (x : ℝ) : (1 : EReal) + (x : EReal) = ((1 + x : ℝ) : EReal) := by
  rw [← EReal.coe_one, ← EReal.coe_add]

/-- A real or zero, by cases. -/
theorem ite_coe (c : Prop) [Decidable c] (x : ℝ) : (if c then (x : EReal) else 0) = ((if c then x else 0 : ℝ) : EReal) := by
  by_cases hc : c <;> simp [hc]

/-- One or zero, by cases. -/
theorem ite_one (c : Prop) [Decidable c] : (if c then (1 : EReal) else 0) = ((if c then 1 else 0 : ℝ) : EReal) := by
  by_cases hc : c <;> simp [hc]

/-- The size of a real. -/
theorem absf_coe (x : ℝ) : (FloatOps.absf (x : EReal) : Ideal .f32) = ((|x| : ℝ) : EReal) := by
  show max (x : EReal) (-(x : EReal)) = _
  rw [neg_coe, max_coe]; rfl

/-- The reciprocal of a positive real. -/
theorem div_one_coe (x : ℝ) (hx : 0 < x) : Ideal.div 1 (x : EReal) = ((x⁻¹ : ℝ) : EReal) := by
  unfold Ideal.div
  rw [if_neg (by exact_mod_cast hx.ne'), one_mul, EReal.coe_inv]

/-- The sigmoid of a real. -/
theorem sigmoid_coe (x : ℝ) : Ideal.div 1 (1 + Ideal.exp (0 - (x : EReal))) = ((sigmoid x : ℝ) : EReal) := by
  rw [zero_sub_coe, Ideal.exp_coe, one_add_coe, div_one_coe _ (by positivity)]; rfl

/-- The logarithm of a positive real. -/
theorem log_coe_pos (x : ℝ) (hx : 0 < x) : Ideal.log (x : EReal) = ((Real.log x : ℝ) : EReal) := by
  rw [Ideal.log_coe, if_neg (not_le.mpr hx)]

/-- The softplus of a real. -/
theorem softplus_coe (x : ℝ) : max (x : EReal) 0 + Ideal.log (1 + Ideal.exp (0 - FloatOps.absf (F := Ideal) (φ := .f32) (x : EReal)))
    = ((softplus x : ℝ) : EReal) := by
  rw [absf_coe, zero_sub_coe, Ideal.exp_coe, one_add_coe, log_coe_pos _ (by positivity), ← EReal.coe_zero, max_coe, ← EReal.coe_add]
  rfl

/-- The logarithm of the decay, of real gates. -/
theorem logDecay_coe (a d x : ℝ) : (0 - Ideal.exp (a : EReal)) * (max ((x : EReal) + (d : EReal)) 0
      + Ideal.log (1 + Ideal.exp (0 - FloatOps.absf (F := Ideal) (φ := .f32) ((x : EReal) + (d : EReal)))))
    = ((logDecay a d x : ℝ) : EReal) := by
  rw [← EReal.coe_add, softplus_coe, Ideal.exp_coe, zero_sub_coe, ← EReal.coe_mul]; rfl

/-- A bit as a number. -/
theorem bit_coe (c : Prop) [Decidable c] :
    (FloatOps.sitofp FTy.f32 (BitVec.setWidth 32 (if c then 1#1 else 0#1)) : Ideal .f32) = ((if c then 1 else 0 : ℝ) : EReal) := by
  by_cases hc : c <;> simp only [hc, ↓reduceIte] <;> simp [FloatOps.sitofp]

/-- A real less itself is zero. -/
theorem sub_self_coe (x : ℝ) : (x : EReal) - (x : EReal) = 0 := by
  rw [← EReal.coe_sub, sub_self, EReal.coe_zero]

end

end DeltaScan
-- ==== Proof.Body.lean ====
/- What one grid point of the kernel computes from its blocks, array by array. -/
module

public import proofs.«01_k».proof.Proof.Coe
public import proofs.«01_k».proof.Proof.Gen.KernelIdeal.Value
public import Idealize.ShloMosaic.Lib.Pointwise

@[expose] public section
set_option maxRecDepth 16384

namespace Cert.KernelIdeal.Body

open Cert.KernelIdeal Cert.KernelIdeal.Gen Idealize.ShloMosaic

noncomputable section

section
variable {F : FTy → Type} [FloatOps F]

/-- The forward running sums of the log decays, every gate column of a block. -/
def gcF (g : Vec F S1x64x128 .f32) (al dt : Vec F S1x128 .f32) : FVec F S64x128 .f32 :=
  (k0_pay12 (k0_pay9 g al dt) k0_pay10 (k0_pay11 g al dt))

/-- The backward running sums of the log decays, every gate column of a block. -/
def gcB (g : Vec F S1x64x128 .f32) (al dt : Vec F S1x128 .f32) : FVec F S64x128 .f32 :=
  (k0_pay69 k0_pay6 (k0_pay66 g) al dt)

/-- The sigmoid of the forward block's gates. -/
def betaF (g3 : Vec F S1x64x128 .f32) : FVec F S64x128 .f32 :=
  (k0_pay8 g3)

/-- The sigmoid of the backward block's gates. -/
def betaB (g7 : Vec F S1x64x128 .f32) : FVec F S64x128 .f32 :=
  (k0_pay68 (k0_pay66 g7) k0_pay67)

/-- The sixteen heads' queries: eight forward, eight backward. -/
def qS (x0 x4 : Vec F S1x64x1024 .bf16) : FVec F S16x64x128 .f32 :=
  k0_pay119 (k0_pay17 x0) (k0_pay23 x0) (k0_pay29 x0) (k0_pay36 (k0_pay14 x0)) (k0_pay42 (k0_pay14 x0)) (k0_pay48 (k0_pay14 x0)) (k0_pay54 (k0_pay14 x0)) (k0_pay60 (k0_pay14 x0)) (k0_pay71 x4) (k0_pay74 x4) (k0_pay80 x4) (k0_pay86 x4) (k0_pay92 x4) (k0_pay98 x4)

/-- The sixteen heads' keys: eight forward, eight backward. -/
def kS (x1 x5 : Vec F S1x64x1024 .bf16) : FVec F S16x64x128 .f32 :=
  k0_pay125 (k0_pay49 (k0_pay15 x1)) (k0_pay55 (k0_pay15 x1)) (k0_pay61 (k0_pay15 x1)) (k0_pay75 x5) (k0_pay81 x5) (k0_pay87 x5) (k0_pay93 x5) (k0_pay99 x5) (k0_pay104 (k0_pay72 x5)) (k0_pay109 (k0_pay72 x5)) (k0_pay114 (k0_pay72 x5)) (k0_pay120 (k0_pay18 x1)) (k0_pay121 (k0_pay24 x1)) (k0_pay122 (k0_pay30 x1)) (k0_pay123 (k0_pay37 (k0_pay15 x1))) (k0_pay124 (k0_pay43 (k0_pay15 x1)))

/-- The sixteen heads' values: eight forward, eight backward. -/
def vS (x2 x6 : Vec F S1x64x1024 .bf16) : FVec F S16x64x128 .f32 :=
  k0_pay126 (k0_pay19 x2) (k0_pay25 x2) (k0_pay31 x2) (k0_pay38 (k0_pay16 x2)) (k0_pay44 (k0_pay16 x2)) (k0_pay50 (k0_pay16 x2)) (k0_pay56 (k0_pay16 x2)) (k0_pay62 (k0_pay16 x2)) (k0_pay76 x6) (k0_pay82 x6) (k0_pay88 x6) (k0_pay94 x6) (k0_pay100 x6) (k0_pay105 (k0_pay73 x6)) (k0_pay110 (k0_pay73 x6)) (k0_pay115 (k0_pay73 x6))

/-- The sixteen heads' write strengths, repeated along the lanes. -/
def bS (g3 g7 : Vec F S1x64x128 .f32) : FVec F S16x64x128 .f32 :=
  k0_pay127 (k0_pay20 (k0_pay8 g3)) (k0_pay26 (k0_pay8 g3)) (k0_pay32 (k0_pay8 g3)) (k0_pay39 (k0_pay8 g3)) (k0_pay45 (k0_pay8 g3)) (k0_pay51 (k0_pay8 g3)) (k0_pay57 (k0_pay8 g3)) (k0_pay63 (k0_pay8 g3)) (k0_pay77 (k0_pay68 (k0_pay66 g7) k0_pay67)) (k0_pay83 (k0_pay68 (k0_pay66 g7) k0_pay67)) (k0_pay89 (k0_pay68 (k0_pay66 g7) k0_pay67)) (k0_pay95 (k0_pay68 (k0_pay66 g7) k0_pay67)) (k0_pay101 (k0_pay68 (k0_pay66 g7) k0_pay67)) (k0_pay106 (k0_pay68 (k0_pay66 g7) k0_pay67)) (k0_pay111 (k0_pay68 (k0_pay66 g7) k0_pay67)) (k0_pay116 (k0_pay68 (k0_pay66 g7) k0_pay67))

/-- The sixteen heads' running log decays, repeated along the lanes. -/
def gS (g3 g7 : Vec F S1x64x128 .f32) (al dt : Vec F S1x128 .f32) : FVec F S16x64x128 .f32 :=
  k0_pay142 (k0_pay112 (k0_pay69 k0_pay6 (k0_pay66 g7) al dt)) (k0_pay117 (k0_pay69 k0_pay6 (k0_pay66 g7) al dt)) (k0_pay128 (k0_pay21 (k0_pay9 g3 al dt) k0_pay10 (k0_pay11 g3 al dt))) (k0_pay129 (k0_pay27 (k0_pay9 g3 al dt) k0_pay10 (k0_pay11 g3 al dt))) (k0_pay130 (k0_pay34 (k0_pay33 (k0_pay9 g3 al dt) k0_pay10 (k0_pay11 g3 al dt)))) (k0_pay131 (k0_pay40 (k0_pay12 (k0_pay9 g3 al dt) k0_pay10 (k0_pay11 g3 al dt)))) (k0_pay132 (k0_pay46 (k0_pay12 (k0_pay9 g3 al dt) k0_pay10 (k0_pay11 g3 al dt)))) (k0_pay133 (k0_pay52 (k0_pay12 (k0_pay9 g3 al dt) k0_pay10 (k0_pay11 g3 al dt)))) (k0_pay134 (k0_pay58 (k0_pay12 (k0_pay9 g3 al dt) k0_pay10 (k0_pay11 g3 al dt)))) (k0_pay135 (k0_pay64 (k0_pay12 (k0_pay9 g3 al dt) k0_pay10 (k0_pay11 g3 al dt)))) (k0_pay136 (k0_pay78 (k0_pay69 k0_pay6 (k0_pay66 g7) al dt))) (k0_pay137 (k0_pay84 (k0_pay69 k0_pay6 (k0_pay66 g7) al dt))) (k0_pay138 (k0_pay90 (k0_pay69 k0_pay6 (k0_pay66 g7) al dt))) (k0_pay139 (k0_pay96 (k0_pay69 k0_pay6 (k0_pay66 g7) al dt))) (k0_pay140 (k0_pay102 (k0_pay69 k0_pay6 (k0_pay66 g7) al dt))) (k0_pay141 (k0_pay107 (k0_pay69 k0_pay6 (k0_pay66 g7) al dt)))

/-- The decay between two rows of a block, head by head. -/
def decS (g3 g7 : Vec F S1x64x128 .f32) (al dt : Vec F S1x128 .f32) : FVec F S16x64x64 .f32 :=
  k0_pay143 (k0_pay22 (k0_pay9 g3 al dt) k0_pay10 (k0_pay11 g3 al dt)) (k0_pay28 (k0_pay9 g3 al dt) k0_pay10 (k0_pay11 g3 al dt)) (k0_pay35 (k0_pay13 (k0_pay9 g3 al dt) k0_pay10 (k0_pay11 g3 al dt))) (k0_pay41 (k0_pay13 (k0_pay9 g3 al dt) k0_pay10 (k0_pay11 g3 al dt))) (k0_pay47 (k0_pay13 (k0_pay9 g3 al dt) k0_pay10 (k0_pay11 g3 al dt))) (k0_pay53 (k0_pay13 (k0_pay9 g3 al dt) k0_pay10 (k0_pay11 g3 al dt))) (k0_pay59 (k0_pay13 (k0_pay9 g3 al dt) k0_pay10 (k0_pay11 g3 al dt))) (k0_pay65 (k0_pay13 (k0_pay9 g3 al dt) k0_pay10 (k0_pay11 g3 al dt))) (k0_pay79 (k0_pay70 k0_pay6 (k0_pay66 g7) al dt)) (k0_pay85 (k0_pay70 k0_pay6 (k0_pay66 g7) al dt)) (k0_pay91 (k0_pay70 k0_pay6 (k0_pay66 g7) al dt)) (k0_pay97 (k0_pay70 k0_pay6 (k0_pay66 g7) al dt)) (k0_pay103 (k0_pay70 k0_pay6 (k0_pay66 g7) al dt)) (k0_pay108 (k0_pay70 k0_pay6 (k0_pay66 g7) al dt)) (k0_pay112 (k0_pay69 k0_pay6 (k0_pay66 g7) al dt)) (k0_pay113 (k0_pay70 k0_pay6 (k0_pay66 g7) al dt)) (k0_pay117 (k0_pay69 k0_pay6 (k0_pay66 g7) al dt)) (k0_pay118 (k0_pay70 k0_pay6 (k0_pay66 g7) al dt)) (k0_pay128 (k0_pay21 (k0_pay9 g3 al dt) k0_pay10 (k0_pay11 g3 al dt))) (k0_pay129 (k0_pay27 (k0_pay9 g3 al dt) k0_pay10 (k0_pay11 g3 al dt))) (k0_pay130 (k0_pay34 (k0_pay33 (k0_pay9 g3 al dt) k0_pay10 (k0_pay11 g3 al dt)))) (k0_pay131 (k0_pay40 (k0_pay12 (k0_pay9 g3 al dt) k0_pay10 (k0_pay11 g3 al dt)))) (k0_pay132 (k0_pay46 (k0_pay12 (k0_pay9 g3 al dt) k0_pay10 (k0_pay11 g3 al dt)))) (k0_pay133 (k0_pay52 (k0_pay12 (k0_pay9 g3 al dt) k0_pay10 (k0_pay11 g3 al dt)))) (k0_pay134 (k0_pay58 (k0_pay12 (k0_pay9 g3 al dt) k0_pay10 (k0_pay11 g3 al dt)))) (k0_pay135 (k0_pay64 (k0_pay12 (k0_pay9 g3 al dt) k0_pay10 (k0_pay11 g3 al dt)))) (k0_pay136 (k0_pay78 (k0_pay69 k0_pay6 (k0_pay66 g7) al dt))) (k0_pay137 (k0_pay84 (k0_pay69 k0_pay6 (k0_pay66 g7) al dt))) (k0_pay138 (k0_pay90 (k0_pay69 k0_pay6 (k0_pay66 g7) al dt))) (k0_pay139 (k0_pay96 (k0_pay69 k0_pay6 (k0_pay66 g7) al dt))) (k0_pay140 (k0_pay102 (k0_pay69 k0_pay6 (k0_pay66 g7) al dt))) (k0_pay141 (k0_pay107 (k0_pay69 k0_pay6 (k0_pay66 g7) al dt)))

/-- Scaled keys against keys, and queries against keys. -/
def rS (q k b : FVec F S16x64x128 .f32) : FVec F S16x128x64 .f32 :=
  k0_pay145 q k b

/-- The decayed products of keys, before the triangle is cut out. -/
def mS (q k b : FVec F S16x64x128 .f32) (g3 g7 : Vec F S1x64x128 .f32) (al dt : Vec F S1x128 .f32) : FVec F S16x64x64 .f32 :=
  k0_pay146 (k0_pay22 (k0_pay9 g3 al dt) k0_pay10 (k0_pay11 g3 al dt)) (k0_pay28 (k0_pay9 g3 al dt) k0_pay10 (k0_pay11 g3 al dt)) (k0_pay35 (k0_pay13 (k0_pay9 g3 al dt) k0_pay10 (k0_pay11 g3 al dt))) (k0_pay41 (k0_pay13 (k0_pay9 g3 al dt) k0_pay10 (k0_pay11 g3 al dt))) (k0_pay47 (k0_pay13 (k0_pay9 g3 al dt) k0_pay10 (k0_pay11 g3 al dt))) (k0_pay53 (k0_pay13 (k0_pay9 g3 al dt) k0_pay10 (k0_pay11 g3 al dt))) (k0_pay59 (k0_pay13 (k0_pay9 g3 al dt) k0_pay10 (k0_pay11 g3 al dt))) (k0_pay65 (k0_pay13 (k0_pay9 g3 al dt) k0_pay10 (k0_pay11 g3 al dt))) (k0_pay79 (k0_pay70 k0_pay6 (k0_pay66 g7) al dt)) (k0_pay85 (k0_pay70 k0_pay6 (k0_pay66 g7) al dt)) (k0_pay91 (k0_pay70 k0_pay6 (k0_pay66 g7) al dt)) (k0_pay97 (k0_pay70 k0_pay6 (k0_pay66 g7) al dt)) (k0_pay103 (k0_pay70 k0_pay6 (k0_pay66 g7) al dt)) (k0_pay108 (k0_pay70 k0_pay6 (k0_pay66 g7) al dt)) (k0_pay112 (k0_pay69 k0_pay6 (k0_pay66 g7) al dt)) (k0_pay113 (k0_pay70 k0_pay6 (k0_pay66 g7) al dt)) (k0_pay117 (k0_pay69 k0_pay6 (k0_pay66 g7) al dt)) (k0_pay118 (k0_pay70 k0_pay6 (k0_pay66 g7) al dt)) q k b (k0_pay128 (k0_pay21 (k0_pay9 g3 al dt) k0_pay10 (k0_pay11 g3 al dt))) (k0_pay129 (k0_pay27 (k0_pay9 g3 al dt) k0_pay10 (k0_pay11 g3 al dt))) (k0_pay130 (k0_pay34 (k0_pay33 (k0_pay9 g3 al dt) k0_pay10 (k0_pay11 g3 al dt)))) (k0_pay131 (k0_pay40 (k0_pay12 (k0_pay9 g3 al dt) k0_pay10 (k0_pay11 g3 al dt)))) (k0_pay132 (k0_pay46 (k0_pay12 (k0_pay9 g3 al dt) k0_pay10 (k0_pay11 g3 al dt)))) (k0_pay133 (k0_pay52 (k0_pay12 (k0_pay9 g3 al dt) k0_pay10 (k0_pay11 g3 al dt)))) (k0_pay134 (k0_pay58 (k0_pay12 (k0_pay9 g3 al dt) k0_pay10 (k0_pay11 g3 al dt)))) (k0_pay135 (k0_pay64 (k0_pay12 (k0_pay9 g3 al dt) k0_pay10 (k0_pay11 g3 al dt)))) (k0_pay136 (k0_pay78 (k0_pay69 k0_pay6 (k0_pay66 g7) al dt))) (k0_pay137 (k0_pay84 (k0_pay69 k0_pay6 (k0_pay66 g7) al dt))) (k0_pay138 (k0_pay90 (k0_pay69 k0_pay6 (k0_pay66 g7) al dt))) (k0_pay139 (k0_pay96 (k0_pay69 k0_pay6 (k0_pay66 g7) al dt))) (k0_pay140 (k0_pay102 (k0_pay69 k0_pay6 (k0_pay66 g7) al dt))) (k0_pay141 (k0_pay107 (k0_pay69 k0_pay6 (k0_pay66 g7) al dt)))

/-- The strictly triangular matrix whose powers the inverse sums, with its sign. -/
def nS (m : FVec F S16x64x64 .f32) : FVec F S16x64x64 .f32 := k0_pay148 (iota .tc S64x64 32 [0] iota_S64x64_d0_w32) (iota .tc S64x64 32 [1] iota_S64x64_d1_w32) m
/-- The inverse of the diagonal blocks of two rows. -/
def inv0 (m : FVec F S16x64x64 .f32) : FVec F S16x64x64 .f32 := k0_pay149 (iota .tc S64x64 32 [0] iota_S64x64_d0_w32) (iota .tc S64x64 32 [1] iota_S64x64_d1_w32) m
/-- The first correction. -/
def fix1 (m : FVec F S16x64x64 .f32) : FVec F S16x64x64 .f32 := k0_pay150 (nS m) (iota .tc S64x64 32 [0] iota_S64x64_d0_w32) (iota .tc S64x64 32 [1] iota_S64x64_d1_w32) (inv0 m) 1#32
/-- The inverse of the diagonal blocks of four rows. -/
def inv1 (m : FVec F S16x64x64 .f32) : FVec F S16x64x64 .f32 := k0_pay151 (inv0 m) (fix1 m)
/-- `inv1` as a factor. -/
def inv1' (m : FVec F S16x64x64 .f32) : FVec F S16x64x64 .bf16 := k0_pay152 (inv0 m) (fix1 m)
/-- The corner times `inv1` as a factor. -/
def cor1 (m : FVec F S16x64x64 .f32) : FVec F S16x64x64 .bf16 := k0_pay153 (nS m) (iota .tc S64x64 32 [0] iota_S64x64_d0_w32) (iota .tc S64x64 32 [1] iota_S64x64_d1_w32) (inv0 m) (fix1 m)
/-- The inverse of the diagonal blocks of eight rows. -/
def inv2 (m : FVec F S16x64x64 .f32) : FVec F S16x64x64 .f32 := k0_pay154 (inv1 m) (inv1' m) (cor1 m)
/-- The third correction. -/
def fix3 (m : FVec F S16x64x64 .f32) : FVec F S16x64x64 .f32 := k0_pay155 (nS m) (iota .tc S64x64 32 [0] iota_S64x64_d0_w32) (iota .tc S64x64 32 [1] iota_S64x64_d1_w32) (inv1 m) (inv1' m) (cor1 m)
/-- The inverse of the diagonal blocks of sixteen rows. -/
def inv3 (m : FVec F S16x64x64 .f32) : FVec F S16x64x64 .f32 := k0_pay156 (inv2 m) (fix3 m)
/-- The inverse of the diagonal blocks of thirty-two rows. -/
def inv4 (m : FVec F S16x64x64 .f32) : FVec F S16x64x64 .f32 :=
  k0_pay159 (inv3 m) (k0_pay157 (nS m) (iota .tc S64x64 32 [0] iota_S64x64_d0_w32) (iota .tc S64x64 32 [1] iota_S64x64_d1_w32)) (k0_pay158 (inv2 m) (fix3 m))
/-- The last corner. -/
def cor5 (m : FVec F S16x64x64 .f32) : FVec F S16x64x64 .f32 := k0_pay160 (nS m) (iota .tc S64x64 32 [0] iota_S64x64_d0_w32) (iota .tc S64x64 32 [1] iota_S64x64_d1_w32)

/-- The outputs of the sixteen heads. -/
def outS (s : FVec F S16x128x128 .f32) (q k v b g : FVec F S16x64x128 .f32) (D m : FVec F S16x64x64 .f32) : FVec F S16x64x128 .f32 :=
  k0_pay165 s q v b g (k0_pay144 k b) (k0_pay147 D (k0_pay145 q k b)) (inv4 m) (cor5 m)

/-- The states of the sixteen heads after the block. -/
def newS (s : FVec F S16x128x128 .f32) (q k v b g : FVec F S16x64x128 .f32) (m : FVec F S16x64x64 .f32) : FVec F S16x128x128 .f32 :=
  k0_pay166 s q k v b g (k0_pay144 k b) (inv4 m) (cor5 m)

end

/-- The order a head reads a block's rows in: forward for the first eight heads, backward for the others. -/
def dir (h : Fin 16) : Equiv.Perm (Fin 64) := if h.val < 8 then Equiv.refl _ else Fin.revPerm

/-- Row `x` lies in the second half and row `y` in the first half of one block of width `2^(s+1)`. -/
def InCorner (σ : Equiv.Perm (Fin 64)) (s : ℕ) (x y : Fin 64) : Prop :=
  (σ x).val / 2 ^ (s + 1) = (σ y).val / 2 ^ (s + 1) ∧ (σ x).val / 2 ^ s % 2 = 1 ∧ (σ y).val / 2 ^ s % 2 = 0

instance (σ : Equiv.Perm (Fin 64)) (s : ℕ) (x y : Fin 64) : Decidable (InCorner σ s x y) := by
  unfold InCorner; infer_instance

/-- Rows `x` and `y` are the second and the first of a pair. -/
def InPair (σ : Equiv.Perm (Fin 64)) (x y : Fin 64) : Prop :=
  (σ x).val / 2 ^ 1 = (σ y).val / 2 ^ 1 ∧ σ y < σ x

instance (σ : Equiv.Perm (Fin 64)) (x y : Fin 64) : Decidable (InPair σ x y) := by
  unfold InPair; infer_instance

/-- The forward mask of doubling 1, as a condition on the places. -/
theorem cornerF1 : ∀ x y : Fin 64, IntOp.andi (IntOp.andi (IntOp.cmpi CmpIPredicate.eq (IntOp.shrsi ArithUnit.vector (BitVec.ofNat 32 x.val) 2#32) (IntOp.shrsi ArithUnit.vector (BitVec.ofNat 32 y.val) 2#32)) (IntOp.cmpi CmpIPredicate.eq (IntOp.andi (IntOp.shrsi ArithUnit.vector (BitVec.ofNat 32 x.val) 1#32) 1#32) 1#32)) (IntOp.xori (IntOp.cmpi CmpIPredicate.eq (IntOp.andi (IntOp.shrsi ArithUnit.vector (BitVec.ofNat 32 y.val) 1#32) 1#32) 1#32) 1#1)
    = if InCorner (Equiv.refl _) 1 x y then 1#1 else 0#1 := by decide +kernel

/-- The backward mask of doubling 1, as a condition on the places. -/
theorem cornerB1 : ∀ x y : Fin 64, IntOp.andi (IntOp.andi (IntOp.cmpi CmpIPredicate.eq (IntOp.shrsi ArithUnit.vector (BitVec.ofNat 32 x.val) 2#32) (IntOp.shrsi ArithUnit.vector (BitVec.ofNat 32 y.val) 2#32)) (IntOp.cmpi CmpIPredicate.eq (IntOp.andi (IntOp.shrsi ArithUnit.vector (BitVec.ofNat 32 y.val) 1#32) 1#32) 1#32)) (IntOp.xori (IntOp.cmpi CmpIPredicate.eq (IntOp.andi (IntOp.shrsi ArithUnit.vector (BitVec.ofNat 32 x.val) 1#32) 1#32) 1#32) 1#1)
    = if InCorner (Fin.revPerm) 1 x y then 1#1 else 0#1 := by decide +kernel

/-- The forward mask of doubling 2, as a condition on the places. -/
theorem cornerF2 : ∀ x y : Fin 64, IntOp.andi (IntOp.andi (IntOp.cmpi CmpIPredicate.eq (IntOp.shrsi ArithUnit.vector (BitVec.ofNat 32 x.val) 3#32) (IntOp.shrsi ArithUnit.vector (BitVec.ofNat 32 y.val) 3#32)) (IntOp.cmpi CmpIPredicate.eq (IntOp.andi (IntOp.shrsi ArithUnit.vector (BitVec.ofNat 32 x.val) 2#32) 1#32) 1#32)) (IntOp.xori (IntOp.cmpi CmpIPredicate.eq (IntOp.andi (IntOp.shrsi ArithUnit.vector (BitVec.ofNat 32 y.val) 2#32) 1#32) 1#32) 1#1)
    = if InCorner (Equiv.refl _) 2 x y then 1#1 else 0#1 := by decide +kernel

/-- The backward mask of doubling 2, as a condition on the places. -/
theorem cornerB2 : ∀ x y : Fin 64, IntOp.andi (IntOp.andi (IntOp.cmpi CmpIPredicate.eq (IntOp.shrsi ArithUnit.vector (BitVec.ofNat 32 x.val) 3#32) (IntOp.shrsi ArithUnit.vector (BitVec.ofNat 32 y.val) 3#32)) (IntOp.cmpi CmpIPredicate.eq (IntOp.andi (IntOp.shrsi ArithUnit.vector (BitVec.ofNat 32 y.val) 2#32) 1#32) 1#32)) (IntOp.xori (IntOp.cmpi CmpIPredicate.eq (IntOp.andi (IntOp.shrsi ArithUnit.vector (BitVec.ofNat 32 x.val) 2#32) 1#32) 1#32) 1#1)
    = if InCorner (Fin.revPerm) 2 x y then 1#1 else 0#1 := by decide +kernel

/-- The forward mask of doubling 3, as a condition on the places. -/
theorem cornerF3 : ∀ x y : Fin 64, IntOp.andi (IntOp.andi (IntOp.cmpi CmpIPredicate.eq (IntOp.shrsi ArithUnit.vector (BitVec.ofNat 32 x.val) 4#32) (IntOp.shrsi ArithUnit.vector (BitVec.ofNat 32 y.val) 4#32)) (IntOp.cmpi CmpIPredicate.eq (IntOp.andi (IntOp.shrsi ArithUnit.vector (BitVec.ofNat 32 x.val) 3#32) 1#32) 1#32)) (IntOp.xori (IntOp.cmpi CmpIPredicate.eq (IntOp.andi (IntOp.shrsi ArithUnit.vector (BitVec.ofNat 32 y.val) 3#32) 1#32) 1#32) 1#1)
    = if InCorner (Equiv.refl _) 3 x y then 1#1 else 0#1 := by decide +kernel

/-- The backward mask of doubling 3, as a condition on the places. -/
theorem cornerB3 : ∀ x y : Fin 64, IntOp.andi (IntOp.andi (IntOp.cmpi CmpIPredicate.eq (IntOp.shrsi ArithUnit.vector (BitVec.ofNat 32 x.val) 4#32) (IntOp.shrsi ArithUnit.vector (BitVec.ofNat 32 y.val) 4#32)) (IntOp.cmpi CmpIPredicate.eq (IntOp.andi (IntOp.shrsi ArithUnit.vector (BitVec.ofNat 32 y.val) 3#32) 1#32) 1#32)) (IntOp.xori (IntOp.cmpi CmpIPredicate.eq (IntOp.andi (IntOp.shrsi ArithUnit.vector (BitVec.ofNat 32 x.val) 3#32) 1#32) 1#32) 1#1)
    = if InCorner (Fin.revPerm) 3 x y then 1#1 else 0#1 := by decide +kernel

/-- The forward mask of doubling 4, as a condition on the places. -/
theorem cornerF4 : ∀ x y : Fin 64, IntOp.andi (IntOp.andi (IntOp.cmpi CmpIPredicate.eq (IntOp.shrsi ArithUnit.vector (BitVec.ofNat 32 x.val) 5#32) (IntOp.shrsi ArithUnit.vector (BitVec.ofNat 32 y.val) 5#32)) (IntOp.cmpi CmpIPredicate.eq (IntOp.andi (IntOp.shrsi ArithUnit.vector (BitVec.ofNat 32 x.val) 4#32) 1#32) 1#32)) (IntOp.xori (IntOp.cmpi CmpIPredicate.eq (IntOp.andi (IntOp.shrsi ArithUnit.vector (BitVec.ofNat 32 y.val) 4#32) 1#32) 1#32) 1#1)
    = if InCorner (Equiv.refl _) 4 x y then 1#1 else 0#1 := by decide +kernel

/-- The backward mask of doubling 4, as a condition on the places. -/
theorem cornerB4 : ∀ x y : Fin 64, IntOp.andi (IntOp.andi (IntOp.cmpi CmpIPredicate.eq (IntOp.shrsi ArithUnit.vector (BitVec.ofNat 32 x.val) 5#32) (IntOp.shrsi ArithUnit.vector (BitVec.ofNat 32 y.val) 5#32)) (IntOp.cmpi CmpIPredicate.eq (IntOp.andi (IntOp.shrsi ArithUnit.vector (BitVec.ofNat 32 y.val) 4#32) 1#32) 1#32)) (IntOp.xori (IntOp.cmpi CmpIPredicate.eq (IntOp.andi (IntOp.shrsi ArithUnit.vector (BitVec.ofNat 32 x.val) 4#32) 1#32) 1#32) 1#1)
    = if InCorner (Fin.revPerm) 4 x y then 1#1 else 0#1 := by decide +kernel

/-- The forward mask of doubling 5, as a condition on the places. -/
theorem cornerF5 : ∀ x y : Fin 64, IntOp.andi (IntOp.andi (IntOp.cmpi CmpIPredicate.eq (IntOp.shrsi ArithUnit.vector (BitVec.ofNat 32 x.val) 6#32) (IntOp.shrsi ArithUnit.vector (BitVec.ofNat 32 y.val) 6#32)) (IntOp.cmpi CmpIPredicate.eq (IntOp.andi (IntOp.shrsi ArithUnit.vector (BitVec.ofNat 32 x.val) 5#32) 1#32) 1#32)) (IntOp.xori (IntOp.cmpi CmpIPredicate.eq (IntOp.andi (IntOp.shrsi ArithUnit.vector (BitVec.ofNat 32 y.val) 5#32) 1#32) 1#32) 1#1)
    = if InCorner (Equiv.refl _) 5 x y then 1#1 else 0#1 := by decide +kernel

/-- The backward mask of doubling 5, as a condition on the places. -/
theorem cornerB5 : ∀ x y : Fin 64, IntOp.andi (IntOp.andi (IntOp.cmpi CmpIPredicate.eq (IntOp.shrsi ArithUnit.vector (BitVec.ofNat 32 x.val) 6#32) (IntOp.shrsi ArithUnit.vector (BitVec.ofNat 32 y.val) 6#32)) (IntOp.cmpi CmpIPredicate.eq (IntOp.andi (IntOp.shrsi ArithUnit.vector (BitVec.ofNat 32 y.val) 5#32) 1#32) 1#32)) (IntOp.xori (IntOp.cmpi CmpIPredicate.eq (IntOp.andi (IntOp.shrsi ArithUnit.vector (BitVec.ofNat 32 x.val) 5#32) 1#32) 1#32) 1#1)
    = if InCorner (Fin.revPerm) 5 x y then 1#1 else 0#1 := by decide +kernel

/-- The forward mask at or below the diagonal, as the order of the tokens. -/
theorem le_bit : ∀ i j : Fin 64, IntOp.cmpi CmpIPredicate.sle (BitVec.ofNat 32 j.val) (BitVec.ofNat 32 i.val)
    = if (Equiv.refl _ : Equiv.Perm (Fin 64)) j ≤ (Equiv.refl _ : Equiv.Perm (Fin 64)) i then 1#1 else 0#1 := by decide +kernel

/-- The backward mask at or above the diagonal, as the order of the tokens. -/
theorem ge_bit : ∀ i j : Fin 64, IntOp.cmpi CmpIPredicate.sge (BitVec.ofNat 32 j.val) (BitVec.ofNat 32 i.val)
    = if (Fin.revPerm : Equiv.Perm (Fin 64)) j ≤ (Fin.revPerm : Equiv.Perm (Fin 64)) i then 1#1 else 0#1 := by decide +kernel

/-- The forward mask strictly below the diagonal, as the order of the tokens. -/
theorem lt_bit : ∀ i j : Fin 64, IntOp.cmpi CmpIPredicate.slt (BitVec.ofNat 32 j.val) (BitVec.ofNat 32 i.val)
    = if (Equiv.refl _ : Equiv.Perm (Fin 64)) j < (Equiv.refl _ : Equiv.Perm (Fin 64)) i then 1#1 else 0#1 := by decide +kernel

/-- The backward mask strictly above the diagonal, as the order of the tokens. -/
theorem gt_bit : ∀ i j : Fin 64, IntOp.cmpi CmpIPredicate.sgt (BitVec.ofNat 32 j.val) (BitVec.ofNat 32 i.val)
    = if (Fin.revPerm : Equiv.Perm (Fin 64)) j < (Fin.revPerm : Equiv.Perm (Fin 64)) i then 1#1 else 0#1 := by decide +kernel

/-- The forward mask of the 2×2 corners, as a condition on the places. -/
theorem pairF : ∀ x y : Fin 64, IntOp.andi (IntOp.cmpi CmpIPredicate.eq (IntOp.shrsi ArithUnit.vector (BitVec.ofNat 32 x.val) 1#32) (IntOp.shrsi ArithUnit.vector (BitVec.ofNat 32 y.val) 1#32)) (IntOp.cmpi CmpIPredicate.sgt (BitVec.ofNat 32 x.val) (BitVec.ofNat 32 y.val))
    = if InPair (Equiv.refl _) x y then 1#1 else 0#1 := by decide +kernel

/-- The backward mask of the 2×2 corners, as a condition on the places. -/
theorem pairB : ∀ x y : Fin 64, IntOp.andi (IntOp.cmpi CmpIPredicate.eq (IntOp.shrsi ArithUnit.vector (BitVec.ofNat 32 x.val) 1#32) (IntOp.shrsi ArithUnit.vector (BitVec.ofNat 32 y.val) 1#32)) (IntOp.cmpi CmpIPredicate.sgt (BitVec.ofNat 32 y.val) (BitVec.ofNat 32 x.val))
    = if InPair (Fin.revPerm) x y then 1#1 else 0#1 := by decide +kernel

/-- The diagonal mask, as equality of the places. -/
theorem eq_bit : ∀ i j : Fin 64, IntOp.cmpi CmpIPredicate.eq (BitVec.ofNat 32 i.val) (BitVec.ofNat 32 j.val)
    = if i = j then 1#1 else 0#1 := by decide +kernel

/-- A selection by a bit that states a condition is a case distinction. -/
theorem select_ite (c : Prop) [Decidable c] (a b : Ideal .f32) :
    Scalar.select (if c then 1#1 else 0#1) a b = if c then a else b := by
  by_cases hc : c <;> simp [hc, Scalar.select]

/-- One step of the doubling, entry by entry. -/
def lev (h : Fin 16) (s : ℕ) (m d : FVec Ideal S16x64x64 .f32) (i j : Fin 64) : EReal :=
  d (ix3 h i j) + ∑ x, d (ix3 h i x) * ∑ y, (if InCorner (dir h) s x y then m (ix3 h x y) else 0) * d (ix3 h y j)

/-- The stacked queries: the forward heads, then the backward ones. -/
theorem qS_apply (x0 x4 : Vec Ideal S1x64x1024 .bf16) (h : Fin 16) (i : Fin 64) (e : Fin 128) :
    qS x0 x4 (ix3 h i e) = if hh : h.val < 8 then x0 (ix3 0 i ⟨h.val * 128 + e.val, by omega⟩)
      else x4 (ix3 0 i ⟨(h.val - 8) * 128 + e.val, by omega⟩) := by
  unfold qS
  pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142]
  obtain ⟨h, hh⟩ := h
  interval_cases h <;> simp

/-- The stacked keys: the forward heads, then the backward ones. -/
theorem kS_apply (x0 x4 : Vec Ideal S1x64x1024 .bf16) (h : Fin 16) (i : Fin 64) (e : Fin 128) :
    kS x0 x4 (ix3 h i e) = if hh : h.val < 8 then x0 (ix3 0 i ⟨h.val * 128 + e.val, by omega⟩)
      else x4 (ix3 0 i ⟨(h.val - 8) * 128 + e.val, by omega⟩) := by
  unfold kS
  pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142]
  obtain ⟨h, hh⟩ := h
  interval_cases h <;> simp

/-- The stacked values: the forward heads, then the backward ones. -/
theorem vS_apply (x0 x4 : Vec Ideal S1x64x1024 .bf16) (h : Fin 16) (i : Fin 64) (e : Fin 128) :
    vS x0 x4 (ix3 h i e) = if hh : h.val < 8 then x0 (ix3 0 i ⟨h.val * 128 + e.val, by omega⟩)
      else x4 (ix3 0 i ⟨(h.val - 8) * 128 + e.val, by omega⟩) := by
  unfold vS
  pointwise [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142]
  obtain ⟨h, hh⟩ := h
  interval_cases h <;> simp

/-- The stacked strengths: the forward heads, then the backward ones. -/
theorem bS_apply (g3 g7 : Vec Ideal S1x64x128 .f32) (h : Fin 16) (i : Fin 64) (e : Fin 128) :
    bS g3 g7 (ix3 h i e) = if hh : h.val < 8 then betaF g3 (ix2 i ⟨h.val, by omega⟩)
      else betaB g7 (ix2 i ⟨h.val, by omega⟩) := by
  unfold bS betaF betaB
  dsimp only [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142]
  generalize k0_pay8 (F := Ideal) _ = A
  generalize k0_pay68 (F := Ideal) _ _ = B
  pointwise
  obtain ⟨h, hh⟩ := h
  interval_cases h <;> rfl

set_option maxHeartbeats 2000000 in
/-- The stacked cumulative decays: the forward heads, then the backward ones. -/
theorem gS_apply (g3 g7 : Vec Ideal S1x64x128 .f32) (al dt : Vec Ideal S1x128 .f32) (h : Fin 16) (i : Fin 64) (e : Fin 128) :
    gS g3 g7 al dt (ix3 h i e) = if hh : h.val < 8 then gcF g3 al dt (ix2 i ⟨16 + h.val, by omega⟩)
      else gcB g7 al dt (ix2 i ⟨16 + h.val, by omega⟩) := by
  unfold gS gcF gcB
  dsimp only [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay142]
  generalize k0_pay12 (F := Ideal) _ _ _ = A
  generalize k0_pay69 (F := Ideal) _ _ _ _ = B
  pointwise
  obtain ⟨h, hh⟩ := h
  interval_cases h <;> rfl

set_option maxHeartbeats 2000000 in
/-- The decay from one token of a chunk to another: the exponential of the difference of their cumulative decays, zero against the scan's direction. -/
theorem decS_apply (g3 g7 : Vec Ideal S1x64x128 .f32) (al dt : Vec Ideal S1x128 .f32) (h : Fin 16) (i j : Fin 64) :
    decS g3 g7 al dt (ix3 h i j) = if dir h j ≤ dir h i then
      Ideal.exp (gS g3 g7 al dt (ix3 h i 0) - gS g3 g7 al dt (ix3 h j 0)) else 0 := by
  rw [gS_apply, gS_apply]
  unfold decS gcF gcB
  dsimp only [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  generalize k0_pay12 (F := Ideal) _ _ _ = A
  generalize k0_pay69 (F := Ideal) _ _ _ _ = B
  pointwise
  simp only [le_bit, ge_bit, select_ite]
  obtain ⟨h, hh⟩ := h
  interval_cases h <;> simp [dir] <;> split_ifs <;> rfl

/-- The products of the strengthened keys with the keys, decayed. -/
theorem mS_apply (q k b : FVec Ideal S16x64x128 .f32) (g3 g7 : Vec Ideal S1x64x128 .f32) (al dt : Vec Ideal S1x128 .f32)
    (h : Fin 16) (i j : Fin 64) : mS q k b g3 g7 al dt (ix3 h i j) =
      (∑ d, (k (ix3 h i d) * b (ix3 h i d)) * k (ix3 h j d)) * decS g3 g7 al dt (ix3 h i j) := by
  unfold mS k0_pay146 decS
  generalize k0_pay143 (F := Ideal) _ _ _ _ _ _ _ _ _ _ _ _ _ _ _ _ _ _ _ _ _ _ _ _ _ _ _ _ _ _ _ _ = D
  pointwise [k0_pay145, k0_pay144]

/-- The products of queries with keys, decayed. -/
theorem qkS_apply (q k b : FVec Ideal S16x64x128 .f32) (D : FVec Ideal S16x64x64 .f32)
    (h : Fin 16) (i j : Fin 64) : k0_pay147 D (k0_pay145 q k b) (ix3 h i j) =
      (∑ d, q (ix3 h i d) * k (ix3 h j d)) * D (ix3 h i j) := by
  pointwise [k0_pay147, k0_pay145, k0_pay144]

/-- The negated products, masked to the earlier tokens. -/
theorem pay148_apply (m : FVec Ideal S16x64x64 .f32) (h : Fin 16) (i j : Fin 64) :
    k0_pay148 (iota .tc S64x64 32 [0] iota_S64x64_d0_w32) (iota .tc S64x64 32 [1] iota_S64x64_d1_w32) m (ix3 h i j)
      = 0 - if dir h j < dir h i then m (ix3 h i j) else 0 := by
  pointwise [k0_pay148]
  by_cases hh : h.val < 8
  · simp only [hh, dir, ↓reduceDIte, ↓reduceIte, lt_bit, select_ite]
  · simp only [hh, dir, ↓reduceDIte, ↓reduceIte, gt_bit, select_ite, Nat.add_sub_of_le (Nat.le_of_not_lt hh)]

/-- The inverse of the 2×2 diagonal blocks. -/
theorem pay149_apply (m : FVec Ideal S16x64x64 .f32) (h : Fin 16) (i j : Fin 64) :
    k0_pay149 (iota .tc S64x64 32 [0] iota_S64x64_d0_w32) (iota .tc S64x64 32 [1] iota_S64x64_d1_w32) m (ix3 h i j)
      = (if i = j then 1 else 0) + if InPair (dir h) i j then k0_pay148 (iota .tc S64x64 32 [0] iota_S64x64_d0_w32) (iota .tc S64x64 32 [1] iota_S64x64_d1_w32) m (ix3 h i j) else 0 := by
  dsimp only [k0_pay149]
  generalize k0_pay148 (F := Ideal) _ _ _ = N
  pointwise
  by_cases hh : h.val < 8
  · simp only [hh, dir, ↓reduceDIte, ↓reduceIte, pairF, select_ite, eq_bit, DeltaScan.bit_coe, ← DeltaScan.ite_one]
  · simp only [hh, dir, ↓reduceDIte, ↓reduceIte, pairB, select_ite, eq_bit, DeltaScan.bit_coe, ← DeltaScan.ite_one, Nat.add_sub_of_le (Nat.le_of_not_lt hh)]

/-- The first doubling of the inverse. -/
theorem lev1 (m d : FVec Ideal S16x64x64 .f32) (h : Fin 16) (i j : Fin 64) :
    k0_pay151 d (k0_pay150 m (iota .tc S64x64 32 [0] iota_S64x64_d0_w32) (iota .tc S64x64 32 [1] iota_S64x64_d1_w32) d 1#32) (ix3 h i j) = lev h 1 m d i j := by
  pointwise [k0_pay151, k0_pay150]
  by_cases hh : h.val < 8
  · simp only [hh, dir, lev, ↓reduceDIte, ↓reduceIte, cornerF1, select_ite]
  · simp only [hh, dir, lev, ↓reduceDIte, ↓reduceIte, cornerB1, select_ite, Nat.add_sub_of_le (Nat.le_of_not_lt hh)]

/-- The second doubling of the inverse. -/
theorem lev2 (m d e : FVec Ideal S16x64x64 .f32) (h : Fin 16) (i j : Fin 64) :
    k0_pay154 (k0_pay151 d e) (k0_pay152 d e) (k0_pay153 m (iota .tc S64x64 32 [0] iota_S64x64_d0_w32) (iota .tc S64x64 32 [1] iota_S64x64_d1_w32) d e) (ix3 h i j) = lev h 2 m (k0_pay151 d e) i j := by
  dsimp only [k0_pay154, k0_pay153, k0_pay152]
  generalize k0_pay151 (F := Ideal) _ _ = D
  pointwise
  by_cases hh : h.val < 8
  · simp only [hh, dir, lev, ↓reduceDIte, ↓reduceIte, cornerF2, select_ite]
  · simp only [hh, dir, lev, ↓reduceDIte, ↓reduceIte, cornerB2, select_ite, Nat.add_sub_of_le (Nat.le_of_not_lt hh)]

/-- The third doubling of the inverse. -/
theorem lev3 (m d : FVec Ideal S16x64x64 .f32) (e f : FVec Ideal S16x64x64 .bf16) (h : Fin 16) (i j : Fin 64) :
    k0_pay156 (k0_pay154 d e f) (k0_pay155 m (iota .tc S64x64 32 [0] iota_S64x64_d0_w32) (iota .tc S64x64 32 [1] iota_S64x64_d1_w32) d e f) (ix3 h i j) = lev h 3 m (k0_pay154 d e f) i j := by
  dsimp only [k0_pay156, k0_pay155]
  generalize k0_pay154 (F := Ideal) _ _ _ = D
  pointwise
  by_cases hh : h.val < 8
  · simp only [hh, dir, lev, ↓reduceDIte, ↓reduceIte, cornerF3, select_ite]
  · simp only [hh, dir, lev, ↓reduceDIte, ↓reduceIte, cornerB3, select_ite, Nat.add_sub_of_le (Nat.le_of_not_lt hh)]

/-- The fourth doubling of the inverse. -/
theorem lev4 (m d e : FVec Ideal S16x64x64 .f32) (h : Fin 16) (i j : Fin 64) :
    k0_pay159 (k0_pay156 d e) (k0_pay157 m (iota .tc S64x64 32 [0] iota_S64x64_d0_w32) (iota .tc S64x64 32 [1] iota_S64x64_d1_w32)) (k0_pay158 d e) (ix3 h i j) = lev h 4 m (k0_pay156 d e) i j := by
  dsimp only [k0_pay159, k0_pay157, k0_pay158]
  generalize k0_pay156 (F := Ideal) _ _ = D
  pointwise
  by_cases hh : h.val < 8
  · simp only [hh, dir, lev, ↓reduceDIte, ↓reduceIte, cornerF4, select_ite]
  · simp only [hh, dir, lev, ↓reduceDIte, ↓reduceIte, cornerB4, select_ite, Nat.add_sub_of_le (Nat.le_of_not_lt hh)]

/-- The last doubling of the inverse, applied to the strengthened values and the decayed strengthened keys side by side. -/
theorem pay162_apply (v b g kb : FVec Ideal S16x64x128 .f32) (m d : FVec Ideal S16x64x64 .f32) (h : Fin 16) (i : Fin 64) (e : Fin 256) :
    k0_pay162 v b g kb d (k0_pay160 m (iota .tc S64x64 32 [0] iota_S64x64_d0_w32) (iota .tc S64x64 32 [1] iota_S64x64_d1_w32)) (ix3 h i e) = ∑ x, lev h 5 m d i x *
      (if he : e.val < 128 then v (ix3 h x ⟨e.val, he⟩) * b (ix3 h x ⟨e.val, he⟩)
        else kb (ix3 h x ⟨e.val - 128, by omega⟩) * Ideal.exp (g (ix3 h x ⟨e.val - 128, by omega⟩))) := by
  pointwise [k0_pay162, k0_pay160, k0_pay161]
  by_cases hh : h.val < 8
  · simp only [hh, dir, lev, ↓reduceDIte, ↓reduceIte, cornerF5, select_ite]
  · simp only [hh, dir, lev, ↓reduceDIte, ↓reduceIte, cornerB5, select_ite, Nat.add_sub_of_le (Nat.le_of_not_lt hh)]

/-- The state read by the keys' part (rows 0 to 63) and by the decayed queries (rows 64 to 127). -/
theorem pay163_apply (s : FVec Ideal S16x128x128 .f32) (q v b g kb : FVec Ideal S16x64x128 .f32) (d n : FVec Ideal S16x64x64 .f32)
    (h : Fin 16) (i : Fin 128) (e : Fin 128) :
    k0_pay163 s q v b g kb d n (ix3 h i e) = ∑ c, (if hi : i.val < 64 then
        k0_pay162 v b g kb d n (ix3 h ⟨i.val, hi⟩ ⟨128 + c.val, by omega⟩)
        else q (ix3 h ⟨i.val - 64, by omega⟩ c) * Ideal.exp (g (ix3 h ⟨i.val - 64, by omega⟩ c))) * s (ix3 h c e) := by
  dsimp only [k0_pay163]
  generalize k0_pay162 (F := Ideal) _ _ _ _ _ _ = W
  pointwise [k0_pay161]

/-- The new values: what the inverse made of the values, less what the state already holds. -/
theorem pay164_apply (s : FVec Ideal S16x128x128 .f32) (q v b g kb : FVec Ideal S16x64x128 .f32) (d n : FVec Ideal S16x64x64 .f32)
    (h : Fin 16) (i : Fin 64) (e : Fin 128) :
    k0_pay164 s q v b g kb d n (ix3 h i e) = k0_pay162 v b g kb d n (ix3 h i ⟨e.val, by omega⟩)
      - k0_pay163 s q v b g kb d n (ix3 h ⟨i.val, by omega⟩ e) := by
  dsimp only [k0_pay164]
  generalize k0_pay162 (F := Ideal) _ _ _ _ _ _ = W
  generalize k0_pay163 (F := Ideal) _ _ _ _ _ _ _ _ = U
  pointwise

/-- The outputs: the state read by the queries, and the new values through the products of queries and keys. -/
theorem pay165_apply (s : FVec Ideal S16x128x128 .f32) (q v b g kb : FVec Ideal S16x64x128 .f32) (w d n : FVec Ideal S16x64x64 .f32)
    (h : Fin 16) (i : Fin 64) (e : Fin 128) :
    k0_pay165 s q v b g kb w d n (ix3 h i e) = k0_pay163 s q v b g kb d n (ix3 h ⟨64 + i.val, by omega⟩ e)
      + ∑ x, w (ix3 h i x) * k0_pay164 s q v b g kb d n (ix3 h x e) := by
  dsimp only [k0_pay165]
  generalize k0_pay164 (F := Ideal) _ _ _ _ _ _ _ _ = W
  generalize k0_pay163 (F := Ideal) _ _ _ _ _ _ _ _ = U
  pointwise

/-- The row of a block a head reads last. -/
def lastRow (h : Fin 16) : Fin 64 := (dir h).symm 63

/-- The next state: the decayed state plus the outer products of decayed keys and new values. -/
theorem pay166_apply (s : FVec Ideal S16x128x128 .f32) (q k v b g kb : FVec Ideal S16x64x128 .f32) (d n : FVec Ideal S16x64x64 .f32)
    (h : Fin 16) (c e : Fin 128) :
    k0_pay166 s q k v b g kb d n (ix3 h c e) = s (ix3 h c e) * Ideal.exp (g (ix3 h (lastRow h) e))
      + ∑ x, (k (ix3 h x c) * Ideal.exp (g (ix3 h (lastRow h) c) - g (ix3 h x c))) * k0_pay164 s q v b g kb d n (ix3 h x e) := by
  dsimp only [k0_pay166]
  generalize k0_pay164 (F := Ideal) _ _ _ _ _ _ _ _ = W
  pointwise
  by_cases hh : h.val < 8
  · have : lastRow h = 63 := by unfold lastRow dir; rw [if_pos hh]; rfl
    simp only [hh, this, ↓reduceDIte]
  · have : lastRow h = 0 := by unfold lastRow dir; rw [if_neg hh]; rfl
    simp only [hh, this, ↓reduceDIte, Nat.add_sub_of_le (Nat.le_of_not_lt hh)]

end
end Cert.KernelIdeal.Body
-- ==== Proof.BodyReal.lean ====
/- What one grid point of the kernel computes, over the reals: the chunkwise form of the gated delta rule, head by head. -/
module

public import proofs.«01_k».proof.Proof.Body

@[expose] public section
set_option maxRecDepth 16384

namespace Cert.KernelIdeal.Body

open Cert.KernelIdeal Cert.KernelIdeal.Gen Idealize.ShloMosaic DeltaScan

noncomputable section

/-- The forward running sums of a block of real gates. -/
theorem gcF_real (g : Vec Ideal S1x64x128 .f32) (al dt : Vec Ideal S1x128 .f32) (G : Fin 64 → ℝ) (A B : ℝ) (c : Fin 128)
    (hg : ∀ i, g (ix3 0 i c) = (G i : EReal)) (hA : al (ix2 0 c) = (A : EReal)) (hB : dt (ix2 0 c) = (B : EReal)) (i : Fin 64) :
    gcF g al dt (ix2 i c) = ((∑ j, (if (Equiv.refl (Fin 64)) j ≤ (Equiv.refl (Fin 64)) i then 1 else 0) * logDecay A B (G j) : ℝ) : EReal) := by
  unfold gcF
  unfold_payloads
  pointwise
  simp only [hg, hA, hB, logDecay_coe, sub_self_coe, sub_zero, mul_zero, Finset.sum_const_zero, add_zero, le_bit, bit_coe, ← EReal.coe_mul, sum_coe]

/-- The backward running sums of a block of real gates. -/
theorem gcB_real (g : Vec Ideal S1x64x128 .f32) (al dt : Vec Ideal S1x128 .f32) (G : Fin 64 → ℝ) (A B : ℝ) (c : Fin 128)
    (hg : ∀ i, g (ix3 0 i c) = (G i : EReal)) (hA : al (ix2 0 c) = (A : EReal)) (hB : dt (ix2 0 c) = (B : EReal)) (i : Fin 64) :
    gcB g al dt (ix2 i c) = ((∑ j, (if (Fin.revPerm : Equiv.Perm (Fin 64)) j ≤ (Fin.revPerm : Equiv.Perm (Fin 64)) i then 1 else 0) * logDecay A B (G j) : ℝ) : EReal) := by
  unfold gcB
  unfold_payloads
  pointwise
  simp only [hg, hA, hB, logDecay_coe, sub_self_coe, sub_zero, mul_zero, Finset.sum_const_zero, add_zero, ge_bit, bit_coe, ← EReal.coe_mul, sum_coe]

/-- The forward strength is the sigmoid. -/
theorem betaF_real (g : Vec Ideal S1x64x128 .f32) (i : Fin 64) (c : Fin 128) (x : ℝ) (hg : g (ix3 0 i c) = (x : EReal)) :
    betaF g (ix2 i c) = ((sigmoid x : ℝ) : EReal) := by
  unfold betaF
  unfold_payloads
  pointwise
  rw [hg, ← sigmoid_coe]

/-- The backward strength is the sigmoid. -/
theorem betaB_real (g : Vec Ideal S1x64x128 .f32) (i : Fin 64) (c : Fin 128) (x : ℝ) (hg : g (ix3 0 i c) = (x : EReal)) :
    betaB g (ix2 i c) = ((sigmoid x : ℝ) : EReal) := by
  unfold betaB
  unfold_payloads
  pointwise
  rw [hg, ← sigmoid_coe]

/-- Head `h` of the stacked arrays holds the rows `r`. -/
structure Reads (h : Fin 16) (r : Rows) (q k v b g : FVec Ideal S16x64x128 .f32) (D m : FVec Ideal S16x64x64 .f32) : Prop where
  hq : ∀ i e, q (ix3 h i e) = (r.q i e : EReal)
  hk : ∀ i e, k (ix3 h i e) = (r.k i e : EReal)
  hv : ∀ i e, v (ix3 h i e) = (r.v i e : EReal)
  hb : ∀ i e, b (ix3 h i e) = (r.b i : EReal)
  hg : ∀ i e, g (ix3 h i e) = (cum (dir h) r i : EReal)
  hD : ∀ i j, D (ix3 h i j) = (dec (dir h) r i j : EReal)
  hm : ∀ i j, m (ix3 h i j) = (((∑ d, r.k i d * r.b i * r.k j d) * dec (dir h) r i j : ℝ) : EReal)

section
variable {h : Fin 16} {r : Rows} {q k v b g : FVec Ideal S16x64x128 .f32} {D m : FVec Ideal S16x64x64 .f32}
variable (R : Reads h r q k v b g D m)
include R

/-- The negated masked products are the real matrix. -/
theorem nS_real (i j : Fin 64) : nS m (ix3 h i j) = (negCross (dir h) r i j : EReal) := by
  unfold nS negCross cross
  rw [pay148_apply, R.hm, ite_coe, zero_sub_coe, zero_sub]

/-- The 2×2 blocks' inverse is the real one. -/
theorem inv0_real (i j : Fin 64) :
    inv0 m (ix3 h i j) = (doubling (fun i => (dir h i).val) (negCross (dir h) r) 0 i j : EReal) := by
  unfold inv0
  rw [pay149_apply]
  have := nS_real R i j
  unfold nS at this
  rw [this, ite_coe, ite_one, ← EReal.coe_add]
  have h0 : doubling (fun i => (dir h i).val) (negCross (dir h) r) 0 i j = (if i = j then 1 else 0)
      + if (dir h i).val / 2 ^ 1 = (dir h j).val / 2 ^ 1 then negCross (dir h) r i j else 0 := by
    show (1 + inBlock (fun i => (dir h i).val) 1 (negCross (dir h) r) : Matrix (Fin 64) (Fin 64) ℝ) i j = _
    rw [Matrix.add_apply, Matrix.one_apply]; rfl
  rw [h0]
  unfold InPair
  by_cases h1 : (dir h i).val / 2 ^ 1 = (dir h j).val / 2 ^ 1 <;> by_cases h2 : dir h j < dir h i <;>
    simp only [h1, h2, negCross, cross, true_and, false_and, ↓reduceIte, sub_self, sub_zero]

omit R in
/-- One doubling of a real matrix is the real doubling. -/
theorem lev_real (s : ℕ) (n d : FVec Ideal S16x64x64 .f32) (M : Matrix (Fin 64) (Fin 64) ℝ)
    (hn : ∀ i j, n (ix3 h i j) = (M i j : EReal))
    (hd : ∀ i j, d (ix3 h i j) = (doubling (fun i => (dir h i).val) M s i j : EReal)) (i j : Fin 64) :
    lev h (s + 1) n d i j = (doubling (fun i => (dir h i).val) M (s + 1) i j : EReal) := by
  unfold lev
  simp only [hn, hd, ite_coe, ← EReal.coe_mul, sum_coe, ← EReal.coe_add]
  rfl

/-- The inverse after one doubling. -/
theorem inv1_real (i j : Fin 64) :
    inv1 m (ix3 h i j) = (doubling (fun i => (dir h i).val) (negCross (dir h) r) 1 i j : EReal) := by
  unfold inv1 fix1
  rw [lev1, lev_real 0 _ _ _ (nS_real R) (inv0_real R)]

/-- The inverse after two doublings. -/
theorem inv2_real (i j : Fin 64) :
    inv2 m (ix3 h i j) = (doubling (fun i => (dir h i).val) (negCross (dir h) r) 2 i j : EReal) := by
  unfold inv2 inv1' cor1 inv1
  rw [lev2]
  exact lev_real 1 _ _ _ (nS_real R) (inv1_real R) i j

/-- The inverse after three doublings. -/
theorem inv3_real (i j : Fin 64) :
    inv3 m (ix3 h i j) = (doubling (fun i => (dir h i).val) (negCross (dir h) r) 3 i j : EReal) := by
  unfold inv3 inv2 fix3
  rw [lev3]
  exact lev_real 2 _ _ _ (nS_real R) (inv2_real R) i j

/-- The inverse after four doublings. -/
theorem inv4_real (i j : Fin 64) :
    inv4 m (ix3 h i j) = (doubling (fun i => (dir h i).val) (negCross (dir h) r) 4 i j : EReal) := by
  unfold inv4 inv3
  rw [lev4]
  exact lev_real 3 _ _ _ (nS_real R) (inv3_real R) i j

/-- The whole inverse. -/
theorem tinv_real (i j : Fin 64) : lev h 5 (nS m) (inv4 m) i j = (tinv (dir h) r i j : EReal) := by
  exact lev_real 4 _ _ _ (nS_real R) (inv4_real R) i j

/-- The first half of the solved columns. -/
theorem uRow_real (i : Fin 64) (e : Fin 128) (he : e.val < 256) :
    k0_pay162 v b g (k0_pay144 k b) (inv4 m) (cor5 m) (ix3 h i ⟨e.val, he⟩) = (uRow (dir h) r i e : EReal) := by
  unfold cor5 uRow
  rw [pay162_apply]
  have h2 : e.val < 128 := e.isLt
  simp only [h2, ↓reduceDIte, Fin.eta, R.hv, R.hb, tinv_real R, ← EReal.coe_mul, sum_coe]

/-- The second half of the solved columns. -/
theorem wRow_real (i : Fin 64) (e : Fin 128) (he : 128 + e.val < 256) :
    k0_pay162 v b g (k0_pay144 k b) (inv4 m) (cor5 m) (ix3 h i ⟨128 + e.val, he⟩) = (wRow (dir h) r i e : EReal) := by
  unfold cor5 wRow
  rw [pay162_apply]
  have h2 : ¬ 128 + e.val < 128 := by omega
  have hkb : ∀ i e, k0_pay144 k b (ix3 h i e) = ((r.k i e * r.b i : ℝ) : EReal) := fun i e => by
    pointwise [k0_pay144]; rw [R.hk, R.hb, EReal.coe_mul]
  simp only [h2, ↓reduceDIte, Nat.add_sub_cancel_left, Fin.eta, hkb, R.hg, Ideal.exp_coe, tinv_real R, ← EReal.coe_mul, sum_coe]

variable {s : FVec Ideal S16x128x128 .f32} {S : Mat} (hs : ∀ d e, s (ix3 h d e) = (S d e : EReal))
include hs

/-- The values the block writes. -/
theorem vNew_real (i : Fin 64) (e : Fin 128) :
    k0_pay164 s q v b g (k0_pay144 k b) (inv4 m) (cor5 m) (ix3 h i e) = (vNew (dir h) r S i e : EReal) := by
  unfold vNew
  rw [pay164_apply, pay163_apply, uRow_real R]
  have h2 : i.val < 64 := i.isLt
  simp only [h2, ↓reduceDIte, Fin.eta, wRow_real R, hs, ← EReal.coe_mul, sum_coe, ← EReal.coe_sub]

/-- A head's outputs are the chunkwise form's. -/
theorem outS_real (i : Fin 64) (e : Fin 128) :
    outS s q k v b g D m (ix3 h i e) = (chunkOut (dir h) r S i e : EReal) := by
  unfold outS chunkOut score
  rw [pay165_apply, pay163_apply]
  have h2 : ¬ 64 + i.val < 64 := by omega
  simp only [h2, ↓reduceDIte, Nat.add_sub_cancel_left, Fin.eta, qkS_apply, R.hq, R.hk, R.hg, R.hD, hs, vNew_real R hs, Ideal.exp_coe,
    ← EReal.coe_mul, sum_coe, ← EReal.coe_add]

/-- A head's next state is the chunkwise form's. -/
theorem newS_real (d e : Fin 128) :
    newS s q k v b g m (ix3 h d e) = (chunkState (dir h) r S d e : EReal) := by
  unfold newS chunkState total
  rw [pay166_apply]
  have hl : lastRow h = (dir h).symm 63 := rfl
  simp only [hl, R.hk, R.hg, hs, vNew_real R hs, Ideal.exp_coe,
    ← EReal.coe_mul, sum_coe, ← EReal.coe_add, ← EReal.coe_sub]

end

end
end Cert.KernelIdeal.Body
-- ==== Proof.Stores.lean ====
/- One grid point's stores, opened: the outputs and the states are the body's arrays. -/
module
public import proofs.«01_k».proof.Proof.BodyReal
public import Idealize.ShloMosaic.Lib.Pipeline.ValueKit
@[expose] public section
set_option maxRecDepth 16384
namespace Cert.KernelIdeal.Body
open Cert.KernelIdeal Cert.KernelIdeal.Gen Idealize.ShloMosaic Idealize.ShloMosaic.TcCoe Idealize.SL.Sem
noncomputable section
section
variable {F : FTy → Type} [FloatOps F]

/-- The sixteen heads' outputs at one point, from its blocks and the states before it. -/
def O (x0 x1 x2 : Vec F S1x64x1024 .bf16) (x3 : Vec F S1x64x128 .f32) (x4 x5 x6 : Vec F S1x64x1024 .bf16) (x7 : Vec F S1x64x128 .f32)
    (x8 x9 : Vec F S1x128 .f32) (s : FVec F S16x128x128 .f32) : FVec F S16x64x128 .f32 :=
  outS s (qS x0 x4) (kS x1 x5) (vS x2 x6) (bS x3 x7) (gS x3 x7 x8 x9) (decS x3 x7 x8 x9)
    (mS (qS x0 x4) (kS x1 x5) (bS x3 x7) x3 x7 x8 x9)

/-- The sixteen heads' states after one point. -/
def N (x0 x1 x2 : Vec F S1x64x1024 .bf16) (x3 : Vec F S1x64x128 .f32) (x4 x5 x6 : Vec F S1x64x1024 .bf16) (x7 : Vec F S1x64x128 .f32)
    (x8 x9 : Vec F S1x128 .f32) (s : FVec F S16x128x128 .f32) : FVec F S16x128x128 .f32 :=
  newS s (qS x0 x4) (kS x1 x5) (vS x2 x6) (bS x3 x7) (gS x3 x7 x8 x9)
    (mS (qS x0 x4) (kS x1 x5) (bS x3 x7) x3 x7 x8 x9)

/-- Three zero offsets. -/
theorem zero3 : (![0, 0, 0] : Fin 3 → ℕ) = fun _ => 0 := by decide
/-- Two zero offsets. -/
theorem zero2 : (![0, 0] : Fin 2 → ℕ) = fun _ => 0 := by decide

end

/-- The eight stores of the forward output, read at an index. -/
theorem canonFwd (X : FVec Ideal S16x64x128 .f32) (i64 : Fin 64) (l : Fin 1024) : View.canon (Val := Elt Ideal) (s := S1x64x1024) (e := .bf16)
      [⟨Rect.unit ![0, 0, 896] ![1, 64, 128] inb_S1x64x1024_S1x64x128_0_0_896, k0_pay3 X⟩,
        ⟨Rect.unit ![0, 0, 768] ![1, 64, 128] inb_S1x64x1024_S1x64x128_0_0_768, k0_pay1 (k0_pay181 X)⟩,
        ⟨Rect.unit ![0, 0, 640] ![1, 64, 128] inb_S1x64x1024_S1x64x128_0_0_640, k0_pay179 X⟩,
        ⟨Rect.unit ![0, 0, 512] ![1, 64, 128] inb_S1x64x1024_S1x64x128_0_0_512, k0_pay177 X⟩,
        ⟨Rect.unit ![0, 0, 384] ![1, 64, 128] inb_S1x64x1024_S1x64x128_0_0_384, k0_pay175 (k0_pay174 X)⟩,
        ⟨Rect.unit ![0, 0, 256] ![1, 64, 128] inb_S1x64x1024_S1x64x128_0_0_256, k0_pay172 X⟩,
        ⟨Rect.unit ![0, 0, 128] ![1, 64, 128] inb_S1x64x1024_S1x64x128_0_0_128, k0_pay170 X⟩,
        ⟨Rect.unit ![0, 0, 0] ![1, 64, 128] inb_S1x64x1024_S1x64x128_0_0_0,
          k0_pay168
            (truncf FTy.bf16
              (shapeCast S64x128 (extractStridedSlice S1x64x128 ![0, 0, 0] X slices_S16x64x128_o0_0_0_S1x64x128)
                shapeCasts_S1x64x128_S64x128)
              bitsLt_bf16_f32)⟩]
      (ix3 0 i64 l) = X (ix3 ⟨l.val / 128, by omega⟩ i64 ⟨l.val % 128, by omega⟩) := by
  canon_tiles x h
  all_goals
    idx_vars x
    unfold_payloads
    pointwise
    refine congrArg X (congr (congr (congrArg ix3 (Fin.ext ?_)) (Fin.ext ?_)) (Fin.ext ?_)) <;> (try simp) <;> omega

/-- The eight stores of the backward output, read at an index. -/
theorem canonBwd (X : FVec Ideal S16x64x128 .f32) (i64 : Fin 64) (l : Fin 1024) : View.canon (Val := Elt Ideal) (s := S1x64x1024) (e := .bf16)
      [⟨Rect.unit ![0, 0, 896] ![1, 64, 128] inb_S1x64x1024_S1x64x128_0_0_896, k0_pay4 X⟩,
        ⟨Rect.unit ![0, 0, 768] ![1, 64, 128] inb_S1x64x1024_S1x64x128_0_0_768, k0_pay2 X⟩,
        ⟨Rect.unit ![0, 0, 640] ![1, 64, 128] inb_S1x64x1024_S1x64x128_0_0_640, k0_pay180 X⟩,
        ⟨Rect.unit ![0, 0, 512] ![1, 64, 128] inb_S1x64x1024_S1x64x128_0_0_512, k0_pay178 X⟩,
        ⟨Rect.unit ![0, 0, 384] ![1, 64, 128] inb_S1x64x1024_S1x64x128_0_0_384, k0_pay176 X⟩,
        ⟨Rect.unit ![0, 0, 256] ![1, 64, 128] inb_S1x64x1024_S1x64x128_0_0_256, k0_pay173 X⟩,
        ⟨Rect.unit ![0, 0, 128] ![1, 64, 128] inb_S1x64x1024_S1x64x128_0_0_128, k0_pay171 X⟩,
        ⟨Rect.unit ![0, 0, 0] ![1, 64, 128] inb_S1x64x1024_S1x64x128_0_0_0, k0_pay169 X⟩]
      (ix3 0 i64 l) = X (ix3 ⟨8 + l.val / 128, by omega⟩ i64 ⟨l.val % 128, by omega⟩) := by
  canon_tiles x h
  all_goals
    idx_vars x
    unfold_payloads
    pointwise
    refine congrArg X (congr (congr (congrArg ix3 (Fin.ext ?_)) (Fin.ext ?_)) (Fin.ext ?_)) <;> (try simp) <;> omega

/-- What the stores of one case leave, as the arrays of the body. -/
theorem out0_A_10_eq (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x128 .f32) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x64x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S16x128x128 .f32) (harg14 : arg14.IsWhole) (hc0 : cond0_0 i)
    (x0 : Vec Ideal S1x64x1024 .bf16) (x1 : Vec Ideal S1x64x1024 .bf16) (x2 : Vec Ideal S1x64x1024 .bf16) (x3 : Vec Ideal S1x64x128 .f32) (x4 : Vec Ideal S1x64x1024 .bf16) (x5 : Vec Ideal S1x64x1024 .bf16) (x6 : Vec Ideal S1x64x1024 .bf16) (x7 : Vec Ideal S1x64x128 .f32) (x8 : Vec Ideal S1x128 .f32) (x9 : Vec Ideal S1x128 .f32)
    (i64 : Fin 64) (l : Fin 1024) : out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix3 0 i64 l) =
    O x0 x1 x2 x3 x4 x5 x6 x7 x8 x9 (k0_pay5 (F := Ideal)) (ix3 ⟨l.val / 128, by omega⟩ i64 ⟨l.val % 128, by omega⟩) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x64x1024) zero3, View.ld_unit_zero (S := S1x64x128) zero3,
    View.ld_unit_zero (S := S16x128x128) zero3, View.ld_unit_zero (S := S1x128) zero2]
  rw [View.readCov_unit_zero (S := S16x128x128) _ zero3]
  dsimp only [k0_pay167]
  generalize hX : k0_pay165 (F := Ideal) _ _ _ _ _ _ _ _ _ = X
  have hO : O x0 x1 x2 x3 x4 x5 x6 x7 x8 x9 k0_pay5 = X := hX
  rw [hO]
  clear hO hX
  exact canonFwd X i64 l

/-- What the stores of one case leave, as the arrays of the body. -/
theorem out0_A_11_eq (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x128 .f32) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x64x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S16x128x128 .f32) (harg14 : arg14.IsWhole) (hc0 : cond0_0 i)
    (x0 : Vec Ideal S1x64x1024 .bf16) (x1 : Vec Ideal S1x64x1024 .bf16) (x2 : Vec Ideal S1x64x1024 .bf16) (x3 : Vec Ideal S1x64x128 .f32) (x4 : Vec Ideal S1x64x1024 .bf16) (x5 : Vec Ideal S1x64x1024 .bf16) (x6 : Vec Ideal S1x64x1024 .bf16) (x7 : Vec Ideal S1x64x128 .f32) (x8 : Vec Ideal S1x128 .f32) (x9 : Vec Ideal S1x128 .f32)
    (i64 : Fin 64) (l : Fin 1024) : out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix3 0 i64 l) =
    O x0 x1 x2 x3 x4 x5 x6 x7 x8 x9 (k0_pay5 (F := Ideal)) (ix3 ⟨8 + l.val / 128, by omega⟩ i64 ⟨l.val % 128, by omega⟩) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x64x1024) zero3, View.ld_unit_zero (S := S1x64x128) zero3,
    View.ld_unit_zero (S := S16x128x128) zero3, View.ld_unit_zero (S := S1x128) zero2]
  rw [View.readCov_unit_zero (S := S16x128x128) _ zero3]
  generalize hX : k0_pay165 (F := Ideal) _ _ _ _ _ _ _ _ _ = X
  have hO : O x0 x1 x2 x3 x4 x5 x6 x7 x8 x9 k0_pay5 = X := hX
  rw [hO]
  clear hO hX
  exact canonBwd X i64 l

/-- What the stores of one case leave, as the arrays of the body. -/
theorem out0_B_10_eq (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x128 .f32) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x64x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S16x128x128 .f32) (harg14 : arg14.IsWhole) (hc0 : ¬cond0_0 i)
    (x0 : Vec Ideal S1x64x1024 .bf16) (x1 : Vec Ideal S1x64x1024 .bf16) (x2 : Vec Ideal S1x64x1024 .bf16) (x3 : Vec Ideal S1x64x128 .f32) (x4 : Vec Ideal S1x64x1024 .bf16) (x5 : Vec Ideal S1x64x1024 .bf16) (x6 : Vec Ideal S1x64x1024 .bf16) (x7 : Vec Ideal S1x64x128 .f32) (x8 : Vec Ideal S1x128 .f32) (x9 : Vec Ideal S1x128 .f32) (xs0 : Vec Ideal S16x128x128 .f32)
    (i64 : Fin 64) (l : Fin 1024) : out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 (ix3 0 i64 l) =
    O x0 x1 x2 x3 x4 x5 x6 x7 x8 x9 xs0 (ix3 ⟨l.val / 128, by omega⟩ i64 ⟨l.val % 128, by omega⟩) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x64x1024) zero3, View.ld_unit_zero (S := S1x64x128) zero3,
    View.ld_unit_zero (S := S16x128x128) zero3, View.ld_unit_zero (S := S1x128) zero2]
  dsimp only [k0_pay167]
  generalize hX : k0_pay165 (F := Ideal) _ _ _ _ _ _ _ _ _ = X
  have hO : O x0 x1 x2 x3 x4 x5 x6 x7 x8 x9 xs0 = X := hX
  rw [hO]
  clear hO hX
  exact canonFwd X i64 l

/-- What the stores of one case leave, as the arrays of the body. -/
theorem out0_B_11_eq (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x128 .f32) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x64x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S16x128x128 .f32) (harg14 : arg14.IsWhole) (hc0 : ¬cond0_0 i)
    (x0 : Vec Ideal S1x64x1024 .bf16) (x1 : Vec Ideal S1x64x1024 .bf16) (x2 : Vec Ideal S1x64x1024 .bf16) (x3 : Vec Ideal S1x64x128 .f32) (x4 : Vec Ideal S1x64x1024 .bf16) (x5 : Vec Ideal S1x64x1024 .bf16) (x6 : Vec Ideal S1x64x1024 .bf16) (x7 : Vec Ideal S1x64x128 .f32) (x8 : Vec Ideal S1x128 .f32) (x9 : Vec Ideal S1x128 .f32) (xs0 : Vec Ideal S16x128x128 .f32)
    (i64 : Fin 64) (l : Fin 1024) : out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 (ix3 0 i64 l) =
    O x0 x1 x2 x3 x4 x5 x6 x7 x8 x9 xs0 (ix3 ⟨8 + l.val / 128, by omega⟩ i64 ⟨l.val % 128, by omega⟩) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x64x1024) zero3, View.ld_unit_zero (S := S1x64x128) zero3,
    View.ld_unit_zero (S := S16x128x128) zero3, View.ld_unit_zero (S := S1x128) zero2]
  generalize hX : k0_pay165 (F := Ideal) _ _ _ _ _ _ _ _ _ = X
  have hO : O x0 x1 x2 x3 x4 x5 x6 x7 x8 x9 xs0 = X := hX
  rw [hO]
  clear hO hX
  exact canonBwd X i64 l

/-- What the stores of one case leave, as the arrays of the body. -/
theorem sout0_A_0_eq (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x128 .f32) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x64x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S16x128x128 .f32) (harg14 : arg14.IsWhole) (hc0 : cond0_0 i)
    (x0 : Vec Ideal S1x64x1024 .bf16) (x1 : Vec Ideal S1x64x1024 .bf16) (x2 : Vec Ideal S1x64x1024 .bf16) (x3 : Vec Ideal S1x64x128 .f32) (x4 : Vec Ideal S1x64x1024 .bf16) (x5 : Vec Ideal S1x64x1024 .bf16) (x6 : Vec Ideal S1x64x1024 .bf16) (x7 : Vec Ideal S1x64x128 .f32) (x8 : Vec Ideal S1x128 .f32) (x9 : Vec Ideal S1x128 .f32)
    : sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = N x0 x1 x2 x3 x4 x5 x6 x7 x8 x9 (k0_pay5 (F := Ideal)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x64x1024) zero3, View.ld_unit_zero (S := S1x64x128) zero3,
    View.ld_unit_zero (S := S16x128x128) zero3, View.ld_unit_zero (S := S1x128) zero2]
  rw [View.canon_cons_unit_lit (h := by intro a; fin_cases a <;> rfl), View.readCov_unit_zero (S := S16x128x128) _ zero3]
  rfl

/-- What the stores of one case leave, as the arrays of the body. -/
theorem sout0_B_0_eq (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x128 .f32) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x64x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S16x128x128 .f32) (harg14 : arg14.IsWhole) (hc0 : ¬cond0_0 i)
    (x0 : Vec Ideal S1x64x1024 .bf16) (x1 : Vec Ideal S1x64x1024 .bf16) (x2 : Vec Ideal S1x64x1024 .bf16) (x3 : Vec Ideal S1x64x128 .f32) (x4 : Vec Ideal S1x64x1024 .bf16) (x5 : Vec Ideal S1x64x1024 .bf16) (x6 : Vec Ideal S1x64x1024 .bf16) (x7 : Vec Ideal S1x64x128 .f32) (x8 : Vec Ideal S1x128 .f32) (x9 : Vec Ideal S1x128 .f32) (xs0 : Vec Ideal S16x128x128 .f32)
    : sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = N x0 x1 x2 x3 x4 x5 x6 x7 x8 x9 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x64x1024) zero3, View.ld_unit_zero (S := S1x64x128) zero3,
    View.ld_unit_zero (S := S16x128x128) zero3, View.ld_unit_zero (S := S1x128) zero2]
  rw [View.canon_unit_zero zero3]
  rfl

end
end Cert.KernelIdeal.Body
-- ==== Proof.Blocks.lean ====
/- What each window's block holds at a grid point: the rows of the argument arrays it was cut from. -/
module

public import proofs.«01_k».proof.Proof.Stores
public import proofs.«01_k».proof.Proof.Gen.KernelIdeal.Value

@[expose] public section

set_option maxRecDepth 16384

namespace Cert.KernelIdeal.Blocks

open Cert.KernelIdeal Cert.KernelIdeal.Gen Idealize.ShloMosaic Idealize.ShloMosaic.TcCoe Idealize.SL.Sem

noncomputable section

variable {F : FTy → Type} [FloatOps F]
variable (m : (ℓ : Loc nD τ sig) → Buf (Elt F) ℓ) (c : Dev nD)

/-- The grid has 256 points. -/
theorem N_lt (t : Fin cfg0.N) : t.val < 256 := lt_of_lt_of_eq t.isLt N_0

/-- The batch row a grid point works on. -/
def row (t : Fin cfg0.N) : Fin 8 := ⟨t.val / 32, by have := N_lt t; omega⟩

/-- Row `i` of the chunk a grid point reads forwards. -/
def fw (t : Fin cfg0.N) (i : Fin 64) : Fin 2048 := ⟨(t.val % 32) * 64 + i.val, by omega⟩

/-- Row `i` of the chunk a grid point reads backwards. -/
def bw (t : Fin cfg0.N) (i : Fin 64) : Fin 2048 := ⟨(31 - t.val % 32) * 64 + i.val, by omega⟩

/-- Gate column `l` as a column of the whole array. -/
def col (l : Fin 128) : Fin 8192 := ⟨28 * 128 + l.val, by omega⟩

/-- Where window 0's block lies at each grid point. -/
theorem idx0 : ∀ t : Fin cfg0.N, win0_0.index t = ![t.val / 32, t.val % 32, 0] :=
  (by decide +kernel : ∀ t : Fin grid0.N, win0_0.index t = ![t.val / 32, t.val % 32, 0])

/-- Where window 1's block lies at each grid point. -/
theorem idx1 : ∀ t : Fin cfg0.N, win0_1.index t = ![t.val / 32, t.val % 32, 0] :=
  (by decide +kernel : ∀ t : Fin grid0.N, win0_1.index t = ![t.val / 32, t.val % 32, 0])

/-- Where window 2's block lies at each grid point. -/
theorem idx2 : ∀ t : Fin cfg0.N, win0_2.index t = ![t.val / 32, t.val % 32, 0] :=
  (by decide +kernel : ∀ t : Fin grid0.N, win0_2.index t = ![t.val / 32, t.val % 32, 0])

/-- Where window 3's block lies at each grid point. -/
theorem idx3 : ∀ t : Fin cfg0.N, win0_3.index t = ![t.val / 32, t.val % 32, 28] :=
  (by decide +kernel : ∀ t : Fin grid0.N, win0_3.index t = ![t.val / 32, t.val % 32, 28])

/-- Where window 4's block lies at each grid point. -/
theorem idx4 : ∀ t : Fin cfg0.N, win0_4.index t = ![t.val / 32, 31 - t.val % 32, 0] :=
  (by decide +kernel : ∀ t : Fin grid0.N, win0_4.index t = ![t.val / 32, 31 - t.val % 32, 0])

/-- Where window 5's block lies at each grid point. -/
theorem idx5 : ∀ t : Fin cfg0.N, win0_5.index t = ![t.val / 32, 31 - t.val % 32, 0] :=
  (by decide +kernel : ∀ t : Fin grid0.N, win0_5.index t = ![t.val / 32, 31 - t.val % 32, 0])

/-- Where window 6's block lies at each grid point. -/
theorem idx6 : ∀ t : Fin cfg0.N, win0_6.index t = ![t.val / 32, 31 - t.val % 32, 0] :=
  (by decide +kernel : ∀ t : Fin grid0.N, win0_6.index t = ![t.val / 32, 31 - t.val % 32, 0])

/-- Where window 7's block lies at each grid point. -/
theorem idx7 : ∀ t : Fin cfg0.N, win0_7.index t = ![t.val / 32, 31 - t.val % 32, 28] :=
  (by decide +kernel : ∀ t : Fin grid0.N, win0_7.index t = ![t.val / 32, 31 - t.val % 32, 28])

/-- Where window 10's block lies at each grid point. -/
theorem idx10 : ∀ t : Fin cfg0.N, win0_10.index t = ![t.val / 32, t.val % 32, 0] :=
  (by decide +kernel : ∀ t : Fin grid0.N, win0_10.index t = ![t.val / 32, t.val % 32, 0])

/-- Where window 11's block lies at each grid point. -/
theorem idx11 : ∀ t : Fin cfg0.N, win0_11.index t = ![t.val / 32, 31 - t.val % 32, 0] :=
  (by decide +kernel : ∀ t : Fin grid0.N, win0_11.index t = ![t.val / 32, 31 - t.val % 32, 0])

/-- Window 8 is its whole array at every grid point. -/
theorem idx8 : ∀ t : Fin cfg0.N, win0_8.index t = ![0, 0] :=
  (by decide +kernel : ∀ t : Fin grid0.N, win0_8.index t = ![0, 0])

/-- Window 9 is its whole array at every grid point. -/
theorem idx9 : ∀ t : Fin cfg0.N, win0_9.index t = ![0, 0] :=
  (by decide +kernel : ∀ t : Fin grid0.N, win0_9.index t = ![0, 0])

/-- Window 0's block at a row and a lane. -/
theorem iblk0 (t : Fin cfg0.N) (i : Fin 64) (l : Fin 1024) :
    iblk m c 0 t (ix3 0 i l) = m ((c.tc : Thread nD τ).loc main_arg0) (ix3 (row t) (fw t i) l) := by
  unfold iblk
  rw [View.read_apply]
  show V m c main_arg0 _ = _
  rw [V_main_arg0]
  blk_ext [row, fw, col, idx0 t]

/-- Window 1's block at a row and a lane. -/
theorem iblk1 (t : Fin cfg0.N) (i : Fin 64) (l : Fin 1024) :
    iblk m c 1 t (ix3 0 i l) = m ((c.tc : Thread nD τ).loc main_arg1) (ix3 (row t) (fw t i) l) := by
  unfold iblk
  rw [View.read_apply]
  show V m c main_arg1 _ = _
  rw [V_main_arg1]
  blk_ext [row, fw, col, idx1 t]

/-- Window 2's block at a row and a lane. -/
theorem iblk2 (t : Fin cfg0.N) (i : Fin 64) (l : Fin 1024) :
    iblk m c 2 t (ix3 0 i l) = m ((c.tc : Thread nD τ).loc main_arg2) (ix3 (row t) (fw t i) l) := by
  unfold iblk
  rw [View.read_apply]
  show V m c main_arg2 _ = _
  rw [V_main_arg2]
  blk_ext [row, fw, col, idx2 t]

/-- Window 3's block at a row and a lane. -/
theorem iblk3 (t : Fin cfg0.N) (i : Fin 64) (l : Fin 128) :
    iblk m c 3 t (ix3 0 i l) = m ((c.tc : Thread nD τ).loc main_arg3) (ix3 (row t) (fw t i) (col l)) := by
  unfold iblk
  rw [View.read_apply]
  show V m c main_arg3 _ = _
  rw [V_main_arg3]
  blk_ext [row, fw, col, idx3 t]

/-- Window 4's block at a row and a lane. -/
theorem iblk4 (t : Fin cfg0.N) (i : Fin 64) (l : Fin 1024) :
    iblk m c 4 t (ix3 0 i l) = m ((c.tc : Thread nD τ).loc main_arg0) (ix3 (row t) (bw t i) l) := by
  unfold iblk
  rw [View.read_apply]
  show V m c main_arg0 _ = _
  rw [V_main_arg0]
  blk_ext [row, bw, col, idx4 t]

/-- Window 5's block at a row and a lane. -/
theorem iblk5 (t : Fin cfg0.N) (i : Fin 64) (l : Fin 1024) :
    iblk m c 5 t (ix3 0 i l) = m ((c.tc : Thread nD τ).loc main_arg1) (ix3 (row t) (bw t i) l) := by
  unfold iblk
  rw [View.read_apply]
  show V m c main_arg1 _ = _
  rw [V_main_arg1]
  blk_ext [row, bw, col, idx5 t]

/-- Window 6's block at a row and a lane. -/
theorem iblk6 (t : Fin cfg0.N) (i : Fin 64) (l : Fin 1024) :
    iblk m c 6 t (ix3 0 i l) = m ((c.tc : Thread nD τ).loc main_arg2) (ix3 (row t) (bw t i) l) := by
  unfold iblk
  rw [View.read_apply]
  show V m c main_arg2 _ = _
  rw [V_main_arg2]
  blk_ext [row, bw, col, idx6 t]

/-- Window 7's block at a row and a lane. -/
theorem iblk7 (t : Fin cfg0.N) (i : Fin 64) (l : Fin 128) :
    iblk m c 7 t (ix3 0 i l) = m ((c.tc : Thread nD τ).loc main_arg3) (ix3 (row t) (bw t i) (col l)) := by
  unfold iblk
  rw [View.read_apply]
  show V m c main_arg3 _ = _
  rw [V_main_arg3]
  blk_ext [row, bw, col, idx7 t]

end

end Cert.KernelIdeal.Blocks
-- ==== Proof.Padded.lean ====
/- The two padded rows of per-head parameters, read at the lanes the kernel uses. -/
module

public import proofs.«01_k».proof.Proof.Blocks
public import Idealize.ShloMosaic.Lib.Pointwise
public import Idealize.ShloMosaic.Lib.StableHlo.RunRead

@[expose] public section

set_option maxRecDepth 16384

namespace Cert.KernelIdeal.Blocks

open Cert.KernelIdeal Cert.KernelIdeal.Gen Idealize.ShloMosaic Idealize.ShloMosaic.TcCoe Idealize.SL.Sem

noncomputable section

variable {F : FTy → Type} [FloatOps F]
variable (m : (ℓ : Loc nD τ sig) → Buf (Elt F) ℓ) (c : Dev nD)

/-- The padded row of a two-direction parameter: zeros, the sixteen numbers, zeros. -/
def padded (x : FVec F S2x8 .f32) : FVec F S1x128 .f32 :=
  shapeCast S1x128 (concatenate S128 0 [⟨S16, broadcastInDim S16 ![] bcast_S_S16 (constant S_ .f32 0x00000000#32 : FVec F S_ .f32)⟩,
    ⟨S16, shapeCast S16 x shapeCasts_S2x8_S16⟩,
    ⟨S96, broadcastInDim S96 ![] bcast_S_S96 (constant S_ .f32 0x00000000#32 : FVec F S_ .f32)⟩]
    concatenates_S16_S16_S96_S128_d0) shapeCasts_S128_S1x128

/-- Lane `16 + 8 d + h` of the padded row is head `h` of direction `d`. -/
theorem padded_apply (x : FVec F S2x8 .f32) (d : Fin 2) (h : Fin 8) :
    padded x (ix2 0 ⟨16 + 8 * d.val + h.val, by omega⟩) = x (ix2 d h) := by
  obtain ⟨d, hd⟩ := d; obtain ⟨h, hh⟩ := h
  pointwise [padded]
  interval_cases d <;> interval_cases h <;> simp <;> rfl

/-- What the first padded row holds when the grid starts. -/
theorem V_main_v4 : V m c main_v4 = padded (m ((c.tc : Thread nD τ).loc main_arg4)) := by
  after_reads_simp
  rfl

/-- What the second padded row holds when the grid starts. -/
theorem V_main_v9 : V m c main_v9 = padded (m ((c.tc : Thread nD τ).loc main_arg5)) := by
  after_reads_simp
  rfl

/-- Window 8's block at a head's lane. -/
theorem iblk8 (t : Fin cfg0.N) (d : Fin 2) (h : Fin 8) :
    iblk m c 8 t (ix2 0 ⟨16 + 8 * d.val + h.val, by omega⟩) = m ((c.tc : Thread nD τ).loc main_arg4) (ix2 d h) := by
  rw [← padded_apply (F := F) (m ((c.tc : Thread nD τ).loc main_arg4)) d h, ← V_main_v4]
  unfold iblk
  rw [View.read_apply]
  show V m c main_v4 _ = _
  blk_ext [idx8 t]

/-- Window 9's block at a head's lane. -/
theorem iblk9 (t : Fin cfg0.N) (d : Fin 2) (h : Fin 8) :
    iblk m c 9 t (ix2 0 ⟨16 + 8 * d.val + h.val, by omega⟩) = m ((c.tc : Thread nD τ).loc main_arg5) (ix2 d h) := by
  rw [← padded_apply (F := F) (m ((c.tc : Thread nD τ).loc main_arg5)) d h, ← V_main_v9]
  unfold iblk
  rw [View.read_apply]
  show V m c main_v9 _ = _
  blk_ext [idx9 t]

end

end Cert.KernelIdeal.Blocks
-- ==== Proof.Inputs.lean ====
/-
  The layer's arguments as real numbers, and the tokens each of the sixteen scans reads from them: scans 0 to 7 are the
  forward heads, scans 8 to 15 the backward heads, whose first token is the sequence's last row.
-/
module

public import proofs.«01_k».proof.Proof.Padded

@[expose] public section

namespace DeltaScan

noncomputable section

/-- The arguments' numbers: queries, keys, values, the gate columns, and two numbers per scan. -/
structure Args where
  Q : Fin 8 → Fin 2048 → Fin 1024 → ℝ
  K : Fin 8 → Fin 2048 → Fin 1024 → ℝ
  V : Fin 8 → Fin 2048 → Fin 1024 → ℝ
  C : Fin 8 → Fin 2048 → Fin 8192 → ℝ
  A : Fin 16 → ℝ
  D : Fin 16 → ℝ

/-- The row of the sequence that holds scan `s`'s token `t`. -/
def place (s : Fin 16) (t : ℕ) : Fin 2048 :=
  if s.val < 8 then ⟨t % 2048, by omega⟩ else ⟨2047 - t % 2048, by omega⟩

/-- The lane that holds coordinate `e` of scan `s`. -/
def lane (s : Fin 16) (e : Fin 128) : Fin 1024 := ⟨s.val % 8 * 128 + e.val, by omega⟩

/-- The column of the write strength of scan `s`. -/
def strengthCol (s : Fin 16) : Fin 8192 := ⟨28 * 128 + s.val, by omega⟩

/-- The column of the decay of scan `s`. -/
def decayCol (s : Fin 16) : Fin 8192 := ⟨28 * 128 + (16 + s.val), by omega⟩

/-- The tokens of scan `s` in batch row `b`. -/
def tok (a : Args) (b : Fin 8) (s : Fin 16) : Tokens where
  q t e := a.Q b (place s t) (lane s e)
  k t e := a.K b (place s t) (lane s e)
  v t e := a.V b (place s t) (lane s e)
  g t := logDecay (a.A s) (a.D s) (a.C b (place s t) (decayCol s))
  b t := sigmoid (a.C b (place s t) (strengthCol s))

/-- Scan `s` of direction `d` and head `h`. -/
def scan (d : Fin 2) (h : Fin 8) : Fin 16 := ⟨8 * d.val + h.val, by omega⟩

/-- Rows that hold tokens `T` to `T + 63`, row `i` the token number `σ i` of them. -/
def rowsAt (σ : Equiv.Perm (Fin 64)) (x : Tokens) (T : ℕ) : Rows where
  q i := x.q (T + (σ i).val)
  k i := x.k (T + (σ i).val)
  v i := x.v (T + (σ i).val)
  g i := x.g (T + (σ i).val)
  b i := x.b (T + (σ i).val)

/-- They hold them. -/
theorem holds_rowsAt (σ : Equiv.Perm (Fin 64)) (x : Tokens) (T : ℕ) : Holds σ (rowsAt σ x T) x T :=
  ⟨fun _ => rfl, fun _ => rfl, fun _ => rfl, fun _ => rfl, fun _ => rfl⟩

end

end DeltaScan
-- ==== Proof.Point.lean ====
/- One grid point of the kernel over real arguments: its blocks hold sixteen chunks of tokens, and its stores the chunks'
   outputs and states. -/
module

public import proofs.«01_k».proof.Proof.Inputs

@[expose] public section

set_option maxRecDepth 16384

namespace Cert.KernelIdeal.Point

open Cert.KernelIdeal Cert.KernelIdeal.Gen Idealize.ShloMosaic Idealize.ShloMosaic.TcCoe Idealize.SL.Sem
open Cert.KernelIdeal.Body Cert.KernelIdeal.Blocks DeltaScan

noncomputable section

variable (a : Args) (m : (ℓ : Loc nD τ sig) → Buf (Elt Ideal) ℓ) (c : Dev nD)

/-- Core `c` was given the numbers of `a`. -/
structure Given : Prop where
  hQ : ∀ b t l, m ((c.tc : Thread nD τ).loc main_arg0) (ix3 b t l) = (a.Q b t l : EReal)
  hK : ∀ b t l, m ((c.tc : Thread nD τ).loc main_arg1) (ix3 b t l) = (a.K b t l : EReal)
  hV : ∀ b t l, m ((c.tc : Thread nD τ).loc main_arg2) (ix3 b t l) = (a.V b t l : EReal)
  hC : ∀ b t l, m ((c.tc : Thread nD τ).loc main_arg3) (ix3 b t l) = (a.C b t l : EReal)
  hA : ∀ d h, m ((c.tc : Thread nD τ).loc main_arg4) (ix2 d h) = (a.A (DeltaScan.scan d h) : EReal)
  hD : ∀ d h, m ((c.tc : Thread nD τ).loc main_arg5) (ix2 d h) = (a.D (DeltaScan.scan d h) : EReal)

/-- The tokens a point's chunk of scan `s` holds, row by row. -/
abbrev chunk (t : Fin cfg0.N) (s : Fin 16) : Rows := rowsAt (dir s) (tok a (row t) s) (t.val % 32 * 64)

/-- A forward chunk's row is the row of the sequence its token lies in. -/
theorem place_fw (t : Fin cfg0.N) (s : Fin 16) (hs : s.val < 8) (i : Fin 64) :
    place s (t.val % 32 * 64 + (dir s i).val) = fw t i := by
  simp only [place, dir, if_pos hs, fw, Equiv.refl_apply, Fin.mk.injEq]
  omega

/-- A backward chunk's row is the row of the sequence its token lies in. -/
theorem place_bw (t : Fin cfg0.N) (s : Fin 16) (hs : ¬ s.val < 8) (i : Fin 64) :
    place s (t.val % 32 * 64 + (dir s i).val) = bw t i := by
  simp only [place, dir, if_neg hs, bw, Fin.revPerm_apply, Fin.val_rev, Fin.mk.injEq]
  omega

/-- A forward head's lane of the row. -/
theorem lane_fw (s : Fin 16) (hs : s.val < 8) (e : Fin 128) : (⟨s.val * 128 + e.val, by omega⟩ : Fin 1024) = lane s e :=
  Fin.ext (by simp only [lane]; omega)

/-- A backward head's lane of the row. -/
theorem lane_bw (s : Fin 16) (hs : ¬ s.val < 8) (e : Fin 128) :
    (⟨(s.val - 8) * 128 + e.val, by omega⟩ : Fin 1024) = lane s e :=
  Fin.ext (by simp only [lane]; omega)

variable {a m c} (H : Given a m c) (t : Fin cfg0.N) (s : Fin 16)
include H

/-- The point's first padded row at a scan's lane. -/
theorem iblk8_real : iblk m c 8 t (ix2 0 ⟨16 + s.val, by omega⟩) = (a.A s : EReal) := by
  have h := iblk8 m c t ⟨s.val / 8, by omega⟩ ⟨s.val % 8, by omega⟩
  rw [H.hA] at h
  have e1 : (⟨16 + 8 * (s.val / 8) + s.val % 8, by omega⟩ : Fin 128) = ⟨16 + s.val, by omega⟩ := Fin.ext (by simp only; omega)
  have e2 : DeltaScan.scan ⟨s.val / 8, by omega⟩ ⟨s.val % 8, by omega⟩ = s := Fin.ext (by simp only [DeltaScan.scan]; omega)
  rw [e2] at h
  rw [← e1]
  exact h

/-- The point's second padded row at a scan's lane. -/
theorem iblk9_real : iblk m c 9 t (ix2 0 ⟨16 + s.val, by omega⟩) = (a.D s : EReal) := by
  have h := iblk9 m c t ⟨s.val / 8, by omega⟩ ⟨s.val % 8, by omega⟩
  rw [H.hD] at h
  have e1 : (⟨16 + 8 * (s.val / 8) + s.val % 8, by omega⟩ : Fin 128) = ⟨16 + s.val, by omega⟩ := Fin.ext (by simp only; omega)
  have e2 : DeltaScan.scan ⟨s.val / 8, by omega⟩ ⟨s.val % 8, by omega⟩ = s := Fin.ext (by simp only [DeltaScan.scan]; omega)
  rw [e2] at h
  rw [← e1]
  exact h

/-- The point's queries. -/
theorem q_real (i : Fin 64) (e : Fin 128) :
    qS (iblk m c 0 t) (iblk m c 4 t) (ix3 s i e) = ((chunk a t s).q i e : EReal) := by
  rw [qS_apply]
  split_ifs with hs
  · rw [iblk0, H.hQ, lane_fw s hs, ← place_fw t s hs]; rfl
  · rw [iblk4, H.hQ, lane_bw s hs, ← place_bw t s hs]; rfl

/-- The point's keys. -/
theorem k_real (i : Fin 64) (e : Fin 128) :
    kS (iblk m c 1 t) (iblk m c 5 t) (ix3 s i e) = ((chunk a t s).k i e : EReal) := by
  rw [kS_apply]
  split_ifs with hs
  · rw [iblk1, H.hK, lane_fw s hs, ← place_fw t s hs]; rfl
  · rw [iblk5, H.hK, lane_bw s hs, ← place_bw t s hs]; rfl

/-- The point's values. -/
theorem v_real (i : Fin 64) (e : Fin 128) :
    vS (iblk m c 2 t) (iblk m c 6 t) (ix3 s i e) = ((chunk a t s).v i e : EReal) := by
  rw [vS_apply]
  split_ifs with hs
  · rw [iblk2, H.hV, lane_fw s hs, ← place_fw t s hs]; rfl
  · rw [iblk6, H.hV, lane_bw s hs, ← place_bw t s hs]; rfl

/-- The point's write strengths. -/
theorem b_real (i : Fin 64) (e : Fin 128) :
    bS (iblk m c 3 t) (iblk m c 7 t) (ix3 s i e) = ((chunk a t s).b i : EReal) := by
  rw [bS_apply]
  split_ifs with hs
  · rw [betaF_real _ _ _ _ ((iblk3 m c t i _).trans (H.hC _ _ _)), ← place_fw t s hs]; rfl
  · rw [betaB_real _ _ _ _ ((iblk7 m c t i _).trans (H.hC _ _ _)), ← place_bw t s hs]; rfl

/-- The point's running sums of the decays' logarithms. -/
theorem g_real (i : Fin 64) (e : Fin 128) :
    gS (iblk m c 3 t) (iblk m c 7 t) (iblk m c 8 t) (iblk m c 9 t) (ix3 s i e) = (cum (dir s) (chunk a t s) i : EReal) := by
  rw [gS_apply]
  split_ifs with hs
  · rw [gcF_real _ _ _ (fun i => a.C (row t) (fw t i) (decayCol s)) (a.A s) (a.D s) _
      (fun i => (iblk3 m c t i _).trans (H.hC _ _ _)) (iblk8_real H t s) (iblk9_real H t s)]
    have hg : ∀ x, (chunk a t s).g x = logDecay (a.A s) (a.D s) (a.C (row t) (fw t x) (decayCol s)) := fun x => by
      rw [← place_fw t s hs]; rfl
    unfold cum
    simp only [hg, show dir s = Equiv.refl (Fin 64) from if_pos hs]
  · rw [gcB_real _ _ _ (fun i => a.C (row t) (bw t i) (decayCol s)) (a.A s) (a.D s) _
      (fun i => (iblk7 m c t i _).trans (H.hC _ _ _)) (iblk8_real H t s) (iblk9_real H t s)]
    have hg : ∀ x, (chunk a t s).g x = logDecay (a.A s) (a.D s) (a.C (row t) (bw t x) (decayCol s)) := fun x => by
      rw [← place_bw t s hs]; rfl
    unfold cum
    simp only [hg, show dir s = Fin.revPerm from if_neg hs]

/-- The point's decays between rows. -/
theorem dec_real (i j : Fin 64) :
    decS (iblk m c 3 t) (iblk m c 7 t) (iblk m c 8 t) (iblk m c 9 t) (ix3 s i j) = (dec (dir s) (chunk a t s) i j : EReal) := by
  rw [decS_apply, g_real H, g_real H]
  unfold dec
  split_ifs
  · rw [← EReal.coe_sub, Ideal.exp_coe]
  · rfl

/-- The point's blocks hold the chunk of every scan. -/
theorem reads : Reads s (chunk a t s) (qS (iblk m c 0 t) (iblk m c 4 t)) (kS (iblk m c 1 t) (iblk m c 5 t))
    (vS (iblk m c 2 t) (iblk m c 6 t)) (bS (iblk m c 3 t) (iblk m c 7 t))
    (gS (iblk m c 3 t) (iblk m c 7 t) (iblk m c 8 t) (iblk m c 9 t))
    (decS (iblk m c 3 t) (iblk m c 7 t) (iblk m c 8 t) (iblk m c 9 t))
    (mS (qS (iblk m c 0 t) (iblk m c 4 t)) (kS (iblk m c 1 t) (iblk m c 5 t)) (bS (iblk m c 3 t) (iblk m c 7 t))
      (iblk m c 3 t) (iblk m c 7 t) (iblk m c 8 t) (iblk m c 9 t)) where
  hq := q_real H t s
  hk := k_real H t s
  hv := v_real H t s
  hb := b_real H t s
  hg := g_real H t s
  hD := dec_real H t s
  hm i j := by
    rw [mS_apply, dec_real H]
    simp only [k_real H, b_real H, ← EReal.coe_mul, sum_coe]

variable {S : FVec Ideal S16x128x128 .f32}

/-- Entered with the scan's state before the chunk, the point computes the tokens' outputs. -/
theorem O_real (hS : ∀ d e, S (ix3 s d e) = (stateAt (tok a (row t) s) (t.val % 32 * 64) d e : EReal)) (i : Fin 64) (e : Fin 128) :
    O (iblk m c 0 t) (iblk m c 1 t) (iblk m c 2 t) (iblk m c 3 t) (iblk m c 4 t) (iblk m c 5 t) (iblk m c 6 t) (iblk m c 7 t)
      (iblk m c 8 t) (iblk m c 9 t) S (ix3 s i e)
      = (outAt (tok a (row t) s) (t.val % 32 * 64 + (dir s i).val) e : EReal) := by
  unfold O
  rw [outS_real (reads H t s) hS, chunkOut_eq (holds_rowsAt _ _ _)]

/-- … and the scan's state after the chunk. -/
theorem N_real (hS : ∀ d e, S (ix3 s d e) = (stateAt (tok a (row t) s) (t.val % 32 * 64) d e : EReal)) (d e : Fin 128) :
    N (iblk m c 0 t) (iblk m c 1 t) (iblk m c 2 t) (iblk m c 3 t) (iblk m c 4 t) (iblk m c 5 t) (iblk m c 6 t) (iblk m c 7 t)
      (iblk m c 8 t) (iblk m c 9 t) S (ix3 s d e)
      = (stateAt (tok a (row t) s) (t.val % 32 * 64 + 64) d e : EReal) := by
  unfold N
  rw [newS_real (reads H t s) hS, chunkState_eq (holds_rowsAt _ _ _)]

end

end Cert.KernelIdeal.Point
-- ==== Proof.KernelArray.lean ====
/- The kernel's two result arrays over real arguments: every token's output of every scan. -/
module

public import proofs.«01_k».proof.Proof.Point

@[expose] public section

set_option maxRecDepth 16384

namespace Cert.KernelIdeal.Point

open Cert.KernelIdeal Cert.KernelIdeal.Gen Idealize.ShloMosaic Idealize.ShloMosaic.TcCoe Idealize.SL.Sem
open Cert.KernelIdeal.Body Cert.KernelIdeal.Blocks DeltaScan

noncomputable section

variable {a : Args} {m : (ℓ : Loc nD τ sig) → Buf (Elt Ideal) ℓ} {c : Dev nD} (H : Given a m c)

/-- The state a sequence's first point starts from is zero. -/
theorem zero_state (x : Tokens) (s : Fin 16) (d e : Fin 128) :
    (k0_pay5 (F := Ideal) : FVec Ideal S16x128x128 .f32) (ix3 s d e) = (stateAt x 0 d e : EReal) := by
  pointwise [k0_pay5]
  rfl

include H

/-- After every point, each scan's state is the state after the tokens read so far. -/
theorem state_eq : ∀ (n : ℕ) (h : n < cfg0.N) (s : Fin 16) (d e : Fin 128),
    (outsAt0 m c n h).2.2 (ix3 s d e) = (stateAt (tok a (row ⟨n, h⟩) s) (n % 32 * 64 + 64) d e : EReal) := by
  intro n
  induction n with
  | zero =>
    intro h s d e
    rw [outsAt0_A m c ⟨0, h⟩ rfl]
    dsimp only
    rw [sout0_A_0_eq]
    exact N_real H ⟨0, h⟩ s (fun d e => zero_state _ s d e) d e
  | succ n ih =>
    intro h s d e
    by_cases h0 : (n + 1) % 32 = 0
    · rw [outsAt0_A m c ⟨n + 1, h⟩ h0]
      dsimp only
      rw [sout0_A_0_eq]
      refine N_real H ⟨n + 1, h⟩ s (fun d e => ?_) d e
      rw [zero_state (tok a (row ⟨n + 1, h⟩) s)]
      simp only [h0, Nat.zero_mul]
    · rw [outsAt0_B m c ⟨n + 1, h⟩ h0]
      dsimp only
      rw [sout0_B_0_eq]
      refine N_real H ⟨n + 1, h⟩ s (fun d e => ?_) d e
      refine (ih (by omega) s d e).trans ?_
      have e1 : row ⟨n, by omega⟩ = row ⟨n + 1, h⟩ := Fin.ext (by simp only [row]; omega)
      have e2 : n % 32 * 64 + 64 = (n + 1) % 32 * 64 := by omega
      rw [e1, e2]

/-- The state a point that is not a sequence's first starts from. -/
theorem state_before (t : Fin cfg0.N) (h0 : ¬ t.val % 32 = 0) (s : Fin 16) (d e : Fin 128) :
    (outsAt0 m c (t.val - 1) (Nat.lt_of_le_of_lt (Nat.sub_le _ _) t.isLt)).2.2 (ix3 s d e)
      = (stateAt (tok a (row t) s) (t.val % 32 * 64) d e : EReal) := by
  rw [state_eq H]
  have e1 : row ⟨t.val - 1, Nat.lt_of_le_of_lt (Nat.sub_le _ _) t.isLt⟩ = row t := Fin.ext (by simp only [row]; omega)
  have e2 : (t.val - 1) % 32 * 64 + 64 = t.val % 32 * 64 := by omega
  rw [e1, e2]

/-- What a point leaves in the forward output's block. -/
theorem out10 (t : Fin cfg0.N) (i : Fin 64) (l : Fin 1024) :
    (outsAt0 m c t.val t.isLt).1 (ix3 0 i l)
      = (outAt (tok a (row t) ⟨l.val / 128, by omega⟩) (fw t i).val ⟨l.val % 128, by omega⟩ : EReal) := by
  have e : t.val % 32 * 64 + (dir ⟨l.val / 128, by omega⟩ i).val = (fw t i).val := by
    simp only [dir, fw]; rw [if_pos (by omega)]; rfl
  by_cases h0 : t.val % 32 = 0
  · rw [outsAt0_A m c t h0]
    dsimp only
    rw [out0_A_10_eq, O_real H t _ (fun d e => ?_), e]
    rw [h0, Nat.zero_mul]
    exact zero_state _ _ d e
  · rw [outsAt0_B m c t h0]
    dsimp only
    rw [out0_B_10_eq, O_real H t _ (fun d e => state_before H t h0 _ d e), e]

/-- What a point leaves in the backward output's block. -/
theorem out11 (t : Fin cfg0.N) (i : Fin 64) (l : Fin 1024) :
    (outsAt0 m c t.val t.isLt).2.1 (ix3 0 i l)
      = (outAt (tok a (row t) ⟨8 + l.val / 128, by omega⟩) (2047 - (bw t i).val) ⟨l.val % 128, by omega⟩ : EReal) := by
  have e : t.val % 32 * 64 + (dir ⟨8 + l.val / 128, by omega⟩ i).val = 2047 - (bw t i).val := by
    simp only [dir, bw]; rw [if_neg (by omega), Fin.revPerm_apply, Fin.val_rev]; omega
  by_cases h0 : t.val % 32 = 0
  · rw [outsAt0_A m c t h0]
    dsimp only
    rw [out0_A_11_eq, O_real H t _ (fun d e => ?_), e]
    rw [h0, Nat.zero_mul]
    exact zero_state _ _ d e
  · rw [outsAt0_B m c t h0]
    dsimp only
    rw [out0_B_11_eq, O_real H t _ (fun d e => state_before H t h0 _ d e), e]

omit H

/-- The forward result: at each row, every forward head's output of that row's token. -/
def forward (a : Args) : FVec Ideal S8x2048x1024 .bf16 := fun i =>
  (outAt (tok a (i 0) ⟨(i 2).val / 128, by have := (i 2).isLt; simp at this; omega⟩) (i 1).val ⟨(i 2).val % 128, by omega⟩ : EReal)

/-- The backward result: at each row, every backward head's output of that row's token, the last row's first. -/
def backward (a : Args) : FVec Ideal S8x2048x1024 .bf16 := fun i =>
  (outAt (tok a (i 0) ⟨8 + (i 2).val / 128, by have := (i 2).isLt; simp at this; omega⟩) (2047 - (i 1).val) ⟨(i 2).val % 128, by omega⟩ : EReal)

include H

/-- The first result array after the grid. -/
theorem array10 : (dats m 0 c).arrAt 10 cfg0.N = forward a := by
  refine (dats m 0 c).arrAt_eq_of_covers 10 _ (by decide +kernel) fun t hf y => ?_
  blk_simp
  rw [after0_10]
  obtain ⟨y, rfl⟩ : ∃ z : Fin 64 × Fin 1024, y = ix3 0 z.1 z.2 :=
    ⟨(y 1, y 2), by funext a; match a with | ⟨0, _⟩ => exact Subsingleton.elim (α := Fin 1) _ _ | ⟨1, _⟩ => rfl | ⟨2, _⟩ => rfl⟩
  refine (out10 H t y.1 y.2).trans ?_
  have e : (win0_10.blk t).view.emb (ix3 0 y.1 y.2) = ix3 (row t) (fw t y.1) y.2 := by
    blk_ext [row, fw, idx10 t]
  exact (congrArg (forward a) e).symm

/-- The second result array after the grid. -/
theorem array11 : (dats m 0 c).arrAt 11 cfg0.N = backward a := by
  refine (dats m 0 c).arrAt_eq_of_covers 11 _ (by decide +kernel) fun t hf y => ?_
  blk_simp
  rw [after0_11]
  obtain ⟨y, rfl⟩ : ∃ z : Fin 64 × Fin 1024, y = ix3 0 z.1 z.2 :=
    ⟨(y 1, y 2), by funext a; match a with | ⟨0, _⟩ => exact Subsingleton.elim (α := Fin 1) _ _ | ⟨1, _⟩ => rfl | ⟨2, _⟩ => rfl⟩
  refine (out11 H t y.1 y.2).trans ?_
  have e : (win0_11.blk t).view.emb (ix3 0 y.1 y.2) = ix3 (row t) (bw t y.1) y.2 := by
    blk_ext [row, bw, idx11 t]
  exact (congrArg (backward a) e).symm

end

end Cert.KernelIdeal.Point
-- ==== Proof.Entry.lean ====
module

public import proofs.«01_k».proof.Proof.KernelArray
public import proofs.«01_k».proof.Proof.Gen.ReferenceIdeal.Run
public import proofs.«01_k».proof.Proof.Gen.ReferenceIdeal.Step

/-! What the reference's buffers hold when its loop starts, each as the value `Step.init` names. -/

@[expose] public section

set_option maxRecDepth 65536
set_option maxHeartbeats 6000000

namespace Cert.ReferenceIdeal.Entry

open Idealize.ShloMosaic Idealize.ShloMosaic.TcCoe Idealize.SL.Sem Idealize.ShloMosaic.StableHlo
open Cert.ReferenceIdeal Cert.ReferenceIdeal.Gen Cert.ReferenceIdeal.Value

noncomputable section

variable {F : FTy → Type} [FloatOps F]
variable (m : (ℓ : Loc nD τ sig) → Buf (Elt F) ℓ) (c : Dev nD)

/-- The scanned arrays, the zero state and the empty outputs, as functions of the arguments core `c` was given. -/
def start : Step.State F :=
  Step.init (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- The queries the loop starts from. -/
theorem entry_0 : entryContents preI m c (Proc.devRef .tc main_v76_0) = (start m c).main_v76_0 := by
  simp only [entryContents, afterL_cons, afterL_nil]
  after_reads_simp
  rfl

/-- The keys the loop starts from. -/
theorem entry_1 : entryContents preI m c (Proc.devRef .tc main_v76_1) = (start m c).main_v76_1 := by
  simp only [entryContents, afterL_cons, afterL_nil]
  after_reads_simp
  rfl

/-- The values the loop starts from. -/
theorem entry_2 : entryContents preI m c (Proc.devRef .tc main_v76_2) = (start m c).main_v76_2 := by
  simp only [entryContents, afterL_cons, afterL_nil]
  after_reads_simp
  rfl

/-- The logarithms of the decays the loop starts from. -/
theorem entry_3 : entryContents preI m c (Proc.devRef .tc main_v76_3) = (start m c).main_v76_3 := by
  simp only [entryContents, afterL_cons, afterL_nil]
  after_reads_simp
  rfl

/-- The write strengths the loop starts from. -/
theorem entry_4 : entryContents preI m c (Proc.devRef .tc main_v76_4) = (start m c).main_v76_4 := by
  simp only [entryContents, afterL_cons, afterL_nil]
  after_reads_simp
  rfl

/-- The state the loop starts from. -/
theorem entry_6 : entryContents preI m c (Proc.devRef .tc main_v76_6) = (start m c).main_v76_6 := by
  simp only [entryContents, afterL_cons, afterL_nil]
  after_reads_simp
  rfl

/-- The outputs the loop starts from. -/
theorem entry_7 : entryContents preI m c (Proc.devRef .tc main_v76_7) = (start m c).main_v76_7 := by
  simp only [entryContents, afterL_cons, afterL_nil]
  after_reads_simp
  rfl

/-- The loop's counter starts at zero. -/
theorem entry_5 : entryContents preI m c (Proc.devRef .tc main_v76_5) = fun _ => (0#32 : BitVec 32) :=
  ctr_entry m c

end

end Cert.ReferenceIdeal.Entry
-- ==== Proof.Trips.lean ====
/- One trip of the reference's loop over real numbers: the loop's buffers hold every scan's state and the outputs so far. -/
module

public import proofs.«01_k».proof.Proof.KernelArray
public import proofs.«01_k».proof.Proof.Entry
public import Idealize.ShloMosaic.Lib.DynamicIndex
public import Idealize.ShloMosaic.Lib.WordCmp

@[expose] public section

set_option maxRecDepth 16384

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value DeltaScan

noncomputable section

/-- One token of every scan: the `w`-th slice of a scanned array of vectors. -/
def row5 (X : FVec Ideal S2048x2x8x8x128 .f32) (w : IVec S_ 32) : FVec Ideal S2x8x8x128 .f32 :=
  shapeCast S2x8x8x128 (Host.dynamicSlice S1x2x8x8x128 X (fun k => (((![w, constantI S_ 32 0#32, constantI S_ 32 0#32, constantI S_ 32 0#32, constantI S_ 32 0#32] : Fin 5 → IVec S_ 32)) k (Shape.Idx.first h_S_)).toInt) sliceFits_S2048x2x8x8x128_S1x2x8x8x128) shapeCasts_S1x2x8x8x128_S2x8x8x128

/-- One number of every scan: the `w`-th slice of a scanned array of numbers. -/
def row4 (X : FVec Ideal S2048x2x8x8 .f32) (w : IVec S_ 32) : FVec Ideal S2x8x8 .f32 :=
  shapeCast S2x8x8 (Host.dynamicSlice S1x2x8x8 X (fun k => (((![w, constantI S_ 32 0#32, constantI S_ 32 0#32, constantI S_ 32 0#32] : Fin 4 → IVec S_ 32)) k (Shape.Idx.first h_S_)).toInt) sliceFits_S2048x2x8x8_S1x2x8x8) shapeCasts_S1x2x8x8_S2x8x8

/-- The outputs with one token's written over the `w`-th slice. -/
def put5 (X : FVec Ideal S2048x2x8x8x128 .f32) (u : FVec Ideal S2x8x8x128 .f32) (w : IVec S_ 32) : FVec Ideal S2048x2x8x8x128 .f32 :=
  Host.dynamicUpdateSlice X (broadcastInDim S1x2x8x8x128 ![1, 2, 3, 4] bcast_S2x8x8x128_S1x2x8x8x128_1_2_3_4 u) (fun k => (((![w, constantI S_ 32 0#32, constantI S_ 32 0#32, constantI S_ 32 0#32, constantI S_ 32 0#32] : Fin 5 → IVec S_ 32)) k (Shape.Idx.first h_S_)).toInt) updateFits_S2048x2x8x8x128_S1x2x8x8x128

section
variable {n : ℕ} (hn : n < 2048)
include hn

/-- The slice at number `n` is the array at `n`. -/
theorem row5_apply (X : FVec Ideal S2048x2x8x8x128 .f32) (d : Fin 2) (b h : Fin 8) (e : Fin 128) :
    row5 X (fun _ => BitVec.ofNat 32 n) (ix4 d b h e) = X (ix5 ⟨n, hn⟩ d b h e) := by
  have hoff : Shape.Slices S2048x2x8x8x128 ![n, 0, 0, 0, 0] S1x2x8x8x128 :=
    ⟨rfl, fun a => by fin_cases a <;> simp <;> omega⟩
  unfold row5
  rw [Host.dynamicSlice_eq_extractStridedSlice _ _ _ ![n, 0, 0, 0, 0] _ hoff
    (fun a => by fin_cases a <;> first | exact toInt_ofNat_of_lt (by omega) | rfl)]
  pointwise

/-- The slice at number `n` is the array at `n`. -/
theorem row4_apply (X : FVec Ideal S2048x2x8x8 .f32) (d : Fin 2) (b h : Fin 8) :
    row4 X (fun _ => BitVec.ofNat 32 n) (ix3 d b h) = X (ix4 ⟨n, hn⟩ d b h) := by
  have hoff : Shape.Slices S2048x2x8x8 ![n, 0, 0, 0] S1x2x8x8 :=
    ⟨rfl, fun a => by fin_cases a <;> simp <;> omega⟩
  unfold row4
  rw [Host.dynamicSlice_eq_extractStridedSlice _ _ _ ![n, 0, 0, 0] _ hoff
    (fun a => by fin_cases a <;> first | exact toInt_ofNat_of_lt (by omega) | rfl)]
  pointwise

/-- Writing at number `n` leaves the other slices and puts the token's outputs in the `n`-th. -/
theorem put5_apply (X : FVec Ideal S2048x2x8x8x128 .f32) (u : FVec Ideal S2x8x8x128 .f32) (t : Fin 2048) (d : Fin 2) (b h : Fin 8) (e : Fin 128) :
    put5 X u (fun _ => BitVec.ofNat 32 n) (ix5 t d b h e) = if t.val = n then u (ix4 d b h e) else X (ix5 t d b h e) := by
  have hoff : Shape.Slices S2048x2x8x8x128 ![n, 0, 0, 0, 0] S1x2x8x8x128 :=
    ⟨rfl, fun a => by fin_cases a <;> simp <;> omega⟩
  unfold put5
  rw [WordCmp.dynamicUpdateSlice_eq_update _ _ _ _ ![n, 0, 0, 0, 0] hoff
    (fun a => by fin_cases a <;> first | exact toInt_ofNat_of_lt (by omega) | rfl)]
  pointwise
  split_ifs <;> first | rfl | omega

end

/-- The step's values at one index, over the numbers of the trip's token. -/
structure At (x : Fin 2 → Fin 8 → Fin 8 → Tokens) (V : Valuation τ sig (Elt Ideal)) (n : ℕ) : Prop where
  ctr : V (Proc.devRef .tc main_v76_5) = fun _ => BitVec.ofNat 32 n
  state : ∀ d b h i e, V (Proc.devRef .tc main_v76_6) (ix5 d b h i e) = (stateAt (x d b h) n i e : EReal)
  outs : ∀ t : Fin 2048, t.val < n → ∀ d b h e, V (Proc.devRef .tc main_v76_7) (ix5 t d b h e) = (outAt (x d b h) t.val e : EReal)
  q : ∀ (t : Fin 2048) d b h e, V (Proc.devRef .tc main_v76_0) (ix5 t d b h e) = ((x d b h).q t.val e : EReal)
  k : ∀ (t : Fin 2048) d b h e, V (Proc.devRef .tc main_v76_1) (ix5 t d b h e) = ((x d b h).k t.val e : EReal)
  v : ∀ (t : Fin 2048) d b h e, V (Proc.devRef .tc main_v76_2) (ix5 t d b h e) = ((x d b h).v t.val e : EReal)
  g : ∀ (t : Fin 2048) d b h, V (Proc.devRef .tc main_v76_3) (ix4 t d b h) = ((x d b h).g t.val : EReal)
  b : ∀ (t : Fin 2048) d b h, V (Proc.devRef .tc main_v76_4) (ix4 t d b h) = ((x d b h).b t.val : EReal)

variable {x : Fin 2 → Fin 8 → Fin 8 → Tokens} {V : Valuation τ sig (Elt Ideal)} {n : ℕ}

/-- The trip's keys. -/
theorem v88_real (H : At x V n) (hn : n < 2048) (d : Fin 2) (b h : Fin 8) (e : Fin 128) :
    res_main_while0b_v88 V (ix4 d b h e) = ((x d b h).k n e : EReal) := by
  have e1 : res_main_while0b_v88 V = row5 (V (Proc.devRef .tc main_v76_1)) (V (Proc.devRef .tc main_v76_5)) := rfl
  rw [e1, H.ctr]
  exact (row5_apply hn _ d b h e).trans (H.k ⟨n, hn⟩ d b h e)

/-- The decayed states. -/
theorem v95_real (H : At x V n) (hn : n < 2048) (d : Fin 2) (b h : Fin 8) (i e : Fin 128) :
    res_main_while0b_v95 V (ix5 d b h i e) = ((stateAt (x d b h) n i e * Real.exp ((x d b h).g n) : ℝ) : EReal) := by
  have e1 : res_main_while0b_v95 V = mulf (V (Proc.devRef .tc main_v76_6)) (broadcastInDim S2x8x8x128x128 ![0, 1, 2, 3, 4] bcast_S2x8x8x1x1_S2x8x8x128x128_0_1_2_3_4 (broadcastInDim S2x8x8x1x1 ![0, 1, 2] bcast_S2x8x8_S2x8x8x1x1_0_1_2 (Host.exp (row4 (V (Proc.devRef .tc main_v76_3)) (V (Proc.devRef .tc main_v76_5)))))) := rfl
  rw [e1, H.ctr]
  generalize hR : row4 (V (Proc.devRef .tc main_v76_3)) (fun _ => BitVec.ofNat 32 n) = R
  have hR' : R (ix3 d b h) = ((x d b h).g n : EReal) := by rw [← hR, row4_apply hn, H.g]
  generalize hS : V (Proc.devRef .tc main_v76_6) = S
  have hS' := H.state d b h i e
  rw [hS] at hS'
  pointwise
  rw [hS', hR', Ideal.exp_coe, ← EReal.coe_mul]

/-- The states after the trip's token. -/
theorem v109_real (H : At x V n) (hn : n < 2048) (d : Fin 2) (b h : Fin 8) (i e : Fin 128) :
    res_main_while0b_v109 V (ix5 d b h i e) = (stateAt (x d b h) (n + 1) i e : EReal) := by
  have e1 : res_main_while0b_v109 V = addf (res_main_while0b_v95 V) (mulf (broadcastInDim S2x8x8x128x128 ![0, 1, 2, 3, 4] bcast_S2x8x8x128x1_S2x8x8x128x128_0_1_2_3_4 (broadcastInDim S2x8x8x128x1 ![0, 1, 2, 3] bcast_S2x8x8x128_S2x8x8x128x1_0_1_2_3 (res_main_while0b_v88 V))) (broadcastInDim S2x8x8x128x128 ![0, 1, 2, 3, 4] bcast_S2x8x8x1x128_S2x8x8x128x128_0_1_2_3_4 (broadcastInDim S2x8x8x1x128 ![0, 1, 2, 4] bcast_S2x8x8x128_S2x8x8x1x128_0_1_2_4 (mulf (broadcastInDim S2x8x8x128 ![0, 1, 2, 3] bcast_S2x8x8x1_S2x8x8x128_0_1_2_3 (broadcastInDim S2x8x8x1 ![0, 1, 2] bcast_S2x8x8_S2x8x8x1_0_1_2 (row4 (V (Proc.devRef .tc main_v76_4)) (V (Proc.devRef .tc main_v76_5))))) (subf (row5 (V (Proc.devRef .tc main_v76_2)) (V (Proc.devRef .tc main_v76_5))) (Host.reduceAdd (mulf (res_main_while0b_v95 V) (broadcastInDim S2x8x8x128x128 ![0, 1, 2, 3, 4] bcast_S2x8x8x128x1_S2x8x8x128x128_0_1_2_3_4 (broadcastInDim S2x8x8x128x1 ![0, 1, 2, 3] bcast_S2x8x8x128_S2x8x8x128x1_0_1_2_3 (res_main_while0b_v88 V)))) (constant S_ .f32 0x00000000#32) reducesTo_S2x8x8x128x128_S2x8x8x128_d3 h_S_)))))) := rfl
  rw [e1, H.ctr]
  generalize hB : row4 (V (Proc.devRef .tc main_v76_4)) (fun _ => BitVec.ofNat 32 n) = B
  have hB' : B (ix3 d b h) = ((x d b h).b n : EReal) := by rw [← hB, row4_apply hn, H.b]
  generalize hW : row5 (V (Proc.devRef .tc main_v76_2)) (fun _ => BitVec.ofNat 32 n) = W
  have hW' : ∀ e, W (ix4 d b h e) = ((x d b h).v n e : EReal) := fun e => by rw [← hW, row5_apply hn, H.v]
  have hK := v88_real H hn d b h
  generalize res_main_while0b_v88 V = K at hK ⊢
  have hS := v95_real H hn d b h
  generalize res_main_while0b_v95 V = S at hS ⊢
  pointwise
  simp only [hS, hK, hW', hB', ← EReal.coe_mul, ← EReal.coe_sub, ← EReal.coe_add, sum_coe]
  rfl

/-- One trip: the next token of every scan. -/
theorem At.step (H : At x V n) (hn : n < 2048) : At x (STEP V) (n + 1) where
  ctr := by
    rw [STEP_main_v76_5, step_main_v76_5, H.ctr]
    funext i
    show BitVec.ofNat 32 n + 1#32 = BitVec.ofNat 32 (n + 1)
    rw [BitVec.ofNat_add]
  state d b h i e := by
    rw [STEP_main_v76_6]
    exact v109_real H hn d b h i e
  outs t ht d b h e := by
    rw [STEP_main_v76_7]
    have e1 : step_main_v76_7 V = put5 (V (Proc.devRef .tc main_v76_7)) (Host.reduceAdd (mulf (res_main_while0b_v109 V) (broadcastInDim S2x8x8x128x128 ![0, 1, 2, 3, 4] bcast_S2x8x8x128x1_S2x8x8x128x128_0_1_2_3_4 (broadcastInDim S2x8x8x128x1 ![0, 1, 2, 3] bcast_S2x8x8x128_S2x8x8x128x1_0_1_2_3 (row5 (V (Proc.devRef .tc main_v76_0)) (V (Proc.devRef .tc main_v76_5)))))) (constant S_ .f32 0x00000000#32) reducesTo_S2x8x8x128x128_S2x8x8x128_d3 h_S_) (V (Proc.devRef .tc main_v76_5)) := rfl
    rw [e1, H.ctr]
    refine (put5_apply hn _ _ t d b h e).trans ?_
    split_ifs with hc
    · have hQ : ∀ e, row5 (V (Proc.devRef .tc main_v76_0)) (fun _ => BitVec.ofNat 32 n) (ix4 d b h e) = ((x d b h).q n e : EReal) :=
        fun e => (row5_apply hn _ d b h e).trans (H.q ⟨n, hn⟩ d b h e)
      generalize row5 (V (Proc.devRef .tc main_v76_0)) (fun _ => BitVec.ofNat 32 n) = Q at hQ ⊢
      have hS := v109_real H hn d b h
      generalize res_main_while0b_v109 V = S at hS ⊢
      pointwise
      simp only [hS, hQ, ← EReal.coe_mul, sum_coe]
      rw [hc]
      rfl
    · exact H.outs t (by omega) d b h e
  q t d b h e := (congrFun (STEP_main_v76_0 V) _).trans (H.q t d b h e)
  k t d b h e := (congrFun (STEP_main_v76_1 V) _).trans (H.k t d b h e)
  v t d b h e := (congrFun (STEP_main_v76_2 V) _).trans (H.v t d b h e)
  g t d b h := (congrFun (STEP_main_v76_3 V) _).trans (H.g t d b h)
  b t d b h := (congrFun (STEP_main_v76_4 V) _).trans (H.b t d b h)

/-- Any number of trips. -/
theorem At.iterate (H : At x V 0) : ∀ n, n ≤ 2048 → At x (STEP^[n] V) n
  | 0, _ => H
  | n + 1, h => by
    rw [Function.iterate_succ_apply']
    exact (At.iterate H n (by omega)).step (by omega)

/-- The forward result read off the outputs. -/
theorem result81 (H : At x V 2048) (b : Fin 8) (t : Fin 2048) (l : Fin 1024) :
    out_main_v81 V (ix3 b t l) = (outAt (x 0 b ⟨l.val / 128, by omega⟩) t.val ⟨l.val % 128, by omega⟩ : EReal) := by
  have hO := H.outs t t.isLt 0 b ⟨l.val / 128, by omega⟩ ⟨l.val % 128, by omega⟩
  unfold out_main_v81
  generalize V (Proc.devRef .tc main_v76_7) = O at hO ⊢
  rw [← hO]
  pointwise

/-- The backward result read off the outputs. -/
theorem result86 (H : At x V 2048) (b : Fin 8) (t : Fin 2048) (l : Fin 1024) :
    out_main_v86 V (ix3 b t l) = (outAt (x 1 b ⟨l.val / 128, by omega⟩) (2047 - t.val) ⟨l.val % 128, by omega⟩ : EReal) := by
  have hO := H.outs ⟨2047 - t.val, by omega⟩ (by simp only; omega) 1 b ⟨l.val / 128, by omega⟩ ⟨l.val % 128, by omega⟩
  unfold out_main_v86
  generalize V (Proc.devRef .tc main_v76_7) = O at hO ⊢
  rw [← hO]
  pointwise
  rw [← show t.rev = ⟨2047 - t.val, by omega⟩ from Fin.ext (by rw [Fin.val_rev]; simp only; omega)]
  rfl

end

end Cert.ReferenceIdeal.Trips
-- ==== Proof.Start.lean ====
/- What the reference's loop starts from, over real arguments: the scanned arrays hold every scan's tokens. -/
module

public import proofs.«01_k».proof.Proof.Trips

@[expose] public section

set_option maxRecDepth 16384

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value DeltaScan

noncomputable section

variable (a : Args) (m : (ℓ : Loc nD τ sig) → Buf (Elt Ideal) ℓ) (c : Dev nD)

/-- Core `c` was given the numbers of `a`. -/
structure Given : Prop where
  hQ : ∀ b t l, m ((c.tc : Thread nD τ).loc main_arg0) (ix3 b t l) = (a.Q b t l : EReal)
  hK : ∀ b t l, m ((c.tc : Thread nD τ).loc main_arg1) (ix3 b t l) = (a.K b t l : EReal)
  hV : ∀ b t l, m ((c.tc : Thread nD τ).loc main_arg2) (ix3 b t l) = (a.V b t l : EReal)
  hC : ∀ b t l, m ((c.tc : Thread nD τ).loc main_arg3) (ix3 b t l) = (a.C b t l : EReal)
  hA : ∀ d h, m ((c.tc : Thread nD τ).loc main_arg4) (ix2 d h) = (a.A (DeltaScan.scan d h) : EReal)
  hD : ∀ d h, m ((c.tc : Thread nD τ).loc main_arg5) (ix2 d h) = (a.D (DeltaScan.scan d h) : EReal)

/-- A forward scan takes the rows in order. -/
theorem place_zero (h : Fin 8) (t : Fin 2048) : place (DeltaScan.scan 0 h) t.val = t := by
  have h0 : (DeltaScan.scan 0 h).val < 8 := by simp [DeltaScan.scan]
  unfold place
  rw [if_pos h0]
  exact Fin.ext (Nat.mod_eq_of_lt t.isLt)
/-- A backward scan takes the rows in reverse. -/
theorem place_one (h : Fin 8) (t : Fin 2048) : place (DeltaScan.scan 1 h) t.val = t.rev := by
  have h0 : ¬ (DeltaScan.scan 1 h).val < 8 := by simp [DeltaScan.scan]
  unfold place
  rw [if_neg h0]
  exact Fin.ext (by rw [Fin.val_rev]; simp only; omega)
/-- A head's lane does not depend on the direction. -/
theorem lane_scan (d : Fin 2) (h : Fin 8) (e : Fin 128) : lane (DeltaScan.scan d h) e = ⟨h.val * 128 + e.val, by omega⟩ :=
  Fin.ext (by simp only [lane, DeltaScan.scan]; omega)

/-- The forward strengths' columns. -/
theorem strength_zero (h : Fin 8) : strengthCol (DeltaScan.scan 0 h) = ⟨3584 + h.val, by omega⟩ :=
  Fin.ext (by simp [strengthCol, DeltaScan.scan])
/-- The backward strengths' columns. -/
theorem strength_one (h : Fin 8) : strengthCol (DeltaScan.scan 1 h) = ⟨3584 + (8 + h.val), by omega⟩ :=
  Fin.ext (by simp [strengthCol, DeltaScan.scan])
/-- The forward decays' columns. -/
theorem decay_zero (h : Fin 8) : decayCol (DeltaScan.scan 0 h) = ⟨3584 + (16 + h.val), by omega⟩ :=
  Fin.ext (by simp [decayCol, DeltaScan.scan])
/-- The backward decays' columns. -/
theorem decay_one (h : Fin 8) : decayCol (DeltaScan.scan 1 h) = ⟨3584 + (24 + h.val), by omega⟩ :=
  Fin.ext (by simp [decayCol, DeltaScan.scan]; omega)

/-- The sigmoid, its negation written without a zero. -/
theorem sigmoid_neg (x : ℝ) : Ideal.div 1 (1 + Ideal.exp (-(x : EReal))) = ((sigmoid x : ℝ) : EReal) := by
  rw [← sigmoid_coe, zero_sub]

/-- The logarithm of the decay, its negations written without a zero. -/
theorem decay_neg (a d x : ℝ) : -((Real.exp a : EReal) * (max ((x : EReal) + (d : EReal)) 0
    + Ideal.log1p (Ideal.exp (-FloatOps.absf (F := Ideal) (φ := .f32) ((x : EReal) + (d : EReal))))))
    = ((logDecay a d x : ℝ) : EReal) := by
  rw [← logDecay_coe, Ideal.exp_coe, zero_sub, zero_sub, EReal.neg_mul]
  rfl

variable {a m c} (H : Given a m c)
include H

/-- The scanned queries. -/
theorem start_q (t : Fin 2048) (d : Fin 2) (b h : Fin 8) (e : Fin 128) :
    (Entry.start m c).main_v76_0 (ix5 t d b h e) = ((tok a b (DeltaScan.scan d h)).q t.val e : EReal) := by
  have hX := H.hQ
  show Step.A_main_v69 _ _ _ _ _ _ _ = _
  generalize m ((c.tc : Thread nD τ).loc main_arg0) = X at hX ⊢
  pointwise [Step.A_main_v69, Step.A_main_v14, Step.A_main_v12, Step.A_main_v6, Step.A_main_v5, Step.A_main_v13, Step.A_main_v11]
  fin_cases d
  · simp [hX, tok, place_zero, lane_scan]
  · simp [hX, tok, place_one, lane_scan]

/-- The scanned keys. -/
theorem start_k (t : Fin 2048) (d : Fin 2) (b h : Fin 8) (e : Fin 128) :
    (Entry.start m c).main_v76_1 (ix5 t d b h e) = ((tok a b (DeltaScan.scan d h)).k t.val e : EReal) := by
  have hX := H.hK
  show Step.A_main_v70 _ _ _ _ _ _ _ = _
  generalize m ((c.tc : Thread nD τ).loc main_arg1) = X at hX ⊢
  pointwise [Step.A_main_v70, Step.A_main_v18, Step.A_main_v16, Step.A_main_v8, Step.A_main_v7, Step.A_main_v17, Step.A_main_v15]
  fin_cases d
  · simp [hX, tok, place_zero, lane_scan]
  · simp [hX, tok, place_one, lane_scan]

/-- The scanned values. -/
theorem start_v (t : Fin 2048) (d : Fin 2) (b h : Fin 8) (e : Fin 128) :
    (Entry.start m c).main_v76_2 (ix5 t d b h e) = ((tok a b (DeltaScan.scan d h)).v t.val e : EReal) := by
  have hX := H.hV
  show Step.A_main_v71 _ _ _ _ _ _ _ = _
  generalize m ((c.tc : Thread nD τ).loc main_arg2) = X at hX ⊢
  pointwise [Step.A_main_v71, Step.A_main_v22, Step.A_main_v20, Step.A_main_v10, Step.A_main_v9, Step.A_main_v21, Step.A_main_v19]
  fin_cases d
  · simp [hX, tok, place_zero, lane_scan]
  · simp [hX, tok, place_one, lane_scan]

/-- The scanned write strengths. -/
theorem start_b (t : Fin 2048) (d : Fin 2) (b h : Fin 8) :
    (Entry.start m c).main_v76_4 (ix4 t d b h) = ((tok a b (DeltaScan.scan d h)).b t.val : EReal) := by
  have hX := H.hC
  show Step.A_main_v73 _ _ _ _ _ _ _ = _
  generalize m ((c.tc : Thread nD τ).loc main_arg3) = X at hX ⊢
  pointwise [Step.A_main_v73, Step.A_main_v38, Step.A_main_v36, Step.A_main_v28, Step.K_main_v27, Step.K_main_cst_0, Step.A_main_v26, Step.K_main_v25, Step.K_main_cst, Step.A_main_v24, Step.A_main_v23, Step.A_main_v1, Step.A_main_v0, Step.A_main_v37, Step.A_main_v35, Step.A_main_v34, Step.K_main_v33, Step.K_main_cst_2, Step.A_main_v32, Step.K_main_v31, Step.K_main_cst_1, Step.A_main_v30, Step.A_main_v29, Step.A_main_v2]
  fin_cases d
  · simp [hX, tok, place_zero, strength_zero, sigmoid_neg]
  · simp [hX, tok, place_one, strength_one, sigmoid_neg]

/-- The scanned logarithms of the decays. -/
theorem start_g (t : Fin 2048) (d : Fin 2) (b h : Fin 8) :
    (Entry.start m c).main_v76_3 (ix4 t d b h) = ((tok a b (DeltaScan.scan d h)).g t.val : EReal) := by
  have hX := H.hC
  have hA := H.hA
  have hD := H.hD
  show Step.A_main_v72 _ _ _ _ _ _ _ = _
  generalize m ((c.tc : Thread nD τ).loc main_arg3) = X at hX ⊢
  generalize m ((c.tc : Thread nD τ).loc main_arg4) = Y at hA ⊢
  generalize m ((c.tc : Thread nD τ).loc main_arg5) = Z at hD ⊢
  pointwise [Step.A_main_v72, Step.A_main_v68, Step.A_main_v66, Step.A_main_v51, Step.A_main_v50, Step.A_main_v49, Step.A_main_v42, Step.A_main_v41, Step.A_main_v40, Step.A_main_v39, Step.A_main_v48, Step.A_main_call4_v4, Step.A_main_call4_v3, Step.A_main_v47, Step.A_main_v3, Step.A_main_v0, Step.A_main_v46, Step.A_main_v45, Step.A_main_v44, Step.A_main_v43, Step.K_main_call4_v2, Step.K_main_call4_cst, Step.A_main_call4_v6, Step.K_main_call4_v5, Step.A_main_call4_v11, Step.A_main_call4_v1, Step.K_main_call4_v0, Step.A_main_call4_v10, Step.A_main_call4_v9, Step.A_main_call4_v8, Step.A_main_call4_v7, Step.A_main_v67, Step.A_main_v65, Step.A_main_v64, Step.A_main_v63, Step.A_main_v62, Step.A_main_v55, Step.A_main_v54, Step.A_main_v53, Step.A_main_v52, Step.A_main_v61, Step.A_main_call5_v4, Step.A_main_call5_v3, Step.A_main_v60, Step.A_main_v4, Step.A_main_v59, Step.A_main_v58, Step.A_main_v57, Step.A_main_v56, Step.K_main_call5_v2, Step.K_main_call5_cst, Step.A_main_call5_v6, Step.K_main_call5_v5, Step.A_main_call5_v11, Step.A_main_call5_v1, Step.K_main_call5_v0, Step.A_main_call5_v10, Step.A_main_call5_v9, Step.A_main_call5_v8, Step.A_main_call5_v7]
  fin_cases d
  · simp [hX, hA, hD, tok, place_zero, decay_zero]
    exact decay_neg _ _ _
  · simp [hX, hA, hD, tok, place_one, decay_one]
    exact decay_neg _ _ _

/-- The loop starts before the first token of every scan. -/
theorem start_at : At (fun d b h => tok a b (DeltaScan.scan d h)) (entryContents preI m c) 0 where
  ctr := Entry.entry_5 m c
  state d b h i e := by
    rw [Entry.entry_6]
    show Step.K_main_v74 (F := Ideal) (ix5 d b h i e) = _
    pointwise [Step.K_main_v74, Step.K_main_cst_3]
    rfl
  outs t ht := absurd ht (by omega)
  q t d b h e := (congrFun (Entry.entry_0 m c) _).trans (start_q H t d b h e)
  k t d b h e := (congrFun (Entry.entry_1 m c) _).trans (start_k H t d b h e)
  v t d b h e := (congrFun (Entry.entry_2 m c) _).trans (start_v H t d b h e)
  g t d b h := (congrFun (Entry.entry_3 m c) _).trans (start_g H t d b h)
  b t d b h := (congrFun (Entry.entry_4 m c) _).trans (start_b H t d b h)

/-- The reference's first result is the forward result. -/
theorem result81_eq : out_main_v81 (STEP^[2048] (entryContents preI m c)) = Cert.KernelIdeal.Point.forward a := by
  funext i
  obtain ⟨z, rfl⟩ : ∃ z : Fin 8 × Fin 2048 × Fin 1024, i = ix3 z.1 z.2.1 z.2.2 :=
    ⟨(i 0, i 1, i 2), by funext a; match a with | ⟨0, _⟩ => rfl | ⟨1, _⟩ => rfl | ⟨2, _⟩ => rfl⟩
  refine (result81 ((start_at H).iterate 2048 le_rfl) _ _ _).trans ?_
  have e : DeltaScan.scan 0 ⟨z.2.2.val / 128, by omega⟩ = ⟨z.2.2.val / 128, by omega⟩ := Fin.ext (by simp [DeltaScan.scan])
  simp only [e]
  rfl

/-- The reference's second result is the backward result. -/
theorem result86_eq : out_main_v86 (STEP^[2048] (entryContents preI m c)) = Cert.KernelIdeal.Point.backward a := by
  funext i
  obtain ⟨z, rfl⟩ : ∃ z : Fin 8 × Fin 2048 × Fin 1024, i = ix3 z.1 z.2.1 z.2.2 :=
    ⟨(i 0, i 1, i 2), by funext a; match a with | ⟨0, _⟩ => rfl | ⟨1, _⟩ => rfl | ⟨2, _⟩ => rfl⟩
  refine (result86 ((start_at H).iterate 2048 le_rfl) _ _ _).trans ?_
  have e : DeltaScan.scan 1 ⟨z.2.2.val / 128, by omega⟩ = ⟨8 + z.2.2.val / 128, by omega⟩ := Fin.ext (by simp [DeltaScan.scan])
  simp only [e]
  rfl

end

end Cert.ReferenceIdeal.Trips
-- ==== Proof.Finite.lean ====
/- The precondition read as arithmetic: an argument whose size is below infinity everywhere holds real numbers. -/
module

public import proofs.«01_k».proof.Proof.Start
public import proofs.«01_k».proof.Defs

@[expose] public section

set_option maxRecDepth 16384

namespace Cert.Finite

open Idealize.ShloMosaic Idealize.ShloMosaic.TcCoe

noncomputable section

/-- The relations of shapes the precondition is written over. -/
instance preFacts : Cert.Pre_finite.Facts := ⟨by decide, by decide, by decide⟩

/-- An extended real whose size is below infinity is its real part. -/
theorem real_of_small (x : EReal) (h : BitVec.ofBool (decide (max x (-x) < ⊤)) = 1#1) : x = ((x.toReal : ℝ) : EReal) := by
  have hlt : max x (-x) < ⊤ := by
    by_contra hn
    rw [decide_eq_false hn] at h
    exact absurd h (by decide)
  rw [max_lt_iff] at hlt
  refine (EReal.coe_toReal hlt.1.ne fun hb => ?_).symm
  rw [hb] at hlt
  simp at hlt

/-- The short format's infinity is infinity. -/
theorem top_bf16 : FloatOps.ofBits (F := Ideal) .bf16 0x7F80#16 = (⊤ : EReal) := by
  show Ideal.ofBits .bf16 0x7F80#16 = ⊤
  simp [Ideal.ofBits, Ideal.ieee]

/-- The long format's infinity is infinity. -/
theorem top_f32 : FloatOps.ofBits (F := Ideal) .f32 0x7F800000#32 = (⊤ : EReal) := by
  show Ideal.ofBits .f32 0x7F800000#32 = ⊤
  simp [Ideal.ofBits, Ideal.ieee]

/-- An array of the short format that is below infinity in size everywhere holds real numbers. -/
theorem real_bf16 {s : Shape} (x : FVec Ideal s .bf16) (h)
    (e : cmpf .olt (Host.absf x) (broadcastInDim s ![] h (constant (F := Ideal) ⟨0, ![]⟩ .bf16 0x7F80#16)) = fun _ => 1#1) (i : s.Idx) :
    x i = ((EReal.toReal (x i) : ℝ) : EReal) := by
  refine real_of_small (x i) (Eq.trans ?_ (congrFun e i))
  show _ = Ideal.cmp .olt (max (x i : EReal) (-(x i : EReal))) (FloatOps.ofBits (F := Ideal) .bf16 0x7F80#16)
  rw [top_bf16]
  rfl

/-- An array of the long format that is below infinity in size everywhere holds real numbers. -/
theorem real_f32 {s : Shape} (x : FVec Ideal s .f32) (h)
    (e : cmpf .olt (Host.absf x) (broadcastInDim s ![] h (constant (F := Ideal) ⟨0, ![]⟩ .f32 0x7F800000#32)) = fun _ => 1#1) (i : s.Idx) :
    x i = ((EReal.toReal (x i) : ℝ) : EReal) := by
  refine real_of_small (x i) (Eq.trans ?_ (congrFun e i))
  show _ = Ideal.cmp .olt (max (x i : EReal) (-(x i : EReal))) (FloatOps.ofBits (F := Ideal) .f32 0x7F800000#32)
  rw [top_f32]
  rfl

end

end Cert.Finite

end
-- ==== Proof.Equation.lean ====
/- The two programs' results, equal over finite arguments: both are one function of the arguments' numbers. -/
module

public import proofs.«01_k».proof.Proof.Finite
public import Idealize.ShloMosaic.Lib.Claim

@[expose] public section

set_option maxRecDepth 16384

namespace Cert.Equation

open Idealize.ShloMosaic Idealize.ShloMosaic.TcCoe Idealize.SL.Sem

noncomputable section

section Kernel

open Cert.KernelIdeal

variable (m : (ℓ : Loc nD τ sig) → Buf (Elt Ideal) ℓ) (c : Dev nD)

/-- Core `c`'s argument of three axes, as real numbers. -/
def numbers {n : ℕ} (x : (⟨3, ![8, 2048, n]⟩ : Shape).Idx → EReal) (b : Fin 8) (t : Fin 2048) (l : Fin n) : ℝ := (x (ix3 b t l)).toReal

/-- A number per scan, of an argument whose axes are direction and head. -/
def perScan (x : (⟨2, ![2, 8]⟩ : Shape).Idx → EReal) (s : Fin 16) : ℝ :=
  (x (ix2 ⟨s.val / 8, by omega⟩ ⟨s.val % 8, by omega⟩)).toReal

/-- The number of a scan is the one at its direction and head. -/
theorem perScan_scan (x : (⟨2, ![2, 8]⟩ : Shape).Idx → EReal) (d : Fin 2) (h : Fin 8) :
    perScan x (DeltaScan.scan d h) = (x (ix2 d h)).toReal := by
  have e1 : (⟨(DeltaScan.scan d h).val / 8, by omega⟩ : Fin 2) = d := Fin.ext (by simp only [DeltaScan.scan]; omega)
  have e2 : (⟨(DeltaScan.scan d h).val % 8, by omega⟩ : Fin 8) = h := Fin.ext (by simp only [DeltaScan.scan]; omega)
  unfold perScan
  rw [e1, e2]

/-- The numbers core `c` was given. -/
def args : DeltaScan.Args where
  Q := numbers (m ((c.tc : Thread nD τ).loc main_arg0))
  K := numbers (m ((c.tc : Thread nD τ).loc main_arg1))
  V := numbers (m ((c.tc : Thread nD τ).loc main_arg2))
  C := numbers (m ((c.tc : Thread nD τ).loc main_arg3))
  A := perScan (m ((c.tc : Thread nD τ).loc main_arg4))
  D := perScan (m ((c.tc : Thread nD τ).loc main_arg5))

/-- Finite arguments are the numbers they give. -/
theorem given (h : Cert.Pre_KernelIdeal_finite m) : Point.Given (args m c) m c where
  hQ b t l := Finite.real_bf16 (m ((c.tc : Thread nD τ).loc main_arg0)) _ (h c).1 (ix3 b t l)
  hK b t l := Finite.real_bf16 (m ((c.tc : Thread nD τ).loc main_arg1)) _ (h c).2.1 (ix3 b t l)
  hV b t l := Finite.real_bf16 (m ((c.tc : Thread nD τ).loc main_arg2)) _ (h c).2.2.1 (ix3 b t l)
  hC b t l := Finite.real_f32 (m ((c.tc : Thread nD τ).loc main_arg3)) _ (h c).2.2.2.1 (ix3 b t l)
  hA d e := (Finite.real_f32 (m ((c.tc : Thread nD τ).loc main_arg4)) _ (h c).2.2.2.2.1 (ix2 d e)).trans
    (congrArg _ (perScan_scan _ d e).symm)
  hD d e := (Finite.real_f32 (m ((c.tc : Thread nD τ).loc main_arg5)) _ (h c).2.2.2.2.2 (ix2 d e)).trans
    (congrArg _ (perScan_scan _ d e).symm)

end Kernel

/-- The kernel and the reference end with equal results on finite arguments. -/
theorem algebraic : Cert.algebraic_KernelIdeal_ReferenceIdeal_pre_finite := by
  intro m g m' g' hpre hagree
  refine ⟨fun c => Cert.KernelIdeal.Point.forward (args m c), fun c => Cert.KernelIdeal.Point.backward (args m c), ?_, ?_⟩
  · refine (θ_run _ _ _).mono (fun r h c => ?_) (Cert.KernelIdeal.Value.run_blocks m g)
    have H := given m c hpre
    exact ⟨(h c).1.trans (Cert.KernelIdeal.Point.array10 H), (h c).2.1.trans (Cert.KernelIdeal.Point.array11 H), (h c).2.2⟩
  · refine (θ_run _ _ _).mono (fun r h c => ?_) (Cert.ReferenceIdeal.Value.run m' g')
    have H := given m c hpre
    obtain ⟨e0, e1, e2, e3, e4, e5⟩ := hagree c
    have H' : Cert.ReferenceIdeal.Trips.Given (args m c) m' c :=
      ⟨fun b t l => (congrFun e0 _).trans (H.hQ b t l), fun b t l => (congrFun e1 _).trans (H.hK b t l),
        fun b t l => (congrFun e2 _).trans (H.hV b t l), fun b t l => (congrFun e3 _).trans (H.hC b t l),
        fun d e => (congrFun e4 _).trans (H.hA d e), fun d e => (congrFun e5 _).trans (H.hD d e)⟩
    exact ⟨(h c).1.trans (Cert.ReferenceIdeal.Trips.result81_eq H'), (h c).2.1.trans (Cert.ReferenceIdeal.Trips.result86_eq H'), (h c).2.2⟩

/-- The reference ends with its arguments unchanged and, since it declares no semaphore, every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun r h => ⟨fun c => (h c).2.2, sem_eq_zero_of_no_sems (by decide) r.2⟩) (Cert.ReferenceIdeal.Value.run m g)

end

end Cert.Equation

end
-- ==== Proof.Layer.lean ====
/- Arithmetic shared by the layer's dense calls: the norm of a row, the gates, and sums taken block by block. -/
module

public import proofs.«01_k».proof.Proof.Equation

@[expose] public section

namespace Layer

open Idealize.ShloMosaic

noncomputable section

/-- A row divided by the root of its mean square, times the gain. -/
def norm (x g : Fin 2048 → EReal) (k : Fin 2048) : EReal :=
  x k * Ideal.rsqrt (Ideal.div (∑ l, x l * x l) (Ideal.ofBits .f32 1157627904#32) + Ideal.ofBits .f32 897988541#32) * g k

/-- The logistic function. -/
def sigmoid (a : EReal) : EReal := Ideal.div 1 (1 + Ideal.exp (0 - a))

/-- A row against a column. -/
def dot {n : ℕ} (x y : Fin n → EReal) : EReal := ∑ l, x l * y l

/-- A function of the first `N` naturals, zero past them. -/
def pad {N : ℕ} (f : Fin N → EReal) (n : ℕ) : EReal := if h : n < N then f ⟨n, h⟩ else 0

/-- Inside its range the padded function is the function. -/
theorem pad_of_lt {N : ℕ} (f : Fin N → EReal) {n : ℕ} (h : n < N) : pad f n = f ⟨n, h⟩ := dif_pos h

/-- `S` blocks of `n` terms sum what the whole axis sums. -/
theorem sum_blocks {N : ℕ} (S n : ℕ) (hN : S * n = N) (f : Fin N → EReal) :
    ∑ s ∈ Finset.range S, ∑ l : Fin n, pad f (s * n + l.val) = ∑ l, f l := by
  subst hN
  rw [← Fin.sum_univ_eq_sum_range (fun s => ∑ l : Fin n, pad f (s * n + l.val)), Fin.sum_univ_univ_mul_add S n (pad f)]
  exact Finset.sum_congr rfl fun l _ => pad_of_lt f l.isLt

/-- The bits `0x3F000000` are one half. -/
theorem half_eq : Ideal.ofBits .f32 1056964608#32 = ((1 / 2 : ℝ) : EReal) := by
  simp [Ideal.ofBits, Ideal.ieee, -EReal.coe_mul]; norm_num

/-- A finite nonnegative factor moves out of a sum. -/
theorem sum_mul_left {n : ℕ} (a : EReal) (h0 : 0 ≤ a) (ht : a ≠ ⊤) (f : Fin n → EReal) : ∑ l, a * f l = a * ∑ l, f l := by
  induction n with
  | zero => simp
  | succ n ih => rw [Fin.sum_univ_succ, Fin.sum_univ_succ, ih, EReal.left_distrib_of_nonneg_of_ne_top h0 ht]

end

end Layer
-- ==== Proof.FfnKernel.lean ====
/- The feed-forward kernel over the reals: what its blocks hold at each grid point, and its result array. -/
module

public import proofs.«01_k».proof.Proof.Layer
public import proofs.«01_k».proof.Proof.Gen.FfnIdeal.Value
public import Idealize.ShloMosaic.Lib.StableHlo.RunRead

@[expose] public section

set_option maxRecDepth 16384

namespace Cert.FfnIdeal.Rows

open Cert.FfnIdeal Cert.FfnIdeal.Gen Idealize.ShloMosaic Idealize.ShloMosaic.TcCoe Idealize.SL.Sem Layer

noncomputable section

/-- A hidden unit: half of the gated product of a row's two projections. -/
def unit (h a b : Fin 2048 → EReal) : EReal := Ideal.ofBits .f32 1056964608#32 * (dot h a * sigmoid (dot h a)) * dot h b

variable (m : (ℓ : Loc nD τ sig) → Buf (Elt Ideal) ℓ) (c : Dev nD)

/-- The residual stream, one row per token. -/
abbrev X : FVec Ideal S16384x2048 .f32 := shapeCast _ (m ((c.tc : Thread nD τ).loc main_arg0)) shapeCasts_S8x2048x2048_S16384x2048

/-- The residual stream the grid starts from. -/
theorem V_main_v0 : V m c main_v0 = X m c := by
  after_reads_simp
  rfl

/-- The norm's gain the grid starts from. -/
theorem V_main_v1 : V m c main_v1 = shapeCast S1x2048 (m ((c.tc : Thread nD τ).loc main_arg1)) shapeCasts_S2048_S1x2048 := by
  after_reads_simp
  rfl

/-- The gate matrix the grid starts from. -/
theorem V_main_v2 : V m c main_v2 = m ((c.tc : Thread nD τ).loc main_arg2) := by
  after_reads_simp
  rfl

/-- The value matrix the grid starts from. -/
theorem V_main_v3 : V m c main_v3 = m ((c.tc : Thread nD τ).loc main_arg3) := by
  after_reads_simp
  rfl

/-- The output matrix the grid starts from. -/
theorem V_main_v4 : V m c main_v4 = m ((c.tc : Thread nD τ).loc main_arg4) := by
  after_reads_simp
  rfl

/-- The normalised block at an index. -/
theorem pay2_apply (x : Vec Ideal S512x2048 .f32) (g : Vec Ideal S1x2048 .f32) (i : Fin 512) (k : Fin 2048) :
    k0_pay2 x g (ix2 i k) = norm (fun l => x (ix2 i l)) (fun l => g (ix2 0 l)) k := by
  pointwise [k0_pay2, k0_pay1]
  rfl

/-- The copied block at an index. -/
theorem pay1_apply (x : Vec Ideal S512x2048 .f32) (i : Fin 512) (k : Fin 2048) : k0_pay1 x (ix2 i k) = x (ix2 i k) := by
  pointwise [k0_pay1]

/-- What one point adds at an index. -/
theorem pay3_apply (h : Vec Ideal S512x2048 .bf16) (a b : Vec Ideal S2048x512 .bf16) (o : Vec Ideal S512x2048 .f32) (w : Vec Ideal S512x2048 .bf16) (i : Fin 512) (k : Fin 2048) :
    k0_pay3 h a b o w (ix2 i k) = o (ix2 i k) + ∑ l : Fin 512,
      unit (fun z => h (ix2 i z)) (fun z => a (ix2 z l)) (fun z => b (ix2 z l)) * w (ix2 l k) := by
  pointwise [k0_pay3]
  rfl

/-- What a row's first point leaves. -/
theorem outA (t : Fin cfg0.N) (h0 : t.val % 11 = 0) :
    (outsAt0 m c t.val t.isLt) = (k0_pay3 (k0_pay2 (iblk m c 0 t) (iblk m c 1 t)) (iblk m c 2 t) (iblk m c 3 t) (k0_pay1 (iblk m c 0 t)) (iblk m c 4 t), k0_pay2 (iblk m c 0 t) (iblk m c 1 t)) := by
  rw [outsAt0_A m c t h0]
  frame_out

/-- What a row's later points leave. -/
theorem outB (t : Fin cfg0.N) (h0 : ¬ t.val % 11 = 0) :
    (outsAt0 m c t.val t.isLt) = (k0_pay3 (outsAt0 m c (t.val - 1) (Nat.lt_of_le_of_lt (Nat.sub_le _ _) t.isLt)).2 (iblk m c 2 t) (iblk m c 3 t) (outsAt0 m c (t.val - 1) (Nat.lt_of_le_of_lt (Nat.sub_le _ _) t.isLt)).1 (iblk m c 4 t),
      (outsAt0 m c (t.val - 1) (Nat.lt_of_le_of_lt (Nat.sub_le _ _) t.isLt)).2) := by
  rw [outsAt0_B m c t h0]
  generalize outsAt0 m c (t.val - 1) _ = p
  refine Prod.ext ?_ ?_
  · frame_out
    rw [(Memref.isWhole_whole cc0_scratch0).read_unread]
  · rfl

/-- The grid has 352 points. -/
theorem N_lt (t : Fin cfg0.N) : t.val < 352 := lt_of_lt_of_eq t.isLt N_0

/-- The token of a block's row. -/
def row (t : Fin cfg0.N) (i : Fin 512) : Fin 16384 := ⟨t.val / 11 * 512 + i.val, by have := N_lt t; omega⟩

/-- The hidden unit of a block's column. -/
def col (t : Fin cfg0.N) (l : Fin 512) : Fin 5632 := ⟨t.val % 11 * 512 + l.val, by omega⟩

/-- Where window 0's block lies at each grid point. -/
theorem idx0 : ∀ t : Fin cfg0.N, win0_0.index t = ![t.val / 11, 0] :=
  (by decide +kernel : ∀ t : Fin grid0.N, win0_0.index t = ![t.val / 11, 0])

/-- Window 1 is its whole array at every grid point. -/
theorem idx1 : ∀ t : Fin cfg0.N, win0_1.index t = ![0, 0] :=
  (by decide +kernel : ∀ t : Fin grid0.N, win0_1.index t = ![0, 0])

/-- Where window 2's block lies at each grid point. -/
theorem idx2 : ∀ t : Fin cfg0.N, win0_2.index t = ![0, t.val % 11] :=
  (by decide +kernel : ∀ t : Fin grid0.N, win0_2.index t = ![0, t.val % 11])

/-- Where window 3's block lies at each grid point. -/
theorem idx3 : ∀ t : Fin cfg0.N, win0_3.index t = ![0, t.val % 11] :=
  (by decide +kernel : ∀ t : Fin grid0.N, win0_3.index t = ![0, t.val % 11])

/-- Where window 4's block lies at each grid point. -/
theorem idx4 : ∀ t : Fin cfg0.N, win0_4.index t = ![t.val % 11, 0] :=
  (by decide +kernel : ∀ t : Fin grid0.N, win0_4.index t = ![t.val % 11, 0])

/-- Where window 5's block lies at each grid point. -/
theorem idx5 : ∀ t : Fin cfg0.N, win0_5.index t = ![t.val / 11, 0] :=
  (by decide +kernel : ∀ t : Fin grid0.N, win0_5.index t = ![t.val / 11, 0])

/-- Window 0's block at an index. -/
theorem iblk0 (t : Fin cfg0.N) (i : Fin 512) (k : Fin 2048) : iblk m c 0 t (ix2 i k) = X m c (ix2 (row t i) k) := by
  rw [← V_main_v0 m c]
  unfold iblk
  rw [View.read_apply]
  show V m c main_v0 _ = _
  blk_ext [row, idx0 t]

/-- Window 1's block at an index. -/
theorem iblk1 (t : Fin cfg0.N) (k : Fin 2048) : iblk m c 1 t (ix2 0 k) = m ((c.tc : Thread nD τ).loc main_arg1) (ix1 k) := by
  have e : shapeCast S1x2048 (m ((c.tc : Thread nD τ).loc main_arg1)) shapeCasts_S2048_S1x2048 (ix2 0 k)
      = m ((c.tc : Thread nD τ).loc main_arg1) (ix1 k) := by pointwise
  rw [← e, ← V_main_v1]
  unfold iblk
  rw [View.read_apply]
  show V m c main_v1 _ = _
  blk_ext [idx1 t]

/-- Window 2's block at an index. -/
theorem iblk2 (t : Fin cfg0.N) (z : Fin 2048) (l : Fin 512) : iblk m c 2 t (ix2 z l) = m ((c.tc : Thread nD τ).loc main_arg2) (ix2 z (col t l)) := by
  rw [← V_main_v2 m c]
  unfold iblk
  rw [View.read_apply]
  show V m c main_v2 _ = _
  blk_ext [col, idx2 t]

/-- Window 3's block at an index. -/
theorem iblk3 (t : Fin cfg0.N) (z : Fin 2048) (l : Fin 512) : iblk m c 3 t (ix2 z l) = m ((c.tc : Thread nD τ).loc main_arg3) (ix2 z (col t l)) := by
  rw [← V_main_v3 m c]
  unfold iblk
  rw [View.read_apply]
  show V m c main_v3 _ = _
  blk_ext [col, idx3 t]

/-- Window 4's block at an index. -/
theorem iblk4 (t : Fin cfg0.N) (l : Fin 512) (k : Fin 2048) : iblk m c 4 t (ix2 l k) = m ((c.tc : Thread nD τ).loc main_arg4) (ix2 (col t l) k) := by
  rw [← V_main_v4 m c]
  unfold iblk
  rw [View.read_apply]
  show V m c main_v4 _ = _
  blk_ext [col, idx4 t]

/-- The normalised row of a token. -/
def hrow (r : Fin 16384) : Fin 2048 → EReal := norm (fun l => X m c (ix2 r l)) (fun l => m ((c.tc : Thread nD τ).loc main_arg1) (ix1 l))

/-- What hidden unit `l` adds to a token's output. -/
def term (r : Fin 16384) (k : Fin 2048) (l : Fin 5632) : EReal :=
  unit (hrow m c r) (fun z => m ((c.tc : Thread nD τ).loc main_arg2) (ix2 z l)) (fun z => m ((c.tc : Thread nD τ).loc main_arg3) (ix2 z l))
    * m ((c.tc : Thread nD τ).loc main_arg4) (ix2 l k)

/-- The normalised block a row's first point computes. -/
theorem first_h (t : Fin cfg0.N) (i : Fin 512) (k : Fin 2048) :
    k0_pay2 (iblk m c 0 t) (iblk m c 1 t) (ix2 i k) = hrow m c (row t i) k := by
  refine (pay2_apply _ _ i k).trans ?_
  exact congrArg₂ (fun a b => norm a b k) (funext fun l => iblk0 m c t i l) (funext fun l => iblk1 m c t l)

/-- After every point the scratch holds the normalised rows of the point's tokens. -/
theorem scratch (n : ℕ) (h : n < cfg0.N) (i : Fin 512) (k : Fin 2048) :
    (outsAt0 m c n h).2 (ix2 i k) = hrow m c (row ⟨n, h⟩ i) k := by
  induction n with
  | zero =>
    rw [outA m c ⟨0, h⟩ rfl]
    exact first_h m c ⟨0, h⟩ i k
  | succ n ih =>
    by_cases h0 : (n + 1) % 11 = 0
    · rw [outA m c ⟨n + 1, h⟩ h0]
      exact first_h m c ⟨n + 1, h⟩ i k
    · rw [outB m c ⟨n + 1, h⟩ h0]
      refine (ih (by omega)).trans ?_
      have e : row ⟨n, by omega⟩ i = row ⟨n + 1, h⟩ i := Fin.ext (by simp only [row]; omega)
      rw [e]

/-- What a point adds to the output's block. -/
theorem added (t : Fin cfg0.N) (hs : Vec Ideal S512x2048 .bf16) (o : Vec Ideal S512x2048 .f32) (i : Fin 512) (k : Fin 2048)
    (hh : ∀ z, hs (ix2 i z) = hrow m c (row t i) z) :
    k0_pay3 hs (iblk m c 2 t) (iblk m c 3 t) o (iblk m c 4 t) (ix2 i k)
      = o (ix2 i k) + ∑ l : Fin 512, pad (term m c (row t i) k) (t.val % 11 * 512 + l.val) := by
  refine (pay3_apply _ _ _ _ _ i k).trans (congrArg (o (ix2 i k) + ·) (Finset.sum_congr rfl fun l _ => ?_))
  rw [pad_of_lt _ (by omega : t.val % 11 * 512 + l.val < 5632)]
  show _ = term m c (row t i) k (col t l)
  unfold term
  refine congrArg₂ (· * ·) ?_ (iblk4 m c t l k)
  rw [show (fun z => hs (ix2 i z)) = hrow m c (row t i) from funext hh]
  exact congrArg₂ (unit (hrow m c (row t i))) (funext fun z => iblk2 m c t z l) (funext fun z => iblk3 m c t z l)

/-- After every point the output's block holds the residual stream and the hidden units read so far. -/
theorem partialSum (n : ℕ) (h : n < cfg0.N) (i : Fin 512) (k : Fin 2048) :
    (outsAt0 m c n h).1 (ix2 i k) = X m c (ix2 (row ⟨n, h⟩ i) k)
      + ∑ s ∈ Finset.range (n % 11 + 1), ∑ l : Fin 512, pad (term m c (row ⟨n, h⟩ i) k) (s * 512 + l.val) := by
  induction n with
  | zero =>
    rw [outA m c ⟨0, h⟩ rfl]
    refine (added m c ⟨0, h⟩ _ _ i k (fun z => first_h m c ⟨0, h⟩ i z)).trans ?_
    rw [pay1_apply, iblk0]
    simp
  | succ n ih =>
    by_cases h0 : (n + 1) % 11 = 0
    · rw [outA m c ⟨n + 1, h⟩ h0]
      refine (added m c ⟨n + 1, h⟩ _ _ i k (fun z => first_h m c ⟨n + 1, h⟩ i z)).trans ?_
      rw [pay1_apply, iblk0]
      simp only [h0]
      simp
    · have e : row ⟨n, by omega⟩ i = row ⟨n + 1, h⟩ i := Fin.ext (by simp only [row]; omega)
      have e2 : (n + 1) % 11 = n % 11 + 1 := by omega
      rw [outB m c ⟨n + 1, h⟩ h0]
      refine (added m c ⟨n + 1, h⟩ _ _ i k (fun z => (scratch m c n (by omega) i z).trans (by rw [e]))).trans ?_
      show (outsAt0 m c n _).1 (ix2 i k) + _ = _
      rw [ih (by omega), e]
      show _ + ∑ l : Fin 512, pad _ ((n + 1) % 11 * 512 + l.val) = _
      rw [e2, Finset.sum_range_succ _ (n % 11 + 1), add_assoc]

/-- A token's output: the residual stream and every hidden unit's part. -/
def out (i : S16384x2048.Idx) : EReal := X m c i + ∑ l, term m c (i 0) (i 1) l

/-- The result array after the grid. -/
theorem array : (dats m 0 c).arrAt 5 cfg0.N = out m c := by
  refine (dats m 0 c).arrAt_eq_of_covers 5 _ (by decide +kernel) fun t hf y => ?_
  blk_simp
  rw [after0_5]
  obtain ⟨y, rfl⟩ : ∃ z : Fin 512 × Fin 2048, y = ix2 z.1 z.2 :=
    ⟨(y 0, y 1), by funext a; match a with | ⟨0, _⟩ => rfl | ⟨1, _⟩ => rfl⟩
  refine (partialSum m c t.val t.isLt y.1 y.2).trans ?_
  have e : (win0_5.blk t).view.emb (ix2 y.1 y.2) = ix2 (row t y.1) y.2 := by
    blk_ext [row, idx5 t]
  refine Eq.trans ?_ (congrArg (out m c) e).symm
  rw [(flush0_5 t).mp hf, sum_blocks 11 512 rfl]
  rfl

end

end Cert.FfnIdeal.Rows
-- ==== Proof.FfnEquation.lean ====
/- The feed-forward call: kernel and reference give one result. -/
module

public import proofs.«01_k».proof.Proof.FfnKernel
public import proofs.«01_k».proof.Proof.Gen.FfnReferenceIdeal.Run

@[expose] public section

set_option maxRecDepth 16384

namespace Cert.FfnReferenceIdeal.Rows

open Idealize.ShloMosaic Idealize.ShloMosaic.TcCoe Idealize.SL.Sem Layer
open Cert.FfnReferenceIdeal Cert.FfnReferenceIdeal.Gen

noncomputable section

/-- The reference's normalised rows. -/
def normed (X : FVec Ideal S16384x2048 .f32) (g : FVec Ideal S2048 .f32) : FVec Ideal S16384x2048 .f32 :=
  (mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g)))

/-- A normalised row at an index. -/
theorem normed_apply (X : FVec Ideal S16384x2048 .f32) (g : FVec Ideal S2048 .f32) (r : Fin 16384) (k : Fin 2048) :
    normed X g (ix2 r k) = norm (fun l => X (ix2 r l)) (fun l => g (ix1 l)) k := by
  pointwise [normed]
  rfl

/-- The reference's hidden units, from a row's two projections. -/
def hidden (H : FVec Ideal S16384x2048 .f32) (a b : FVec Ideal S2048x5632 .f32) : FVec Ideal S16384x5632 .f32 :=
  mulf (mulf (Host.dotGeneral dot_S16384x2048_S2048x5632_S16384x5632_1_0_0_1_n_n none H a)
      (Host.divf (broadcastInDim S16384x5632 ![] bcast_S_S16384x5632 (constant S_ .f32 0x3F800000#32))
        (addf (broadcastInDim S16384x5632 ![] bcast_S_S16384x5632 (constant S_ .f32 0x3F800000#32))
          (Host.exp (Host.negf (Host.dotGeneral dot_S16384x2048_S2048x5632_S16384x5632_1_0_0_1_n_n none H a))))))
    (Host.dotGeneral dot_S16384x2048_S2048x5632_S16384x5632_1_0_0_1_n_n none H b)

/-- A hidden unit at an index. -/
theorem hidden_apply (H : FVec Ideal S16384x2048 .f32) (a b : FVec Ideal S2048x5632 .f32) (r : Fin 16384) (l : Fin 5632) :
    hidden H a b (ix2 r l) = (dot (fun z => H (ix2 r z)) (fun z => a (ix2 z l)) * sigmoid (dot (fun z => H (ix2 r z)) (fun z => a (ix2 z l))))
      * dot (fun z => H (ix2 r z)) (fun z => b (ix2 z l)) := by
  pointwise [hidden]
  unfold sigmoid
  rw [zero_sub]
  rfl

/-- The reference's result: the residual stream and half of the hidden units against the output matrix. -/
def result (X : FVec Ideal S16384x2048 .f32) (Y : FVec Ideal S16384x5632 .f32) (w : FVec Ideal S5632x2048 .f32) : FVec Ideal S16384x2048 .f32 :=
  addf X (mulf (broadcastInDim S16384x2048 ![] bcast_S_S16384x2048 (constant S_ .f32 0x3F000000#32))
    (Host.dotGeneral dot_S16384x5632_S5632x2048_S16384x2048_1_0_0_1_n_n none Y w))

/-- The result at an index. -/
theorem result_apply (X : FVec Ideal S16384x2048 .f32) (Y : FVec Ideal S16384x5632 .f32) (w : FVec Ideal S5632x2048 .f32)
    (r : Fin 16384) (k : Fin 2048) :
    result X Y w (ix2 r k) = X (ix2 r k) + Ideal.ofBits .f32 1056964608#32 * ∑ l, Y (ix2 r l) * w (ix2 l k) := by
  pointwise [result]

variable (m : (ℓ : Loc Cert.FfnIdeal.nD Cert.FfnIdeal.τ Cert.FfnIdeal.sig) → Buf (Elt Ideal) ℓ) (c : Dev Cert.FfnIdeal.nD)

/-- The reference's formula is the kernel's result array. -/
theorem result_eq : result (Cert.FfnIdeal.Rows.X m c) (hidden (normed (Cert.FfnIdeal.Rows.X m c) (m ((c.tc : Thread Cert.FfnIdeal.nD Cert.FfnIdeal.τ).loc Cert.FfnIdeal.main_arg1)))
      (m ((c.tc : Thread Cert.FfnIdeal.nD Cert.FfnIdeal.τ).loc Cert.FfnIdeal.main_arg2)) (m ((c.tc : Thread Cert.FfnIdeal.nD Cert.FfnIdeal.τ).loc Cert.FfnIdeal.main_arg3)))
      (m ((c.tc : Thread Cert.FfnIdeal.nD Cert.FfnIdeal.τ).loc Cert.FfnIdeal.main_arg4)) = Cert.FfnIdeal.Rows.out m c := by
  funext i
  obtain ⟨y, rfl⟩ : ∃ z : Fin 16384 × Fin 2048, i = ix2 z.1 z.2 :=
    ⟨(i 0, i 1), by funext a; match a with | ⟨0, _⟩ => rfl | ⟨1, _⟩ => rfl⟩
  refine (result_apply _ _ _ y.1 y.2).trans (congrArg (Cert.FfnIdeal.Rows.X m c (ix2 y.1 y.2) + ·) ?_)
  rw [← sum_mul_left _ (by rw [half_eq]; exact_mod_cast (by norm_num : (0:ℝ) ≤ 1 / 2)) (by rw [half_eq]; exact EReal.coe_ne_top _)]
  refine Finset.sum_congr rfl fun l _ => ?_
  rw [hidden_apply]
  have e : (fun z => normed (Cert.FfnIdeal.Rows.X m c) (m ((c.tc : Thread Cert.FfnIdeal.nD Cert.FfnIdeal.τ).loc Cert.FfnIdeal.main_arg1)) (ix2 y.1 z)) = Cert.FfnIdeal.Rows.hrow m c y.1 :=
    funext fun z => normed_apply _ _ y.1 z
  rw [e]
  show _ = Cert.FfnIdeal.Rows.term m c y.1 y.2 l
  unfold Cert.FfnIdeal.Rows.term Cert.FfnIdeal.Rows.unit
  simp only [mul_assoc]

/-- Kernel and reference, run on the same arguments, end with equal results. -/
theorem algebraic : Cert.algebraic_FfnIdeal_FfnReferenceIdeal := by
  intro m g m' g' _ hagree
  refine ⟨fun c => Cert.FfnIdeal.Rows.out m c, ?_, ?_⟩
  · refine (θ_run _ _ _).mono (fun r h c => ?_) (Cert.FfnIdeal.Value.run_blocks m g)
    exact ⟨(h c).1.trans (Cert.FfnIdeal.Rows.array m c), (h c).2⟩
  · refine (θ_run _ _ _).mono (fun r h c => ?_) (Cert.FfnReferenceIdeal.Value.run m' g')
    obtain ⟨e0, e1, e2, e3, e4⟩ := hagree c
    refine ⟨(h c).1.trans (Eq.trans ?_ (result_eq m c)), (h c).2⟩
    unfold Cert.FfnIdeal.Rows.X
    rw [← e0, ← e1, ← e2, ← e3, ← e4]
    rfl

/-- The reference ends with its arguments unchanged and, since it declares no semaphore, every counter at zero. -/
theorem reference_frame (m : (ℓ : Loc Cert.FfnReferenceIdeal.nD Cert.FfnReferenceIdeal.τ Cert.FfnReferenceIdeal.sig) → Buf (Elt Ideal) ℓ) (g : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, g⟩ (fun r =>
      (∀ c : Dev Cert.FfnReferenceIdeal.nD,
        r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
        ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
        ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
        ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
        ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0) :=
  (θ_run _ _ _).mono (fun r h => ⟨fun c => (h c).2, sem_eq_zero_of_no_sems (by decide) r.2⟩) (Cert.FfnReferenceIdeal.Value.run m g)

end

end Cert.FfnReferenceIdeal.Rows
-- ==== Proof.FinalKernel.lean ====
/- The last norm's kernel over the reals: its result array. -/
module

public import proofs.«01_k».proof.Proof.FfnEquation
public import proofs.«01_k».proof.Proof.Gen.FinalIdeal.Value
public import Idealize.ShloMosaic.Lib.StableHlo.RunRead

@[expose] public section

set_option maxRecDepth 16384

namespace Cert.FinalIdeal.Rows

open Cert.FinalIdeal Cert.FinalIdeal.Gen Idealize.ShloMosaic Idealize.ShloMosaic.TcCoe Idealize.SL.Sem Layer

noncomputable section

variable (m : (ℓ : Loc nD τ sig) → Buf (Elt Ideal) ℓ) (c : Dev nD)

/-- The residual stream, one row per token. -/
abbrev X : FVec Ideal S16384x2048 .f32 := shapeCast _ (m ((c.tc : Thread nD τ).loc main_arg0)) shapeCasts_S8x2048x2048_S16384x2048

/-- The residual stream the grid starts from. -/
theorem V_main_v0 : V m c main_v0 = X m c := by
  after_reads_simp
  rfl

/-- The norm's gain the grid starts from. -/
theorem V_main_v1 : V m c main_v1 = shapeCast S1x2048 (m ((c.tc : Thread nD τ).loc main_arg1)) shapeCasts_S2048_S1x2048 := by
  after_reads_simp
  rfl

/-- The normalised block at an index. -/
theorem pay1_apply (x : Vec Ideal S512x2048 .f32) (g : Vec Ideal S1x2048 .f32) (i : Fin 512) (k : Fin 2048) :
    k0_pay1 x g (ix2 i k) = norm (fun l => x (ix2 i l)) (fun l => g (ix2 0 l)) k := by
  pointwise [k0_pay1]
  rfl

/-- The grid has 32 points. -/
theorem N_lt (t : Fin cfg0.N) : t.val < 32 := lt_of_lt_of_eq t.isLt N_0

/-- The token of a block's row. -/
def row (t : Fin cfg0.N) (i : Fin 512) : Fin 16384 := ⟨t.val * 512 + i.val, by have := N_lt t; omega⟩

/-- Where window 0's block lies at each grid point. -/
theorem idx0 : ∀ t : Fin cfg0.N, win0_0.index t = ![t.val, 0] :=
  (by decide +kernel : ∀ t : Fin grid0.N, win0_0.index t = ![t.val, 0])

/-- Window 1 is its whole array at every grid point. -/
theorem idx1 : ∀ t : Fin cfg0.N, win0_1.index t = ![0, 0] :=
  (by decide +kernel : ∀ t : Fin grid0.N, win0_1.index t = ![0, 0])

/-- Where window 2's block lies at each grid point. -/
theorem idx2 : ∀ t : Fin cfg0.N, win0_2.index t = ![t.val, 0] :=
  (by decide +kernel : ∀ t : Fin grid0.N, win0_2.index t = ![t.val, 0])

/-- Window 0's block at an index. -/
theorem iblk0 (t : Fin cfg0.N) (i : Fin 512) (k : Fin 2048) : iblk m c 0 t (ix2 i k) = X m c (ix2 (row t i) k) := by
  rw [← V_main_v0 m c]
  unfold iblk
  rw [View.read_apply]
  show V m c main_v0 _ = _
  blk_ext [row, idx0 t]

/-- Window 1's block at an index. -/
theorem iblk1 (t : Fin cfg0.N) (k : Fin 2048) : iblk m c 1 t (ix2 0 k) = m ((c.tc : Thread nD τ).loc main_arg1) (ix1 k) := by
  have e : shapeCast S1x2048 (m ((c.tc : Thread nD τ).loc main_arg1)) shapeCasts_S2048_S1x2048 (ix2 0 k)
      = m ((c.tc : Thread nD τ).loc main_arg1) (ix1 k) := by pointwise
  rw [← e, ← V_main_v1]
  unfold iblk
  rw [View.read_apply]
  show V m c main_v1 _ = _
  blk_ext [idx1 t]

/-- The normalised row of a token. -/
def hrow (r : Fin 16384) : Fin 2048 → EReal := norm (fun l => X m c (ix2 r l)) (fun l => m ((c.tc : Thread nD τ).loc main_arg1) (ix1 l))

/-- The normalised block a row's first point computes. -/
theorem first_h (t : Fin cfg0.N) (i : Fin 512) (k : Fin 2048) :
    k0_pay1 (iblk m c 0 t) (iblk m c 1 t) (ix2 i k) = hrow m c (row t i) k := by
  refine (pay1_apply _ _ i k).trans ?_
  exact congrArg₂ (fun a b => norm a b k) (funext fun l => iblk0 m c t i l) (funext fun l => iblk1 m c t l)

/-- A token's output: its normalised row. -/
def out (i : S16384x2048.Idx) : EReal := hrow m c (i 0) (i 1)

/-- A point's block is the normalised block. -/
theorem out0_eq (t : Fin cfg0.N) : out0_2 (iblk m c 0 t) (iblk m c 1 t) = k0_pay1 (iblk m c 0 t) (iblk m c 1 t) := by
  frame_out

/-- The result array after the grid. -/
theorem array : (dats m 0 c).arrAt 2 cfg0.N = out m c := by
  refine (dats m 0 c).arrAt_eq_of_covers 2 _ (by decide +kernel) fun t hf y => ?_
  blk_simp
  rw [after0_2]
  obtain ⟨y, rfl⟩ : ∃ z : Fin 512 × Fin 2048, y = ix2 z.1 z.2 :=
    ⟨(y 0, y 1), by funext a; match a with | ⟨0, _⟩ => rfl | ⟨1, _⟩ => rfl⟩
  refine ((congrFun (out0_eq m c t) _).trans (first_h m c t y.1 y.2)).trans ?_
  have e : (win0_2.blk t).view.emb (ix2 y.1 y.2) = ix2 (row t y.1) y.2 := by
    blk_ext [row, idx2 t]
  exact (congrArg (out m c) e).symm

end

end Cert.FinalIdeal.Rows
-- ==== Proof.FinalEquation.lean ====
/- The last norm: kernel and reference give one result. -/
module

public import proofs.«01_k».proof.Proof.FinalKernel
public import proofs.«01_k».proof.Proof.Gen.FinalReferenceIdeal.Run

@[expose] public section

set_option maxRecDepth 16384

namespace Cert.FinalReferenceIdeal.Rows

open Idealize.ShloMosaic Idealize.ShloMosaic.TcCoe Idealize.SL.Sem Layer
open Cert.FinalReferenceIdeal Cert.FinalReferenceIdeal.Gen

noncomputable section

/-- The reference's normalised rows. -/
def normed (X : FVec Ideal S16384x2048 .f32) (g : FVec Ideal S2048 .f32) : FVec Ideal S16384x2048 .f32 :=
  (mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g)))

/-- A normalised row at an index. -/
theorem normed_apply (X : FVec Ideal S16384x2048 .f32) (g : FVec Ideal S2048 .f32) (r : Fin 16384) (k : Fin 2048) :
    normed X g (ix2 r k) = norm (fun l => X (ix2 r l)) (fun l => g (ix1 l)) k := by
  pointwise [normed]
  rfl

variable (m : (ℓ : Loc Cert.FinalIdeal.nD Cert.FinalIdeal.τ Cert.FinalIdeal.sig) → Buf (Elt Ideal) ℓ) (c : Dev Cert.FinalIdeal.nD)

/-- The reference's formula is the kernel's result array. -/
theorem result_eq : normed (Cert.FinalIdeal.Rows.X m c) (m ((c.tc : Thread Cert.FinalIdeal.nD Cert.FinalIdeal.τ).loc Cert.FinalIdeal.main_arg1)) = Cert.FinalIdeal.Rows.out m c := by
  funext i
  obtain ⟨y, rfl⟩ : ∃ z : Fin 16384 × Fin 2048, i = ix2 z.1 z.2 :=
    ⟨(i 0, i 1), by funext a; match a with | ⟨0, _⟩ => rfl | ⟨1, _⟩ => rfl⟩
  exact normed_apply _ _ y.1 y.2

/-- Kernel and reference, run on the same arguments, end with equal results. -/
theorem algebraic : Cert.algebraic_FinalIdeal_FinalReferenceIdeal := by
  intro m g m' g' _ hagree
  refine ⟨fun c => Cert.FinalIdeal.Rows.out m c, ?_, ?_⟩
  · refine (θ_run _ _ _).mono (fun r h c => ?_) (Cert.FinalIdeal.Value.run_blocks m g)
    exact ⟨(h c).1.trans (Cert.FinalIdeal.Rows.array m c), (h c).2⟩
  · refine (θ_run _ _ _).mono (fun r h c => ?_) (Cert.FinalReferenceIdeal.Value.run m' g')
    obtain ⟨e0, e1⟩ := hagree c
    refine ⟨(h c).1.trans (Eq.trans ?_ (result_eq m c)), (h c).2⟩
    unfold Cert.FinalIdeal.Rows.X
    rw [← e0, ← e1]
    rfl

/-- The reference ends with its arguments unchanged and, since it declares no semaphore, every counter at zero. -/
theorem reference_frame (m : (ℓ : Loc Cert.FinalReferenceIdeal.nD Cert.FinalReferenceIdeal.τ Cert.FinalReferenceIdeal.sig) → Buf (Elt Ideal) ℓ) (g : Dev Cert.FinalReferenceIdeal.nD → PrngReg) :
    θ_run (Cert.FinalReferenceIdeal.defs (F := Ideal)) (onTc (τ := Cert.FinalReferenceIdeal.τ) (Cert.FinalReferenceIdeal.main (F := Ideal))) ⟨m, fun _ => 0, g⟩ (fun r =>
      (∀ c : Dev Cert.FinalReferenceIdeal.nD,
        r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
        ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0) :=
  (θ_run _ _ _).mono (fun r h => ⟨fun c => (h c).2, sem_eq_zero_of_no_sems (by decide) r.2⟩) (Cert.FinalReferenceIdeal.Value.run m g)

end

end Cert.FinalReferenceIdeal.Rows
-- ==== Proof.PleKernel.lean ====
/- The per-layer embedding's kernel over the reals: what its blocks hold at each grid point, and its result array. -/
module

public import proofs.«01_k».proof.Proof.FinalEquation
public import proofs.«01_k».proof.Proof.Gen.PleIdeal.Value
public import Idealize.ShloMosaic.Lib.StableHlo.RunRead

@[expose] public section

set_option maxRecDepth 16384

namespace Cert.PleIdeal.Rows

open Cert.PleIdeal Cert.PleIdeal.Gen Idealize.ShloMosaic Idealize.ShloMosaic.TcCoe Idealize.SL.Sem Layer

noncomputable section

variable (m : (ℓ : Loc nD τ sig) → Buf (Elt Ideal) ℓ) (c : Dev nD)

/-- The residual stream, one row per token. -/
abbrev X : FVec Ideal S16384x2048 .f32 := shapeCast _ (m ((c.tc : Thread nD τ).loc main_arg0)) shapeCasts_S8x2048x2048_S16384x2048

/-- The layer's embeddings, one row per token. -/
abbrev P : FVec Ideal S16384x256 .f32 := shapeCast _ (m ((c.tc : Thread nD τ).loc main_arg1)) shapeCasts_S8x2048x256_S16384x256

/-- The residual stream the grid starts from. -/
theorem V_main_v0 : V m c main_v0 = X m c := by
  after_reads_simp
  rfl

/-- The embeddings the grid starts from. -/
theorem V_main_v1 : V m c main_v1 = P m c := by
  after_reads_simp
  rfl

/-- The norm's gain the grid starts from. -/
theorem V_main_v2 : V m c main_v2 = shapeCast S1x2048 (m ((c.tc : Thread nD τ).loc main_arg2)) shapeCasts_S2048_S1x2048 := by
  after_reads_simp
  rfl

/-- The gate matrix the grid starts from. -/
theorem V_main_v3 : V m c main_v3 = m ((c.tc : Thread nD τ).loc main_arg3) := by
  after_reads_simp
  rfl

/-- The embedding matrix the grid starts from. -/
theorem V_main_v4 : V m c main_v4 = m ((c.tc : Thread nD τ).loc main_arg4) := by
  after_reads_simp
  rfl

/-- The normalised block at an index. -/
theorem pay1_apply (x : Vec Ideal S512x2048 .f32) (g : Vec Ideal S1x2048 .f32) (i : Fin 512) (k : Fin 2048) :
    k0_pay1 x g (ix2 i k) = norm (fun l => x (ix2 i l)) (fun l => g (ix2 0 l)) k := by
  pointwise [k0_pay1]
  rfl

/-- What one point stores at an index. -/
theorem pay2_apply (h : Vec Ideal S512x2048 .bf16) (a : Vec Ideal S2048x1024 .bf16) (p : Vec Ideal S512x256 .f32) (b : Vec Ideal S256x1024 .bf16) (x : Vec Ideal S512x1024 .f32) (i : Fin 512) (k : Fin 1024) :
    k0_pay2 h a p b x (ix2 i k) = x (ix2 i k)
      + dot (fun z => p (ix2 i z)) (fun z => b (ix2 z k)) * sigmoid (dot (fun z => h (ix2 i z)) (fun z => a (ix2 z k))) := by
  pointwise [k0_pay2]
  rfl

/-- What a row's first point leaves. -/
theorem outA (t : Fin cfg0.N) (h0 : t.val % 2 = 0) :
    (outsAt0 m c t.val t.isLt) = (k0_pay2 (k0_pay1 (iblk m c 0 t) (iblk m c 3 t)) (iblk m c 4 t) (iblk m c 2 t) (iblk m c 5 t) (iblk m c 1 t), k0_pay1 (iblk m c 0 t) (iblk m c 3 t)) := by
  rw [outsAt0_A m c t h0]
  frame_out

/-- What a row's later points leave. -/
theorem outB (t : Fin cfg0.N) (h0 : ¬ t.val % 2 = 0) :
    (outsAt0 m c t.val t.isLt) = (k0_pay2 (outsAt0 m c (t.val - 1) (Nat.lt_of_le_of_lt (Nat.sub_le _ _) t.isLt)).2 (iblk m c 4 t) (iblk m c 2 t) (iblk m c 5 t) (iblk m c 1 t),
      (outsAt0 m c (t.val - 1) (Nat.lt_of_le_of_lt (Nat.sub_le _ _) t.isLt)).2) := by
  rw [outsAt0_B m c t h0]
  generalize outsAt0 m c (t.val - 1) _ = p
  refine Prod.ext ?_ ?_
  · frame_out
    rw [(Memref.isWhole_whole cc0_scratch0).read_unread]
  · rfl

/-- The grid has 64 points. -/
theorem N_lt (t : Fin cfg0.N) : t.val < 64 := lt_of_lt_of_eq t.isLt N_0

/-- The token of a block's row. -/
def row (t : Fin cfg0.N) (i : Fin 512) : Fin 16384 := ⟨t.val / 2 * 512 + i.val, by have := N_lt t; omega⟩

/-- The column of a block's column. -/
def col (t : Fin cfg0.N) (l : Fin 1024) : Fin 2048 := ⟨t.val % 2 * 1024 + l.val, by omega⟩

/-- Where window 0's block lies at each grid point. -/
theorem idx0 : ∀ t : Fin cfg0.N, win0_0.index t = ![t.val / 2, 0] :=
  (by decide +kernel : ∀ t : Fin grid0.N, win0_0.index t = ![t.val / 2, 0])

/-- Where window 1's block lies at each grid point. -/
theorem idx1 : ∀ t : Fin cfg0.N, win0_1.index t = ![t.val / 2, t.val % 2] :=
  (by decide +kernel : ∀ t : Fin grid0.N, win0_1.index t = ![t.val / 2, t.val % 2])

/-- Where window 2's block lies at each grid point. -/
theorem idx2 : ∀ t : Fin cfg0.N, win0_2.index t = ![t.val / 2, 0] :=
  (by decide +kernel : ∀ t : Fin grid0.N, win0_2.index t = ![t.val / 2, 0])

/-- Window 3 is its whole array at every grid point. -/
theorem idx3 : ∀ t : Fin cfg0.N, win0_3.index t = ![0, 0] :=
  (by decide +kernel : ∀ t : Fin grid0.N, win0_3.index t = ![0, 0])

/-- Where window 4's block lies at each grid point. -/
theorem idx4 : ∀ t : Fin cfg0.N, win0_4.index t = ![0, t.val % 2] :=
  (by decide +kernel : ∀ t : Fin grid0.N, win0_4.index t = ![0, t.val % 2])

/-- Where window 5's block lies at each grid point. -/
theorem idx5 : ∀ t : Fin cfg0.N, win0_5.index t = ![0, t.val % 2] :=
  (by decide +kernel : ∀ t : Fin grid0.N, win0_5.index t = ![0, t.val % 2])

/-- Where window 6's block lies at each grid point. -/
theorem idx6 : ∀ t : Fin cfg0.N, win0_6.index t = ![t.val / 2, t.val % 2] :=
  (by decide +kernel : ∀ t : Fin grid0.N, win0_6.index t = ![t.val / 2, t.val % 2])

/-- Window 0's block at an index. -/
theorem iblk0 (t : Fin cfg0.N) (i : Fin 512) (k : Fin 2048) : iblk m c 0 t (ix2 i k) = X m c (ix2 (row t i) k) := by
  rw [← V_main_v0 m c]
  unfold iblk
  rw [View.read_apply]
  show V m c main_v0 _ = _
  blk_ext [row, idx0 t]

/-- Window 1's block at an index. -/
theorem iblk1 (t : Fin cfg0.N) (i : Fin 512) (k : Fin 1024) : iblk m c 1 t (ix2 i k) = X m c (ix2 (row t i) (col t k)) := by
  rw [← V_main_v0 m c]
  unfold iblk
  rw [View.read_apply]
  show V m c main_v0 _ = _
  blk_ext [row, col, idx1 t]

/-- Window 2's block at an index. -/
theorem iblk2 (t : Fin cfg0.N) (i : Fin 512) (k : Fin 256) : iblk m c 2 t (ix2 i k) = P m c (ix2 (row t i) k) := by
  rw [← V_main_v1 m c]
  unfold iblk
  rw [View.read_apply]
  show V m c main_v1 _ = _
  blk_ext [row, idx2 t]

/-- Window 3's block at an index. -/
theorem iblk3 (t : Fin cfg0.N) (k : Fin 2048) : iblk m c 3 t (ix2 0 k) = m ((c.tc : Thread nD τ).loc main_arg2) (ix1 k) := by
  have e : shapeCast S1x2048 (m ((c.tc : Thread nD τ).loc main_arg2)) shapeCasts_S2048_S1x2048 (ix2 0 k)
      = m ((c.tc : Thread nD τ).loc main_arg2) (ix1 k) := by pointwise
  rw [← e, ← V_main_v2]
  unfold iblk
  rw [View.read_apply]
  show V m c main_v2 _ = _
  blk_ext [idx3 t]

/-- Window 4's block at an index. -/
theorem iblk4 (t : Fin cfg0.N) (i : Fin 2048) (k : Fin 1024) : iblk m c 4 t (ix2 i k) = m ((c.tc : Thread nD τ).loc main_arg3) (ix2 i (col t k)) := by
  rw [← V_main_v3 m c]
  unfold iblk
  rw [View.read_apply]
  show V m c main_v3 _ = _
  blk_ext [col, idx4 t]

/-- Window 5's block at an index. -/
theorem iblk5 (t : Fin cfg0.N) (i : Fin 256) (k : Fin 1024) : iblk m c 5 t (ix2 i k) = m ((c.tc : Thread nD τ).loc main_arg4) (ix2 i (col t k)) := by
  rw [← V_main_v4 m c]
  unfold iblk
  rw [View.read_apply]
  show V m c main_v4 _ = _
  blk_ext [col, idx5 t]

/-- The normalised row of a token. -/
def hrow (r : Fin 16384) : Fin 2048 → EReal := norm (fun l => X m c (ix2 r l)) (fun l => m ((c.tc : Thread nD τ).loc main_arg2) (ix1 l))

/-- The normalised block a row's first point computes. -/
theorem first_h (t : Fin cfg0.N) (i : Fin 512) (k : Fin 2048) :
    k0_pay1 (iblk m c 0 t) (iblk m c 3 t) (ix2 i k) = hrow m c (row t i) k := by
  refine (pay1_apply _ _ i k).trans ?_
  exact congrArg₂ (fun a b => norm a b k) (funext fun l => iblk0 m c t i l) (funext fun l => iblk3 m c t l)

/-- After every point the scratch holds the normalised rows of the point's tokens. -/
theorem scratch (n : ℕ) (h : n < cfg0.N) (i : Fin 512) (k : Fin 2048) :
    (outsAt0 m c n h).2 (ix2 i k) = hrow m c (row ⟨n, h⟩ i) k := by
  induction n with
  | zero =>
    rw [outA m c ⟨0, h⟩ rfl]
    exact first_h m c ⟨0, h⟩ i k
  | succ n ih =>
    by_cases h0 : (n + 1) % 2 = 0
    · rw [outA m c ⟨n + 1, h⟩ h0]
      exact first_h m c ⟨n + 1, h⟩ i k
    · rw [outB m c ⟨n + 1, h⟩ h0]
      refine (ih (by omega)).trans ?_
      have e : row ⟨n, by omega⟩ i = row ⟨n + 1, h⟩ i := Fin.ext (by simp only [row]; omega)
      rw [e]

/-- A token's output: the residual stream and the gated embedding. -/
def out (i : S16384x2048.Idx) : EReal := X m c (ix2 (i 0) (i 1))
  + dot (fun z => P m c (ix2 (i 0) z)) (fun z => m ((c.tc : Thread nD τ).loc main_arg4) (ix2 z (i 1)))
    * sigmoid (dot (hrow m c (i 0)) (fun z => m ((c.tc : Thread nD τ).loc main_arg3) (ix2 z (i 1))))

/-- What a point stores, once the scratch holds the normalised rows. -/
theorem stored (t : Fin cfg0.N) (hs : Vec Ideal S512x2048 .bf16) (i : Fin 512) (k : Fin 1024)
    (hh : ∀ z, hs (ix2 i z) = hrow m c (row t i) z) :
    k0_pay2 hs (iblk m c 4 t) (iblk m c 2 t) (iblk m c 5 t) (iblk m c 1 t) (ix2 i k) = out m c (ix2 (row t i) (col t k)) := by
  refine (pay2_apply _ _ _ _ _ i k).trans ?_
  rw [show (fun z => hs (ix2 i z)) = hrow m c (row t i) from funext hh]
  refine congrArg₂ (· + ·) (iblk1 m c t i k) (congrArg₂ (· * ·) ?_ (congrArg sigmoid ?_))
  · exact congrArg₂ dot (funext fun z => iblk2 m c t i z) (funext fun z => iblk5 m c t z k)
  · exact congrArg (dot (hrow m c (row t i))) (funext fun z => iblk4 m c t z k)

/-- After every point the output's block holds the result's block. -/
theorem block (t : Fin cfg0.N) (i : Fin 512) (k : Fin 1024) :
    (outsAt0 m c t.val t.isLt).1 (ix2 i k) = out m c (ix2 (row t i) (col t k)) := by
  by_cases h0 : t.val % 2 = 0
  · rw [outA m c t h0]
    exact stored m c t _ i k (fun z => first_h m c t i z)
  · rw [outB m c t h0]
    refine stored m c t _ i k (fun z => (scratch m c (t.val - 1) _ i z).trans ?_)
    have e : row ⟨t.val - 1, Nat.lt_of_le_of_lt (Nat.sub_le _ _) t.isLt⟩ i = row t i := Fin.ext (by simp only [row]; omega)
    rw [e]

/-- The result array after the grid. -/
theorem array : (dats m 0 c).arrAt 6 cfg0.N = out m c := by
  refine (dats m 0 c).arrAt_eq_of_covers 6 _ (by decide +kernel) fun t hf y => ?_
  blk_simp
  rw [after0_6]
  obtain ⟨y, rfl⟩ : ∃ z : Fin 512 × Fin 1024, y = ix2 z.1 z.2 :=
    ⟨(y 0, y 1), by funext a; match a with | ⟨0, _⟩ => rfl | ⟨1, _⟩ => rfl⟩
  refine (block m c t y.1 y.2).trans ?_
  have e : (win0_6.blk t).view.emb (ix2 y.1 y.2) = ix2 (row t y.1) (col t y.2) := by
    blk_ext [row, col, idx6 t]
  exact (congrArg (out m c) e).symm

end

end Cert.PleIdeal.Rows
-- ==== Proof.PleEquation.lean ====
/- The per-layer embedding: kernel and reference give one result. -/
module

public import proofs.«01_k».proof.Proof.PleKernel
public import proofs.«01_k».proof.Proof.Gen.PleReferenceIdeal.Run

@[expose] public section

set_option maxRecDepth 16384

namespace Cert.PleReferenceIdeal.Rows

open Idealize.ShloMosaic Idealize.ShloMosaic.TcCoe Idealize.SL.Sem Layer
open Cert.PleReferenceIdeal Cert.PleReferenceIdeal.Gen

noncomputable section

/-- The reference's normalised rows. -/
def normed (X : FVec Ideal S16384x2048 .f32) (g : FVec Ideal S2048 .f32) : FVec Ideal S16384x2048 .f32 :=
  (mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g)))

/-- A normalised row at an index. -/
theorem normed_apply (X : FVec Ideal S16384x2048 .f32) (g : FVec Ideal S2048 .f32) (r : Fin 16384) (k : Fin 2048) :
    normed X g (ix2 r k) = norm (fun l => X (ix2 r l)) (fun l => g (ix1 l)) k := by
  pointwise [normed]
  rfl

/-- The reference's result: the residual stream and the gated embedding. -/
def result (X : FVec Ideal S16384x2048 .f32) (P : FVec Ideal S16384x256 .f32) (H : FVec Ideal S16384x2048 .f32) (a : FVec Ideal S2048x2048 .f32) (b : FVec Ideal S256x2048 .f32) :
    FVec Ideal S16384x2048 .f32 :=
  addf X (mulf (Host.dotGeneral dot_S16384x256_S256x2048_S16384x2048_1_0_0_1_n_n none P b)
    (Host.divf (broadcastInDim S16384x2048 ![] bcast_S_S16384x2048 (constant S_ .f32 0x3F800000#32))
      (addf (broadcastInDim S16384x2048 ![] bcast_S_S16384x2048 (constant S_ .f32 0x3F800000#32))
        (Host.exp (Host.negf (Host.dotGeneral dot_S16384x2048_S2048x2048_S16384x2048_1_0_0_1_n_n none H a))))))

/-- The result at an index. -/
theorem result_apply (X : FVec Ideal S16384x2048 .f32) (P : FVec Ideal S16384x256 .f32) (H : FVec Ideal S16384x2048 .f32) (a : FVec Ideal S2048x2048 .f32) (b : FVec Ideal S256x2048 .f32)
    (r : Fin 16384) (k : Fin 2048) :
    result X P H a b (ix2 r k) = X (ix2 r k)
      + dot (fun z => P (ix2 r z)) (fun z => b (ix2 z k)) * sigmoid (dot (fun z => H (ix2 r z)) (fun z => a (ix2 z k))) := by
  pointwise [result]
  unfold sigmoid
  rw [zero_sub]
  rfl

variable (m : (ℓ : Loc Cert.PleIdeal.nD Cert.PleIdeal.τ Cert.PleIdeal.sig) → Buf (Elt Ideal) ℓ) (c : Dev Cert.PleIdeal.nD)

/-- The reference's normalised rows are the kernel's. -/
theorem normed_eq (r : Fin 16384) :
    (fun z => normed (Cert.PleIdeal.Rows.X m c) (m ((c.tc : Thread Cert.PleIdeal.nD Cert.PleIdeal.τ).loc Cert.PleIdeal.main_arg2)) (ix2 r z)) = Cert.PleIdeal.Rows.hrow m c r :=
  funext fun z => normed_apply _ _ r z

/-- The reference's formula is the kernel's result array. -/
theorem result_eq : result (Cert.PleIdeal.Rows.X m c) (Cert.PleIdeal.Rows.P m c) (normed (Cert.PleIdeal.Rows.X m c) (m ((c.tc : Thread Cert.PleIdeal.nD Cert.PleIdeal.τ).loc Cert.PleIdeal.main_arg2))) (m ((c.tc : Thread Cert.PleIdeal.nD Cert.PleIdeal.τ).loc Cert.PleIdeal.main_arg3)) (m ((c.tc : Thread Cert.PleIdeal.nD Cert.PleIdeal.τ).loc Cert.PleIdeal.main_arg4))
    = Cert.PleIdeal.Rows.out m c := by
  funext i
  obtain ⟨y, rfl⟩ : ∃ z : Fin 16384 × Fin 2048, i = ix2 z.1 z.2 :=
    ⟨(i 0, i 1), by funext a; match a with | ⟨0, _⟩ => rfl | ⟨1, _⟩ => rfl⟩
  refine (result_apply _ _ _ _ _ y.1 y.2).trans ?_
  rw [normed_eq]
  rfl

/-- Kernel and reference, run on the same arguments, end with equal results. -/
theorem algebraic : Cert.algebraic_PleIdeal_PleReferenceIdeal := by
  intro m g m' g' _ hagree
  refine ⟨fun c => Cert.PleIdeal.Rows.out m c, ?_, ?_⟩
  · refine (θ_run _ _ _).mono (fun r h c => ?_) (Cert.PleIdeal.Value.run_blocks m g)
    exact ⟨(h c).1.trans (Cert.PleIdeal.Rows.array m c), (h c).2⟩
  · refine (θ_run _ _ _).mono (fun r h c => ?_) (Cert.PleReferenceIdeal.Value.run m' g')
    obtain ⟨e0, e1, e2, e3, e4⟩ := hagree c
    refine ⟨(h c).1.trans (Eq.trans ?_ (result_eq m c)), (h c).2⟩
    unfold Cert.PleIdeal.Rows.X Cert.PleIdeal.Rows.P
    rw [← e0, ← e1, ← e2, ← e3, ← e4]
    rfl

/-- The reference ends with its arguments unchanged and, since it declares no semaphore, every counter at zero. -/
theorem reference_frame (m : (ℓ : Loc Cert.PleReferenceIdeal.nD Cert.PleReferenceIdeal.τ Cert.PleReferenceIdeal.sig) → Buf (Elt Ideal) ℓ) (g : Dev Cert.PleReferenceIdeal.nD → PrngReg) :
    θ_run (Cert.PleReferenceIdeal.defs (F := Ideal)) (onTc (τ := Cert.PleReferenceIdeal.τ) (Cert.PleReferenceIdeal.main (F := Ideal))) ⟨m, fun _ => 0, g⟩ (fun r =>
      (∀ c : Dev Cert.PleReferenceIdeal.nD,
        r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
        ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
        ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
        ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
        ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4))
      ∧ r.2.sem = fun _ => 0) :=
  (θ_run _ _ _).mono (fun r h => ⟨fun c => (h c).2, sem_eq_zero_of_no_sems (by decide) r.2⟩) (Cert.PleReferenceIdeal.Value.run m g)

end

end Cert.PleReferenceIdeal.Rows
-- ==== Proof.ProjKernel.lean ====
/- The combined projection's kernel over the reals: what its blocks hold at each grid point, and its result array. -/
module

public import proofs.«01_k».proof.Proof.PleEquation
public import proofs.«01_k».proof.Proof.Gen.ProjIdeal.Value
public import Idealize.ShloMosaic.Lib.StableHlo.RunRead

@[expose] public section

set_option maxRecDepth 16384

namespace Cert.ProjIdeal.Rows

open Cert.ProjIdeal Cert.ProjIdeal.Gen Idealize.ShloMosaic Idealize.ShloMosaic.TcCoe Idealize.SL.Sem Layer

noncomputable section

variable (m : (ℓ : Loc nD τ sig) → Buf (Elt Ideal) ℓ) (c : Dev nD)

/-- The residual stream, one row per token. -/
abbrev X : FVec Ideal S16384x2048 .f32 := shapeCast _ (m ((c.tc : Thread nD τ).loc main_arg0)) shapeCasts_S8x2048x2048_S16384x2048

/-- The projection's columns as the mixers read them: three groups of the matrix's columns, with zero columns between. -/
abbrev W : FVec Ideal S2048x8192 .bf16 :=
  truncf .bf16 (concatenate S2048x8192 1 [⟨S2048x3488, (extractStridedSlice S2048x3488 ![0, 0] (m ((c.tc : Thread nD τ).loc main_arg2)) slices_S2048x14784_S2048x3488_0_0 : FVec Ideal S2048x3488 .f32)⟩,
    ⟨S2048x96, (broadcastInDim S2048x96 ![] bcast_S_S2048x96 (constant S_ .f32 0x00000000#32) : FVec Ideal S2048x96 .f32)⟩,
    ⟨S2048x32, (extractStridedSlice S2048x32 ![0, 7584] (m ((c.tc : Thread nD τ).loc main_arg2)) slices_S2048x14784_S2048x32_0_7584 : FVec Ideal S2048x32 .f32)⟩,
    ⟨S2048x480, (broadcastInDim S2048x480 ![] bcast_S_S2048x480 (constant S_ .f32 0x00000000#32) : FVec Ideal S2048x480 .f32)⟩,
    ⟨S2048x4096, (extractStridedSlice S2048x4096 ![0, 3488] (m ((c.tc : Thread nD τ).loc main_arg2)) slices_S2048x14784_S2048x4096_0_3488 : FVec Ideal S2048x4096 .f32)⟩] concatenates_S2048x3488_S2048x96_S2048x32_S2048x480_S2048x4096_S2048x8192_d1) bitsLt_bf16_f32

/-- A row's columns as the mixers read them. -/
def pick (f : Fin 14784 → EReal) (q : Fin 8192) : EReal :=
  if h : q.val < 3488 then f ⟨q.val, by omega⟩
  else if _h : q.val - 3488 < 96 then 0
  else if h : q.val - 3488 - 96 < 32 then f ⟨7584 + (q.val - 3488 - 96), by omega⟩
  else if _h : q.val - 3488 - 96 - 32 < 480 then 0
  else f ⟨3488 + (q.val - 3488 - 96 - 32 - 480), by omega⟩

/-- The arranged matrix at an index. -/
theorem W_apply (z : Fin 2048) (q : Fin 8192) : W m c (ix2 z q) = pick (fun j => m ((c.tc : Thread nD τ).loc main_arg2) (ix2 z j)) q := by
  pointwise [W]
  rfl

/-- A row against an arranged column is the arranged row of the products. -/
theorem dot_pick (h : Fin 2048 → EReal) (w : Fin 2048 → Fin 14784 → EReal) (q : Fin 8192) :
    dot h (fun z => pick (w z) q) = pick (fun j => dot h (fun z => w z j)) q := by
  unfold pick
  split_ifs <;> simp [dot]

/-- The residual stream the grid starts from. -/
theorem V_main_v7 : V m c main_v7 = X m c := by
  after_reads_simp
  rfl

/-- The norm's gain the grid starts from. -/
theorem V_main_v8 : V m c main_v8 = shapeCast S1x2048 (m ((c.tc : Thread nD τ).loc main_arg1)) shapeCasts_S2048_S1x2048 := by
  after_reads_simp
  rfl

/-- The matrix the grid starts from. -/
theorem V_main_v6 : V m c main_v6 = W m c := by
  after_reads_simp
  rfl

/-- The normalised block at an index. -/
theorem pay1_apply (x : Vec Ideal S1024x2048 .f32) (g : Vec Ideal S1x2048 .f32) (i : Fin 1024) (k : Fin 2048) :
    k0_pay1 x g (ix2 i k) = norm (fun l => x (ix2 i l)) (fun l => g (ix2 0 l)) k := by
  pointwise [k0_pay1]
  rfl

/-- What one point stores at an index. -/
theorem pay2_apply (h : Vec Ideal S1024x2048 .bf16) (a : Vec Ideal S2048x1024 .bf16) (i k : Fin 1024) :
    k0_pay2 h a (ix2 i k) = dot (fun z => h (ix2 i z)) (fun z => a (ix2 z k)) := by
  pointwise [k0_pay2]
  rfl

/-- What a row's first point leaves. -/
theorem outA (t : Fin cfg0.N) (h0 : t.val % 8 = 0) :
    (outsAt0 m c t.val t.isLt) = (k0_pay2 (k0_pay1 (iblk m c 0 t) (iblk m c 1 t)) (iblk m c 2 t), k0_pay1 (iblk m c 0 t) (iblk m c 1 t)) := by
  rw [outsAt0_A m c t h0]
  frame_out

/-- What a row's later points leave. -/
theorem outB (t : Fin cfg0.N) (h0 : ¬ t.val % 8 = 0) :
    (outsAt0 m c t.val t.isLt) = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h0]
  generalize outsAt0 m c (t.val - 1) _ = p
  refine Prod.ext ?_ ?_
  · frame_out
    rw [(Memref.isWhole_whole cc0_scratch0).read_unread]
  · rfl

/-- The grid has 128 points. -/
theorem N_lt (t : Fin cfg0.N) : t.val < 128 := lt_of_lt_of_eq t.isLt N_0

/-- The token of a block's row. -/
def row (t : Fin cfg0.N) (i : Fin 1024) : Fin 16384 := ⟨t.val / 8 * 1024 + i.val, by have := N_lt t; omega⟩

/-- The column of a block's column. -/
def col (t : Fin cfg0.N) (l : Fin 1024) : Fin 8192 := ⟨t.val % 8 * 1024 + l.val, by omega⟩

/-- Where window 0's block lies at each grid point. -/
theorem idx0 : ∀ t : Fin cfg0.N, win0_0.index t = ![t.val / 8, 0] :=
  (by decide +kernel : ∀ t : Fin grid0.N, win0_0.index t = ![t.val / 8, 0])

/-- Window 1 is its whole array at every grid point. -/
theorem idx1 : ∀ t : Fin cfg0.N, win0_1.index t = ![0, 0] :=
  (by decide +kernel : ∀ t : Fin grid0.N, win0_1.index t = ![0, 0])

/-- Where window 2's block lies at each grid point. -/
theorem idx2 : ∀ t : Fin cfg0.N, win0_2.index t = ![0, t.val % 8] :=
  (by decide +kernel : ∀ t : Fin grid0.N, win0_2.index t = ![0, t.val % 8])

/-- Where window 3's block lies at each grid point. -/
theorem idx3 : ∀ t : Fin cfg0.N, win0_3.index t = ![t.val / 8, t.val % 8] :=
  (by decide +kernel : ∀ t : Fin grid0.N, win0_3.index t = ![t.val / 8, t.val % 8])

/-- Window 0's block at an index. -/
theorem iblk0 (t : Fin cfg0.N) (i : Fin 1024) (k : Fin 2048) : iblk m c 0 t (ix2 i k) = X m c (ix2 (row t i) k) := by
  rw [← V_main_v7 m c]
  unfold iblk
  rw [View.read_apply]
  show V m c main_v7 _ = _
  blk_ext [row, idx0 t]

/-- Window 1's block at an index. -/
theorem iblk1 (t : Fin cfg0.N) (k : Fin 2048) : iblk m c 1 t (ix2 0 k) = m ((c.tc : Thread nD τ).loc main_arg1) (ix1 k) := by
  have e : shapeCast S1x2048 (m ((c.tc : Thread nD τ).loc main_arg1)) shapeCasts_S2048_S1x2048 (ix2 0 k)
      = m ((c.tc : Thread nD τ).loc main_arg1) (ix1 k) := by pointwise
  rw [← e, ← V_main_v8]
  unfold iblk
  rw [View.read_apply]
  show V m c main_v8 _ = _
  blk_ext [idx1 t]

/-- Window 2's block at an index. -/
theorem iblk2 (t : Fin cfg0.N) (i : Fin 2048) (k : Fin 1024) : iblk m c 2 t (ix2 i k) = W m c (ix2 i (col t k)) := by
  rw [← V_main_v6 m c]
  unfold iblk
  rw [View.read_apply]
  show V m c main_v6 _ = _
  blk_ext [col, idx2 t]

/-- The normalised row of a token. -/
def hrow (r : Fin 16384) : Fin 2048 → EReal := norm (fun l => X m c (ix2 r l)) (fun l => m ((c.tc : Thread nD τ).loc main_arg1) (ix1 l))

/-- The normalised block a row's first point computes. -/
theorem first_h (t : Fin cfg0.N) (i : Fin 1024) (k : Fin 2048) :
    k0_pay1 (iblk m c 0 t) (iblk m c 1 t) (ix2 i k) = hrow m c (row t i) k := by
  refine (pay1_apply _ _ i k).trans ?_
  exact congrArg₂ (fun a b => norm a b k) (funext fun l => iblk0 m c t i l) (funext fun l => iblk1 m c t l)

/-- After every point the scratch holds the normalised rows of the point's tokens. -/
theorem scratch (n : ℕ) (h : n < cfg0.N) (i : Fin 1024) (k : Fin 2048) :
    (outsAt0 m c n h).2 (ix2 i k) = hrow m c (row ⟨n, h⟩ i) k := by
  induction n with
  | zero =>
    rw [outA m c ⟨0, h⟩ rfl]
    exact first_h m c ⟨0, h⟩ i k
  | succ n ih =>
    by_cases h0 : (n + 1) % 8 = 0
    · rw [outA m c ⟨n + 1, h⟩ h0]
      exact first_h m c ⟨n + 1, h⟩ i k
    · rw [outB m c ⟨n + 1, h⟩ h0]
      refine (ih (by omega)).trans ?_
      have e : row ⟨n, by omega⟩ i = row ⟨n + 1, h⟩ i := Fin.ext (by simp only [row]; omega)
      rw [e]

/-- A token's output: its normalised row against every column, arranged as the mixers read them. -/
def out (i : S16384x8192.Idx) : EReal := pick (fun j => dot (hrow m c (i 0)) (fun z => m ((c.tc : Thread nD τ).loc main_arg2) (ix2 z j))) (i 1)

/-- What a point stores, once the scratch holds the normalised rows. -/
theorem stored (t : Fin cfg0.N) (hs : Vec Ideal S1024x2048 .bf16) (i k : Fin 1024)
    (hh : ∀ z, hs (ix2 i z) = hrow m c (row t i) z) :
    k0_pay2 hs (iblk m c 2 t) (ix2 i k) = out m c (ix2 (row t i) (col t k)) := by
  refine (pay2_apply _ _ i k).trans ?_
  rw [show (fun z => hs (ix2 i z)) = hrow m c (row t i) from funext hh]
  refine Eq.trans ?_ (dot_pick (hrow m c (row t i)) (fun z j => m ((c.tc : Thread nD τ).loc main_arg2) (ix2 z j)) (col t k))
  exact congrArg (dot (hrow m c (row t i))) (funext fun z => (iblk2 m c t z k).trans (W_apply m c z (col t k)))

/-- After every point the output's block holds the result's block. -/
theorem block (t : Fin cfg0.N) (i : Fin 1024) (k : Fin 1024) :
    (outsAt0 m c t.val t.isLt).1 (ix2 i k) = out m c (ix2 (row t i) (col t k)) := by
  by_cases h0 : t.val % 8 = 0
  · rw [outA m c t h0]
    exact stored m c t _ i k (fun z => first_h m c t i z)
  · rw [outB m c t h0]
    refine stored m c t _ i k (fun z => (scratch m c (t.val - 1) _ i z).trans ?_)
    have e : row ⟨t.val - 1, Nat.lt_of_le_of_lt (Nat.sub_le _ _) t.isLt⟩ i = row t i := Fin.ext (by simp only [row]; omega)
    rw [e]

/-- The result array after the grid. -/
theorem array : (dats m 0 c).arrAt 3 cfg0.N = out m c := by
  refine (dats m 0 c).arrAt_eq_of_covers 3 _ (by decide +kernel) fun t hf y => ?_
  blk_simp
  rw [after0_3]
  obtain ⟨y, rfl⟩ : ∃ z : Fin 1024 × Fin 1024, y = ix2 z.1 z.2 :=
    ⟨(y 0, y 1), by funext a; match a with | ⟨0, _⟩ => rfl | ⟨1, _⟩ => rfl⟩
  refine (block m c t y.1 y.2).trans ?_
  have e : (win0_3.blk t).view.emb (ix2 y.1 y.2) = ix2 (row t y.1) (col t y.2) := by
    blk_ext [row, col, idx3 t]
  exact (congrArg (out m c) e).symm

end

end Cert.ProjIdeal.Rows
-- ==== Proof.ProjEquation.lean ====
/- The combined projection: kernel and reference give one result. -/
module

public import proofs.«01_k».proof.Proof.ProjKernel
public import proofs.«01_k».proof.Proof.Gen.ProjReferenceIdeal.Run

@[expose] public section

set_option maxRecDepth 16384

namespace Cert.ProjReferenceIdeal.Rows

open Idealize.ShloMosaic Idealize.ShloMosaic.TcCoe Idealize.SL.Sem Layer
open Cert.ProjReferenceIdeal Cert.ProjReferenceIdeal.Gen

noncomputable section

/-- The reference's normalised rows. -/
def normed (X : FVec Ideal S16384x2048 .f32) (g : FVec Ideal S2048 .f32) : FVec Ideal S16384x2048 .f32 :=
  (mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g)))

/-- A normalised row at an index. -/
theorem normed_apply (X : FVec Ideal S16384x2048 .f32) (g : FVec Ideal S2048 .f32) (r : Fin 16384) (k : Fin 2048) :
    normed X g (ix2 r k) = norm (fun l => X (ix2 r l)) (fun l => g (ix1 l)) k := by
  pointwise [normed]
  rfl

/-- The reference's products of the normalised rows and the projection's matrix. -/
def products (H : FVec Ideal S16384x2048 .f32) (w : FVec Ideal S2048x14784 .f32) : FVec Ideal S16384x14784 .f32 :=
  Host.dotGeneral dot_S16384x2048_S2048x14784_S16384x14784_1_0_0_1_n_n none H w

/-- A product at an index. -/
theorem products_apply (H : FVec Ideal S16384x2048 .f32) (w : FVec Ideal S2048x14784 .f32) (r : Fin 16384) (j : Fin 14784) :
    products H w (ix2 r j) = dot (fun z => H (ix2 r z)) (fun z => w (ix2 z j)) := by
  pointwise [products]
  rfl

/-- The reference's result: three groups of the products, with zero columns between. -/
def result (Y : FVec Ideal S16384x14784 .f32) : FVec Ideal S16384x8192 .f32 :=
  concatenate S16384x8192 1 [⟨S16384x3488, (extractStridedSlice S16384x3488 ![0, 0] Y slices_S16384x14784_S16384x3488_0_0 : FVec Ideal S16384x3488 .f32)⟩,
    ⟨S16384x96, (broadcastInDim S16384x96 ![] bcast_S_S16384x96 (constant S_ .f32 0x00000000#32) : FVec Ideal S16384x96 .f32)⟩,
    ⟨S16384x32, (extractStridedSlice S16384x32 ![0, 7584] Y slices_S16384x14784_S16384x32_0_7584 : FVec Ideal S16384x32 .f32)⟩,
    ⟨S16384x480, (broadcastInDim S16384x480 ![] bcast_S_S16384x480 (constant S_ .f32 0x00000000#32) : FVec Ideal S16384x480 .f32)⟩,
    ⟨S16384x4096, (extractStridedSlice S16384x4096 ![0, 3488] Y slices_S16384x14784_S16384x4096_0_3488 : FVec Ideal S16384x4096 .f32)⟩] concatenates_S16384x3488_S16384x96_S16384x32_S16384x480_S16384x4096_S16384x8192_d1

/-- The result at an index. -/
theorem result_apply (Y : FVec Ideal S16384x14784 .f32) (r : Fin 16384) (q : Fin 8192) :
    result Y (ix2 r q) = Cert.ProjIdeal.Rows.pick (fun j => Y (ix2 r j)) q := by
  pointwise [result]
  rfl

variable (m : (ℓ : Loc Cert.ProjIdeal.nD Cert.ProjIdeal.τ Cert.ProjIdeal.sig) → Buf (Elt Ideal) ℓ) (c : Dev Cert.ProjIdeal.nD)

/-- The reference's normalised rows are the kernel's. -/
theorem normed_eq (r : Fin 16384) :
    (fun z => normed (Cert.ProjIdeal.Rows.X m c) (m ((c.tc : Thread Cert.ProjIdeal.nD Cert.ProjIdeal.τ).loc Cert.ProjIdeal.main_arg1)) (ix2 r z)) = Cert.ProjIdeal.Rows.hrow m c r :=
  funext fun z => normed_apply _ _ r z

/-- The reference's formula is the kernel's result array. -/
theorem result_eq : result (products (normed (Cert.ProjIdeal.Rows.X m c) (m ((c.tc : Thread Cert.ProjIdeal.nD Cert.ProjIdeal.τ).loc Cert.ProjIdeal.main_arg1))) (m ((c.tc : Thread Cert.ProjIdeal.nD Cert.ProjIdeal.τ).loc Cert.ProjIdeal.main_arg2))) = Cert.ProjIdeal.Rows.out m c := by
  funext i
  obtain ⟨y, rfl⟩ : ∃ z : Fin 16384 × Fin 8192, i = ix2 z.1 z.2 :=
    ⟨(i 0, i 1), by funext a; match a with | ⟨0, _⟩ => rfl | ⟨1, _⟩ => rfl⟩
  refine (result_apply _ y.1 y.2).trans ?_
  refine congrArg (fun f => Cert.ProjIdeal.Rows.pick f y.2) (funext fun j => (products_apply _ _ y.1 j).trans ?_)
  rw [normed_eq]
  rfl

/-- Kernel and reference, run on the same arguments, end with equal results. -/
theorem algebraic : Cert.algebraic_ProjIdeal_ProjReferenceIdeal := by
  intro m g m' g' _ hagree
  refine ⟨fun c => Cert.ProjIdeal.Rows.out m c, ?_, ?_⟩
  · refine (θ_run _ _ _).mono (fun r h c => ?_) (Cert.ProjIdeal.Value.run_blocks m g)
    exact ⟨(h c).1.trans (Cert.ProjIdeal.Rows.array m c), (h c).2⟩
  · refine (θ_run _ _ _).mono (fun r h c => ?_) (Cert.ProjReferenceIdeal.Value.run m' g')
    obtain ⟨e0, e1, e2⟩ := hagree c
    refine ⟨(h c).1.trans (Eq.trans ?_ (result_eq m c)), (h c).2⟩
    unfold Cert.ProjIdeal.Rows.X
    rw [← e0, ← e1, ← e2]
    rfl

/-- The reference ends with its arguments unchanged and, since it declares no semaphore, every counter at zero. -/
theorem reference_frame (m : (ℓ : Loc Cert.ProjReferenceIdeal.nD Cert.ProjReferenceIdeal.τ Cert.ProjReferenceIdeal.sig) → Buf (Elt Ideal) ℓ) (g : Dev Cert.ProjReferenceIdeal.nD → PrngReg) :
    θ_run (Cert.ProjReferenceIdeal.defs (F := Ideal)) (onTc (τ := Cert.ProjReferenceIdeal.τ) (Cert.ProjReferenceIdeal.main (F := Ideal))) ⟨m, fun _ => 0, g⟩ (fun r =>
      (∀ c : Dev Cert.ProjReferenceIdeal.nD,
        r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
        ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
        ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0) :=
  (θ_run _ _ _).mono (fun r h => ⟨fun c => (h c).2, sem_eq_zero_of_no_sems (by decide) r.2⟩) (Cert.ProjReferenceIdeal.Value.run m g)

end

end Cert.ProjReferenceIdeal.Rows
-- ==== Proof.MergeKernel.lean ====
/- The merge's kernel over the reals: what its blocks hold at each grid point, and its result array. -/
module

public import proofs.«01_k».proof.Proof.ProjEquation
public import proofs.«01_k».proof.Proof.Gen.MergeIdeal.Value
public import Idealize.ShloMosaic.Lib.StableHlo.RunRead

@[expose] public section

set_option maxRecDepth 16384

namespace Cert.MergeIdeal.Rows

open Cert.MergeIdeal Cert.MergeIdeal.Gen Idealize.ShloMosaic Idealize.ShloMosaic.TcCoe Idealize.SL.Sem Layer

noncomputable section

variable (m : (ℓ : Loc nD τ sig) → Buf (Elt Ideal) ℓ) (c : Dev nD)

/-- The residual stream, one row per token. -/
abbrev X : FVec Ideal S16384x2048 .f32 := shapeCast _ (m ((c.tc : Thread nD τ).loc main_arg0)) shapeCasts_S8x2048x2048_S16384x2048

/-- The first mixer's output, one row per token. -/
abbrev YA : FVec Ideal S16384x1024 .bf16 := shapeCast _ (m ((c.tc : Thread nD τ).loc main_arg3)) shapeCasts_S8x2048x1024_S16384x1024

/-- The second mixer's output, one row per token. -/
abbrev YB : FVec Ideal S16384x1024 .bf16 := shapeCast _ (m ((c.tc : Thread nD τ).loc main_arg4)) shapeCasts_S8x2048x1024_S16384x1024

/-- The third mixer's output, one row per token. -/
abbrev YC : FVec Ideal S16384x1024 .bf16 := shapeCast _ (m ((c.tc : Thread nD τ).loc main_arg5)) shapeCasts_S8x2048x1024_S16384x1024

/-- The projection's gate columns. -/
abbrev G : FVec Ideal S2048x6144 .bf16 :=
  truncf .bf16 (extractStridedSlice S2048x6144 ![0, 8640] (m ((c.tc : Thread nD τ).loc main_arg2)) slices_S2048x14784_S2048x6144_0_8640 : FVec Ideal S2048x6144 .f32) bitsLt_bf16_f32

/-- A gate's column among the gate columns. -/
def part (b : Fin 3) (l : Fin 2048) : Fin 6144 := ⟨b.val * 2048 + l.val, by omega⟩

/-- A gate's column among the projection's columns. -/
def gate (b : Fin 3) (l : Fin 2048) : Fin 14784 := ⟨8640 + (part b l).val, by omega⟩

/-- A gate column at an index. -/
theorem G_apply (z : Fin 2048) (b : Fin 3) (l : Fin 2048) : G m c (ix2 z (part b l)) = m ((c.tc : Thread nD τ).loc main_arg2) (ix2 z (gate b l)) := by
  pointwise [G]
  rfl

/-- The residual stream the grid starts from. -/
theorem V_main_v2 : V m c main_v2 = X m c := by
  after_reads_simp
  rfl

/-- The norm's gain the grid starts from. -/
theorem V_main_v3 : V m c main_v3 = shapeCast S1x2048 (m ((c.tc : Thread nD τ).loc main_arg1)) shapeCasts_S2048_S1x2048 := by
  after_reads_simp
  rfl

/-- The gate columns the grid starts from. -/
theorem V_main_v1 : V m c main_v1 = G m c := by
  after_reads_simp

/-- The first mixer's output the grid starts from. -/
theorem V_main_v4 : V m c main_v4 = YA m c := by
  after_reads_simp
  rfl

/-- The second mixer's output the grid starts from. -/
theorem V_main_v5 : V m c main_v5 = YB m c := by
  after_reads_simp
  rfl

/-- The third mixer's output the grid starts from. -/
theorem V_main_v6 : V m c main_v6 = YC m c := by
  after_reads_simp
  rfl

/-- The first mixer's matrix the grid starts from. -/
theorem V_main_v7 : V m c main_v7 = m ((c.tc : Thread nD τ).loc main_arg6) := by
  after_reads_simp
  rfl

/-- The second mixer's matrix the grid starts from. -/
theorem V_main_v8 : V m c main_v8 = m ((c.tc : Thread nD τ).loc main_arg7) := by
  after_reads_simp
  rfl

/-- The third mixer's matrix the grid starts from. -/
theorem V_main_v9 : V m c main_v9 = m ((c.tc : Thread nD τ).loc main_arg8) := by
  after_reads_simp
  rfl

/-- The output matrix the grid starts from. -/
theorem V_main_v10 : V m c main_v10 = m ((c.tc : Thread nD τ).loc main_arg9) := by
  after_reads_simp
  rfl

/-- The normalised block at an index. -/
theorem pay3_apply (x : Vec Ideal S512x2048 .f32) (g : Vec Ideal S1x2048 .f32) (i : Fin 512) (k : Fin 2048) :
    k0_pay3 x g (ix2 i k) = norm (fun l => x (ix2 i l)) (fun l => g (ix2 0 l)) k := by
  pointwise [k0_pay3, k0_pay2]
  rfl

/-- The copied block at an index. -/
theorem pay2_apply (x : Vec Ideal S512x2048 .f32) (i : Fin 512) (k : Fin 2048) : k0_pay2 x (ix2 i k) = x (ix2 i k) := by
  pointwise [k0_pay2]

/-- A gated output: the gate's logistic value times a mixer's output against its matrix. -/
def gated (h a : Fin 2048 → EReal) (y w : Fin 1024 → EReal) : EReal := sigmoid (dot h a) * dot y w

/-- The first gated output at an index. -/
theorem pay4_apply (h : Vec Ideal S512x2048 .bf16) (a : Vec Ideal S2048x512 .bf16) (y : Vec Ideal S512x1024 .bf16) (w : Vec Ideal S1024x512 .bf16) (i l : Fin 512) :
    k0_pay4 h a y w (ix2 i l) = gated (fun z => h (ix2 i z)) (fun z => a (ix2 z l)) (fun z => y (ix2 i z)) (fun z => w (ix2 z l)) := by
  pointwise [k0_pay4]
  rfl

/-- The second gate at an index. -/
theorem pay5_apply (h : Vec Ideal S512x2048 .bf16) (a : Vec Ideal S2048x512 .bf16) (i l : Fin 512) :
    k0_pay5 h a (ix2 i l) = sigmoid (dot (fun z => h (ix2 i z)) (fun z => a (ix2 z l))) := by
  pointwise [k0_pay5]
  rfl

/-- The second mixer's block at an index. -/
theorem pay6_apply (y : Vec Ideal S512x1024 .bf16) (i : Fin 512) (l : Fin 1024) : k0_pay6 y (ix2 i l) = y (ix2 i l) := by
  pointwise [k0_pay6]

/-- What one point adds at an index, from the two earlier parts. -/
theorem pay1_apply (h : Vec Ideal S512x2048 .bf16) (p q : FVec Ideal S512x512 .f32) (y : FVec Ideal S512x1024 .bf16) (v : Vec Ideal S1024x512 .bf16)
    (a : Vec Ideal S2048x512 .bf16) (y' : Vec Ideal S512x1024 .bf16) (w : Vec Ideal S1024x512 .bf16) (o : Vec Ideal S512x2048 .f32) (u : Vec Ideal S512x2048 .bf16) (i : Fin 512) (k : Fin 2048) :
    k0_pay1 h p q y v a y' w o u (ix2 i k) = o (ix2 i k) + ∑ l : Fin 512,
      (p (ix2 i l) + q (ix2 i l) * dot (fun z => y (ix2 i z)) (fun z => v (ix2 z l))
        + gated (fun z => h (ix2 i z)) (fun z => a (ix2 z l)) (fun z => y' (ix2 i z)) (fun z => w (ix2 z l))) * u (ix2 l k) := by
  pointwise [k0_pay1]
  rfl

/-- What a row's first point leaves. -/
theorem outA (t : Fin cfg0.N) (h0 : t.val % 4 = 0) :
    (outsAt0 m c t.val t.isLt) = (k0_pay1 (k0_pay3 (iblk m c 0 t) (iblk m c 1 t)) (k0_pay4 (k0_pay3 (iblk m c 0 t) (iblk m c 1 t)) (iblk m c 5 t) (iblk m c 2 t) (iblk m c 8 t)) (k0_pay5 (k0_pay3 (iblk m c 0 t) (iblk m c 1 t)) (iblk m c 6 t)) (k0_pay6 (iblk m c 3 t)) (iblk m c 9 t) (iblk m c 7 t) (iblk m c 4 t) (iblk m c 10 t) (k0_pay2 (iblk m c 0 t)) (iblk m c 11 t), k0_pay3 (iblk m c 0 t) (iblk m c 1 t)) := by
  rw [outsAt0_A m c t h0]
  frame_out

/-- What a row's later points leave. -/
theorem outB (t : Fin cfg0.N) (h0 : ¬ t.val % 4 = 0) :
    (outsAt0 m c t.val t.isLt) = (k0_pay1 (outsAt0 m c (t.val - 1) (Nat.lt_of_le_of_lt (Nat.sub_le _ _) t.isLt)).2 (k0_pay4 (outsAt0 m c (t.val - 1) (Nat.lt_of_le_of_lt (Nat.sub_le _ _) t.isLt)).2 (iblk m c 5 t) (iblk m c 2 t) (iblk m c 8 t)) (k0_pay5 (outsAt0 m c (t.val - 1) (Nat.lt_of_le_of_lt (Nat.sub_le _ _) t.isLt)).2 (iblk m c 6 t)) (k0_pay6 (iblk m c 3 t)) (iblk m c 9 t) (iblk m c 7 t) (iblk m c 4 t) (iblk m c 10 t) (outsAt0 m c (t.val - 1) (Nat.lt_of_le_of_lt (Nat.sub_le _ _) t.isLt)).1 (iblk m c 11 t),
      (outsAt0 m c (t.val - 1) (Nat.lt_of_le_of_lt (Nat.sub_le _ _) t.isLt)).2) := by
  rw [outsAt0_B m c t h0]
  generalize outsAt0 m c (t.val - 1) _ = p
  refine Prod.ext ?_ ?_
  · frame_out
    rw [(Memref.isWhole_whole cc0_scratch0).read_unread]
  · rfl

/-- The grid has 128 points. -/
theorem N_lt (t : Fin cfg0.N) : t.val < 128 := lt_of_lt_of_eq t.isLt N_0

/-- The token of a block's row. -/
def row (t : Fin cfg0.N) (i : Fin 512) : Fin 16384 := ⟨t.val / 4 * 512 + i.val, by have := N_lt t; omega⟩

/-- The merged column of a block's column. -/
def col (t : Fin cfg0.N) (l : Fin 512) : Fin 2048 := ⟨t.val % 4 * 512 + l.val, by omega⟩

/-- Where window 0's block lies at each grid point. -/
theorem idx0 : ∀ t : Fin cfg0.N, win0_0.index t = ![t.val / 4, 0] :=
  (by decide +kernel : ∀ t : Fin grid0.N, win0_0.index t = ![t.val / 4, 0])

/-- Window 1 is its whole array at every grid point. -/
theorem idx1 : ∀ t : Fin cfg0.N, win0_1.index t = ![0, 0] :=
  (by decide +kernel : ∀ t : Fin grid0.N, win0_1.index t = ![0, 0])

/-- Where window 2's block lies at each grid point. -/
theorem idx2 : ∀ t : Fin cfg0.N, win0_2.index t = ![t.val / 4, 0] :=
  (by decide +kernel : ∀ t : Fin grid0.N, win0_2.index t = ![t.val / 4, 0])

/-- Where window 3's block lies at each grid point. -/
theorem idx3 : ∀ t : Fin cfg0.N, win0_3.index t = ![t.val / 4, 0] :=
  (by decide +kernel : ∀ t : Fin grid0.N, win0_3.index t = ![t.val / 4, 0])

/-- Where window 4's block lies at each grid point. -/
theorem idx4 : ∀ t : Fin cfg0.N, win0_4.index t = ![t.val / 4, 0] :=
  (by decide +kernel : ∀ t : Fin grid0.N, win0_4.index t = ![t.val / 4, 0])

/-- Where window 5's block lies at each grid point. -/
theorem idx5 : ∀ t : Fin cfg0.N, win0_5.index t = ![0, t.val % 4] :=
  (by decide +kernel : ∀ t : Fin grid0.N, win0_5.index t = ![0, t.val % 4])

/-- Where window 6's block lies at each grid point. -/
theorem idx6 : ∀ t : Fin cfg0.N, win0_6.index t = ![0, 4 + t.val % 4] :=
  (by decide +kernel : ∀ t : Fin grid0.N, win0_6.index t = ![0, 4 + t.val % 4])

/-- Where window 7's block lies at each grid point. -/
theorem idx7 : ∀ t : Fin cfg0.N, win0_7.index t = ![0, 8 + t.val % 4] :=
  (by decide +kernel : ∀ t : Fin grid0.N, win0_7.index t = ![0, 8 + t.val % 4])

/-- Where window 8's block lies at each grid point. -/
theorem idx8 : ∀ t : Fin cfg0.N, win0_8.index t = ![0, t.val % 4] :=
  (by decide +kernel : ∀ t : Fin grid0.N, win0_8.index t = ![0, t.val % 4])

/-- Where window 9's block lies at each grid point. -/
theorem idx9 : ∀ t : Fin cfg0.N, win0_9.index t = ![0, t.val % 4] :=
  (by decide +kernel : ∀ t : Fin grid0.N, win0_9.index t = ![0, t.val % 4])

/-- Where window 10's block lies at each grid point. -/
theorem idx10 : ∀ t : Fin cfg0.N, win0_10.index t = ![0, t.val % 4] :=
  (by decide +kernel : ∀ t : Fin grid0.N, win0_10.index t = ![0, t.val % 4])

/-- Where window 11's block lies at each grid point. -/
theorem idx11 : ∀ t : Fin cfg0.N, win0_11.index t = ![t.val % 4, 0] :=
  (by decide +kernel : ∀ t : Fin grid0.N, win0_11.index t = ![t.val % 4, 0])

/-- Where window 12's block lies at each grid point. -/
theorem idx12 : ∀ t : Fin cfg0.N, win0_12.index t = ![t.val / 4, 0] :=
  (by decide +kernel : ∀ t : Fin grid0.N, win0_12.index t = ![t.val / 4, 0])

/-- Window 0's block at an index. -/
theorem iblk0 (t : Fin cfg0.N) (i : Fin 512) (k : Fin 2048) : iblk m c 0 t (ix2 i k) = X m c (ix2 (row t i) k) := by
  rw [← V_main_v2 m c]
  unfold iblk
  rw [View.read_apply]
  show V m c main_v2 _ = _
  blk_ext [row, idx0 t]

/-- Window 1's block at an index. -/
theorem iblk1 (t : Fin cfg0.N) (k : Fin 2048) : iblk m c 1 t (ix2 0 k) = m ((c.tc : Thread nD τ).loc main_arg1) (ix1 k) := by
  have e : shapeCast S1x2048 (m ((c.tc : Thread nD τ).loc main_arg1)) shapeCasts_S2048_S1x2048 (ix2 0 k)
      = m ((c.tc : Thread nD τ).loc main_arg1) (ix1 k) := by pointwise
  rw [← e, ← V_main_v3]
  unfold iblk
  rw [View.read_apply]
  show V m c main_v3 _ = _
  blk_ext [idx1 t]

/-- Window 2's block at an index. -/
theorem iblk2 (t : Fin cfg0.N) (i : Fin 512) (k : Fin 1024) : iblk m c 2 t (ix2 i k) = YA m c (ix2 (row t i) k) := by
  rw [← V_main_v4 m c]
  unfold iblk
  rw [View.read_apply]
  show V m c main_v4 _ = _
  blk_ext [row, idx2 t]

/-- Window 3's block at an index. -/
theorem iblk3 (t : Fin cfg0.N) (i : Fin 512) (k : Fin 1024) : iblk m c 3 t (ix2 i k) = YB m c (ix2 (row t i) k) := by
  rw [← V_main_v5 m c]
  unfold iblk
  rw [View.read_apply]
  show V m c main_v5 _ = _
  blk_ext [row, idx3 t]

/-- Window 4's block at an index. -/
theorem iblk4 (t : Fin cfg0.N) (i : Fin 512) (k : Fin 1024) : iblk m c 4 t (ix2 i k) = YC m c (ix2 (row t i) k) := by
  rw [← V_main_v6 m c]
  unfold iblk
  rw [View.read_apply]
  show V m c main_v6 _ = _
  blk_ext [row, idx4 t]

/-- Window 5's block at an index. -/
theorem iblk5 (t : Fin cfg0.N) (i : Fin 2048) (k : Fin 512) : iblk m c 5 t (ix2 i k) = m ((c.tc : Thread nD τ).loc main_arg2) (ix2 i (gate 0 (col t k))) := by
  rw [← G_apply m c, ← V_main_v1 m c]
  unfold iblk
  rw [View.read_apply]
  show V m c main_v1 _ = _
  blk_ext [part, col, idx5 t]

/-- Window 6's block at an index. -/
theorem iblk6 (t : Fin cfg0.N) (i : Fin 2048) (k : Fin 512) : iblk m c 6 t (ix2 i k) = m ((c.tc : Thread nD τ).loc main_arg2) (ix2 i (gate 1 (col t k))) := by
  rw [← G_apply m c, ← V_main_v1 m c]
  unfold iblk
  rw [View.read_apply]
  show V m c main_v1 _ = _
  blk_ext [part, col, idx6 t]

/-- Window 7's block at an index. -/
theorem iblk7 (t : Fin cfg0.N) (i : Fin 2048) (k : Fin 512) : iblk m c 7 t (ix2 i k) = m ((c.tc : Thread nD τ).loc main_arg2) (ix2 i (gate 2 (col t k))) := by
  rw [← G_apply m c, ← V_main_v1 m c]
  unfold iblk
  rw [View.read_apply]
  show V m c main_v1 _ = _
  blk_ext [part, col, idx7 t]

/-- Window 8's block at an index. -/
theorem iblk8 (t : Fin cfg0.N) (i : Fin 1024) (k : Fin 512) : iblk m c 8 t (ix2 i k) = m ((c.tc : Thread nD τ).loc main_arg6) (ix2 i (col t k)) := by
  rw [← V_main_v7 m c]
  unfold iblk
  rw [View.read_apply]
  show V m c main_v7 _ = _
  blk_ext [col, idx8 t]

/-- Window 9's block at an index. -/
theorem iblk9 (t : Fin cfg0.N) (i : Fin 1024) (k : Fin 512) : iblk m c 9 t (ix2 i k) = m ((c.tc : Thread nD τ).loc main_arg7) (ix2 i (col t k)) := by
  rw [← V_main_v8 m c]
  unfold iblk
  rw [View.read_apply]
  show V m c main_v8 _ = _
  blk_ext [col, idx9 t]

/-- Window 10's block at an index. -/
theorem iblk10 (t : Fin cfg0.N) (i : Fin 1024) (k : Fin 512) : iblk m c 10 t (ix2 i k) = m ((c.tc : Thread nD τ).loc main_arg8) (ix2 i (col t k)) := by
  rw [← V_main_v9 m c]
  unfold iblk
  rw [View.read_apply]
  show V m c main_v9 _ = _
  blk_ext [col, idx10 t]

/-- Window 11's block at an index. -/
theorem iblk11 (t : Fin cfg0.N) (i : Fin 512) (k : Fin 2048) : iblk m c 11 t (ix2 i k) = m ((c.tc : Thread nD τ).loc main_arg9) (ix2 (col t i) k) := by
  rw [← V_main_v10 m c]
  unfold iblk
  rw [View.read_apply]
  show V m c main_v10 _ = _
  blk_ext [col, idx11 t]

/-- The normalised row of a token. -/
def hrow (r : Fin 16384) : Fin 2048 → EReal := norm (fun l => X m c (ix2 r l)) (fun l => m ((c.tc : Thread nD τ).loc main_arg1) (ix1 l))

/-- The normalised block a row's first point computes. -/
theorem first_h (t : Fin cfg0.N) (i : Fin 512) (k : Fin 2048) :
    k0_pay3 (iblk m c 0 t) (iblk m c 1 t) (ix2 i k) = hrow m c (row t i) k := by
  refine (pay3_apply _ _ i k).trans ?_
  exact congrArg₂ (fun a b => norm a b k) (funext fun l => iblk0 m c t i l) (funext fun l => iblk1 m c t l)

/-- After every point the scratch holds the normalised rows of the point's tokens. -/
theorem scratch (n : ℕ) (h : n < cfg0.N) (i : Fin 512) (k : Fin 2048) :
    (outsAt0 m c n h).2 (ix2 i k) = hrow m c (row ⟨n, h⟩ i) k := by
  induction n with
  | zero =>
    rw [outA m c ⟨0, h⟩ rfl]
    exact first_h m c ⟨0, h⟩ i k
  | succ n ih =>
    by_cases h0 : (n + 1) % 4 = 0
    · rw [outA m c ⟨n + 1, h⟩ h0]
      exact first_h m c ⟨n + 1, h⟩ i k
    · rw [outB m c ⟨n + 1, h⟩ h0]
      refine (ih (by omega)).trans ?_
      have e : row ⟨n, by omega⟩ i = row ⟨n + 1, h⟩ i := Fin.ext (by simp only [row]; omega)
      rw [e]

/-- A token's merged column: the three gated outputs. -/
def merged (r : Fin 16384) (l : Fin 2048) : EReal :=
  gated (hrow m c r) (fun z => m ((c.tc : Thread nD τ).loc main_arg2) (ix2 z (gate 0 l))) (fun z => YA m c (ix2 r z)) (fun z => m ((c.tc : Thread nD τ).loc main_arg6) (ix2 z l))
    + gated (hrow m c r) (fun z => m ((c.tc : Thread nD τ).loc main_arg2) (ix2 z (gate 1 l))) (fun z => YB m c (ix2 r z)) (fun z => m ((c.tc : Thread nD τ).loc main_arg7) (ix2 z l))
    + gated (hrow m c r) (fun z => m ((c.tc : Thread nD τ).loc main_arg2) (ix2 z (gate 2 l))) (fun z => YC m c (ix2 r z)) (fun z => m ((c.tc : Thread nD τ).loc main_arg8) (ix2 z l))

/-- What a merged column adds to a token's output. -/
def term (r : Fin 16384) (k l : Fin 2048) : EReal := merged m c r l * m ((c.tc : Thread nD τ).loc main_arg9) (ix2 l k)

/-- What a point adds to the output's block. -/
theorem added (t : Fin cfg0.N) (hs : Vec Ideal S512x2048 .bf16) (o : Vec Ideal S512x2048 .f32) (i : Fin 512) (k : Fin 2048)
    (hh : ∀ z, hs (ix2 i z) = hrow m c (row t i) z) :
    k0_pay1 hs (k0_pay4 hs (iblk m c 5 t) (iblk m c 2 t) (iblk m c 8 t)) (k0_pay5 hs (iblk m c 6 t)) (k0_pay6 (iblk m c 3 t)) (iblk m c 9 t) (iblk m c 7 t) (iblk m c 4 t) (iblk m c 10 t) o (iblk m c 11 t) (ix2 i k)
      = o (ix2 i k) + ∑ l : Fin 512, pad (term m c (row t i) k) (t.val % 4 * 512 + l.val) := by
  refine (pay1_apply _ _ _ _ _ _ _ _ _ _ i k).trans (congrArg (o (ix2 i k) + ·) (Finset.sum_congr rfl fun l _ => ?_))
  rw [pad_of_lt _ (by omega : t.val % 4 * 512 + l.val < 2048)]
  show _ = term m c (row t i) k (col t l)
  unfold term merged
  have eh : (fun z => hs (ix2 i z)) = hrow m c (row t i) := funext hh
  refine congrArg₂ (· * ·) (congrArg₂ (· + ·) (congrArg₂ (· + ·) ?_ ?_) ?_) (iblk11 m c t l k)
  · rw [pay4_apply, eh]
    exact congr (congrArg₂ (gated (hrow m c (row t i))) (funext fun z => iblk5 m c t z l) (funext fun z => iblk2 m c t i z)) (funext fun z => iblk8 m c t z l)
  · rw [pay5_apply, eh]
    refine congrArg₂ (· * ·) (congrArg (fun a => sigmoid (dot (hrow m c (row t i)) a)) (funext fun z => iblk6 m c t z l)) ?_
    exact congrArg₂ dot (funext fun z => (pay6_apply _ i z).trans (iblk3 m c t i z)) (funext fun z => iblk9 m c t z l)
  · rw [eh]
    exact congr (congrArg₂ (gated (hrow m c (row t i))) (funext fun z => iblk7 m c t z l) (funext fun z => iblk4 m c t i z)) (funext fun z => iblk10 m c t z l)

/-- After every point the output's block holds the residual stream and the merged columns read so far. -/
theorem partialSum (n : ℕ) (h : n < cfg0.N) (i : Fin 512) (k : Fin 2048) :
    (outsAt0 m c n h).1 (ix2 i k) = X m c (ix2 (row ⟨n, h⟩ i) k)
      + ∑ s ∈ Finset.range (n % 4 + 1), ∑ l : Fin 512, pad (term m c (row ⟨n, h⟩ i) k) (s * 512 + l.val) := by
  induction n with
  | zero =>
    rw [outA m c ⟨0, h⟩ rfl]
    refine (added m c ⟨0, h⟩ _ _ i k (fun z => first_h m c ⟨0, h⟩ i z)).trans ?_
    rw [pay2_apply, iblk0]
    simp
  | succ n ih =>
    by_cases h0 : (n + 1) % 4 = 0
    · rw [outA m c ⟨n + 1, h⟩ h0]
      refine (added m c ⟨n + 1, h⟩ _ _ i k (fun z => first_h m c ⟨n + 1, h⟩ i z)).trans ?_
      rw [pay2_apply, iblk0]
      simp only [h0]
      simp
    · have e : row ⟨n, by omega⟩ i = row ⟨n + 1, h⟩ i := Fin.ext (by simp only [row]; omega)
      have e2 : (n + 1) % 4 = n % 4 + 1 := by omega
      rw [outB m c ⟨n + 1, h⟩ h0]
      refine (added m c ⟨n + 1, h⟩ _ _ i k (fun z => (scratch m c n (by omega) i z).trans (by rw [e]))).trans ?_
      show (outsAt0 m c n _).1 (ix2 i k) + _ = _
      rw [ih (by omega), e]
      show _ + ∑ l : Fin 512, pad _ ((n + 1) % 4 * 512 + l.val) = _
      rw [e2, Finset.sum_range_succ _ (n % 4 + 1), add_assoc]

/-- A token's output: the residual stream and every merged column's part. -/
def out (i : S16384x2048.Idx) : EReal := X m c i + ∑ l, term m c (i 0) (i 1) l

/-- The result array after the grid. -/
theorem array : (dats m 0 c).arrAt 12 cfg0.N = out m c := by
  refine (dats m 0 c).arrAt_eq_of_covers 12 _ (by decide +kernel) fun t hf y => ?_
  blk_simp
  rw [after0_12]
  obtain ⟨y, rfl⟩ : ∃ z : Fin 512 × Fin 2048, y = ix2 z.1 z.2 :=
    ⟨(y 0, y 1), by funext a; match a with | ⟨0, _⟩ => rfl | ⟨1, _⟩ => rfl⟩
  refine (partialSum m c t.val t.isLt y.1 y.2).trans ?_
  have e : (win0_12.blk t).view.emb (ix2 y.1 y.2) = ix2 (row t y.1) y.2 := by
    blk_ext [row, idx12 t]
  refine Eq.trans ?_ (congrArg (out m c) e).symm
  rw [(flush0_12 t).mp hf, sum_blocks 4 512 rfl]
  rfl

end

end Cert.MergeIdeal.Rows
-- ==== Proof.MergeEquation.lean ====
/- The merge: kernel and reference give one result. -/
module

public import proofs.«01_k».proof.Proof.MergeKernel
public import proofs.«01_k».proof.Proof.Gen.MergeReferenceIdeal.Run

@[expose] public section

set_option maxRecDepth 16384

namespace Cert.MergeReferenceIdeal.Rows

open Idealize.ShloMosaic Idealize.ShloMosaic.TcCoe Idealize.SL.Sem Layer
open Cert.MergeReferenceIdeal Cert.MergeReferenceIdeal.Gen

noncomputable section

/-- The reference's normalised rows. -/
def normed (X : FVec Ideal S16384x2048 .f32) (g : FVec Ideal S2048 .f32) : FVec Ideal S16384x2048 .f32 :=
  (mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g)))

/-- A normalised row at an index. -/
theorem normed_apply (X : FVec Ideal S16384x2048 .f32) (g : FVec Ideal S2048 .f32) (r : Fin 16384) (k : Fin 2048) :
    normed X g (ix2 r k) = norm (fun l => X (ix2 r l)) (fun l => g (ix1 l)) k := by
  pointwise [normed]
  rfl

/-- The reference's gates, all three side by side. -/
def gates (H : FVec Ideal S16384x2048 .f32) (w : FVec Ideal S2048x14784 .f32) : FVec Ideal S16384x6144 .f32 :=
  Host.divf (broadcastInDim S16384x6144 ![] bcast_S_S16384x6144 (constant S_ .f32 0x3F800000#32))
    (addf (broadcastInDim S16384x6144 ![] bcast_S_S16384x6144 (constant S_ .f32 0x3F800000#32))
      (Host.exp (Host.negf (extractStridedSlice S16384x6144 ![0, 8640] (Host.dotGeneral dot_S16384x2048_S2048x14784_S16384x14784_1_0_0_1_n_n none H w) slices_S16384x14784_S16384x6144_0_8640))))

/-- A gate at an index. -/
theorem gates_apply (H : FVec Ideal S16384x2048 .f32) (w : FVec Ideal S2048x14784 .f32) (r : Fin 16384) (b : Fin 3) (l : Fin 2048) :
    gates H w (ix2 r (Cert.MergeIdeal.Rows.part b l)) = sigmoid (dot (fun z => H (ix2 r z)) (fun z => w (ix2 z (Cert.MergeIdeal.Rows.gate b l)))) := by
  pointwise [gates]
  unfold sigmoid
  rw [zero_sub]
  rfl

/-- The reference's merged columns: the three gated outputs. -/
def merged (S : FVec Ideal S16384x6144 .f32) (ya yb yc : FVec Ideal S16384x1024 .bf16) (wa wb wc : FVec Ideal S1024x2048 .f32) : FVec Ideal S16384x2048 .f32 :=
  addf (addf (mulf (extractStridedSlice S16384x2048 ![0, 0] S slices_S16384x6144_S16384x2048_0_0) (Host.dotGeneral dot_S16384x1024_S1024x2048_S16384x2048_1_0_0_1_n_n none (extf .f32 ya bitsLt_bf16_f32) wa))
    (mulf (extractStridedSlice S16384x2048 ![0, 2048] S slices_S16384x6144_S16384x2048_0_2048) (Host.dotGeneral dot_S16384x1024_S1024x2048_S16384x2048_1_0_0_1_n_n none (extf .f32 yb bitsLt_bf16_f32) wb)))
    (mulf (extractStridedSlice S16384x2048 ![0, 4096] S slices_S16384x6144_S16384x2048_0_4096) (Host.dotGeneral dot_S16384x1024_S1024x2048_S16384x2048_1_0_0_1_n_n none (extf .f32 yc bitsLt_bf16_f32) wc))

/-- A merged column at an index. -/
theorem merged_apply (S : FVec Ideal S16384x6144 .f32) (ya yb yc : FVec Ideal S16384x1024 .bf16) (wa wb wc : FVec Ideal S1024x2048 .f32) (r : Fin 16384) (l : Fin 2048) :
    merged S ya yb yc wa wb wc (ix2 r l) = S (ix2 r (Cert.MergeIdeal.Rows.part 0 l)) * dot (fun z => ya (ix2 r z)) (fun z => wa (ix2 z l))
      + S (ix2 r (Cert.MergeIdeal.Rows.part 1 l)) * dot (fun z => yb (ix2 r z)) (fun z => wb (ix2 z l))
      + S (ix2 r (Cert.MergeIdeal.Rows.part 2 l)) * dot (fun z => yc (ix2 r z)) (fun z => wc (ix2 z l)) := by
  have p0 : Cert.MergeIdeal.Rows.part 0 l = ⟨l.val, by omega⟩ := Fin.ext (by simp [Cert.MergeIdeal.Rows.part])
  have p1 : Cert.MergeIdeal.Rows.part 1 l = ⟨2048 + l.val, by omega⟩ := Fin.ext (by simp [Cert.MergeIdeal.Rows.part])
  have p2 : Cert.MergeIdeal.Rows.part 2 l = ⟨4096 + l.val, by omega⟩ := Fin.ext (by simp [Cert.MergeIdeal.Rows.part])
  rw [p0, p1, p2]
  pointwise [merged]
  rfl

/-- The reference's result: the residual stream and the merged columns against the output matrix. -/
def result (X Y : FVec Ideal S16384x2048 .f32) (w : FVec Ideal S2048x2048 .f32) : FVec Ideal S16384x2048 .f32 :=
  addf X (Host.dotGeneral dot_S16384x2048_S2048x2048_S16384x2048_1_0_0_1_n_n none Y w)

/-- The result at an index. -/
theorem result_apply (X Y : FVec Ideal S16384x2048 .f32) (w : FVec Ideal S2048x2048 .f32) (r : Fin 16384) (k : Fin 2048) :
    result X Y w (ix2 r k) = X (ix2 r k) + ∑ l, Y (ix2 r l) * w (ix2 l k) := by
  pointwise [result]

variable (m : (ℓ : Loc Cert.MergeIdeal.nD Cert.MergeIdeal.τ Cert.MergeIdeal.sig) → Buf (Elt Ideal) ℓ) (c : Dev Cert.MergeIdeal.nD)

/-- The reference's normalised rows are the kernel's. -/
theorem normed_eq (r : Fin 16384) :
    (fun z => normed (Cert.MergeIdeal.Rows.X m c) (m ((c.tc : Thread Cert.MergeIdeal.nD Cert.MergeIdeal.τ).loc Cert.MergeIdeal.main_arg1)) (ix2 r z)) = Cert.MergeIdeal.Rows.hrow m c r :=
  funext fun z => normed_apply _ _ r z

/-- The reference's formula is the kernel's result array. -/
theorem result_eq : result (Cert.MergeIdeal.Rows.X m c) (merged (gates (normed (Cert.MergeIdeal.Rows.X m c) (m ((c.tc : Thread Cert.MergeIdeal.nD Cert.MergeIdeal.τ).loc Cert.MergeIdeal.main_arg1))) (m ((c.tc : Thread Cert.MergeIdeal.nD Cert.MergeIdeal.τ).loc Cert.MergeIdeal.main_arg2))) (Cert.MergeIdeal.Rows.YA m c) (Cert.MergeIdeal.Rows.YB m c) (Cert.MergeIdeal.Rows.YC m c)
      (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)))
      (m ((c.tc : Thread Cert.MergeIdeal.nD Cert.MergeIdeal.τ).loc Cert.MergeIdeal.main_arg9)) = Cert.MergeIdeal.Rows.out m c := by
  funext i
  obtain ⟨y, rfl⟩ : ∃ z : Fin 16384 × Fin 2048, i = ix2 z.1 z.2 :=
    ⟨(i 0, i 1), by funext a; match a with | ⟨0, _⟩ => rfl | ⟨1, _⟩ => rfl⟩
  refine (result_apply _ _ _ y.1 y.2).trans (congrArg (Cert.MergeIdeal.Rows.X m c (ix2 y.1 y.2) + ·) (Finset.sum_congr rfl fun l _ => ?_))
  rw [merged_apply, gates_apply, gates_apply, gates_apply, normed_eq]
  rfl

/-- Kernel and reference, run on the same arguments, end with equal results. -/
theorem algebraic : Cert.algebraic_MergeIdeal_MergeReferenceIdeal := by
  intro m g m' g' _ hagree
  refine ⟨fun c => Cert.MergeIdeal.Rows.out m c, ?_, ?_⟩
  · refine (θ_run _ _ _).mono (fun r h c => ?_) (Cert.MergeIdeal.Value.run_blocks m g)
    exact ⟨(h c).1.trans (Cert.MergeIdeal.Rows.array m c), (h c).2⟩
  · refine (θ_run _ _ _).mono (fun r h c => ?_) (Cert.MergeReferenceIdeal.Value.run m' g')
    obtain ⟨e0, e1, e2, e3, e4, e5, e6, e7, e8, e9⟩ := hagree c
    refine ⟨(h c).1.trans (Eq.trans ?_ (result_eq m c)), (h c).2⟩
    unfold Cert.MergeIdeal.Rows.X Cert.MergeIdeal.Rows.YA Cert.MergeIdeal.Rows.YB Cert.MergeIdeal.Rows.YC Cert.MergeReferenceIdeal.Value.res_main_v40
    rw [← e0, ← e1, ← e2, ← e3, ← e4, ← e5, ← e6, ← e7, ← e8, ← e9]
    rfl

/-- The reference ends with its arguments unchanged and, since it declares no semaphore, every counter at zero. -/
theorem reference_frame (m : (ℓ : Loc Cert.MergeReferenceIdeal.nD Cert.MergeReferenceIdeal.τ Cert.MergeReferenceIdeal.sig) → Buf (Elt Ideal) ℓ) (g : Dev Cert.MergeReferenceIdeal.nD → PrngReg) :
    θ_run (Cert.MergeReferenceIdeal.defs (F := Ideal)) (onTc (τ := Cert.MergeReferenceIdeal.τ) (Cert.MergeReferenceIdeal.main (F := Ideal))) ⟨m, fun _ => 0, g⟩ (fun r =>
      (∀ c : Dev Cert.MergeReferenceIdeal.nD,
        r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
        ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
        ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
        ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
        ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
        ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
        ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
        ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
        ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
        ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0) :=
  (θ_run _ _ _).mono (fun r h => ⟨fun c => (h c).2, sem_eq_zero_of_no_sems (by decide) r.2⟩) (Cert.MergeReferenceIdeal.Value.run m g)

end

end Cert.MergeReferenceIdeal.Rows
-- ==== Proof.S5ProjKernel.lean ====
/- The S5 projection's kernel over the reals: its result array. -/
module

public import proofs.«01_k».proof.Proof.MergeEquation
public import proofs.«01_k».proof.Proof.Gen.S5ProjIdeal.Value
public import Idealize.ShloMosaic.Lib.StableHlo.RunRead

@[expose] public section

set_option maxRecDepth 16384

namespace Cert.S5ProjIdeal.Rows

open Cert.S5ProjIdeal Cert.S5ProjIdeal.Gen Idealize.ShloMosaic Idealize.ShloMosaic.TcCoe Idealize.SL.Sem Layer

noncomputable section

variable (m : (ℓ : Loc nD τ sig) → Buf (Elt Ideal) ℓ) (c : Dev nD)

/-- The residual stream. -/
abbrev X : FVec Ideal S8x2048x2048 .f32 := m ((c.tc : Thread nD τ).loc main_arg0)

/-- The projection's columns the S5 mixer reads. -/
abbrev W : FVec Ideal S2048x1024 .bf16 :=
  truncf .bf16 (extractStridedSlice S2048x1024 ![0, 7616] (m ((c.tc : Thread nD τ).loc main_arg2)) slices_S2048x14784_S2048x1024_0_7616 : FVec Ideal S2048x1024 .f32) bitsLt_bf16_f32

/-- The column of the combined projection that is the mixer's column `j`. -/
def far (j : Fin 1024) : Fin 14784 := ⟨7616 + j.val, by omega⟩

/-- The mixer's columns at an index. -/
theorem W_apply (z : Fin 2048) (j : Fin 1024) : W m c (ix2 z j) = m ((c.tc : Thread nD τ).loc main_arg2) (ix2 z (far j)) := by
  pointwise [W]
  rfl

/-- The norm's gain the grid starts from. -/
theorem V_main_v0 : V m c main_v0 = shapeCast S1x2048 (m ((c.tc : Thread nD τ).loc main_arg1)) shapeCasts_S2048_S1x2048 := by
  after_reads_simp
  rfl

/-- The matrix the grid starts from. -/
theorem V_main_v2 : V m c main_v2 = W m c := by
  after_reads_simp

/-- The row of a block that is position `w` of the block's chunk `s`. -/
def pos (s : Fin 32) (w : Fin 16) : Fin 512 := ⟨s.val * 16 + w.val, by omega⟩

/-- What one point stores at an index. -/
theorem pay1_apply (x : Vec Ideal S1x512x2048 .f32) (g : Vec Ideal S1x2048 .f32) (a : Vec Ideal S2048x1024 .bf16) (s : Fin 32) (w : Fin 16) (j : Fin 1024) :
    k0_pay1 x g a (ix4 s 0 w j) = dot (norm (fun l => x (ix3 0 (pos s w) l)) (fun l => g (ix2 0 l))) (fun z => a (ix2 z j)) := by
  pointwise [k0_pay1]
  rfl

/-- The grid has 32 points. -/
theorem N_lt (t : Fin cfg0.N) : t.val < 32 := lt_of_lt_of_eq t.isLt N_0

/-- The batch of a point. -/
def batch (t : Fin cfg0.N) : Fin 8 := ⟨t.val / 4, by have := N_lt t; omega⟩

/-- The token of a block's row, within its batch. -/
def row (t : Fin cfg0.N) (i : Fin 512) : Fin 2048 := ⟨t.val % 4 * 512 + i.val, by omega⟩

/-- The chunk of a block's chunk. -/
def chunk (t : Fin cfg0.N) (s : Fin 32) : Fin 128 := ⟨t.val % 4 * 32 + s.val, by omega⟩

/-- The token, within its batch, of a chunk's position. -/
def tok (s : Fin 128) (w : Fin 16) : Fin 2048 := ⟨s.val * 16 + w.val, by omega⟩

/-- A block's position is its chunk's position. -/
theorem row_pos (t : Fin cfg0.N) (s : Fin 32) (w : Fin 16) : row t (pos s w) = tok (chunk t s) w :=
  Fin.ext (by simp only [row, pos, tok, chunk]; omega)

/-- Where window 0's block lies at each grid point. -/
theorem idx0 : ∀ t : Fin cfg0.N, win0_0.index t = ![t.val / 4, t.val % 4, 0] :=
  (by decide +kernel : ∀ t : Fin grid0.N, win0_0.index t = ![t.val / 4, t.val % 4, 0])

/-- Window 1 is its whole array at every grid point. -/
theorem idx1 : ∀ t : Fin cfg0.N, win0_1.index t = ![0, 0] :=
  (by decide +kernel : ∀ t : Fin grid0.N, win0_1.index t = ![0, 0])

/-- Window 2 is its whole array at every grid point. -/
theorem idx2 : ∀ t : Fin cfg0.N, win0_2.index t = ![0, 0] :=
  (by decide +kernel : ∀ t : Fin grid0.N, win0_2.index t = ![0, 0])

/-- Where window 3's block lies at each grid point. -/
theorem idx3 : ∀ t : Fin cfg0.N, win0_3.index t = ![t.val % 4, t.val / 4, 0, 0] :=
  (by decide +kernel : ∀ t : Fin grid0.N, win0_3.index t = ![t.val % 4, t.val / 4, 0, 0])

/-- Window 0's block at an index. -/
theorem iblk0 (t : Fin cfg0.N) (i : Fin 512) (k : Fin 2048) : iblk m c 0 t (ix3 0 i k) = X m c (ix3 (batch t) (row t i) k) := by
  unfold X
  rw [← V_main_arg0 m c]
  unfold iblk
  rw [View.read_apply]
  show V m c main_arg0 _ = _
  blk_ext [batch, row, idx0 t]

/-- Window 1's block at an index. -/
theorem iblk1 (t : Fin cfg0.N) (k : Fin 2048) : iblk m c 1 t (ix2 0 k) = m ((c.tc : Thread nD τ).loc main_arg1) (ix1 k) := by
  have e : shapeCast S1x2048 (m ((c.tc : Thread nD τ).loc main_arg1)) shapeCasts_S2048_S1x2048 (ix2 0 k)
      = m ((c.tc : Thread nD τ).loc main_arg1) (ix1 k) := by pointwise
  rw [← e, ← V_main_v0]
  unfold iblk
  rw [View.read_apply]
  show V m c main_v0 _ = _
  blk_ext [idx1 t]

/-- Window 2's block at an index. -/
theorem iblk2 (t : Fin cfg0.N) (i : Fin 2048) (j : Fin 1024) : iblk m c 2 t (ix2 i j) = W m c (ix2 i j) := by
  rw [← V_main_v2 m c]
  unfold iblk
  rw [View.read_apply]
  show V m c main_v2 _ = _
  blk_ext [idx2 t]

/-- The normalised row of a token. -/
def hrow (b : Fin 8) (r : Fin 2048) : Fin 2048 → EReal := norm (fun l => X m c (ix3 b r l)) (fun l => m ((c.tc : Thread nD τ).loc main_arg1) (ix1 l))

/-- A token's output: its normalised row against the mixer's columns, chunk by chunk. -/
def out (i : S128x8x16x1024.Idx) : EReal :=
  dot (hrow m c (i 1) (tok (i 0) (i 2))) (fun z => m ((c.tc : Thread nD τ).loc main_arg2) (ix2 z (far (i 3))))

/-- What a point stores, at an index. -/
theorem stored (t : Fin cfg0.N) (s : Fin 32) (w : Fin 16) (j : Fin 1024) :
    k0_pay1 (iblk m c 0 t) (iblk m c 1 t) (iblk m c 2 t) (ix4 s 0 w j) = out m c (ix4 (chunk t s) (batch t) w j) := by
  refine (pay1_apply _ _ _ s w j).trans ?_
  refine congrArg₂ dot ?_ (funext fun z => (iblk2 m c t z j).trans (W_apply m c z j))
  refine congrArg₂ norm (funext fun l => (iblk0 m c t (pos s w) l).trans ?_) (funext fun l => iblk1 m c t l)
  rw [row_pos]
  rfl

/-- A point's block is what it stores. -/
theorem out0_eq (t : Fin cfg0.N) : out0_3 (iblk m c 0 t) (iblk m c 1 t) (iblk m c 2 t) = k0_pay1 (iblk m c 0 t) (iblk m c 1 t) (iblk m c 2 t) := by
  frame_out

/-- The result array after the grid. -/
theorem array : (dats m 0 c).arrAt 3 cfg0.N = out m c := by
  refine (dats m 0 c).arrAt_eq_of_covers 3 _ (by decide +kernel) fun t hf y => ?_
  blk_simp
  rw [after0_3]
  obtain ⟨y, rfl⟩ : ∃ z : Fin 32 × Fin 16 × Fin 1024, y = ix4 z.1 0 z.2.1 z.2.2 :=
    ⟨(y 0, y 2, y 3), by
      funext a
      match a with
      | ⟨0, _⟩ => rfl
      | ⟨1, _⟩ => exact Subsingleton.elim (α := Fin 1) _ _
      | ⟨2, _⟩ => rfl
      | ⟨3, _⟩ => rfl⟩
  refine ((congrFun (out0_eq m c t) _).trans (stored m c t y.1 y.2.1 y.2.2)).trans ?_
  have e : (win0_3.blk t).view.emb (ix4 y.1 0 y.2.1 y.2.2) = ix4 (chunk t y.1) (batch t) y.2.1 y.2.2 := by
    blk_ext [chunk, batch, idx3 t]
  exact (congrArg (out m c) e).symm

end

end Cert.S5ProjIdeal.Rows
-- ==== Proof.S5ProjEquation.lean ====
/- The S5 projection: kernel and reference give one result. -/
module

public import proofs.«01_k».proof.Proof.S5ProjKernel
public import proofs.«01_k».proof.Proof.Gen.S5ProjReferenceIdeal.Run

@[expose] public section

set_option maxRecDepth 16384

namespace Cert.S5ProjReferenceIdeal.Rows

open Idealize.ShloMosaic Idealize.ShloMosaic.TcCoe Idealize.SL.Sem Layer
open Cert.S5ProjReferenceIdeal Cert.S5ProjReferenceIdeal.Gen

noncomputable section

/-- The reference's normalised rows. -/
def normed (X : FVec Ideal S8x2048x2048 .f32) (g : FVec Ideal S2048 .f32) : FVec Ideal S8x2048x2048 .f32 :=
  (mulf (mulf X (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf X X) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g)))

/-- A normalised row at an index. -/
theorem normed_apply (X : FVec Ideal S8x2048x2048 .f32) (g : FVec Ideal S2048 .f32) (b : Fin 8) (r k : Fin 2048) :
    normed X g (ix3 b r k) = norm (fun l => X (ix3 b r l)) (fun l => g (ix1 l)) k := by
  pointwise [normed]
  rfl

/-- The reference's products of the normalised rows and the projection's matrix. -/
def products (H : FVec Ideal S8x2048x2048 .f32) (w : FVec Ideal S2048x14784 .f32) : FVec Ideal S8x2048x14784 .f32 :=
  Host.dotGeneral dot_S8x2048x2048_S2048x14784_S8x2048x14784_2_0_01_1_n_n none H w

/-- A product at an index. -/
theorem products_apply (H : FVec Ideal S8x2048x2048 .f32) (w : FVec Ideal S2048x14784 .f32) (b : Fin 8) (r : Fin 2048) (j : Fin 14784) :
    products H w (ix3 b r j) = dot (fun z => H (ix3 b r z)) (fun z => w (ix2 z j)) := by
  pointwise [products]
  rfl

/-- The reference's result: the mixer's columns of the products, chunk by chunk. -/
def result (Y : FVec Ideal S8x2048x14784 .f32) : FVec Ideal S128x8x16x1024 .f32 :=
  transpose S128x8x16x1024 [1, 0, 2, 3] (shapeCast S8x128x16x1024 (extractStridedSlice S8x2048x1024 ![0, 0, 7616] Y slices_S8x2048x14784_S8x2048x1024_0_0_7616) shapeCasts_S8x2048x1024_S8x128x16x1024) transposes_S8x128x16x1024_S128x8x16x1024_1_0_2_3

/-- The result at an index. -/
theorem result_apply (Y : FVec Ideal S8x2048x14784 .f32) (s : Fin 128) (b : Fin 8) (w : Fin 16) (j : Fin 1024) :
    result Y (ix4 s b w j) = Y (ix3 b (Cert.S5ProjIdeal.Rows.tok s w) (Cert.S5ProjIdeal.Rows.far j)) := by
  pointwise [result]
  rfl

variable (m : (ℓ : Loc Cert.S5ProjIdeal.nD Cert.S5ProjIdeal.τ Cert.S5ProjIdeal.sig) → Buf (Elt Ideal) ℓ) (c : Dev Cert.S5ProjIdeal.nD)

/-- The reference's normalised rows are the kernel's. -/
theorem normed_eq (b : Fin 8) (r : Fin 2048) :
    (fun z => normed (Cert.S5ProjIdeal.Rows.X m c) (m ((c.tc : Thread Cert.S5ProjIdeal.nD Cert.S5ProjIdeal.τ).loc Cert.S5ProjIdeal.main_arg1)) (ix3 b r z)) = Cert.S5ProjIdeal.Rows.hrow m c b r :=
  funext fun z => normed_apply _ _ b r z

/-- The reference's formula is the kernel's result array. -/
theorem result_eq : result (products (normed (Cert.S5ProjIdeal.Rows.X m c) (m ((c.tc : Thread Cert.S5ProjIdeal.nD Cert.S5ProjIdeal.τ).loc Cert.S5ProjIdeal.main_arg1))) (m ((c.tc : Thread Cert.S5ProjIdeal.nD Cert.S5ProjIdeal.τ).loc Cert.S5ProjIdeal.main_arg2))) = Cert.S5ProjIdeal.Rows.out m c := by
  funext i
  obtain ⟨y, rfl⟩ : ∃ z : Fin 128 × Fin 8 × Fin 16 × Fin 1024, i = ix4 z.1 z.2.1 z.2.2.1 z.2.2.2 :=
    ⟨(i 0, i 1, i 2, i 3), by funext a; match a with | ⟨0, _⟩ => rfl | ⟨1, _⟩ => rfl | ⟨2, _⟩ => rfl | ⟨3, _⟩ => rfl⟩
  refine (result_apply _ _ _ _ _).trans ((products_apply _ _ _ _ _).trans ?_)
  rw [normed_eq]
  rfl

/-- Kernel and reference, run on the same arguments, end with equal results. -/
theorem algebraic : Cert.algebraic_S5ProjIdeal_S5ProjReferenceIdeal := by
  intro m g m' g' _ hagree
  refine ⟨fun c => Cert.S5ProjIdeal.Rows.out m c, ?_, ?_⟩
  · refine (θ_run _ _ _).mono (fun r h c => ?_) (Cert.S5ProjIdeal.Value.run_blocks m g)
    exact ⟨(h c).1.trans (Cert.S5ProjIdeal.Rows.array m c), (h c).2⟩
  · refine (θ_run _ _ _).mono (fun r h c => ?_) (Cert.S5ProjReferenceIdeal.Value.run m' g')
    obtain ⟨e0, e1, e2⟩ := hagree c
    refine ⟨(h c).1.trans (Eq.trans ?_ (result_eq m c)), (h c).2⟩
    unfold Cert.S5ProjIdeal.Rows.X
    rw [← e0, ← e1, ← e2]
    rfl

/-- The reference ends with its arguments unchanged and, since it declares no semaphore, every counter at zero. -/
theorem reference_frame (m : (ℓ : Loc Cert.S5ProjReferenceIdeal.nD Cert.S5ProjReferenceIdeal.τ Cert.S5ProjReferenceIdeal.sig) → Buf (Elt Ideal) ℓ) (g : Dev Cert.S5ProjReferenceIdeal.nD → PrngReg) :
    θ_run (Cert.S5ProjReferenceIdeal.defs (F := Ideal)) (onTc (τ := Cert.S5ProjReferenceIdeal.τ) (Cert.S5ProjReferenceIdeal.main (F := Ideal))) ⟨m, fun _ => 0, g⟩ (fun r =>
      (∀ c : Dev Cert.S5ProjReferenceIdeal.nD,
        r.2.mem ((c.tc : Thread Cert.S5ProjReferenceIdeal.nD Cert.S5ProjReferenceIdeal.τ).loc Cert.S5ProjReferenceIdeal.main_arg0) = m ((c.tc : Thread Cert.S5ProjReferenceIdeal.nD Cert.S5ProjReferenceIdeal.τ).loc Cert.S5ProjReferenceIdeal.main_arg0)
        ∧ r.2.mem ((c.tc : Thread Cert.S5ProjReferenceIdeal.nD Cert.S5ProjReferenceIdeal.τ).loc Cert.S5ProjReferenceIdeal.main_arg1) = m ((c.tc : Thread Cert.S5ProjReferenceIdeal.nD Cert.S5ProjReferenceIdeal.τ).loc Cert.S5ProjReferenceIdeal.main_arg1)
        ∧ r.2.mem ((c.tc : Thread Cert.S5ProjReferenceIdeal.nD Cert.S5ProjReferenceIdeal.τ).loc Cert.S5ProjReferenceIdeal.main_arg2) = m ((c.tc : Thread Cert.S5ProjReferenceIdeal.nD Cert.S5ProjReferenceIdeal.τ).loc Cert.S5ProjReferenceIdeal.main_arg2))
      ∧ r.2.sem = fun _ => 0) :=
  (θ_run _ _ _).mono (fun r h => ⟨fun c => (h c).2, sem_eq_zero_of_no_sems (by decide) r.2⟩) (Cert.S5ProjReferenceIdeal.Value.run m g)

end

end Cert.S5ProjReferenceIdeal.Rows
-- ==== Proof.S5PostKernel.lean ====
/- The S5 mixer's closing kernel over the reals: its result array. -/
module

public import proofs.«01_k».proof.Proof.S5ProjEquation
public import proofs.«01_k».proof.Proof.Gen.S5PostIdeal.Value
public import Idealize.ShloMosaic.Lib.StableHlo.RunRead

@[expose] public section

set_option maxRecDepth 16384

namespace Cert.S5PostIdeal.Rows

open Cert.S5PostIdeal Cert.S5PostIdeal.Gen Idealize.ShloMosaic Idealize.ShloMosaic.TcCoe Idealize.SL.Sem Layer

noncomputable section

/-- The smooth gate of the S5 mixer: half the value times one plus a hyperbolic tangent of a cubic in it. -/
def gelu (y : EReal) : EReal :=
  Ideal.ofBits .f32 1056964608#32 * y * (1 + Ideal.tanh (Ideal.ofBits .f32 1061962282#32 * (y + Ideal.ofBits .f32 1027024659#32 * (y * y * y))))

/-- A row gated by the logistic function of its products with a matrix, plus a bias. -/
def glu (h : Fin 1024 → EReal) (w : Fin 1024 → Fin 1024 → EReal) (b : Fin 1024 → EReal) (k : Fin 1024) : EReal :=
  h k * sigmoid (dot h (fun z => w z k) + b k)

variable (m : (ℓ : Loc nD τ sig) → Buf (Elt Ideal) ℓ) (c : Dev nD)

/-- The scan's two outputs. -/
abbrev Y : FVec Ideal S2x16384x1024 .f32 := m ((c.tc : Thread nD τ).loc main_arg0)

/-- The scan's input. -/
abbrev U : FVec Ideal S128x8x16x1024 .f32 := m ((c.tc : Thread nD τ).loc main_arg1)

/-- The skip's weights. -/
abbrev D : FVec Ideal S1024 .f32 := m ((c.tc : Thread nD τ).loc main_arg2)

/-- The scan's outputs chunk by chunk. -/
abbrev Y5 : FVec Ideal S2x128x8x16x1024 .f32 := shapeCast S2x128x8x16x1024 (Y m c) shapeCasts_S2x16384x1024_S2x128x8x16x1024

/-- The gate's matrix. -/
abbrev W : FVec Ideal S1024x1024 .bf16 := truncf .bf16 (m ((c.tc : Thread nD τ).loc main_arg3) : FVec Ideal S1024x1024 .f32) bitsLt_bf16_f32

/-- The row of the scan's outputs that holds position `w` of chunk `s` of batch `b`. -/
def scanned (s : Fin 128) (b : Fin 8) (w : Fin 16) : Fin 16384 := ⟨s.val * 128 + b.val * 16 + w.val, by omega⟩

/-- The scan's outputs, chunk by chunk, at an index. -/
theorem Y5_apply (p : Fin 2) (s : Fin 128) (b : Fin 8) (w : Fin 16) (k : Fin 1024) :
    Y5 m c (ix5 p s b w k) = Y m c (ix3 p (scanned s b w) k) := by
  pointwise [Y5]
  rfl

/-- The skip's weights the grid starts from. -/
theorem V_main_v0 : V m c main_v0 = shapeCast S1x1024 (m ((c.tc : Thread nD τ).loc main_arg2)) shapeCasts_S1024_S1x1024 := by
  after_reads_simp
  rfl

/-- The gate's matrix the grid starts from. -/
theorem V_main_v1 : V m c main_v1 = W m c := by
  after_reads_simp

/-- The gate's bias the grid starts from. -/
theorem V_main_v2 : V m c main_v2 = shapeCast S1x1024 (m ((c.tc : Thread nD τ).loc main_arg4)) shapeCasts_S1024_S1x1024 := by
  after_reads_simp
  rfl

/-- The scan's outputs the grid starts from. -/
theorem V_main_v3 : V m c main_v3 = Y5 m c := by
  after_reads_simp
  rfl

/-- The chunk, within its block, of a block's row. -/
def part (i : Fin 512) : Fin 32 := ⟨i.val / 16, by omega⟩

/-- The position, within its chunk, of a block's row. -/
def place (i : Fin 512) : Fin 16 := ⟨i.val % 16, by omega⟩

/-- The gated sum of the two outputs and the skip, at an index. -/
theorem pay2_apply (x x' : Vec Ideal S1x32x1x16x1024 .f32) (d : Vec Ideal S1x1024 .f32) (u : Vec Ideal S32x1x16x1024 .f32) (i : Fin 512) (k : Fin 1024) :
    k0_pay2 x x' d u (ix2 i k) = gelu (x (ix5 0 (part i) 0 (place i) k) + x' (ix5 0 (part i) 0 (place i) k) + d (ix2 0 k) * u (ix4 (part i) 0 (place i) k)) := by
  pointwise [k0_pay2]
  rfl

/-- The gate's products at an index. -/
theorem pay3_apply (x x' : Vec Ideal S1x32x1x16x1024 .f32) (d : Vec Ideal S1x1024 .f32) (u : Vec Ideal S32x1x16x1024 .f32) (a : Vec Ideal S1024x1024 .bf16)
    (i : Fin 512) (k : Fin 1024) :
    k0_pay3 x x' d u a (ix2 i k) = dot (fun z => k0_pay2 x x' d u (ix2 i z)) (fun z => a (ix2 z k)) := by
  pointwise [k0_pay3]
  rfl

/-- The gate's bias at an index. -/
theorem pay4_apply (b : Vec Ideal S1x1024 .f32) (k : Fin 1024) : k0_pay4 b (ix2 0 k) = b (ix2 0 k) := by
  pointwise [k0_pay4]

/-- What one point stores at an index. -/
theorem pay1_apply (h p : FVec Ideal S512x1024 .f32) (b : FVec Ideal S1x1024 .f32) (i : Fin 512) (k : Fin 1024) :
    k0_pay1 h p b (ix2 i k) = h (ix2 i k) * sigmoid (p (ix2 i k) + b (ix2 0 k)) := by
  pointwise [k0_pay1]
  rfl

/-- The grid has 32 points. -/
theorem N_lt (t : Fin cfg0.N) : t.val < 32 := lt_of_lt_of_eq t.isLt N_0

/-- The batch of a point. -/
def batch (t : Fin cfg0.N) : Fin 8 := ⟨t.val / 4, by have := N_lt t; omega⟩

/-- The chunk of a block's chunk. -/
def chunk (t : Fin cfg0.N) (s : Fin 32) : Fin 128 := ⟨t.val % 4 * 32 + s.val, by omega⟩

/-- The token of a block's row. -/
def row (t : Fin cfg0.N) (i : Fin 512) : Fin 16384 := ⟨t.val * 512 + i.val, by have := N_lt t; omega⟩

/-- The batch of a token. -/
def batchOf (r : Fin 16384) : Fin 8 := ⟨r.val / 2048, by omega⟩

/-- The chunk of a token. -/
def chunkOf (r : Fin 16384) : Fin 128 := ⟨r.val / 16 % 128, by omega⟩

/-- The position of a token within its chunk. -/
def placeOf (r : Fin 16384) : Fin 16 := ⟨r.val % 16, by omega⟩

/-- A block's row lies in the point's batch. -/
theorem batchOf_row (t : Fin cfg0.N) (i : Fin 512) : batchOf (row t i) = batch t :=
  Fin.ext (by simp only [batchOf, row, batch]; omega)

/-- A block's row lies in the block's chunk. -/
theorem chunkOf_row (t : Fin cfg0.N) (i : Fin 512) : chunkOf (row t i) = chunk t (part i) :=
  Fin.ext (by simp only [chunkOf, row, chunk, part]; omega)

/-- A block's row has the same place in its chunk. -/
theorem placeOf_row (t : Fin cfg0.N) (i : Fin 512) : placeOf (row t i) = place i :=
  Fin.ext (by simp only [placeOf, row, place]; omega)

/-- Where window 0's block lies at each grid point. -/
theorem idx0 : ∀ t : Fin cfg0.N, win0_0.index t = ![0, t.val % 4, t.val / 4, 0, 0] :=
  (by decide +kernel : ∀ t : Fin grid0.N, win0_0.index t = ![0, t.val % 4, t.val / 4, 0, 0])

/-- Where window 1's block lies at each grid point. -/
theorem idx1 : ∀ t : Fin cfg0.N, win0_1.index t = ![1, t.val % 4, t.val / 4, 0, 0] :=
  (by decide +kernel : ∀ t : Fin grid0.N, win0_1.index t = ![1, t.val % 4, t.val / 4, 0, 0])

/-- Where window 2's block lies at each grid point. -/
theorem idx2 : ∀ t : Fin cfg0.N, win0_2.index t = ![t.val % 4, t.val / 4, 0, 0] :=
  (by decide +kernel : ∀ t : Fin grid0.N, win0_2.index t = ![t.val % 4, t.val / 4, 0, 0])

/-- Window 3 is its whole array at every grid point. -/
theorem idx3 : ∀ t : Fin cfg0.N, win0_3.index t = ![0, 0] :=
  (by decide +kernel : ∀ t : Fin grid0.N, win0_3.index t = ![0, 0])

/-- Window 4 is its whole array at every grid point. -/
theorem idx4 : ∀ t : Fin cfg0.N, win0_4.index t = ![0, 0] :=
  (by decide +kernel : ∀ t : Fin grid0.N, win0_4.index t = ![0, 0])

/-- Window 5 is its whole array at every grid point. -/
theorem idx5 : ∀ t : Fin cfg0.N, win0_5.index t = ![0, 0] :=
  (by decide +kernel : ∀ t : Fin grid0.N, win0_5.index t = ![0, 0])

/-- Where window 6's block lies at each grid point. -/
theorem idx6 : ∀ t : Fin cfg0.N, win0_6.index t = ![t.val, 0] :=
  (by decide +kernel : ∀ t : Fin grid0.N, win0_6.index t = ![t.val, 0])

/-- Window 0's block at an index. -/
theorem iblk0 (t : Fin cfg0.N) (s : Fin 32) (w : Fin 16) (k : Fin 1024) :
    iblk m c 0 t (ix5 0 s 0 w k) = Y5 m c (ix5 0 (chunk t s) (batch t) w k) := by
  rw [← V_main_v3 m c]
  unfold iblk
  rw [View.read_apply]
  show V m c main_v3 _ = _
  blk_ext [chunk, batch, idx0 t]

/-- Window 1's block at an index. -/
theorem iblk1 (t : Fin cfg0.N) (s : Fin 32) (w : Fin 16) (k : Fin 1024) :
    iblk m c 1 t (ix5 0 s 0 w k) = Y5 m c (ix5 1 (chunk t s) (batch t) w k) := by
  rw [← V_main_v3 m c]
  unfold iblk
  rw [View.read_apply]
  show V m c main_v3 _ = _
  blk_ext [chunk, batch, idx1 t]

/-- Window 2's block at an index. -/
theorem iblk2 (t : Fin cfg0.N) (s : Fin 32) (w : Fin 16) (k : Fin 1024) :
    iblk m c 2 t (ix4 s 0 w k) = U m c (ix4 (chunk t s) (batch t) w k) := by
  unfold U
  rw [← V_main_arg1 m c]
  unfold iblk
  rw [View.read_apply]
  show V m c main_arg1 _ = _
  blk_ext [chunk, batch, idx2 t]

/-- Window 3's block at an index. -/
theorem iblk3 (t : Fin cfg0.N) (k : Fin 1024) : iblk m c 3 t (ix2 0 k) = m ((c.tc : Thread nD τ).loc main_arg2) (ix1 k) := by
  have e : shapeCast S1x1024 (m ((c.tc : Thread nD τ).loc main_arg2)) shapeCasts_S1024_S1x1024 (ix2 0 k)
      = m ((c.tc : Thread nD τ).loc main_arg2) (ix1 k) := by pointwise
  rw [← e, ← V_main_v0]
  unfold iblk
  rw [View.read_apply]
  show V m c main_v0 _ = _
  blk_ext [idx3 t]

/-- Window 4's block at an index. -/
theorem iblk4 (t : Fin cfg0.N) (z k : Fin 1024) : iblk m c 4 t (ix2 z k) = m ((c.tc : Thread nD τ).loc main_arg3) (ix2 z k) := by
  show _ = W m c (ix2 z k)
  rw [← V_main_v1 m c]
  unfold iblk
  rw [View.read_apply]
  show V m c main_v1 _ = _
  blk_ext [idx4 t]

/-- Window 5's block at an index. -/
theorem iblk5 (t : Fin cfg0.N) (k : Fin 1024) : iblk m c 5 t (ix2 0 k) = m ((c.tc : Thread nD τ).loc main_arg4) (ix1 k) := by
  have e : shapeCast S1x1024 (m ((c.tc : Thread nD τ).loc main_arg4)) shapeCasts_S1024_S1x1024 (ix2 0 k)
      = m ((c.tc : Thread nD τ).loc main_arg4) (ix1 k) := by pointwise
  rw [← e, ← V_main_v2]
  unfold iblk
  rw [View.read_apply]
  show V m c main_v2 _ = _
  blk_ext [idx5 t]

/-- A token's sum of the scan's two outputs and the skip. -/
def total (r : Fin 16384) (k : Fin 1024) : EReal :=
  Y m c (ix3 0 (scanned (chunkOf r) (batchOf r) (placeOf r)) k) + Y m c (ix3 1 (scanned (chunkOf r) (batchOf r) (placeOf r)) k)
    + D m c (ix1 k) * U m c (ix4 (chunkOf r) (batchOf r) (placeOf r) k)

/-- A token's gated row. -/
def hrow (r : Fin 16384) (k : Fin 1024) : EReal := gelu (total m c r k)

/-- The gated block of a point, at an index. -/
theorem first_h (t : Fin cfg0.N) (i : Fin 512) (k : Fin 1024) :
    k0_pay2 (iblk m c 0 t) (iblk m c 1 t) (iblk m c 3 t) (iblk m c 2 t) (ix2 i k) = hrow m c (row t i) k := by
  refine (pay2_apply _ _ _ _ i k).trans (congrArg gelu ?_)
  unfold total
  rw [chunkOf_row, batchOf_row, placeOf_row]
  exact congrArg₂ (· + ·)
    (congrArg₂ (· + ·) ((iblk0 m c t (part i) (place i) k).trans (Y5_apply m c 0 _ _ _ k)) ((iblk1 m c t (part i) (place i) k).trans (Y5_apply m c 1 _ _ _ k)))
    (congrArg₂ (· * ·) (iblk3 m c t k) (iblk2 m c t (part i) (place i) k))

/-- A token's output: its gated row, gated once more by its products with the matrix. -/
def out (i : S16384x1024.Idx) : EReal :=
  glu (hrow m c (i 0)) (fun z k => m ((c.tc : Thread nD τ).loc main_arg3) (ix2 z k)) (fun k => m ((c.tc : Thread nD τ).loc main_arg4) (ix1 k)) (i 1)

/-- What a point stores. -/
abbrev store (t : Fin cfg0.N) : FVec Ideal S512x1024 .bf16 :=
  k0_pay1 (k0_pay2 (iblk m c 0 t) (iblk m c 1 t) (iblk m c 3 t) (iblk m c 2 t))
    (k0_pay3 (iblk m c 0 t) (iblk m c 1 t) (iblk m c 3 t) (iblk m c 2 t) (iblk m c 4 t)) (k0_pay4 (iblk m c 5 t))

/-- What a point stores, at an index. -/
theorem stored (t : Fin cfg0.N) (i : Fin 512) (k : Fin 1024) : store m c t (ix2 i k) = out m c (ix2 (row t i) k) := by
  refine (pay1_apply _ _ _ i k).trans ?_
  refine congrArg₂ (· * ·) (first_h m c t i k) (congrArg sigmoid (congrArg₂ (· + ·) ?_ ?_))
  · refine (pay3_apply _ _ _ _ _ i k).trans ?_
    exact congrArg₂ dot (funext fun z => first_h m c t i z) (funext fun z => iblk4 m c t z k)
  · exact (pay4_apply _ k).trans (iblk5 m c t k)

/-- A point's block is what it stores. -/
theorem out0_eq (t : Fin cfg0.N) :
    out0_6 (iblk m c 0 t) (iblk m c 1 t) (iblk m c 2 t) (iblk m c 3 t) (iblk m c 4 t) (iblk m c 5 t) = store m c t := by
  frame_out

/-- The result array after the grid. -/
theorem array : (dats m 0 c).arrAt 6 cfg0.N = out m c := by
  refine (dats m 0 c).arrAt_eq_of_covers 6 _ (by decide +kernel) fun t hf y => ?_
  blk_simp
  rw [after0_6]
  obtain ⟨y, rfl⟩ : ∃ z : Fin 512 × Fin 1024, y = ix2 z.1 z.2 :=
    ⟨(y 0, y 1), by funext a; match a with | ⟨0, _⟩ => rfl | ⟨1, _⟩ => rfl⟩
  refine ((congrFun (out0_eq m c t) _).trans (stored m c t y.1 y.2)).trans ?_
  have e : (win0_6.blk t).view.emb (ix2 y.1 y.2) = ix2 (row t y.1) y.2 := by
    blk_ext [row, idx6 t]
  exact (congrArg (out m c) e).symm

end

end Cert.S5PostIdeal.Rows
-- ==== Proof.S5PostEquation.lean ====
/- The S5 mixer's closing call: kernel and reference give one result. -/
module

public import proofs.«01_k».proof.Proof.S5PostKernel
public import proofs.«01_k».proof.Proof.Gen.S5PostReferenceIdeal.Run

@[expose] public section

set_option maxRecDepth 16384

namespace Cert.S5PostReferenceIdeal.Rows

open Idealize.ShloMosaic Idealize.ShloMosaic.TcCoe Idealize.SL.Sem Layer
open Cert.S5PostReferenceIdeal Cert.S5PostReferenceIdeal.Gen

noncomputable section

/-- A half, moved from the front of a product to its second factor. -/
theorem half_mul (h y t : EReal) : y * (h * t) = h * y * t := by
  rw [mul_comm h y, mul_assoc]

/-- One of the scan's outputs as the reference takes it, token by token. -/
def plane (y : FVec Ideal S1x16384x1024 .f32) : FVec Ideal S16384x1024 .f32 :=
  shapeCast S16384x1024 (transpose S8x128x16x1024 [1, 0, 2, 3] (shapeCast S128x8x16x1024 (shapeCast S16384x1024 y shapeCasts_S1x16384x1024_S16384x1024) shapeCasts_S16384x1024_S128x8x16x1024) transposes_S128x8x16x1024_S8x128x16x1024_1_0_2_3) shapeCasts_S8x128x16x1024_S16384x1024

/-- One of the scan's outputs, token by token, at an index. -/
theorem plane_apply (y : FVec Ideal S1x16384x1024 .f32) (r : Fin 16384) (k : Fin 1024) :
    plane y (ix2 r k) = y (ix3 0 (Cert.S5PostIdeal.Rows.scanned (Cert.S5PostIdeal.Rows.chunkOf r) (Cert.S5PostIdeal.Rows.batchOf r) (Cert.S5PostIdeal.Rows.placeOf r)) k) := by
  pointwise [plane]
  rfl

/-- The scan's input as the reference takes it, token by token. -/
def tokens (u : FVec Ideal S128x8x16x1024 .f32) : FVec Ideal S16384x1024 .f32 :=
  shapeCast S16384x1024 (transpose S8x128x16x1024 [1, 0, 2, 3] u transposes_S128x8x16x1024_S8x128x16x1024_1_0_2_3) shapeCasts_S8x128x16x1024_S16384x1024

/-- The scan's input, token by token, at an index. -/
theorem tokens_apply (u : FVec Ideal S128x8x16x1024 .f32) (r : Fin 16384) (k : Fin 1024) :
    tokens u (ix2 r k) = u (ix4 (Cert.S5PostIdeal.Rows.chunkOf r) (Cert.S5PostIdeal.Rows.batchOf r) (Cert.S5PostIdeal.Rows.placeOf r) k) := by
  pointwise [tokens]
  rfl

/-- The reference's sum of the scan's two outputs and the skip. -/
def total (y : FVec Ideal S2x16384x1024 .f32) (u : FVec Ideal S128x8x16x1024 .f32) (d : FVec Ideal S1024 .f32) : FVec Ideal S16384x1024 .f32 :=
  addf (addf (plane (extractStridedSlice S1x16384x1024 ![0, 0, 0] y slices_S2x16384x1024_S1x16384x1024_0_0_0)) (plane (extractStridedSlice S1x16384x1024 ![1, 0, 0] y slices_S2x16384x1024_S1x16384x1024_1_0_0)))
    (mulf (broadcastInDim S16384x1024 ![0, 1] bcast_S1x1024_S16384x1024_0_1 (broadcastInDim S1x1024 ![1] bcast_S1024_S1x1024_1 d)) (tokens u))

/-- The sum at an index. -/
theorem total_apply (y : FVec Ideal S2x16384x1024 .f32) (u : FVec Ideal S128x8x16x1024 .f32) (d : FVec Ideal S1024 .f32) (r : Fin 16384) (k : Fin 1024) :
    total y u d (ix2 r k) = y (ix3 0 (Cert.S5PostIdeal.Rows.scanned (Cert.S5PostIdeal.Rows.chunkOf r) (Cert.S5PostIdeal.Rows.batchOf r) (Cert.S5PostIdeal.Rows.placeOf r)) k) + y (ix3 1 (Cert.S5PostIdeal.Rows.scanned (Cert.S5PostIdeal.Rows.chunkOf r) (Cert.S5PostIdeal.Rows.batchOf r) (Cert.S5PostIdeal.Rows.placeOf r)) k)
      + d (ix1 k) * u (ix4 (Cert.S5PostIdeal.Rows.chunkOf r) (Cert.S5PostIdeal.Rows.batchOf r) (Cert.S5PostIdeal.Rows.placeOf r) k) := by
  have e0 := plane_apply (extractStridedSlice S1x16384x1024 ![0, 0, 0] y slices_S2x16384x1024_S1x16384x1024_0_0_0) r k
  have e1 := plane_apply (extractStridedSlice S1x16384x1024 ![1, 0, 0] y slices_S2x16384x1024_S1x16384x1024_1_0_0) r k
  have e2 : (broadcastInDim S16384x1024 ![0, 1] bcast_S1x1024_S16384x1024_0_1 (broadcastInDim S1x1024 ![1] bcast_S1024_S1x1024_1 d)) (ix2 r k) = d (ix1 k) := by pointwise
  refine congrArg₂ (· + ·) (congrArg₂ (· + ·) (e0.trans ?_) (e1.trans ?_)) (congrArg₂ (· * ·) e2 (tokens_apply u r k))
  · pointwise
  · pointwise

/-- The reference's smooth gate. -/
def gated (y : FVec Ideal S16384x1024 .f32) : FVec Ideal S16384x1024 .f32 :=
  mulf y (mulf (broadcastInDim S16384x1024 ![] bcast_S_S16384x1024 (constant S_ .f32 0x3F000000#32)) (addf (broadcastInDim S16384x1024 ![] bcast_S_S16384x1024 (constant S_ .f32 0x3F800000#32)) (Host.tanh (mulf (broadcastInDim S16384x1024 ![] bcast_S_S16384x1024 (constant S_ .f32 0x3F4C422A#32)) (addf y (mulf (broadcastInDim S16384x1024 ![] bcast_S_S16384x1024 (constant S_ .f32 0x3D372713#32)) (mulf (mulf y y) y)))))))

/-- The smooth gate at an index. -/
theorem gated_apply (y : FVec Ideal S16384x1024 .f32) (r : Fin 16384) (k : Fin 1024) : gated y (ix2 r k) = Cert.S5PostIdeal.Rows.gelu (y (ix2 r k)) := by
  pointwise [gated]
  exact half_mul _ _ _

/-- The reference's result: the gated rows, gated once more by their products with the matrix. -/
def result (h : FVec Ideal S16384x1024 .f32) (w : FVec Ideal S1024x1024 .f32) (b : FVec Ideal S1024 .f32) : FVec Ideal S16384x1024 .bf16 :=
  truncf .bf16 (mulf h (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (Host.dotGeneral dot_S16384x1024_S1024x1024_S16384x1024_1_0_0_1_n_n none h w) (broadcastInDim S16384x1024 ![0, 1] bcast_S1x1024_S16384x1024_0_1 (broadcastInDim S1x1024 ![1] bcast_S1024_S1x1024_1 b)))))))) bitsLt_bf16_f32

/-- The result at an index. -/
theorem result_apply (h : FVec Ideal S16384x1024 .f32) (w : FVec Ideal S1024x1024 .f32) (b : FVec Ideal S1024 .f32) (r : Fin 16384) (k : Fin 1024) :
    result h w b (ix2 r k) = Cert.S5PostIdeal.Rows.glu (fun z => h (ix2 r z)) (fun z k => w (ix2 z k)) (fun k => b (ix1 k)) k := by
  pointwise [result]
  unfold Cert.S5PostIdeal.Rows.glu sigmoid
  rw [zero_sub]
  rfl

variable (m : (ℓ : Loc Cert.S5PostIdeal.nD Cert.S5PostIdeal.τ Cert.S5PostIdeal.sig) → Buf (Elt Ideal) ℓ) (c : Dev Cert.S5PostIdeal.nD)

/-- The reference's gated rows are the kernel's. -/
theorem gated_eq (r : Fin 16384) :
    (fun z => gated (total (Cert.S5PostIdeal.Rows.Y m c) (Cert.S5PostIdeal.Rows.U m c) (Cert.S5PostIdeal.Rows.D m c)) (ix2 r z)) = Cert.S5PostIdeal.Rows.hrow m c r :=
  funext fun z => (gated_apply _ r z).trans (congrArg Cert.S5PostIdeal.Rows.gelu (total_apply _ _ _ r z))

/-- The reference's formula is the kernel's result array. -/
theorem result_eq : result (gated (total (Cert.S5PostIdeal.Rows.Y m c) (Cert.S5PostIdeal.Rows.U m c) (Cert.S5PostIdeal.Rows.D m c))) (m ((c.tc : Thread Cert.S5PostIdeal.nD Cert.S5PostIdeal.τ).loc Cert.S5PostIdeal.main_arg3)) (m ((c.tc : Thread Cert.S5PostIdeal.nD Cert.S5PostIdeal.τ).loc Cert.S5PostIdeal.main_arg4)) = Cert.S5PostIdeal.Rows.out m c := by
  funext i
  obtain ⟨y, rfl⟩ : ∃ z : Fin 16384 × Fin 1024, i = ix2 z.1 z.2 :=
    ⟨(i 0, i 1), by funext a; match a with | ⟨0, _⟩ => rfl | ⟨1, _⟩ => rfl⟩
  refine (result_apply _ _ _ y.1 y.2).trans ?_
  rw [gated_eq]
  rfl

/-- Kernel and reference, run on the same arguments, end with equal results. -/
theorem algebraic : Cert.algebraic_S5PostIdeal_S5PostReferenceIdeal := by
  intro m g m' g' _ hagree
  refine ⟨fun c => Cert.S5PostIdeal.Rows.out m c, ?_, ?_⟩
  · refine (θ_run _ _ _).mono (fun r h c => ?_) (Cert.S5PostIdeal.Value.run_blocks m g)
    exact ⟨(h c).1.trans (Cert.S5PostIdeal.Rows.array m c), (h c).2⟩
  · refine (θ_run _ _ _).mono (fun r h c => ?_) (Cert.S5PostReferenceIdeal.Value.run m' g')
    obtain ⟨e0, e1, e2, e3, e4⟩ := hagree c
    refine ⟨(h c).1.trans (Eq.trans ?_ (result_eq m c)), (h c).2⟩
    unfold Cert.S5PostIdeal.Rows.Y Cert.S5PostIdeal.Rows.U Cert.S5PostIdeal.Rows.D
    rw [← e0, ← e1, ← e2, ← e3, ← e4]
    rfl

/-- The reference ends with its arguments unchanged and, since it declares no semaphore, every counter at zero. -/
theorem reference_frame (m : (ℓ : Loc Cert.S5PostReferenceIdeal.nD Cert.S5PostReferenceIdeal.τ Cert.S5PostReferenceIdeal.sig) → Buf (Elt Ideal) ℓ) (g : Dev Cert.S5PostReferenceIdeal.nD → PrngReg) :
    θ_run (Cert.S5PostReferenceIdeal.defs (F := Ideal)) (onTc (τ := Cert.S5PostReferenceIdeal.τ) (Cert.S5PostReferenceIdeal.main (F := Ideal))) ⟨m, fun _ => 0, g⟩ (fun r =>
      (∀ c : Dev Cert.S5PostReferenceIdeal.nD,
        r.2.mem ((c.tc : Thread Cert.S5PostReferenceIdeal.nD Cert.S5PostReferenceIdeal.τ).loc Cert.S5PostReferenceIdeal.main_arg0) = m ((c.tc : Thread Cert.S5PostReferenceIdeal.nD Cert.S5PostReferenceIdeal.τ).loc Cert.S5PostReferenceIdeal.main_arg0)
        ∧ r.2.mem ((c.tc : Thread Cert.S5PostReferenceIdeal.nD Cert.S5PostReferenceIdeal.τ).loc Cert.S5PostReferenceIdeal.main_arg1) = m ((c.tc : Thread Cert.S5PostReferenceIdeal.nD Cert.S5PostReferenceIdeal.τ).loc Cert.S5PostReferenceIdeal.main_arg1)
        ∧ r.2.mem ((c.tc : Thread Cert.S5PostReferenceIdeal.nD Cert.S5PostReferenceIdeal.τ).loc Cert.S5PostReferenceIdeal.main_arg2) = m ((c.tc : Thread Cert.S5PostReferenceIdeal.nD Cert.S5PostReferenceIdeal.τ).loc Cert.S5PostReferenceIdeal.main_arg2)
        ∧ r.2.mem ((c.tc : Thread Cert.S5PostReferenceIdeal.nD Cert.S5PostReferenceIdeal.τ).loc Cert.S5PostReferenceIdeal.main_arg3) = m ((c.tc : Thread Cert.S5PostReferenceIdeal.nD Cert.S5PostReferenceIdeal.τ).loc Cert.S5PostReferenceIdeal.main_arg3)
        ∧ r.2.mem ((c.tc : Thread Cert.S5PostReferenceIdeal.nD Cert.S5PostReferenceIdeal.τ).loc Cert.S5PostReferenceIdeal.main_arg4) = m ((c.tc : Thread Cert.S5PostReferenceIdeal.nD Cert.S5PostReferenceIdeal.τ).loc Cert.S5PostReferenceIdeal.main_arg4))
      ∧ r.2.sem = fun _ => 0) :=
  (θ_run _ _ _).mono (fun r h => ⟨fun c => (h c).2, sem_eq_zero_of_no_sems (by decide) r.2⟩) (Cert.S5PostReferenceIdeal.Value.run m g)

end

end Cert.S5PostReferenceIdeal.Rows
-- ==== Proof.Groups.lean ====
/- Sums over a head, as a product with a matrix that is constant on a head's block and zero off it. -/
module

public import proofs.«01_k».proof.Proof.S5PostEquation

@[expose] public section

namespace Layer

open Idealize.ShloMosaic

noncomputable section

/-- A sum weighted by one group's indicator is the group's sum. -/
theorem group_sum {N : ℕ} (H n : ℕ) (hN : H * n = N) (hn : 0 < n) (f : Fin N → ℝ) (k : Fin N) (c : ℝ)
    (hk : ∀ l : Fin n, k.val / n * n + l.val < N) :
    ∑ z : Fin N, f z * (if z.val / n = k.val / n then c else 0) = (∑ l : Fin n, f ⟨k.val / n * n + l.val, hk l⟩) * c := by
  subst hN
  rw [← finProdFinEquiv.sum_comp, Fintype.sum_prod_type]
  have hq : k.val / n < H := Nat.div_lt_of_lt_mul (k.isLt.trans_eq (Nat.mul_comm H n))
  rw [Finset.sum_eq_single (⟨k.val / n, hq⟩ : Fin H)]
  · rw [Finset.sum_mul]
    refine Finset.sum_congr rfl fun l _ => ?_
    have e : finProdFinEquiv ((⟨k.val / n, hq⟩ : Fin H), l) = ⟨k.val / n * n + l.val, hk l⟩ :=
      Fin.ext (by simp [finProdFinEquiv, Nat.mul_comm, Nat.add_comm])
    rw [e, if_pos]
    show (k.val / n * n + l.val) / n = k.val / n
    rw [Nat.mul_comm, Nat.mul_add_div hn, Nat.div_eq_of_lt l.isLt, Nat.add_zero]
  · intro a _ ha
    refine Finset.sum_eq_zero fun l _ => ?_
    rw [if_neg, mul_zero]
    intro h
    refine ha (Fin.ext (Eq.trans ?_ h))
    simp [finProdFinEquiv, Nat.add_mul_div_left _ _ hn, Nat.div_eq_of_lt l.isLt]
  · intro h; exact absurd (Finset.mem_univ _) h

/-- A row against a column, the row split in two: what the short format keeps of it, and what is left. -/
def split (x a : Fin 1024 → EReal) : EReal := dot x a + dot (fun z => x z - x z) a

/-- A real row against a head's block: the head's sum, weighted. -/
theorem split_group (H n : ℕ) (hN : H * n = 1024) (hn : 0 < n) (f : Fin 1024 → ℝ) (k : Fin 1024) (c : ℝ)
    (hk : ∀ l : Fin n, k.val / n * n + l.val < 1024) :
    split (fun z => ((f z : ℝ) : EReal)) (fun z => ((if z.val / n = k.val / n then c else 0 : ℝ) : EReal))
      = (((∑ l : Fin n, f ⟨k.val / n * n + l.val, hk l⟩) * c : ℝ) : EReal) := by
  unfold split dot
  simp only [DeltaScan.sub_self_coe, zero_mul, Finset.sum_const_zero, add_zero, ← EReal.coe_mul, DeltaScan.sum_coe]
  rw [group_sum H n hN hn f k c hk]

/-- A real over a positive real. -/
theorem div_coe (x y : ℝ) (hy : 0 < y) : Ideal.div (x : EReal) (y : EReal) = ((x * (1 / y) : ℝ) : EReal) := by
  unfold Ideal.div
  rw [if_neg (by exact_mod_cast hy.ne'), ← EReal.coe_inv, ← EReal.coe_mul, one_div]

/-- The bits `0x43000000` are 128. -/
theorem ofBits_128 : Ideal.ofBits .f32 0x43000000#32 = ((128 : ℝ) : EReal) := by
  simp [Ideal.ofBits, Ideal.ieee, -EReal.coe_mul]; norm_num

/-- The bits `0x3C000000` are the reciprocal of 128. -/
theorem ofBits_128_inv : Ideal.ofBits .f32 0x3C000000#32 = ((1 / 128 : ℝ) : EReal) := by
  simp [Ideal.ofBits, Ideal.ieee, -EReal.coe_mul]; norm_num

/-- The bits `0x42800000` are 64. -/
theorem ofBits_64 : Ideal.ofBits .f32 0x42800000#32 = ((64 : ℝ) : EReal) := by
  simp [Ideal.ofBits, Ideal.ieee, -EReal.coe_mul]; norm_num

/-- The bits `0x3C800000` are the reciprocal of 64. -/
theorem ofBits_64_inv : Ideal.ofBits .f32 0x3C800000#32 = ((1 / 64 : ℝ) : EReal) := by
  simp [Ideal.ofBits, Ideal.ieee, -EReal.coe_mul]; norm_num

/-- A value that is a real number. -/
def IsReal (x : EReal) : Prop := ∃ r : ℝ, x = (r : EReal)

/-- A sum of reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A difference of reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- One entry of the averaging matrix: the reciprocal `1 / d` where two columns share a group of `n`, zero elsewhere. -/
def weight (n : ℕ) (d : ℝ) (z k : Fin 1024) : EReal := ((if z.val / n = k.val / n then 1 / d else 0 : ℝ) : EReal)

/-- A real row against the averaging matrix is real. -/
theorem split_real (H n : ℕ) (hN : H * n = 1024) (hn : 0 < n) (d : ℝ) (f : Fin 1024 → EReal) (hf : ∀ z, IsReal (f z)) (k : Fin 1024)
    (hk : ∀ l : Fin n, k.val / n * n + l.val < 1024) : IsReal (split f (fun z => weight n d z k)) := by
  choose g hg using hf
  obtain rfl : f = fun z => (g z : EReal) := funext hg
  exact ⟨_, split_group H n hN hn g k (1 / d) hk⟩

/-- A real row against the averaging matrix is the group's sum, divided. -/
theorem split_mean (H n : ℕ) (hN : H * n = 1024) (hn : 0 < n) (d : ℝ) (hd : 0 < d) (f : Fin 1024 → EReal) (hf : ∀ z, IsReal (f z)) (k : Fin 1024)
    (hk : ∀ l : Fin n, k.val / n * n + l.val < 1024) :
    split f (fun z => weight n d z k) = Ideal.div (∑ l : Fin n, f ⟨k.val / n * n + l.val, hk l⟩) (d : EReal) := by
  choose g hg using hf
  obtain rfl : f = fun z => (g z : EReal) := funext hg
  refine (split_group H n hN hn g k (1 / d) hk).trans ?_
  rw [DeltaScan.sum_coe, div_coe _ _ hd]

/-- Two numbers compared as words, the outcome read as zero or one and weighted. -/
theorem same_ofNat (p q : ℕ) (hp : p < 1024) (hq : q < 1024) (d : ℝ) :
    (FloatOps.uitofp (F := Ideal) .f32 (IntOp.cmpi .eq (BitVec.ofNat 32 p) (BitVec.ofNat 32 q)) : EReal) * ((d : ℝ) : EReal)
      = ((if p = q then d else 0 : ℝ) : EReal) := by
  by_cases h : p = q
  · subst h
    rw [if_pos rfl]
    have e : IntOp.cmpi .eq (BitVec.ofNat 32 p) (BitVec.ofNat 32 p) = 1#1 := by simp [IntOp.cmpi]
    rw [e]
    show (((1#1 : BitVec 1).toNat : ℝ) : EReal) * _ = _
    simp
  · rw [if_neg h]
    have e : IntOp.cmpi .eq (BitVec.ofNat 32 p) (BitVec.ofNat 32 q) = 0#1 := by
      have hne : BitVec.ofNat 32 p ≠ BitVec.ofNat 32 q := fun hh => h (by
        have := congrArg BitVec.toNat hh
        simp only [BitVec.toNat_ofNat] at this
        omega)
      show BitVec.ofBool (BitVec.ofNat 32 p == BitVec.ofNat 32 q) = 0#1
      rw [beq_eq_false_iff_ne.mpr hne]
      rfl
    rw [e]
    show (((0#1 : BitVec 1).toNat : ℝ) : EReal) * _ = _
    simp

end

end Layer
-- ==== Proof.DnPostKernel.lean ====
/- The delta-rule mixer's closing kernel over the reals: its result array. -/
module

public import proofs.«01_k».proof.Proof.Groups
public import proofs.«01_k».proof.Proof.Gen.DnPostIdeal.Value
public import Idealize.ShloMosaic.Lib.StableHlo.RunRead

@[expose] public section

set_option maxRecDepth 16384

namespace Cert.DnPostIdeal.Rows

open Cert.DnPostIdeal Cert.DnPostIdeal.Gen Idealize.ShloMosaic Idealize.ShloMosaic.TcCoe Idealize.SL.Sem Layer

noncomputable section

variable (m : (ℓ : Loc nD τ sig) → Buf (Elt Ideal) ℓ) (c : Dev nD)

/-- The forward scan's output. -/
abbrev X : FVec Ideal S16384x1024 .bf16 := m ((c.tc : Thread nD τ).loc main_arg0)

/-- The backward scan's output. -/
abbrev X' : FVec Ideal S16384x1024 .bf16 := m ((c.tc : Thread nD τ).loc main_arg1)

/-- The projection's columns. -/
abbrev C : FVec Ideal S16384x8192 .f32 := m ((c.tc : Thread nD τ).loc main_arg2)

/-- The norm's weights. -/
abbrev G : FVec Ideal S128 .f32 := m ((c.tc : Thread nD τ).loc main_arg3)

/-- The head of a column. -/
def headOf (k : Fin 1024) : Fin 8 := ⟨k.val / 128, by omega⟩

/-- The place of a column within its head. -/
def placeOf (k : Fin 1024) : Fin 128 := ⟨k.val % 128, by omega⟩

/-- The gate's column of the projection. -/
def far (k : Fin 1024) : Fin 8192 := ⟨7168 + k.val, by omega⟩

/-- Each column's head, as the host divides it out: the quotient, lowered by one where the signs differ and a remainder is left. -/
def heads : IVec S1024 32 :=
  select (andi (cmpi .ne (signi (iotaInDim S1024 32 0)) (broadcastInDim S1024 ![] bcast_S_S1024 (signi (constantI S_ 32 128#32))))
      (cmpi .ne (Host.remsi (iotaInDim S1024 32 0) (broadcastInDim S1024 ![] bcast_S_S1024 (constantI S_ 32 128#32))) (broadcastInDim S1024 ![] bcast_S_S1024 (constantI S_ 32 0#32))))
    (subi (Host.divsi (iotaInDim S1024 32 0) (broadcastInDim S1024 ![] bcast_S_S1024 (constantI S_ 32 128#32))) (broadcastInDim S1024 ![] bcast_S_S1024 (constantI S_ 32 1#32))) (Host.divsi (iotaInDim S1024 32 0) (broadcastInDim S1024 ![] bcast_S_S1024 (constantI S_ 32 128#32)))

/-- A column's head is its index over the head's size, rounded down. -/
theorem heads_apply (k : Fin 1024) : heads (ix1 k) = BitVec.ofNat 32 (k.val / 128) := by
  revert k
  decide +kernel

/-- The head-averaging matrix, of the columns' heads. -/
def average (q : IVec S1024 32) : FVec Ideal S1024x1024 .bf16 :=
  truncf .bf16 (mulf (uitofp .f32 (cmpi .eq (broadcastInDim S1024x1024 ![0, 1] bcast_S1024x1_S1024x1024_0_1 (broadcastInDim S1024x1 ![0] bcast_S1024_S1024x1_0 q))
      (broadcastInDim S1024x1024 ![0, 1] bcast_S1x1024_S1024x1024_0_1 (broadcastInDim S1x1024 ![1] bcast_S1024_S1x1024_1 q))))
    (broadcastInDim S1024x1024 ![] bcast_S_S1024x1024 (constant S_ .f32 0x3C000000#32))) bitsLt_bf16_f32

/-- The matrix at an index: whether the two columns' heads are the same, weighted. -/
theorem average_apply (q : IVec S1024 32) (z k : Fin 1024) :
    average q (ix2 z k) = (FloatOps.uitofp (F := Ideal) .f32 (IntOp.cmpi .eq (q (ix1 z)) (q (ix1 k))) : EReal) * Ideal.ofBits .f32 0x3C000000#32 := by
  pointwise [average]

/-- The matrix averages over heads. -/
theorem average_heads (z k : Fin 1024) : average heads (ix2 z k) = weight 128 128 z k := by
  rw [average_apply, heads_apply, heads_apply, ofBits_128_inv]
  exact same_ofNat _ _ (by omega) (by omega) _

/-- The matrix the grid starts from. -/
theorem V_main_v14 : V m c main_v14 = average heads := by
  after_reads_simp
  rfl

/-- The norm's weights the grid starts from: one copy a head. -/
theorem V_main_v3 : V m c main_v3 = shapeCast S1x1024 (shapeCast S1024 (broadcastInDim S8x128 ![0, 1] bcast_S1x128_S8x128_0_1 (shapeCast S1x128 (G m c) shapeCasts_S128_S1x128)) shapeCasts_S8x128_S1024) shapeCasts_S1024_S1x1024 := by
  after_reads_simp
  rfl

/-- A row's normalised column: the column over the root of the head's mean square, weighted and gated. -/
def gate (o : Fin 1024 → EReal) (a w g : Fin 1024 → EReal) (k : Fin 1024) : EReal :=
  o k * Ideal.rsqrt (split (fun z => o z * o z) a + Ideal.ofBits .f32 0x358637BD#32) * w k * (g k * sigmoid (g k))

/-- What one point stores at an index. -/
theorem pay1_apply (x x' : Vec Ideal S512x1024 .bf16) (a : Vec Ideal S1024x1024 .bf16) (w : Vec Ideal S1x1024 .f32) (g : Vec Ideal S512x1024 .f32) (i : Fin 512) (k : Fin 1024) :
    k0_pay1 x x' a w g (ix2 i k) = gate (fun z => x (ix2 i z) + x' (ix2 i z)) (fun z => a (ix2 z k)) (fun k => w (ix2 0 k)) (fun k => g (ix2 i k)) k := by
  pointwise [k0_pay1]
  rfl

/-- The grid has 32 points. -/
theorem N_lt (t : Fin cfg0.N) : t.val < 32 := lt_of_lt_of_eq t.isLt N_0

/-- The token of a block's row. -/
def row (t : Fin cfg0.N) (i : Fin 512) : Fin 16384 := ⟨t.val * 512 + i.val, by have := N_lt t; omega⟩

/-- Where window 0's block lies at each grid point. -/
theorem idx0 : ∀ t : Fin cfg0.N, win0_0.index t = ![t.val, 0] :=
  (by decide +kernel : ∀ t : Fin grid0.N, win0_0.index t = ![t.val, 0])

/-- Where window 1's block lies at each grid point. -/
theorem idx1 : ∀ t : Fin cfg0.N, win0_1.index t = ![t.val, 0] :=
  (by decide +kernel : ∀ t : Fin grid0.N, win0_1.index t = ![t.val, 0])

/-- Where window 2's block lies at each grid point: its columns are the gate's. -/
theorem idx2 : ∀ t : Fin cfg0.N, win0_2.index t = ![t.val, 7] :=
  (by decide +kernel : ∀ t : Fin grid0.N, win0_2.index t = ![t.val, 7])

/-- Window 3 is its whole array at every grid point. -/
theorem idx3 : ∀ t : Fin cfg0.N, win0_3.index t = ![0, 0] :=
  (by decide +kernel : ∀ t : Fin grid0.N, win0_3.index t = ![0, 0])

/-- Window 4 is its whole array at every grid point. -/
theorem idx4 : ∀ t : Fin cfg0.N, win0_4.index t = ![0, 0] :=
  (by decide +kernel : ∀ t : Fin grid0.N, win0_4.index t = ![0, 0])

/-- Where window 5's block lies at each grid point. -/
theorem idx5 : ∀ t : Fin cfg0.N, win0_5.index t = ![t.val, 0] :=
  (by decide +kernel : ∀ t : Fin grid0.N, win0_5.index t = ![t.val, 0])

/-- Window 0's block at an index. -/
theorem iblk0 (t : Fin cfg0.N) (i : Fin 512) (k : Fin 1024) : iblk m c 0 t (ix2 i k) = X m c (ix2 (row t i) k) := by
  unfold X
  rw [← V_main_arg0 m c]
  unfold iblk
  rw [View.read_apply]
  show V m c main_arg0 _ = _
  blk_ext [row, idx0 t]

/-- Window 1's block at an index. -/
theorem iblk1 (t : Fin cfg0.N) (i : Fin 512) (k : Fin 1024) : iblk m c 1 t (ix2 i k) = X' m c (ix2 (row t i) k) := by
  unfold X'
  rw [← V_main_arg1 m c]
  unfold iblk
  rw [View.read_apply]
  show V m c main_arg1 _ = _
  blk_ext [row, idx1 t]

/-- Window 2's block at an index. -/
theorem iblk2 (t : Fin cfg0.N) (i : Fin 512) (k : Fin 1024) : iblk m c 2 t (ix2 i k) = C m c (ix2 (row t i) (far k)) := by
  unfold C
  rw [← V_main_arg2 m c]
  unfold iblk
  rw [View.read_apply]
  show V m c main_arg2 _ = _
  blk_ext [row, far, idx2 t]

/-- Window 3's block at an index. -/
theorem iblk3 (t : Fin cfg0.N) (k : Fin 1024) : iblk m c 3 t (ix2 0 k) = G m c (ix1 (placeOf k)) := by
  have e : shapeCast S1x1024 (shapeCast S1024 (broadcastInDim S8x128 ![0, 1] bcast_S1x128_S8x128_0_1 (shapeCast S1x128 (G m c) shapeCasts_S128_S1x128)) shapeCasts_S8x128_S1024) shapeCasts_S1024_S1x1024 (ix2 0 k) = G m c (ix1 (placeOf k)) := by
    pointwise
    rfl
  rw [← e, ← V_main_v3]
  unfold iblk
  rw [View.read_apply]
  show V m c main_v3 _ = _
  blk_ext [idx3 t]

/-- Window 4's block at an index: the averaging matrix. -/
theorem iblk4 (t : Fin cfg0.N) (z k : Fin 1024) : iblk m c 4 t (ix2 z k) = average heads (ix2 z k) := by
  rw [← V_main_v14 m c]
  unfold iblk
  rw [View.read_apply]
  show V m c main_v14 _ = _
  blk_ext [idx4 t]

/-- A token's sum of the two scans. -/
def total (r : Fin 16384) (k : Fin 1024) : EReal := X m c (ix2 r k) + X' m c (ix2 r k)

/-- The result: each token's row, normalised head by head and gated. -/
def out (i : S16384x1024.Idx) : EReal :=
  gate (total m c (i 0)) (fun z => weight 128 128 z (i 1)) (fun k => G m c (ix1 (placeOf k))) (fun k => C m c (ix2 (i 0) (far k))) (i 1)

/-- The forward scan's block at a point. -/
abbrev scan0 (t : Fin cfg0.N) : Vec Ideal S512x1024 .bf16 := iblk m c 0 t

/-- The backward scan's block at a point. -/
abbrev scan1 (t : Fin cfg0.N) : Vec Ideal S512x1024 .bf16 := iblk m c 1 t

/-- What a point stores. -/
abbrev store (t : Fin cfg0.N) : FVec Ideal S512x1024 .bf16 :=
  k0_pay1 (iblk m c 0 t) (iblk m c 1 t) (iblk m c 4 t) (iblk m c 3 t) (iblk m c 2 t)

/-- What a point stores, at an index. -/
theorem stored (t : Fin cfg0.N) (i : Fin 512) (k : Fin 1024) : store m c t (ix2 i k) = out m c (ix2 (row t i) k) := by
  refine (pay1_apply _ _ _ _ _ i k).trans ?_
  have e1 : (fun z => scan0 m c t (ix2 i z) + scan1 m c t (ix2 i z)) = total m c (row t i) :=
    funext fun z => congrArg₂ (· + · : EReal → EReal → EReal) (iblk0 m c t i z) (iblk1 m c t i z)
  have e2 : (fun z => iblk m c 4 t (ix2 z k) : Fin 1024 → EReal) = fun z => weight 128 128 z k :=
    funext fun z => (iblk4 m c t z k).trans (average_heads z k)
  have e3 : (fun k => iblk m c 3 t (ix2 0 k) : Fin 1024 → EReal) = fun k => G m c (ix1 (placeOf k)) := funext fun k => iblk3 m c t k
  have e4 : (fun k => iblk m c 2 t (ix2 i k) : Fin 1024 → EReal) = fun k => C m c (ix2 (row t i) (far k)) := funext fun k => iblk2 m c t i k
  exact congrFun (congr (congr (congr (congrArg gate e1) e2) e3) e4) k

/-- A point's block is what it stores. -/
theorem out0_eq (t : Fin cfg0.N) :
    out0_5 (iblk m c 0 t) (iblk m c 1 t) (iblk m c 2 t) (iblk m c 3 t) (iblk m c 4 t) = store m c t := by
  frame_out

/-- The result array after the grid. -/
theorem array : (dats m 0 c).arrAt 5 cfg0.N = out m c := by
  refine (dats m 0 c).arrAt_eq_of_covers 5 _ (by decide +kernel) fun t hf y => ?_
  blk_simp
  rw [after0_5]
  obtain ⟨y, rfl⟩ : ∃ z : Fin 512 × Fin 1024, y = ix2 z.1 z.2 :=
    ⟨(y 0, y 1), by funext a; match a with | ⟨0, _⟩ => rfl | ⟨1, _⟩ => rfl⟩
  refine ((congrFun (out0_eq m c t) _).trans (stored m c t y.1 y.2)).trans ?_
  have e : (win0_5.blk t).view.emb (ix2 y.1 y.2) = ix2 (row t y.1) y.2 := by
    blk_ext [row, idx5 t]
  exact (congrArg (out m c) e).symm

end

end Cert.DnPostIdeal.Rows
-- ==== Proof.DnPostEquation.lean ====
/- The delta-rule mixer's closing call: kernel and reference give one result. -/
module

public import proofs.«01_k».proof.Proof.DnPostKernel
public import proofs.«01_k».proof.Proof.Gen.DnPostReferenceIdeal.Run

@[expose] public section

set_option maxRecDepth 16384

namespace Cert.DnPostReferenceIdeal.Rows

open Idealize.ShloMosaic Idealize.ShloMosaic.TcCoe Idealize.SL.Sem Layer
open Cert.DnPostReferenceIdeal Cert.DnPostReferenceIdeal.Gen

noncomputable section

/-- The column at a place of a head. -/
def column (h : Fin 8) (l : Fin 128) : Fin 1024 := ⟨h.val * 128 + l.val, by omega⟩

/-- A column is the one at its place of its head. -/
theorem column_self (k : Fin 1024) : column (Cert.DnPostIdeal.Rows.headOf k) (Cert.DnPostIdeal.Rows.placeOf k) = k :=
  Fin.ext (by simp only [column, Cert.DnPostIdeal.Rows.headOf, Cert.DnPostIdeal.Rows.placeOf]; omega)

/-- The sum of the two scans, head by head. -/
def both (x x' : FVec Ideal S16384x1024 .bf16) : FVec Ideal S16384x8x128 .f32 :=
  addf (shapeCast S16384x8x128 (extf .f32 x bitsLt_bf16_f32) shapeCasts_S16384x1024_S16384x8x128) (shapeCast S16384x8x128 (extf .f32 x' bitsLt_bf16_f32) shapeCasts_S16384x1024_S16384x8x128)

/-- The sum at an index. -/
theorem both_apply (x x' : FVec Ideal S16384x1024 .bf16) (r : Fin 16384) (h : Fin 8) (l : Fin 128) :
    both x x' (ix3 r h l) = x (ix2 r (column h l)) + x' (ix2 r (column h l)) := by
  pointwise [both]
  rfl

/-- A head's mean. -/
def mean (o : FVec Ideal S16384x8x128 .f32) : FVec Ideal S16384x8x1 .f32 :=
  Host.divf (broadcastInDim S16384x8x1 ![0, 1] bcast_S16384x8_S16384x8x1_0_1 (Host.reduceAdd o (constant S_ .f32 0x00000000#32) reducesTo_S16384x8x128_S16384x8_d2 h_S_)) (broadcastInDim S16384x8x1 ![] bcast_S_S16384x8x1 (constant S_ .f32 0x43000000#32))

/-- A head's mean at an index. -/
theorem mean_apply (o : FVec Ideal S16384x8x128 .f32) (r : Fin 16384) (h : Fin 8) :
    mean o (ix3 r h 0) = Ideal.div (∑ l : Fin 128, o (ix3 r h l)) ((128 : ℝ) : EReal) := by
  rw [← ofBits_128]
  pointwise [mean]

/-- The gate's columns, head by head. -/
def gates (g : FVec Ideal S16384x8192 .f32) : FVec Ideal S16384x8x128 .f32 :=
  shapeCast S16384x8x128 (extractStridedSlice S16384x1024 ![0, 7168] g slices_S16384x8192_S16384x1024_0_7168) shapeCasts_S16384x1024_S16384x8x128

/-- The gate's columns at an index. -/
theorem gates_apply (g : FVec Ideal S16384x8192 .f32) (r : Fin 16384) (h : Fin 8) (l : Fin 128) :
    gates g (ix3 r h l) = g (ix2 r (Cert.DnPostIdeal.Rows.far (column h l))) := by
  pointwise [gates]
  rfl

/-- The reference's result: the heads over the roots of their mean squares, weighted and gated. -/
def result (o g : FVec Ideal S16384x8x128 .f32) (w : FVec Ideal S128 .f32) : FVec Ideal S16384x1024 .bf16 :=
  truncf .bf16 (shapeCast S16384x1024 (mulf (mulf (mulf o (broadcastInDim S16384x8x128 ![0, 1, 2] bcast_S16384x8x1_S16384x8x128_0_1_2 (Host.rsqrt (addf (mean (mulf o o)) (broadcastInDim S16384x8x1 ![] bcast_S_S16384x8x1 (constant S_ .f32 0x358637BD#32)))))) (broadcastInDim S16384x8x128 ![0, 1, 2] bcast_S1x1x128_S16384x8x128_0_1_2 (broadcastInDim S1x1x128 ![2] bcast_S128_S1x1x128_2 w)))
    (mulf g (Host.divf (broadcastInDim S16384x8x128 ![] bcast_S_S16384x8x128 (constant S_ .f32 0x3F800000#32)) (addf (broadcastInDim S16384x8x128 ![] bcast_S_S16384x8x128 (constant S_ .f32 0x3F800000#32)) (Host.exp (Host.negf g)))))) shapeCasts_S16384x8x128_S16384x1024) bitsLt_bf16_f32

/-- The result at an index. -/
theorem result_apply (o g : FVec Ideal S16384x8x128 .f32) (w : FVec Ideal S128 .f32) (r : Fin 16384) (k : Fin 1024) :
    result o g w (ix2 r k) = o (ix3 r (Cert.DnPostIdeal.Rows.headOf k) (Cert.DnPostIdeal.Rows.placeOf k)) * Ideal.rsqrt (mean (mulf o o) (ix3 r (Cert.DnPostIdeal.Rows.headOf k) 0) + Ideal.ofBits .f32 0x358637BD#32) * w (ix1 (Cert.DnPostIdeal.Rows.placeOf k))
      * (g (ix3 r (Cert.DnPostIdeal.Rows.headOf k) (Cert.DnPostIdeal.Rows.placeOf k)) * sigmoid (g (ix3 r (Cert.DnPostIdeal.Rows.headOf k) (Cert.DnPostIdeal.Rows.placeOf k)))) := by
  pointwise [result]
  unfold sigmoid
  rw [zero_sub]
  rfl

/-- The relations of shapes the precondition is written over. -/
instance preFacts : Cert.Pre_dn_post_finite.Facts := ⟨by decide⟩

/-- An array of the short format that is below infinity in size everywhere holds real numbers. -/
theorem real {s : Shape} (x : FVec Ideal s .bf16) (h)
    (e : cmpf .olt (Host.absf x) (broadcastInDim s ![] h (constant (F := Ideal) ⟨0, ![]⟩ .bf16 0x7F80#16)) = fun _ => 1#1) (i : s.Idx) : IsReal (x i) :=
  ⟨_, Cert.Finite.real_bf16 x h e i⟩

variable (m : (ℓ : Loc Cert.DnPostIdeal.nD Cert.DnPostIdeal.τ Cert.DnPostIdeal.sig) → Buf (Elt Ideal) ℓ) (c : Dev Cert.DnPostIdeal.nD)

/-- A token's sum of the two scans is real where the two are. -/
theorem total_real (hX : ∀ i, IsReal (Cert.DnPostIdeal.Rows.X m c i)) (hX' : ∀ i, IsReal (Cert.DnPostIdeal.Rows.X' m c i)) (r : Fin 16384) (k : Fin 1024) : IsReal (Cert.DnPostIdeal.Rows.total m c r k) :=
  (hX _).add (hX' _)

/-- The reference's sum of the two scans is the kernel's. -/
theorem both_eq (r : Fin 16384) (k : Fin 1024) : both (Cert.DnPostIdeal.Rows.X m c) (Cert.DnPostIdeal.Rows.X' m c) (ix3 r (Cert.DnPostIdeal.Rows.headOf k) (Cert.DnPostIdeal.Rows.placeOf k)) = Cert.DnPostIdeal.Rows.total m c r k := by
  rw [both_apply, column_self]
  rfl

/-- The kernel's product with the averaging matrix is the reference's mean square, on real rows. -/
theorem mean_eq (hX : ∀ i, IsReal (Cert.DnPostIdeal.Rows.X m c i)) (hX' : ∀ i, IsReal (Cert.DnPostIdeal.Rows.X' m c i)) (r : Fin 16384) (k : Fin 1024) :
    split (fun z => Cert.DnPostIdeal.Rows.total m c r z * Cert.DnPostIdeal.Rows.total m c r z) (fun z => weight 128 128 z k)
      = mean (mulf (both (Cert.DnPostIdeal.Rows.X m c) (Cert.DnPostIdeal.Rows.X' m c)) (both (Cert.DnPostIdeal.Rows.X m c) (Cert.DnPostIdeal.Rows.X' m c))) (ix3 r (Cert.DnPostIdeal.Rows.headOf k) 0) := by
  refine (split_mean 8 128 rfl (by norm_num) 128 (by norm_num) _ (fun z => (total_real m c hX hX' r z).mul (total_real m c hX hX' r z)) k (fun l => by omega)).trans ?_
  refine Eq.trans ?_ (mean_apply _ _ _).symm
  refine congrArg (fun x => Ideal.div x ((128 : ℝ) : EReal)) (Finset.sum_congr rfl fun l _ => ?_)
  exact congrArg₂ (· * ·) (both_apply _ _ r (Cert.DnPostIdeal.Rows.headOf k) l).symm (both_apply _ _ r (Cert.DnPostIdeal.Rows.headOf k) l).symm

/-- The reference's formula is the kernel's result array, the scans' outputs real. -/
theorem result_eq (hX : ∀ i, IsReal (Cert.DnPostIdeal.Rows.X m c i)) (hX' : ∀ i, IsReal (Cert.DnPostIdeal.Rows.X' m c i)) :
    result (both (Cert.DnPostIdeal.Rows.X m c) (Cert.DnPostIdeal.Rows.X' m c)) (gates (Cert.DnPostIdeal.Rows.C m c)) (Cert.DnPostIdeal.Rows.G m c) = Cert.DnPostIdeal.Rows.out m c := by
  funext i
  obtain ⟨y, rfl⟩ : ∃ z : Fin 16384 × Fin 1024, i = ix2 z.1 z.2 :=
    ⟨(i 0, i 1), by funext a; match a with | ⟨0, _⟩ => rfl | ⟨1, _⟩ => rfl⟩
  refine (result_apply _ _ _ y.1 y.2).trans ?_
  rw [both_eq, gates_apply, column_self, ← mean_eq m c hX hX']
  rfl

/-- Kernel and reference, run on the same arguments, the scans' outputs finite, end with equal results. -/
theorem algebraic : Cert.algebraic_DnPostIdeal_DnPostReferenceIdeal_pre_dn_post_finite := by
  intro m g m' g' hpre hagree
  refine ⟨fun c => Cert.DnPostIdeal.Rows.out m c, ?_, ?_⟩
  · refine (θ_run _ _ _).mono (fun r h c => ?_) (Cert.DnPostIdeal.Value.run_blocks m g)
    exact ⟨(h c).1.trans (Cert.DnPostIdeal.Rows.array m c), (h c).2⟩
  · refine (θ_run _ _ _).mono (fun r h c => ?_) (Cert.DnPostReferenceIdeal.Value.run m' g')
    obtain ⟨e0, e1, e2, e3⟩ := hagree c
    refine ⟨(h c).1.trans (Eq.trans ?_ (result_eq m c (real _ _ (hpre c).1) (real _ _ (hpre c).2))), (h c).2⟩
    unfold Cert.DnPostIdeal.Rows.X Cert.DnPostIdeal.Rows.X' Cert.DnPostIdeal.Rows.C Cert.DnPostIdeal.Rows.G
    rw [← e0, ← e1, ← e2, ← e3]
    rfl

/-- The reference ends with its arguments unchanged and, since it declares no semaphore, every counter at zero. -/
theorem reference_frame (m : (ℓ : Loc Cert.DnPostReferenceIdeal.nD Cert.DnPostReferenceIdeal.τ Cert.DnPostReferenceIdeal.sig) → Buf (Elt Ideal) ℓ) (g : Dev Cert.DnPostReferenceIdeal.nD → PrngReg) :
    θ_run (Cert.DnPostReferenceIdeal.defs (F := Ideal)) (onTc (τ := Cert.DnPostReferenceIdeal.τ) (Cert.DnPostReferenceIdeal.main (F := Ideal))) ⟨m, fun _ => 0, g⟩ (fun r =>
      (∀ c : Dev Cert.DnPostReferenceIdeal.nD,
        r.2.mem ((c.tc : Thread Cert.DnPostReferenceIdeal.nD Cert.DnPostReferenceIdeal.τ).loc Cert.DnPostReferenceIdeal.main_arg0) = m ((c.tc : Thread Cert.DnPostReferenceIdeal.nD Cert.DnPostReferenceIdeal.τ).loc Cert.DnPostReferenceIdeal.main_arg0)
        ∧ r.2.mem ((c.tc : Thread Cert.DnPostReferenceIdeal.nD Cert.DnPostReferenceIdeal.τ).loc Cert.DnPostReferenceIdeal.main_arg1) = m ((c.tc : Thread Cert.DnPostReferenceIdeal.nD Cert.DnPostReferenceIdeal.τ).loc Cert.DnPostReferenceIdeal.main_arg1)
        ∧ r.2.mem ((c.tc : Thread Cert.DnPostReferenceIdeal.nD Cert.DnPostReferenceIdeal.τ).loc Cert.DnPostReferenceIdeal.main_arg2) = m ((c.tc : Thread Cert.DnPostReferenceIdeal.nD Cert.DnPostReferenceIdeal.τ).loc Cert.DnPostReferenceIdeal.main_arg2)
        ∧ r.2.mem ((c.tc : Thread Cert.DnPostReferenceIdeal.nD Cert.DnPostReferenceIdeal.τ).loc Cert.DnPostReferenceIdeal.main_arg3) = m ((c.tc : Thread Cert.DnPostReferenceIdeal.nD Cert.DnPostReferenceIdeal.τ).loc Cert.DnPostReferenceIdeal.main_arg3))
      ∧ r.2.sem = fun _ => 0) :=
  (θ_run _ _ _).mono (fun r h => ⟨fun c => (h c).2, sem_eq_zero_of_no_sems (by decide) r.2⟩) (Cert.DnPostReferenceIdeal.Value.run m g)

end

end Cert.DnPostReferenceIdeal.Rows
-- ==== Proof.RwkvPostKernel.lean ====
/- The RWKV-7 mixer's closing kernel over the reals: its result array. -/
module

public import proofs.«01_k».proof.Proof.DnPostEquation
public import proofs.«01_k».proof.Proof.Gen.RwkvPostIdeal.Value
public import Idealize.ShloMosaic.Lib.StableHlo.RunRead

@[expose] public section

set_option maxRecDepth 16384

namespace Cert.RwkvPostIdeal.Rows

open Cert.RwkvPostIdeal Cert.RwkvPostIdeal.Gen Idealize.ShloMosaic Idealize.ShloMosaic.TcCoe Idealize.SL.Sem Layer

noncomputable section

variable (m : (ℓ : Loc nD τ sig) → Buf (Elt Ideal) ℓ) (c : Dev nD)

/-- The forward scan's output. -/
abbrev X : FVec Ideal S16384x1024 .bf16 := m ((c.tc : Thread nD τ).loc main_arg0)

/-- The backward scan's output. -/
abbrev X' : FVec Ideal S16384x1024 .bf16 := m ((c.tc : Thread nD τ).loc main_arg1)

/-- The bonus. -/
abbrev B : FVec Ideal S16384x1024 .bf16 := m ((c.tc : Thread nD τ).loc main_arg2)

/-- The gate. -/
abbrev D : FVec Ideal S16384x1024 .bf16 := m ((c.tc : Thread nD τ).loc main_arg3)

/-- The norm's weights. -/
abbrev G : FVec Ideal S16x64 .f32 := m ((c.tc : Thread nD τ).loc main_arg4)

/-- The norm's offsets. -/
abbrev H : FVec Ideal S16x64 .f32 := m ((c.tc : Thread nD τ).loc main_arg5)

/-- The head of a column. -/
def headOf (k : Fin 1024) : Fin 16 := ⟨k.val / 64, by omega⟩

/-- The place of a column within its head. -/
def placeOf (k : Fin 1024) : Fin 64 := ⟨k.val % 64, by omega⟩

/-- Each column's head, as the host divides it out: the quotient, lowered by one where the signs differ and a remainder is left. -/
def heads : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32))) (broadcastInDim S1024 ![] bcast_S_S1024 (constantI S_ 32 0#32))))
    (subi (Host.divsi (iotaInDim S1024 32 0) (broadcastInDim S1024 ![] bcast_S_S1024 (constantI S_ 32 64#32))) (broadcastInDim S1024 ![] bcast_S_S1024 (constantI S_ 32 1#32))) (Host.divsi (iotaInDim S1024 32 0) (broadcastInDim S1024 ![] bcast_S_S1024 (constantI S_ 32 64#32)))

/-- A column's head is its index over the head's size, rounded down. -/
theorem heads_apply (k : Fin 1024) : heads (ix1 k) = BitVec.ofNat 32 (k.val / 64) := by
  revert k
  decide +kernel

/-- The head-averaging matrix, of the columns' heads. -/
def average (q : IVec S1024 32) : FVec Ideal S1024x1024 .bf16 :=
  truncf .bf16 (mulf (uitofp .f32 (cmpi .eq (broadcastInDim S1024x1024 ![0, 1] bcast_S1024x1_S1024x1024_0_1 (broadcastInDim S1024x1 ![0] bcast_S1024_S1024x1_0 q))
      (broadcastInDim S1024x1024 ![0, 1] bcast_S1x1024_S1024x1024_0_1 (broadcastInDim S1x1024 ![1] bcast_S1024_S1x1024_1 q))))
    (broadcastInDim S1024x1024 ![] bcast_S_S1024x1024 (constant S_ .f32 0x3C800000#32))) bitsLt_bf16_f32

/-- The matrix at an index: whether the two columns' heads are the same, weighted. -/
theorem average_apply (q : IVec S1024 32) (z k : Fin 1024) :
    average q (ix2 z k) = (FloatOps.uitofp (F := Ideal) .f32 (IntOp.cmpi .eq (q (ix1 z)) (q (ix1 k))) : EReal) * Ideal.ofBits .f32 0x3C800000#32 := by
  pointwise [average]

/-- The matrix averages over heads. -/
theorem average_heads (z k : Fin 1024) : average heads (ix2 z k) = weight 64 64 z k := by
  rw [average_apply, heads_apply, heads_apply, ofBits_64_inv]
  exact same_ofNat _ _ (by omega) (by omega) _

/-- The matrix the grid starts from. -/
theorem V_main_v12 : V m c main_v12 = average heads := by
  after_reads_simp
  rfl

/-- The norm's weights the grid starts from. -/
theorem V_main_v0 : V m c main_v0 = shapeCast S1x1024 (G m c) shapeCasts_S16x64_S1x1024 := by
  after_reads_simp
  rfl

/-- The norm's offsets the grid starts from. -/
theorem V_main_v1 : V m c main_v1 = shapeCast S1x1024 (H m c) shapeCasts_S16x64_S1x1024 := by
  after_reads_simp
  rfl

/-- A row less its heads' means. -/
def centre (y : Fin 1024 → EReal) (a : Fin 1024 → Fin 1024 → EReal) (k : Fin 1024) : EReal := y k - split y (a k)

/-- A row's normalised column: the centred column over the root of the head's variance, weighted and offset, with the bonus. -/
def normed (y : Fin 1024 → EReal) (a : Fin 1024 → Fin 1024 → EReal) (w b u : Fin 1024 → EReal) (k : Fin 1024) : EReal :=
  centre y a k * Ideal.rsqrt (split (fun z => centre y a z * centre y a z) (a k) + Ideal.ofBits .f32 0x3A27C5AC#32) * w k + b k + u k

/-- The normalised block at an index. -/
theorem pay2_apply (x x' : Vec Ideal S512x1024 .bf16) (a : Vec Ideal S1024x1024 .bf16) (w b : Vec Ideal S1x1024 .f32) (u : Vec Ideal S512x1024 .bf16) (i : Fin 512) (k : Fin 1024) :
    k0_pay2 x x' a w b u (ix2 i k) = normed (fun z => x (ix2 i z) + x' (ix2 i z)) (fun k z => a (ix2 z k)) (fun k => w (ix2 0 k)) (fun k => b (ix2 0 k)) (fun k => u (ix2 i k)) k := by
  pointwise [k0_pay2]
  rfl

/-- What one point stores at an index. -/
theorem pay1_apply (y : FVec Ideal S512x1024 .f32) (g : Vec Ideal S512x1024 .bf16) (i : Fin 512) (k : Fin 1024) :
    k0_pay1 y (k0_pay3 g) (ix2 i k) = y (ix2 i k) * g (ix2 i k) := by
  pointwise [k0_pay1, k0_pay3]

/-- The grid has 32 points. -/
theorem N_lt (t : Fin cfg0.N) : t.val < 32 := lt_of_lt_of_eq t.isLt N_0

/-- The token of a block's row. -/
def row (t : Fin cfg0.N) (i : Fin 512) : Fin 16384 := ⟨t.val * 512 + i.val, by have := N_lt t; omega⟩

/-- Where window 0's block lies at each grid point. -/
theorem idx0 : ∀ t : Fin cfg0.N, win0_0.index t = ![t.val, 0] :=
  (by decide +kernel : ∀ t : Fin grid0.N, win0_0.index t = ![t.val, 0])

/-- Where window 1's block lies at each grid point. -/
theorem idx1 : ∀ t : Fin cfg0.N, win0_1.index t = ![t.val, 0] :=
  (by decide +kernel : ∀ t : Fin grid0.N, win0_1.index t = ![t.val, 0])

/-- Where window 2's block lies at each grid point. -/
theorem idx2 : ∀ t : Fin cfg0.N, win0_2.index t = ![t.val, 0] :=
  (by decide +kernel : ∀ t : Fin grid0.N, win0_2.index t = ![t.val, 0])

/-- Where window 3's block lies at each grid point. -/
theorem idx3 : ∀ t : Fin cfg0.N, win0_3.index t = ![t.val, 0] :=
  (by decide +kernel : ∀ t : Fin grid0.N, win0_3.index t = ![t.val, 0])

/-- Window 4 is its whole array at every grid point. -/
theorem idx4 : ∀ t : Fin cfg0.N, win0_4.index t = ![0, 0] :=
  (by decide +kernel : ∀ t : Fin grid0.N, win0_4.index t = ![0, 0])

/-- Window 5 is its whole array at every grid point. -/
theorem idx5 : ∀ t : Fin cfg0.N, win0_5.index t = ![0, 0] :=
  (by decide +kernel : ∀ t : Fin grid0.N, win0_5.index t = ![0, 0])

/-- Window 6 is its whole array at every grid point. -/
theorem idx6 : ∀ t : Fin cfg0.N, win0_6.index t = ![0, 0] :=
  (by decide +kernel : ∀ t : Fin grid0.N, win0_6.index t = ![0, 0])

/-- Where window 7's block lies at each grid point. -/
theorem idx7 : ∀ t : Fin cfg0.N, win0_7.index t = ![t.val, 0] :=
  (by decide +kernel : ∀ t : Fin grid0.N, win0_7.index t = ![t.val, 0])

/-- Window 0's block at an index. -/
theorem iblk0 (t : Fin cfg0.N) (i : Fin 512) (k : Fin 1024) : iblk m c 0 t (ix2 i k) = X m c (ix2 (row t i) k) := by
  unfold X
  rw [← V_main_arg0 m c]
  unfold iblk
  rw [View.read_apply]
  show V m c main_arg0 _ = _
  blk_ext [row, idx0 t]

/-- Window 1's block at an index. -/
theorem iblk1 (t : Fin cfg0.N) (i : Fin 512) (k : Fin 1024) : iblk m c 1 t (ix2 i k) = X' m c (ix2 (row t i) k) := by
  unfold X'
  rw [← V_main_arg1 m c]
  unfold iblk
  rw [View.read_apply]
  show V m c main_arg1 _ = _
  blk_ext [row, idx1 t]

/-- Window 2's block at an index. -/
theorem iblk2 (t : Fin cfg0.N) (i : Fin 512) (k : Fin 1024) : iblk m c 2 t (ix2 i k) = B m c (ix2 (row t i) k) := by
  unfold B
  rw [← V_main_arg2 m c]
  unfold iblk
  rw [View.read_apply]
  show V m c main_arg2 _ = _
  blk_ext [row, idx2 t]

/-- Window 3's block at an index. -/
theorem iblk3 (t : Fin cfg0.N) (i : Fin 512) (k : Fin 1024) : iblk m c 3 t (ix2 i k) = D m c (ix2 (row t i) k) := by
  unfold D
  rw [← V_main_arg3 m c]
  unfold iblk
  rw [View.read_apply]
  show V m c main_arg3 _ = _
  blk_ext [row, idx3 t]

/-- Window 4's block at an index. -/
theorem iblk4 (t : Fin cfg0.N) (k : Fin 1024) : iblk m c 4 t (ix2 0 k) = G m c (ix2 (headOf k) (placeOf k)) := by
  have e : shapeCast S1x1024 (G m c) shapeCasts_S16x64_S1x1024 (ix2 0 k) = G m c (ix2 (headOf k) (placeOf k)) := by
    pointwise
    rfl
  rw [← e, ← V_main_v0]
  unfold iblk
  rw [View.read_apply]
  show V m c main_v0 _ = _
  blk_ext [idx4 t]

/-- Window 5's block at an index. -/
theorem iblk5 (t : Fin cfg0.N) (k : Fin 1024) : iblk m c 5 t (ix2 0 k) = H m c (ix2 (headOf k) (placeOf k)) := by
  have e : shapeCast S1x1024 (H m c) shapeCasts_S16x64_S1x1024 (ix2 0 k) = H m c (ix2 (headOf k) (placeOf k)) := by
    pointwise
    rfl
  rw [← e, ← V_main_v1]
  unfold iblk
  rw [View.read_apply]
  show V m c main_v1 _ = _
  blk_ext [idx5 t]

/-- Window 6's block at an index: the averaging matrix. -/
theorem iblk6 (t : Fin cfg0.N) (z k : Fin 1024) : iblk m c 6 t (ix2 z k) = average heads (ix2 z k) := by
  rw [← V_main_v12 m c]
  unfold iblk
  rw [View.read_apply]
  show V m c main_v12 _ = _
  blk_ext [idx6 t]

/-- A token's sum of the two scans. -/
def total (r : Fin 16384) (k : Fin 1024) : EReal := X m c (ix2 r k) + X' m c (ix2 r k)

/-- The result: each token's row, normalised head by head, with the bonus, gated. -/
def out (i : S16384x1024.Idx) : EReal :=
  normed (total m c (i 0)) (fun k z => weight 64 64 z k) (fun k => G m c (ix2 (headOf k) (placeOf k))) (fun k => H m c (ix2 (headOf k) (placeOf k))) (fun k => B m c (ix2 (i 0) k)) (i 1)
    * D m c (ix2 (i 0) (i 1))

/-- The forward scan's block at a point. -/
abbrev scan0 (t : Fin cfg0.N) : Vec Ideal S512x1024 .bf16 := iblk m c 0 t

/-- The backward scan's block at a point. -/
abbrev scan1 (t : Fin cfg0.N) : Vec Ideal S512x1024 .bf16 := iblk m c 1 t

/-- What a point stores. -/
abbrev store (t : Fin cfg0.N) : FVec Ideal S512x1024 .bf16 :=
  k0_pay1 (k0_pay2 (iblk m c 0 t) (iblk m c 1 t) (iblk m c 6 t) (iblk m c 4 t) (iblk m c 5 t) (iblk m c 2 t)) (k0_pay3 (iblk m c 3 t))

/-- What a point stores, at an index. -/
theorem stored (t : Fin cfg0.N) (i : Fin 512) (k : Fin 1024) : store m c t (ix2 i k) = out m c (ix2 (row t i) k) := by
  refine (pay1_apply _ _ i k).trans (congrArg₂ (· * ·) ((pay2_apply _ _ _ _ _ _ i k).trans ?_) (iblk3 m c t i k))
  have e1 : (fun z => scan0 m c t (ix2 i z) + scan1 m c t (ix2 i z)) = total m c (row t i) :=
    funext fun z => congrArg₂ (· + · : EReal → EReal → EReal) (iblk0 m c t i z) (iblk1 m c t i z)
  have e2 : (fun k z => iblk m c 6 t (ix2 z k) : Fin 1024 → Fin 1024 → EReal) = fun k z => weight 64 64 z k :=
    funext fun k => funext fun z => (iblk6 m c t z k).trans (average_heads z k)
  have e3 : (fun k => iblk m c 4 t (ix2 0 k) : Fin 1024 → EReal) = fun k => G m c (ix2 (headOf k) (placeOf k)) := funext fun k => iblk4 m c t k
  have e4 : (fun k => iblk m c 5 t (ix2 0 k) : Fin 1024 → EReal) = fun k => H m c (ix2 (headOf k) (placeOf k)) := funext fun k => iblk5 m c t k
  have e5 : (fun k => iblk m c 2 t (ix2 i k) : Fin 1024 → EReal) = fun k => B m c (ix2 (row t i) k) := funext fun k => iblk2 m c t i k
  exact congrFun (congr (congr (congr (congr (congrArg normed e1) e2) e3) e4) e5) k

/-- A point's block is what it stores. -/
theorem out0_eq (t : Fin cfg0.N) :
    out0_7 (iblk m c 0 t) (iblk m c 1 t) (iblk m c 2 t) (iblk m c 3 t) (iblk m c 4 t) (iblk m c 5 t) (iblk m c 6 t) = store m c t := by
  frame_out

/-- The result array after the grid. -/
theorem array : (dats m 0 c).arrAt 7 cfg0.N = out m c := by
  refine (dats m 0 c).arrAt_eq_of_covers 7 _ (by decide +kernel) fun t hf y => ?_
  blk_simp
  rw [after0_7]
  obtain ⟨y, rfl⟩ : ∃ z : Fin 512 × Fin 1024, y = ix2 z.1 z.2 :=
    ⟨(y 0, y 1), by funext a; match a with | ⟨0, _⟩ => rfl | ⟨1, _⟩ => rfl⟩
  refine ((congrFun (out0_eq m c t) _).trans (stored m c t y.1 y.2)).trans ?_
  have e : (win0_7.blk t).view.emb (ix2 y.1 y.2) = ix2 (row t y.1) y.2 := by
    blk_ext [row, idx7 t]
  exact (congrArg (out m c) e).symm

end

end Cert.RwkvPostIdeal.Rows
-- ==== Proof.RwkvPostEquation.lean ====
/- The RWKV-7 mixer's closing call: kernel and reference give one result. -/
module

public import proofs.«01_k».proof.Proof.RwkvPostKernel
public import proofs.«01_k».proof.Proof.Gen.RwkvPostReferenceIdeal.Run

@[expose] public section

set_option maxRecDepth 16384

namespace Cert.RwkvPostReferenceIdeal.Rows

open Idealize.ShloMosaic Idealize.ShloMosaic.TcCoe Idealize.SL.Sem Layer
open Cert.RwkvPostReferenceIdeal Cert.RwkvPostReferenceIdeal.Gen

noncomputable section

/-- The column at a place of a head. -/
def column (h : Fin 16) (l : Fin 64) : Fin 1024 := ⟨h.val * 64 + l.val, by omega⟩

/-- A column is the one at its place of its head. -/
theorem column_self (k : Fin 1024) : column (Cert.RwkvPostIdeal.Rows.headOf k) (Cert.RwkvPostIdeal.Rows.placeOf k) = k :=
  Fin.ext (by simp only [column, Cert.RwkvPostIdeal.Rows.headOf, Cert.RwkvPostIdeal.Rows.placeOf]; omega)

/-- The sum of the two scans, head by head. -/
def both (x x' : FVec Ideal S16384x1024 .bf16) : FVec Ideal S16384x16x64 .f32 :=
  addf (shapeCast S16384x16x64 (extf .f32 x bitsLt_bf16_f32) shapeCasts_S16384x1024_S16384x16x64) (shapeCast S16384x16x64 (extf .f32 x' bitsLt_bf16_f32) shapeCasts_S16384x1024_S16384x16x64)

/-- The sum at an index. -/
theorem both_apply (x x' : FVec Ideal S16384x1024 .bf16) (r : Fin 16384) (h : Fin 16) (l : Fin 64) :
    both x x' (ix3 r h l) = x (ix2 r (column h l)) + x' (ix2 r (column h l)) := by
  pointwise [both]
  rfl

/-- A head's mean. -/
def mean (o : FVec Ideal S16384x16x64 .f32) : FVec Ideal S16384x16x1 .f32 :=
  Host.divf (broadcastInDim S16384x16x1 ![0, 1] bcast_S16384x16_S16384x16x1_0_1 (Host.reduceAdd o (constant S_ .f32 0x00000000#32) reducesTo_S16384x16x64_S16384x16_d2 h_S_)) (broadcastInDim S16384x16x1 ![] bcast_S_S16384x16x1 (constant S_ .f32 0x42800000#32))

/-- A head's mean at an index. -/
theorem mean_apply (o : FVec Ideal S16384x16x64 .f32) (r : Fin 16384) (h : Fin 16) :
    mean o (ix3 r h 0) = Ideal.div (∑ l : Fin 64, o (ix3 r h l)) ((64 : ℝ) : EReal) := by
  rw [← ofBits_64]
  pointwise [mean]

/-- The heads less their means. -/
def centred (o : FVec Ideal S16384x16x64 .f32) : FVec Ideal S16384x16x64 .f32 := subf o (broadcastInDim S16384x16x64 ![0, 1, 2] bcast_S16384x16x1_S16384x16x64_0_1_2 (mean o))

/-- The heads less their means at an index. -/
theorem centred_apply (o : FVec Ideal S16384x16x64 .f32) (r : Fin 16384) (h : Fin 16) (l : Fin 64) :
    centred o (ix3 r h l) = o (ix3 r h l) - mean o (ix3 r h 0) := by
  pointwise [centred]

/-- The reference's result: the centred heads over the roots of their variances, weighted and offset, with the bonus, gated. -/
def result (o : FVec Ideal S16384x16x64 .f32) (w b : FVec Ideal S16x64 .f32) (u d : FVec Ideal S16384x1024 .bf16) : FVec Ideal S16384x1024 .bf16 :=
  truncf .bf16 (mulf (shapeCast S16384x1024 (addf (addf (mulf (mulf (centred o) (broadcastInDim S16384x16x64 ![0, 1, 2] bcast_S16384x16x1_S16384x16x64_0_1_2 (Host.rsqrt (addf (mean (mulf (centred o) (centred o))) (broadcastInDim S16384x16x1 ![] bcast_S_S16384x16x1 (constant S_ .f32 0x3A27C5AC#32)))))) (broadcastInDim S16384x16x64 ![0, 1, 2] bcast_S1x16x64_S16384x16x64_0_1_2 (broadcastInDim S1x16x64 ![1, 2] bcast_S16x64_S1x16x64_1_2 w))) (broadcastInDim S16384x16x64 ![0, 1, 2] bcast_S1x16x64_S16384x16x64_0_1_2 (broadcastInDim S1x16x64 ![1, 2] bcast_S16x64_S1x16x64_1_2 b)))
    (shapeCast S16384x16x64 (extf .f32 u bitsLt_bf16_f32) shapeCasts_S16384x1024_S16384x16x64)) shapeCasts_S16384x16x64_S16384x1024) (extf .f32 d bitsLt_bf16_f32)) bitsLt_bf16_f32

/-- The result at an index. -/
theorem result_apply (o : FVec Ideal S16384x16x64 .f32) (w b : FVec Ideal S16x64 .f32) (u d : FVec Ideal S16384x1024 .bf16) (r : Fin 16384) (k : Fin 1024) :
    result o w b u d (ix2 r k) = (centred o (ix3 r (Cert.RwkvPostIdeal.Rows.headOf k) (Cert.RwkvPostIdeal.Rows.placeOf k)) * Ideal.rsqrt (mean (mulf (centred o) (centred o)) (ix3 r (Cert.RwkvPostIdeal.Rows.headOf k) 0) + Ideal.ofBits .f32 0x3A27C5AC#32)
      * w (ix2 (Cert.RwkvPostIdeal.Rows.headOf k) (Cert.RwkvPostIdeal.Rows.placeOf k)) + b (ix2 (Cert.RwkvPostIdeal.Rows.headOf k) (Cert.RwkvPostIdeal.Rows.placeOf k)) + u (ix2 r k)) * d (ix2 r k) := by
  pointwise [result]
  rfl

/-- The relations of shapes the precondition is written over. -/
instance preFacts : Cert.Pre_rwkv_post_finite.Facts := ⟨by decide⟩

/-- An array of the short format that is below infinity in size everywhere holds real numbers. -/
theorem real {s : Shape} (x : FVec Ideal s .bf16) (h)
    (e : cmpf .olt (Host.absf x) (broadcastInDim s ![] h (constant (F := Ideal) ⟨0, ![]⟩ .bf16 0x7F80#16)) = fun _ => 1#1) (i : s.Idx) : IsReal (x i) :=
  ⟨_, Cert.Finite.real_bf16 x h e i⟩

variable (m : (ℓ : Loc Cert.RwkvPostIdeal.nD Cert.RwkvPostIdeal.τ Cert.RwkvPostIdeal.sig) → Buf (Elt Ideal) ℓ) (c : Dev Cert.RwkvPostIdeal.nD)

/-- A token's sum of the two scans is real where the two are. -/
theorem total_real (hX : ∀ i, IsReal (Cert.RwkvPostIdeal.Rows.X m c i)) (hX' : ∀ i, IsReal (Cert.RwkvPostIdeal.Rows.X' m c i)) (r : Fin 16384) (k : Fin 1024) : IsReal (Cert.RwkvPostIdeal.Rows.total m c r k) :=
  (hX _).add (hX' _)

/-- The reference's sum of the two scans is the kernel's. -/
theorem both_eq (r : Fin 16384) (k : Fin 1024) : both (Cert.RwkvPostIdeal.Rows.X m c) (Cert.RwkvPostIdeal.Rows.X' m c) (ix3 r (Cert.RwkvPostIdeal.Rows.headOf k) (Cert.RwkvPostIdeal.Rows.placeOf k)) = Cert.RwkvPostIdeal.Rows.total m c r k := by
  rw [both_apply, column_self]
  rfl

/-- The averaging matrix, column by column. -/
abbrev A (k z : Fin 1024) : EReal := weight 64 64 z k

/-- The kernel's product with the averaging matrix is the reference's mean, on real rows. -/
theorem mean_eq (f : Fin 1024 → EReal) (hf : ∀ z, IsReal (f z)) (o : FVec Ideal S16384x16x64 .f32) (r : Fin 16384) (k : Fin 1024)
    (e : ∀ l, o (ix3 r (Cert.RwkvPostIdeal.Rows.headOf k) l) = f (column (Cert.RwkvPostIdeal.Rows.headOf k) l)) : split f (A k) = mean o (ix3 r (Cert.RwkvPostIdeal.Rows.headOf k) 0) := by
  refine (split_mean 16 64 rfl (by norm_num) 64 (by norm_num) f hf k (fun l => by omega)).trans ?_
  refine Eq.trans ?_ (mean_apply _ _ _).symm
  exact congrArg (fun x => Ideal.div x ((64 : ℝ) : EReal)) (Finset.sum_congr rfl fun l _ => (e l).symm)

/-- The head of a column at a place of a head. -/
theorem headOf_column (h : Fin 16) (l : Fin 64) : Cert.RwkvPostIdeal.Rows.headOf (column h l) = h :=
  Fin.ext (by simp only [column, Cert.RwkvPostIdeal.Rows.headOf]; omega)

/-- The place of a column at a place of a head. -/
theorem placeOf_column (h : Fin 16) (l : Fin 64) : Cert.RwkvPostIdeal.Rows.placeOf (column h l) = l :=
  Fin.ext (by simp only [column, Cert.RwkvPostIdeal.Rows.placeOf]; omega)

/-- A centred row is real where the row is. -/
theorem centre_real (f : Fin 1024 → EReal) (hf : ∀ z, IsReal (f z)) (k : Fin 1024) : IsReal (Cert.RwkvPostIdeal.Rows.centre f A k) :=
  (hf k).sub (split_real 16 64 rfl (by norm_num) 64 f hf k (fun l => by omega))

/-- The reference's centred heads are the kernel's centred row. -/
theorem centred_eq (hX : ∀ i, IsReal (Cert.RwkvPostIdeal.Rows.X m c i)) (hX' : ∀ i, IsReal (Cert.RwkvPostIdeal.Rows.X' m c i)) (r : Fin 16384) (k : Fin 1024) :
    centred (both (Cert.RwkvPostIdeal.Rows.X m c) (Cert.RwkvPostIdeal.Rows.X' m c)) (ix3 r (Cert.RwkvPostIdeal.Rows.headOf k) (Cert.RwkvPostIdeal.Rows.placeOf k)) = Cert.RwkvPostIdeal.Rows.centre (Cert.RwkvPostIdeal.Rows.total m c r) A k := by
  rw [centred_apply, both_eq, ← mean_eq (Cert.RwkvPostIdeal.Rows.total m c r) (total_real m c hX hX' r) _ r k (fun l => both_apply _ _ r _ l)]
  rfl

/-- The reference's variance is the kernel's. -/
theorem variance_eq (hX : ∀ i, IsReal (Cert.RwkvPostIdeal.Rows.X m c i)) (hX' : ∀ i, IsReal (Cert.RwkvPostIdeal.Rows.X' m c i)) (r : Fin 16384) (k : Fin 1024) :
    split (fun z => Cert.RwkvPostIdeal.Rows.centre (Cert.RwkvPostIdeal.Rows.total m c r) A z * Cert.RwkvPostIdeal.Rows.centre (Cert.RwkvPostIdeal.Rows.total m c r) A z) (A k)
      = mean (mulf (centred (both (Cert.RwkvPostIdeal.Rows.X m c) (Cert.RwkvPostIdeal.Rows.X' m c))) (centred (both (Cert.RwkvPostIdeal.Rows.X m c) (Cert.RwkvPostIdeal.Rows.X' m c)))) (ix3 r (Cert.RwkvPostIdeal.Rows.headOf k) 0) := by
  have hc := centre_real (Cert.RwkvPostIdeal.Rows.total m c r) (total_real m c hX hX' r)
  refine mean_eq _ (fun z => (hc z).mul (hc z)) _ r k fun l => ?_
  have e := centred_eq m c hX hX' r (column (Cert.RwkvPostIdeal.Rows.headOf k) l)
  rw [headOf_column, placeOf_column] at e
  exact congrArg₂ (· * ·) e e

/-- The reference's formula is the kernel's result array, the scans' outputs real. -/
theorem result_eq (hX : ∀ i, IsReal (Cert.RwkvPostIdeal.Rows.X m c i)) (hX' : ∀ i, IsReal (Cert.RwkvPostIdeal.Rows.X' m c i)) :
    result (both (Cert.RwkvPostIdeal.Rows.X m c) (Cert.RwkvPostIdeal.Rows.X' m c)) (Cert.RwkvPostIdeal.Rows.G m c) (Cert.RwkvPostIdeal.Rows.H m c) (Cert.RwkvPostIdeal.Rows.B m c) (Cert.RwkvPostIdeal.Rows.D m c) = Cert.RwkvPostIdeal.Rows.out m c := by
  funext i
  obtain ⟨y, rfl⟩ : ∃ z : Fin 16384 × Fin 1024, i = ix2 z.1 z.2 :=
    ⟨(i 0, i 1), by funext a; match a with | ⟨0, _⟩ => rfl | ⟨1, _⟩ => rfl⟩
  refine (result_apply _ _ _ _ _ y.1 y.2).trans ?_
  rw [centred_eq m c hX hX', ← variance_eq m c hX hX']
  rfl

/-- Kernel and reference, run on the same arguments, the scans' outputs finite, end with equal results. -/
theorem algebraic : Cert.algebraic_RwkvPostIdeal_RwkvPostReferenceIdeal_pre_rwkv_post_finite := by
  intro m g m' g' hpre hagree
  refine ⟨fun c => Cert.RwkvPostIdeal.Rows.out m c, ?_, ?_⟩
  · refine (θ_run _ _ _).mono (fun r h c => ?_) (Cert.RwkvPostIdeal.Value.run_blocks m g)
    exact ⟨(h c).1.trans (Cert.RwkvPostIdeal.Rows.array m c), (h c).2⟩
  · refine (θ_run _ _ _).mono (fun r h c => ?_) (Cert.RwkvPostReferenceIdeal.Value.run m' g')
    obtain ⟨e0, e1, e2, e3, e4, e5⟩ := hagree c
    refine ⟨(h c).1.trans (Eq.trans ?_ (result_eq m c (real _ _ (hpre c).1) (real _ _ (hpre c).2))), (h c).2⟩
    unfold Cert.RwkvPostIdeal.Rows.X Cert.RwkvPostIdeal.Rows.X' Cert.RwkvPostIdeal.Rows.B Cert.RwkvPostIdeal.Rows.D Cert.RwkvPostIdeal.Rows.G Cert.RwkvPostIdeal.Rows.H
    rw [← e0, ← e1, ← e2, ← e3, ← e4, ← e5]
    rfl

/-- The reference ends with its arguments unchanged and, since it declares no semaphore, every counter at zero. -/
theorem reference_frame (m : (ℓ : Loc Cert.RwkvPostReferenceIdeal.nD Cert.RwkvPostReferenceIdeal.τ Cert.RwkvPostReferenceIdeal.sig) → Buf (Elt Ideal) ℓ) (g : Dev Cert.RwkvPostReferenceIdeal.nD → PrngReg) :
    θ_run (Cert.RwkvPostReferenceIdeal.defs (F := Ideal)) (onTc (τ := Cert.RwkvPostReferenceIdeal.τ) (Cert.RwkvPostReferenceIdeal.main (F := Ideal))) ⟨m, fun _ => 0, g⟩ (fun r =>
      (∀ c : Dev Cert.RwkvPostReferenceIdeal.nD,
        r.2.mem ((c.tc : Thread Cert.RwkvPostReferenceIdeal.nD Cert.RwkvPostReferenceIdeal.τ).loc Cert.RwkvPostReferenceIdeal.main_arg0) = m ((c.tc : Thread Cert.RwkvPostReferenceIdeal.nD Cert.RwkvPostReferenceIdeal.τ).loc Cert.RwkvPostReferenceIdeal.main_arg0)
        ∧ r.2.mem ((c.tc : Thread Cert.RwkvPostReferenceIdeal.nD Cert.RwkvPostReferenceIdeal.τ).loc Cert.RwkvPostReferenceIdeal.main_arg1) = m ((c.tc : Thread Cert.RwkvPostReferenceIdeal.nD Cert.RwkvPostReferenceIdeal.τ).loc Cert.RwkvPostReferenceIdeal.main_arg1)
        ∧ r.2.mem ((c.tc : Thread Cert.RwkvPostReferenceIdeal.nD Cert.RwkvPostReferenceIdeal.τ).loc Cert.RwkvPostReferenceIdeal.main_arg2) = m ((c.tc : Thread Cert.RwkvPostReferenceIdeal.nD Cert.RwkvPostReferenceIdeal.τ).loc Cert.RwkvPostReferenceIdeal.main_arg2)
        ∧ r.2.mem ((c.tc : Thread Cert.RwkvPostReferenceIdeal.nD Cert.RwkvPostReferenceIdeal.τ).loc Cert.RwkvPostReferenceIdeal.main_arg3) = m ((c.tc : Thread Cert.RwkvPostReferenceIdeal.nD Cert.RwkvPostReferenceIdeal.τ).loc Cert.RwkvPostReferenceIdeal.main_arg3)
        ∧ r.2.mem ((c.tc : Thread Cert.RwkvPostReferenceIdeal.nD Cert.RwkvPostReferenceIdeal.τ).loc Cert.RwkvPostReferenceIdeal.main_arg4) = m ((c.tc : Thread Cert.RwkvPostReferenceIdeal.nD Cert.RwkvPostReferenceIdeal.τ).loc Cert.RwkvPostReferenceIdeal.main_arg4)
        ∧ r.2.mem ((c.tc : Thread Cert.RwkvPostReferenceIdeal.nD Cert.RwkvPostReferenceIdeal.τ).loc Cert.RwkvPostReferenceIdeal.main_arg5) = m ((c.tc : Thread Cert.RwkvPostReferenceIdeal.nD Cert.RwkvPostReferenceIdeal.τ).loc Cert.RwkvPostReferenceIdeal.main_arg5))
      ∧ r.2.sem = fun _ => 0) :=
  (θ_run _ _ _).mono (fun r h => ⟨fun c => (h c).2, sem_eq_zero_of_no_sems (by decide) r.2⟩) (Cert.RwkvPostReferenceIdeal.Value.run m g)

end

end Cert.RwkvPostReferenceIdeal.Rows
-- ==== Proof.DnPrepKernel.lean ====
/- The delta-rule mixer's opening kernel over the reals: its result arrays. -/
module

public import proofs.«01_k».proof.Proof.RwkvPostEquation
public import proofs.«01_k».proof.Proof.Gen.DnPrepIdeal.Value
public import Idealize.ShloMosaic.Lib.StableHlo.RunRead

@[expose] public section

set_option maxRecDepth 16384

namespace Cert.DnPrepIdeal.Rows

open Cert.DnPrepIdeal Cert.DnPrepIdeal.Gen Idealize.ShloMosaic Idealize.ShloMosaic.TcCoe Idealize.SL.Sem Layer

noncomputable section

variable (m : (ℓ : Loc nD τ sig) → Buf (Elt Ideal) ℓ) (c : Dev nD)

/-- The projection's columns. -/
abbrev X : FVec Ideal S8x2048x8192 .f32 := m ((c.tc : Thread nD τ).loc main_arg0)

/-- The convolution's taps. -/
abbrev W : FVec Ideal S5x3072 .f32 := m ((c.tc : Thread nD τ).loc main_arg1)

/-- Five taps against five weights. -/
def taps (x w : Fin 5 → EReal) : EReal := x 0 * w 0 + x 1 * w 1 + x 2 * w 2 + x 3 * w 3 + x 4 * w 4

/-- A value times its logistic. -/
def silu (a : EReal) : EReal := a * sigmoid a

/-- The row of a tile, extended by eight rows on either side, that lies under a tap. -/
def under (i : Fin 256) (j : Fin 5) : Fin 272 := ⟨i.val + 6 + j.val, by omega⟩

/-- The row a tap's weights lie in. -/
def tapRow (j : Fin 5) : Fin 8 := ⟨j.val, by omega⟩

/-- A column of the queries, keys or values, among the convolved ones. -/
def col (s : Fin 3) (k : Fin 1024) : Fin 3072 := ⟨s.val * 1024 + k.val, by omega⟩

/-- A column of the queries, keys or values, among the projection's. -/
def far (s : Fin 3) (k : Fin 1024) : Fin 8192 := ⟨4096 + s.val * 1024 + k.val, by omega⟩

/-- The row under the first tap, as the rotation gives it. -/
theorem under_0 (r : Fin 256) (h) : (⟨(8 + r.val + 272 - 2) % 272, h⟩ : Fin 272) = under r 0 :=
  Fin.ext (by show (8 + r.val + 272 - 2) % 272 = r.val + 6 + 0; omega)

/-- The row under the second tap. -/
theorem under_1 (r : Fin 256) (h) : (⟨(8 + r.val + 272 - 1) % 272, h⟩ : Fin 272) = under r 1 :=
  Fin.ext (by show (8 + r.val + 272 - 1) % 272 = r.val + 6 + 1; omega)

/-- The row under the third tap. -/
theorem under_2 (r : Fin 256) (h) : (⟨(8 + r.val + 272) % 272, h⟩ : Fin 272) = under r 2 :=
  Fin.ext (by show (8 + r.val + 272) % 272 = r.val + 6 + 2; omega)

/-- The row under the fourth tap. -/
theorem under_3 (r : Fin 256) (h) : (⟨(8 + r.val + 272 - 271) % 272, h⟩ : Fin 272) = under r 3 :=
  Fin.ext (by show (8 + r.val + 272 - 271) % 272 = r.val + 6 + 3; omega)

/-- The row under the fifth tap. -/
theorem under_4 (r : Fin 256) (h) : (⟨(8 + r.val + 272 - 270) % 272, h⟩ : Fin 272) = under r 4 :=
  Fin.ext (by show (8 + r.val + 272 - 270) % 272 = r.val + 6 + 4; omega)

/-- A query's column among the convolved ones. -/
theorem col_0 (k : Fin 1024) (h) : (⟨k.val, h⟩ : Fin 3072) = col 0 k := Fin.ext (by show k.val = 0 * 1024 + k.val; omega)

/-- A key's column among the convolved ones. -/
theorem col_1 (k : Fin 1024) (h) : (⟨1024 + k.val, h⟩ : Fin 3072) = col 1 k := Fin.ext (by show 1024 + k.val = 1 * 1024 + k.val; omega)

/-- A value's column among the convolved ones. -/
theorem col_2 (k : Fin 1024) (h) : (⟨2048 + k.val, h⟩ : Fin 3072) = col 2 k := Fin.ext (by show 2048 + k.val = 2 * 1024 + k.val; omega)

/-- A tile's rows, extended by those before and after it: nothing before the first tile, nothing after the last. -/
abbrev ext (a : BitVec 32) (p n : Vec Ideal S1x8x1024 .f32) (o : Vec Ideal S1x256x1024 .f32) : FVec Ideal S272x1024 .f32 := k0_pay8 a p n o

/-- What a tile's convolved and gated column is, of its extended rows and the weights. -/
def mixed (e : FVec Ideal S272x1024 .f32) (w : Vec Ideal S8x3072 .f32) (s : Fin 3) (r : Fin 256) (k : Fin 1024) : EReal :=
  silu (taps (fun j => e (ix2 (under r j) k)) (fun j => w (ix2 (tapRow j) (col s k))))

/-- The convolved and gated queries. -/
theorem q_apply (i : grid0.Coords) (w : Vec Ideal S8x3072 .f32) (p n : Vec Ideal S1x8x1024 .f32) (o : Vec Ideal S1x256x1024 .f32) (r : Fin 256) (k : Fin 1024) :
    k0_pay7 (k0_pay4 w) (k0_pay5 i p n o) (k0_pay6 i w p n o) 270#32 (ix2 r k) = mixed (k0_pay5 i p n o) w 0 r k := by
  pointwise [k0_pay7, k0_pay6, k0_pay4]
  rw [under_0, under_1, under_2, under_3, under_4, col_0]
  rfl

/-- The convolved and gated keys. -/
theorem k_apply (a : BitVec 32) (w : Vec Ideal S8x3072 .f32) (p n : Vec Ideal S1x8x1024 .f32) (o : Vec Ideal S1x256x1024 .f32) (r : Fin 256) (k : Fin 1024) :
    k0_pay12 (k0_pay4 w) (ext a p n o) (k0_pay9 a (k0_pay4 w) p n o) (k0_pay10 a p n o) (k0_pay11 (k0_pay4 w)) (ix2 r k) = mixed (ext a p n o) w 1 r k := by
  pointwise [k0_pay12, k0_pay9, k0_pay10, k0_pay11, k0_pay4]
  rw [under_0, under_1, under_2, under_3, under_4, col_1]
  rfl

/-- The convolved and gated values. -/
theorem v_apply (a : BitVec 32) (w : Vec Ideal S8x3072 .f32) (p n : Vec Ideal S1x8x1024 .f32) (o : Vec Ideal S1x256x1024 .f32) (r : Fin 256) (k : Fin 1024) :
    k0_pay15 (k0_pay4 w) (k0_pay13 a p n o) (k0_pay14 a (k0_pay4 w) p n o) (ix2 r k) = mixed (k0_pay13 a p n o) w 2 r k := by
  pointwise [k0_pay15, k0_pay14, k0_pay4]
  rw [under_0, under_1, under_2, under_3, under_4, col_2]
  rfl

/-- The extended rows at an index. -/
theorem ext_apply (a : BitVec 32) (p n : Vec Ideal S1x8x1024 .f32) (o : Vec Ideal S1x256x1024 .f32) (e : Fin 272) (k : Fin 1024) :
    ext a p n o (ix2 e k) = if h : e.val < 8 then Scalar.select (Scalar.cmpi .eq a 0#32) 0 (p (ix3 0 ⟨e.val, h⟩ k))
      else if h' : e.val - 8 < 256 then o (ix3 0 ⟨e.val - 8, h'⟩ k)
      else Scalar.select (Scalar.cmpi .eq a 7#32) 0 (n (ix3 0 ⟨e.val - 8 - 256, by omega⟩ k)) := by
  pointwise [k0_pay8]

/-- A column of tokens, two zeros set before it and after it. -/
def padded (x : Fin 2048 → EReal) (r : ℕ) : EReal := if h : 2 ≤ r ∧ r - 2 < 2048 then x ⟨r - 2, h.2⟩ else 0

/-- Whether a tile is the first. -/
theorem first (a : Fin 8) : Scalar.cmpi .eq (BitVec.ofNat 32 a.val) 0#32 = if a.val = 0 then 1#1 else 0#1 := by
  revert a
  decide

/-- Whether a tile is the last. -/
theorem last (a : Fin 8) : Scalar.cmpi .eq (BitVec.ofNat 32 a.val) 7#32 = if a.val = 7 then 1#1 else 0#1 := by
  revert a
  decide

/-- The token of the row, among the eight before a tile. -/
def before (a : Fin 8) (e : Fin 8) : Fin 2048 := ⟨(a.val * 32 - 1) * 8 + e.val, by omega⟩

/-- The token of a tile's row. -/
def row (a : Fin 8) (i : Fin 256) : Fin 2048 := ⟨a.val * 256 + i.val, by omega⟩

/-- The token of the row, among the eight after a tile. -/
def behind (a : Fin 8) (e : Fin 8) : Fin 2048 := ⟨min ((a.val + 1) * 32) 255 * 8 + e.val, by omega⟩

/-- The extended rows under the taps are the padded column's. -/
theorem ext_under (a : Fin 8) (p n : Vec Ideal S1x8x1024 .f32) (o : Vec Ideal S1x256x1024 .f32) (x : Fin 2048 → EReal) (k : Fin 1024)
    (hp : ∀ e, p (ix3 0 e k) = x (before a e)) (ho : ∀ i, o (ix3 0 i k) = x (row a i)) (hn : ∀ e, n (ix3 0 e k) = x (behind a e))
    (r : Fin 256) (j : Fin 5) : ext (BitVec.ofNat 32 a.val) p n o (ix2 (under r j) k) = padded x (a.val * 256 + r.val + j.val) := by
  have hu : (under r j).val = r.val + 6 + j.val := rfl
  rw [ext_apply, first, last]
  unfold padded
  by_cases h1 : (under r j).val < 8
  · rw [dif_pos h1, hp]
    by_cases h0 : a.val = 0
    · rw [if_pos h0, dif_neg (by omega)]
      rfl
    · rw [if_neg h0, dif_pos (by omega)]
      show x _ = x _
      exact congrArg x (Fin.ext (by show (a.val * 32 - 1) * 8 + (under r j).val = a.val * 256 + r.val + j.val - 2; omega))
  · rw [dif_neg h1]
    by_cases h2 : (under r j).val - 8 < 256
    · rw [dif_pos h2, ho, dif_pos (by omega)]
      exact congrArg x (Fin.ext (by show a.val * 256 + ((under r j).val - 8) = a.val * 256 + r.val + j.val - 2; omega))
    · rw [dif_neg h2, hn]
      by_cases h7 : a.val = 7
      · rw [if_pos h7, dif_neg (by omega)]
        rfl
      · rw [if_neg h7, dif_pos (by omega)]
        show x _ = x _
        exact congrArg x (Fin.ext (by show min ((a.val + 1) * 32) 255 * 8 + ((under r j).val - 8 - 256) = a.val * 256 + r.val + j.val - 2; omega))

/-- A column over the root of its head's sum of squares. -/
def unit (q : Fin 1024 → EReal) (a : Fin 1024 → EReal) (k : Fin 1024) : EReal :=
  q k * Ideal.rsqrt (split (fun z => q z * q z) a + Ideal.ofBits .f32 0x358637BD#32)

/-- What is stored of the queries. -/
theorem pay1_apply (q : FVec Ideal S256x1024 .f32) (a : Vec Ideal S1024x1024 .bf16) (r : Fin 256) (k : Fin 1024) :
    k0_pay1 (k0_pay17 q a) (k0_pay18 (F := Ideal)) (ix3 0 r k) = unit (fun z => q (ix2 r z)) (fun z => a (ix2 z k)) k * Ideal.ofBits .f32 0x3DB504F3#32 := by
  pointwise [k0_pay1, k0_pay17, k0_pay18, k0_pay16]
  rfl

/-- What is stored of the keys. -/
theorem pay2_apply (q : FVec Ideal S256x1024 .f32) (a : Vec Ideal S1024x1024 .bf16) (r : Fin 256) (k : Fin 1024) :
    k0_pay2 q (k0_pay16 a) (ix3 0 r k) = unit (fun z => q (ix2 r z)) (fun z => a (ix2 z k)) k := by
  pointwise [k0_pay2, k0_pay16]
  rfl

/-- What is stored of the values. -/
theorem pay3_apply (q : FVec Ideal S256x1024 .f32) (r : Fin 256) (k : Fin 1024) : k0_pay3 q (ix3 0 r k) = q (ix2 r k) := by
  pointwise [k0_pay3]

/-- Each column's head, as the host divides it out: the quotient, lowered by one where the signs differ and a remainder is left. -/
def heads : IVec S1024 32 :=
  select (andi (cmpi .ne (signi (iotaInDim S1024 32 0)) (broadcastInDim S1024 ![] bcast_S_S1024 (signi (constantI S_ 32 128#32))))
      (cmpi .ne (Host.remsi (iotaInDim S1024 32 0) (broadcastInDim S1024 ![] bcast_S_S1024 (constantI S_ 32 128#32))) (broadcastInDim S1024 ![] bcast_S_S1024 (constantI S_ 32 0#32))))
    (subi (Host.divsi (iotaInDim S1024 32 0) (broadcastInDim S1024 ![] bcast_S_S1024 (constantI S_ 32 128#32))) (broadcastInDim S1024 ![] bcast_S_S1024 (constantI S_ 32 1#32))) (Host.divsi (iotaInDim S1024 32 0) (broadcastInDim S1024 ![] bcast_S_S1024 (constantI S_ 32 128#32)))

/-- A column's head is its index over the head's size, rounded down. -/
theorem heads_apply (k : Fin 1024) : heads (ix1 k) = BitVec.ofNat 32 (k.val / 128) := by
  revert k
  decide +kernel

/-- The head-summing matrix, of the columns' heads. -/
def ones (q : IVec S1024 32) : FVec Ideal S1024x1024 .bf16 :=
  truncf .bf16 (mulf (uitofp .f32 (cmpi .eq (broadcastInDim S1024x1024 ![0, 1] bcast_S1024x1_S1024x1024_0_1 (broadcastInDim S1024x1 ![0] bcast_S1024_S1024x1_0 q))
      (broadcastInDim S1024x1024 ![0, 1] bcast_S1x1024_S1024x1024_0_1 (broadcastInDim S1x1024 ![1] bcast_S1024_S1x1024_1 q))))
    (broadcastInDim S1024x1024 ![] bcast_S_S1024x1024 (constant S_ .f32 0x3F800000#32))) bitsLt_bf16_f32

/-- The matrix at an index: whether the two columns' heads are the same. -/
theorem ones_apply (q : IVec S1024 32) (z k : Fin 1024) :
    ones q (ix2 z k) = (FloatOps.uitofp (F := Ideal) .f32 (IntOp.cmpi .eq (q (ix1 z)) (q (ix1 k))) : EReal) * 1 := by
  pointwise [ones]

/-- One entry of the head-summing matrix: one where two columns share a head, zero elsewhere. -/
def same (z k : Fin 1024) : EReal := ((if z.val / 128 = k.val / 128 then 1 else 0 : ℝ) : EReal)

/-- The matrix sums over heads. -/
theorem ones_heads (z k : Fin 1024) : ones heads (ix2 z k) = same z k := by
  rw [ones_apply, heads_apply, heads_apply, ← EReal.coe_one]
  exact same_ofNat _ _ (by omega) (by omega) _

/-- The matrix the grid starts from. -/
theorem V_main_v12 : V m c main_v12 = ones heads := by
  after_reads_simp
  rfl

/-- The weights the grid starts from: three rows of zeros set below them. -/
def weights (w : FVec Ideal S5x3072 .f32) : FVec Ideal S8x3072 .f32 :=
  concatenate S8x3072 0 [⟨S5x3072, w⟩, ⟨S3x3072, broadcastInDim S3x3072 ![] bcast_S_S3x3072 (constant S_ .f32 0x00000000#32)⟩] concatenates_S5x3072_S3x3072_S8x3072_d0

/-- A tap's weights are where they were. -/
theorem weights_apply (w : FVec Ideal S5x3072 .f32) (j : Fin 5) (k : Fin 3072) : weights w (ix2 (tapRow j) k) = w (ix2 j k) := by
  pointwise [weights]
  exact dif_pos j.isLt

/-- The weights the grid starts from. -/
theorem V_main_v1 : V m c main_v1 = weights (W m c) := by
  after_reads_simp
  rfl

/-- The grid has 64 points. -/
theorem N_lt (t : Fin cfg0.N) : t.val < 64 := lt_of_lt_of_eq t.isLt N_0

/-- The sequence of a grid point. -/
def seq (t : Fin cfg0.N) : Fin 8 := ⟨t.val / 8, by have := N_lt t; omega⟩

/-- The tile of a grid point. -/
def tile (t : Fin cfg0.N) : Fin 8 := ⟨t.val % 8, by omega⟩

/-- A grid point's second coordinate is its tile. -/
theorem coord (t : Fin cfg0.N) : (grid0.coords t 1).val = (tile t).val :=
  (by decide +kernel : ∀ t : Fin grid0.N, (grid0.coords t 1).val = t.val % 8) t

/-- Where window 0's block lies at each grid point: the rows before its tile, at the queries' columns. -/
theorem idx0 : ∀ t : Fin cfg0.N, win0_0.index t = ![t.val / 8, t.val % 8 * 32 - 1, 4] :=
  (by decide +kernel : ∀ t : Fin grid0.N, win0_0.index t = ![t.val / 8, t.val % 8 * 32 - 1, 4])

/-- Window 0's block at an index. -/
theorem iblk0 (t : Fin cfg0.N) (k : Fin 1024) (e : Fin 8) : iblk m c 0 t (ix3 0 e k) = X m c (ix3 (seq t) (before (tile t) e) (far 0 k)) := by
  unfold X
  rw [← V_main_arg0 m c]
  unfold iblk
  rw [View.read_apply]
  show V m c main_arg0 _ = _
  blk_ext [seq, before, tile, far, idx0 t]

/-- Where window 1's block lies at each grid point: its tile, at the queries' columns. -/
theorem idx1 : ∀ t : Fin cfg0.N, win0_1.index t = ![t.val / 8, t.val % 8, 4] :=
  (by decide +kernel : ∀ t : Fin grid0.N, win0_1.index t = ![t.val / 8, t.val % 8, 4])

/-- Window 1's block at an index. -/
theorem iblk1 (t : Fin cfg0.N) (k : Fin 1024) (e : Fin 256) : iblk m c 1 t (ix3 0 e k) = X m c (ix3 (seq t) (row (tile t) e) (far 0 k)) := by
  unfold X
  rw [← V_main_arg0 m c]
  unfold iblk
  rw [View.read_apply]
  show V m c main_arg0 _ = _
  blk_ext [seq, row, tile, far, idx1 t]

/-- Where window 2's block lies at each grid point: the rows after its tile, at the queries' columns. -/
theorem idx2 : ∀ t : Fin cfg0.N, win0_2.index t = ![t.val / 8, min ((t.val % 8 + 1) * 32) 255, 4] :=
  (by decide +kernel : ∀ t : Fin grid0.N, win0_2.index t = ![t.val / 8, min ((t.val % 8 + 1) * 32) 255, 4])

/-- Window 2's block at an index. -/
theorem iblk2 (t : Fin cfg0.N) (k : Fin 1024) (e : Fin 8) : iblk m c 2 t (ix3 0 e k) = X m c (ix3 (seq t) (behind (tile t) e) (far 0 k)) := by
  unfold X
  rw [← V_main_arg0 m c]
  unfold iblk
  rw [View.read_apply]
  show V m c main_arg0 _ = _
  blk_ext [seq, behind, tile, far, idx2 t]

/-- Where window 3's block lies at each grid point: the rows before its tile, at the keys' columns. -/
theorem idx3 : ∀ t : Fin cfg0.N, win0_3.index t = ![t.val / 8, t.val % 8 * 32 - 1, 5] :=
  (by decide +kernel : ∀ t : Fin grid0.N, win0_3.index t = ![t.val / 8, t.val % 8 * 32 - 1, 5])

/-- Window 3's block at an index. -/
theorem iblk3 (t : Fin cfg0.N) (k : Fin 1024) (e : Fin 8) : iblk m c 3 t (ix3 0 e k) = X m c (ix3 (seq t) (before (tile t) e) (far 1 k)) := by
  unfold X
  rw [← V_main_arg0 m c]
  unfold iblk
  rw [View.read_apply]
  show V m c main_arg0 _ = _
  blk_ext [seq, before, tile, far, idx3 t]

/-- Where window 4's block lies at each grid point: its tile, at the keys' columns. -/
theorem idx4 : ∀ t : Fin cfg0.N, win0_4.index t = ![t.val / 8, t.val % 8, 5] :=
  (by decide +kernel : ∀ t : Fin grid0.N, win0_4.index t = ![t.val / 8, t.val % 8, 5])

/-- Window 4's block at an index. -/
theorem iblk4 (t : Fin cfg0.N) (k : Fin 1024) (e : Fin 256) : iblk m c 4 t (ix3 0 e k) = X m c (ix3 (seq t) (row (tile t) e) (far 1 k)) := by
  unfold X
  rw [← V_main_arg0 m c]
  unfold iblk
  rw [View.read_apply]
  show V m c main_arg0 _ = _
  blk_ext [seq, row, tile, far, idx4 t]

/-- Where window 5's block lies at each grid point: the rows after its tile, at the keys' columns. -/
theorem idx5 : ∀ t : Fin cfg0.N, win0_5.index t = ![t.val / 8, min ((t.val % 8 + 1) * 32) 255, 5] :=
  (by decide +kernel : ∀ t : Fin grid0.N, win0_5.index t = ![t.val / 8, min ((t.val % 8 + 1) * 32) 255, 5])

/-- Window 5's block at an index. -/
theorem iblk5 (t : Fin cfg0.N) (k : Fin 1024) (e : Fin 8) : iblk m c 5 t (ix3 0 e k) = X m c (ix3 (seq t) (behind (tile t) e) (far 1 k)) := by
  unfold X
  rw [← V_main_arg0 m c]
  unfold iblk
  rw [View.read_apply]
  show V m c main_arg0 _ = _
  blk_ext [seq, behind, tile, far, idx5 t]

/-- Where window 6's block lies at each grid point: the rows before its tile, at the values' columns. -/
theorem idx6 : ∀ t : Fin cfg0.N, win0_6.index t = ![t.val / 8, t.val % 8 * 32 - 1, 6] :=
  (by decide +kernel : ∀ t : Fin grid0.N, win0_6.index t = ![t.val / 8, t.val % 8 * 32 - 1, 6])

/-- Window 6's block at an index. -/
theorem iblk6 (t : Fin cfg0.N) (k : Fin 1024) (e : Fin 8) : iblk m c 6 t (ix3 0 e k) = X m c (ix3 (seq t) (before (tile t) e) (far 2 k)) := by
  unfold X
  rw [← V_main_arg0 m c]
  unfold iblk
  rw [View.read_apply]
  show V m c main_arg0 _ = _
  blk_ext [seq, before, tile, far, idx6 t]

/-- Where window 7's block lies at each grid point: its tile, at the values' columns. -/
theorem idx7 : ∀ t : Fin cfg0.N, win0_7.index t = ![t.val / 8, t.val % 8, 6] :=
  (by decide +kernel : ∀ t : Fin grid0.N, win0_7.index t = ![t.val / 8, t.val % 8, 6])

/-- Window 7's block at an index. -/
theorem iblk7 (t : Fin cfg0.N) (k : Fin 1024) (e : Fin 256) : iblk m c 7 t (ix3 0 e k) = X m c (ix3 (seq t) (row (tile t) e) (far 2 k)) := by
  unfold X
  rw [← V_main_arg0 m c]
  unfold iblk
  rw [View.read_apply]
  show V m c main_arg0 _ = _
  blk_ext [seq, row, tile, far, idx7 t]

/-- Where window 8's block lies at each grid point: the rows after its tile, at the values' columns. -/
theorem idx8 : ∀ t : Fin cfg0.N, win0_8.index t = ![t.val / 8, min ((t.val % 8 + 1) * 32) 255, 6] :=
  (by decide +kernel : ∀ t : Fin grid0.N, win0_8.index t = ![t.val / 8, min ((t.val % 8 + 1) * 32) 255, 6])

/-- Window 8's block at an index. -/
theorem iblk8 (t : Fin cfg0.N) (k : Fin 1024) (e : Fin 8) : iblk m c 8 t (ix3 0 e k) = X m c (ix3 (seq t) (behind (tile t) e) (far 2 k)) := by
  unfold X
  rw [← V_main_arg0 m c]
  unfold iblk
  rw [View.read_apply]
  show V m c main_arg0 _ = _
  blk_ext [seq, behind, tile, far, idx8 t]

/-- Window 9 is its whole array at every grid point. -/
theorem idx9 : ∀ t : Fin cfg0.N, win0_9.index t = ![0, 0] :=
  (by decide +kernel : ∀ t : Fin grid0.N, win0_9.index t = ![0, 0])

/-- Window 9's block at an index: a tap's weights. -/
theorem iblk9 (t : Fin cfg0.N) (j : Fin 5) (k : Fin 3072) : iblk m c 9 t (ix2 (tapRow j) k) = W m c (ix2 j k) := by
  rw [← weights_apply (W m c), ← V_main_v1]
  unfold iblk
  rw [View.read_apply]
  show V m c main_v1 _ = _
  blk_ext [tapRow, idx9 t]

/-- Window 10 is its whole array at every grid point. -/
theorem idx10 : ∀ t : Fin cfg0.N, win0_10.index t = ![0, 0] :=
  (by decide +kernel : ∀ t : Fin grid0.N, win0_10.index t = ![0, 0])

/-- Window 10's block at an index: the head-summing matrix. -/
theorem iblk10 (t : Fin cfg0.N) (z k : Fin 1024) : iblk m c 10 t (ix2 z k) = same z k := by
  rw [← ones_heads, ← V_main_v12 m c]
  unfold iblk
  rw [View.read_apply]
  show V m c main_v12 _ = _
  blk_ext [idx10 t]

/-- The convolution of a column of a sequence at a token, gated. -/
def conv (s : Fin 3) (b : Fin 8) (r : Fin 2048) (k : Fin 1024) : EReal :=
  silu (taps (fun j => padded (fun u => X m c (ix3 b u (far s k))) (r.val + j.val)) (fun j => W m c (ix2 j (col s k))))

/-- The weights' block at a point. -/
abbrev wts (t : Fin cfg0.N) : Vec Ideal S8x3072 .f32 := iblk m c 9 t

/-- The head-summing matrix's block at a point. -/
abbrev mat (t : Fin cfg0.N) : Vec Ideal S1024x1024 .bf16 := iblk m c 10 t

/-- The extended rows of the queries at a point. -/
abbrev ext0 (t : Fin cfg0.N) : FVec Ideal S272x1024 .f32 :=
  ext (BitVec.ofNat 32 (grid0.coords t 1).val) (iblk m c 0 t) (iblk m c 2 t) (iblk m c 1 t)

/-- A point's convolved queries. -/
theorem mixed0 (t : Fin cfg0.N) (r : Fin 256) (k : Fin 1024) : mixed (ext0 m c t) (wts m c t) 0 r k = conv m c 0 (seq t) (row (tile t) r) k := by
  unfold mixed conv
  refine congrArg silu (congrArg₂ taps (funext fun j => ?_) (funext fun j => iblk9 m c t j (col 0 k)))
  unfold ext0
  rw [coord]
  exact ext_under (tile t) _ _ _ (fun u => X m c (ix3 (seq t) u (far 0 k))) k (iblk0 m c t k) (iblk1 m c t k) (iblk2 m c t k) r j

/-- The extended rows of the keys at a point. -/
abbrev ext1 (t : Fin cfg0.N) : FVec Ideal S272x1024 .f32 :=
  ext (BitVec.ofNat 32 (grid0.coords t 1).val) (iblk m c 3 t) (iblk m c 5 t) (iblk m c 4 t)

/-- A point's convolved keys. -/
theorem mixed1 (t : Fin cfg0.N) (r : Fin 256) (k : Fin 1024) : mixed (ext1 m c t) (wts m c t) 1 r k = conv m c 1 (seq t) (row (tile t) r) k := by
  unfold mixed conv
  refine congrArg silu (congrArg₂ taps (funext fun j => ?_) (funext fun j => iblk9 m c t j (col 1 k)))
  unfold ext1
  rw [coord]
  exact ext_under (tile t) _ _ _ (fun u => X m c (ix3 (seq t) u (far 1 k))) k (iblk3 m c t k) (iblk4 m c t k) (iblk5 m c t k) r j

/-- The extended rows of the values at a point. -/
abbrev ext2 (t : Fin cfg0.N) : FVec Ideal S272x1024 .f32 :=
  ext (BitVec.ofNat 32 (grid0.coords t 1).val) (iblk m c 6 t) (iblk m c 8 t) (iblk m c 7 t)

/-- A point's convolved values. -/
theorem mixed2 (t : Fin cfg0.N) (r : Fin 256) (k : Fin 1024) : mixed (ext2 m c t) (wts m c t) 2 r k = conv m c 2 (seq t) (row (tile t) r) k := by
  unfold mixed conv
  refine congrArg silu (congrArg₂ taps (funext fun j => ?_) (funext fun j => iblk9 m c t j (col 2 k)))
  unfold ext2
  rw [coord]
  exact ext_under (tile t) _ _ _ (fun u => X m c (ix3 (seq t) u (far 2 k))) k (iblk6 m c t k) (iblk7 m c t k) (iblk8 m c t k) r j

/-- A point's queries, convolved and gated. -/
abbrev pre0 (t : Fin cfg0.N) : FVec Ideal S256x1024 .f32 :=
  k0_pay7 (k0_pay4 (wts m c t)) (k0_pay5 (grid0.coords t) (iblk m c 0 t) (iblk m c 2 t) (iblk m c 1 t)) (k0_pay6 (grid0.coords t) (wts m c t) (iblk m c 0 t) (iblk m c 2 t) (iblk m c 1 t)) 270#32

/-- A point's queries at an index. -/
theorem pre0_apply (t : Fin cfg0.N) (r : Fin 256) (k : Fin 1024) : pre0 m c t (ix2 r k) = conv m c 0 (seq t) (row (tile t) r) k :=
  (q_apply (grid0.coords t) _ _ _ _ r k).trans (mixed0 m c t r k)

/-- The result's queries, each over the root of its head's sum of squares, scaled. -/
def out0 (i : S8x2048x1024.Idx) : EReal :=
  unit (conv m c 0 (i 0) (i 1)) (fun z => same z (i 2)) (i 2) * Ideal.ofBits .f32 0x3DB504F3#32

/-- What a point stores of its queries. -/
abbrev store0 (t : Fin cfg0.N) : FVec Ideal S1x256x1024 .bf16 :=
  k0_pay1 (k0_pay17 (pre0 m c t) (mat m c t)) (k0_pay18 (F := Ideal))

/-- What a point stores of its queries, at an index. -/
theorem stored0 (t : Fin cfg0.N) (r : Fin 256) (k : Fin 1024) : store0 m c t (ix3 0 r k) = out0 m c (ix3 (seq t) (row (tile t) r) k) := by
  refine (pay1_apply _ _ r k).trans ?_
  have e1 : (fun z => pre0 m c t (ix2 r z)) = conv m c 0 (seq t) (row (tile t) r) := funext fun z => pre0_apply m c t r z
  have e2 : (fun z => mat m c t (ix2 z k)) = fun z => same z k := funext fun z => iblk10 m c t z k
  exact congrArg (· * Ideal.ofBits .f32 0x3DB504F3#32) (congrFun (congr (congrArg unit e1) e2) k)

/-- A point's block of the queries is what it stores of them. -/
theorem out0_eq (t : Fin cfg0.N) :
    out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) = store0 m c t := by
  frame_out [k0_pay19]

/-- Where window 11's block lies at each grid point. -/
theorem idx11 : ∀ t : Fin cfg0.N, win0_11.index t = ![t.val / 8, t.val % 8, 0] :=
  (by decide +kernel : ∀ t : Fin grid0.N, win0_11.index t = ![t.val / 8, t.val % 8, 0])

/-- The queries' array after the grid. -/
theorem array0 : (dats m 0 c).arrAt 11 cfg0.N = out0 m c := by
  refine (dats m 0 c).arrAt_eq_of_covers 11 _ (by decide +kernel) fun t hf y => ?_
  blk_simp
  rw [after0_11]
  obtain ⟨y, rfl⟩ : ∃ z : Fin 256 × Fin 1024, y = ix3 0 z.1 z.2 :=
    ⟨(y 1, y 2), by funext a; match a with | ⟨0, _⟩ => exact Subsingleton.elim (α := Fin 1) _ _ | ⟨1, _⟩ => rfl | ⟨2, _⟩ => rfl⟩
  refine ((congrFun (out0_eq m c t) _).trans (stored0 m c t y.1 y.2)).trans ?_
  have e : (win0_11.blk t).view.emb (ix3 0 y.1 y.2) = ix3 (seq t) (row (tile t) y.1) y.2 := by
    blk_ext [seq, row, tile, idx11 t]
  exact (congrArg (out0 m c) e).symm

/-- A point's keys, convolved and gated. -/
abbrev pre1 (t : Fin cfg0.N) : FVec Ideal S256x1024 .f32 :=
  k0_pay12 (k0_pay4 (wts m c t)) (ext1 m c t) (k0_pay9 (BitVec.ofNat 32 (grid0.coords t 1).val) (k0_pay4 (wts m c t)) (iblk m c 3 t) (iblk m c 5 t) (iblk m c 4 t)) (k0_pay10 (BitVec.ofNat 32 (grid0.coords t 1).val) (iblk m c 3 t) (iblk m c 5 t) (iblk m c 4 t)) (k0_pay11 (k0_pay4 (wts m c t)))

/-- A point's keys at an index. -/
theorem pre1_apply (t : Fin cfg0.N) (r : Fin 256) (k : Fin 1024) : pre1 m c t (ix2 r k) = conv m c 1 (seq t) (row (tile t) r) k :=
  (k_apply _ _ _ _ _ r k).trans (mixed1 m c t r k)

/-- The result's keys, each over the root of its head's sum of squares. -/
def out1 (i : S8x2048x1024.Idx) : EReal :=
  unit (conv m c 1 (i 0) (i 1)) (fun z => same z (i 2)) (i 2)

/-- What a point stores of its keys. -/
abbrev store1 (t : Fin cfg0.N) : FVec Ideal S1x256x1024 .bf16 :=
  k0_pay2 (pre1 m c t) (k0_pay16 (mat m c t))

/-- What a point stores of its keys, at an index. -/
theorem stored1 (t : Fin cfg0.N) (r : Fin 256) (k : Fin 1024) : store1 m c t (ix3 0 r k) = out1 m c (ix3 (seq t) (row (tile t) r) k) := by
  refine (pay2_apply _ _ r k).trans ?_
  have e1 : (fun z => pre1 m c t (ix2 r z)) = conv m c 1 (seq t) (row (tile t) r) := funext fun z => pre1_apply m c t r z
  have e2 : (fun z => mat m c t (ix2 z k)) = fun z => same z k := funext fun z => iblk10 m c t z k
  exact congrFun (congr (congrArg unit e1) e2) k

/-- A point's block of the keys is what it stores of them. -/
theorem out1_eq (t : Fin cfg0.N) :
    out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) = store1 m c t := by
  frame_out [k0_pay19]

/-- Where window 12's block lies at each grid point. -/
theorem idx12 : ∀ t : Fin cfg0.N, win0_12.index t = ![t.val / 8, t.val % 8, 0] :=
  (by decide +kernel : ∀ t : Fin grid0.N, win0_12.index t = ![t.val / 8, t.val % 8, 0])

/-- The keys' array after the grid. -/
theorem array1 : (dats m 0 c).arrAt 12 cfg0.N = out1 m c := by
  refine (dats m 0 c).arrAt_eq_of_covers 12 _ (by decide +kernel) fun t hf y => ?_
  blk_simp
  rw [after0_12]
  obtain ⟨y, rfl⟩ : ∃ z : Fin 256 × Fin 1024, y = ix3 0 z.1 z.2 :=
    ⟨(y 1, y 2), by funext a; match a with | ⟨0, _⟩ => exact Subsingleton.elim (α := Fin 1) _ _ | ⟨1, _⟩ => rfl | ⟨2, _⟩ => rfl⟩
  refine ((congrFun (out1_eq m c t) _).trans (stored1 m c t y.1 y.2)).trans ?_
  have e : (win0_12.blk t).view.emb (ix3 0 y.1 y.2) = ix3 (seq t) (row (tile t) y.1) y.2 := by
    blk_ext [seq, row, tile, idx12 t]
  exact (congrArg (out1 m c) e).symm

/-- A point's values, convolved and gated. -/
abbrev pre2 (t : Fin cfg0.N) : FVec Ideal S256x1024 .f32 :=
  k0_pay15 (k0_pay4 (wts m c t)) (k0_pay13 (BitVec.ofNat 32 (grid0.coords t 1).val) (iblk m c 6 t) (iblk m c 8 t) (iblk m c 7 t)) (k0_pay14 (BitVec.ofNat 32 (grid0.coords t 1).val) (k0_pay4 (wts m c t)) (iblk m c 6 t) (iblk m c 8 t) (iblk m c 7 t))

/-- A point's values at an index. -/
theorem pre2_apply (t : Fin cfg0.N) (r : Fin 256) (k : Fin 1024) : pre2 m c t (ix2 r k) = conv m c 2 (seq t) (row (tile t) r) k :=
  (v_apply _ _ _ _ _ r k).trans (mixed2 m c t r k)

/-- The result's values. -/
def out2 (i : S8x2048x1024.Idx) : EReal :=
  conv m c 2 (i 0) (i 1) (i 2)

/-- What a point stores of its values. -/
abbrev store2 (t : Fin cfg0.N) : FVec Ideal S1x256x1024 .bf16 :=
  k0_pay3 (pre2 m c t)

/-- What a point stores of its values, at an index. -/
theorem stored2 (t : Fin cfg0.N) (r : Fin 256) (k : Fin 1024) : store2 m c t (ix3 0 r k) = out2 m c (ix3 (seq t) (row (tile t) r) k) := by
  exact (pay3_apply _ r k).trans (pre2_apply m c t r k)

/-- A point's block of the values is what it stores of them. -/
theorem out2_eq (t : Fin cfg0.N) :
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) = store2 m c t := by
  frame_out [k0_pay19]

/-- Where window 13's block lies at each grid point. -/
theorem idx13 : ∀ t : Fin cfg0.N, win0_13.index t = ![t.val / 8, t.val % 8, 0] :=
  (by decide +kernel : ∀ t : Fin grid0.N, win0_13.index t = ![t.val / 8, t.val % 8, 0])

/-- The values' array after the grid. -/
theorem array2 : (dats m 0 c).arrAt 13 cfg0.N = out2 m c := by
  refine (dats m 0 c).arrAt_eq_of_covers 13 _ (by decide +kernel) fun t hf y => ?_
  blk_simp
  rw [after0_13]
  obtain ⟨y, rfl⟩ : ∃ z : Fin 256 × Fin 1024, y = ix3 0 z.1 z.2 :=
    ⟨(y 1, y 2), by funext a; match a with | ⟨0, _⟩ => exact Subsingleton.elim (α := Fin 1) _ _ | ⟨1, _⟩ => rfl | ⟨2, _⟩ => rfl⟩
  refine ((congrFun (out2_eq m c t) _).trans (stored2 m c t y.1 y.2)).trans ?_
  have e : (win0_13.blk t).view.emb (ix3 0 y.1 y.2) = ix3 (seq t) (row (tile t) y.1) y.2 := by
    blk_ext [seq, row, tile, idx13 t]
  exact (congrArg (out2 m c) e).symm

end

end Cert.DnPrepIdeal.Rows
-- ==== Proof.DnPrepHeads.lean ====
/- The delta-rule mixer's opening call: the reference's head norms, at an index. -/
module

public import proofs.«01_k».proof.Proof.DnPrepKernel
public import proofs.«01_k».proof.Proof.Gen.DnPrepReferenceIdeal.Run

@[expose] public section

set_option maxRecDepth 16384

namespace Cert.DnPrepReferenceIdeal.Rows

open Idealize.ShloMosaic Idealize.ShloMosaic.TcCoe Idealize.SL.Sem Layer
open Cert.DnPrepReferenceIdeal Cert.DnPrepReferenceIdeal.Gen
open Cert.DnPrepIdeal.Rows (taps silu padded col far unit same conv out0 out1 out2 X W)

noncomputable section

/-- The head of a column. -/
def headOf (k : Fin 1024) : Fin 8 := ⟨k.val / 128, by omega⟩

/-- The place of a column within its head. -/
def placeOf (k : Fin 1024) : Fin 128 := ⟨k.val % 128, by omega⟩

/-- The column at a place of a head. -/
def column (h : Fin 8) (l : Fin 128) : Fin 1024 := ⟨h.val * 128 + l.val, by omega⟩

/-- A column is the one at its place of its head. -/
theorem column_self (k : Fin 1024) : column (headOf k) (placeOf k) = k :=
  Fin.ext (by simp only [column, headOf, placeOf]; omega)

/-- The sum over each head. -/
def total (o : FVec Ideal S8x2048x8x128 .f32) : FVec Ideal S8x2048x8x1 .f32 :=
  broadcastInDim S8x2048x8x1 ![0, 1, 2] bcast_S8x2048x8_S8x2048x8x1_0_1_2 (Host.reduceAdd o (constant S_ .f32 0x00000000#32) reducesTo_S8x2048x8x128_S8x2048x8_d3 h_S_)

/-- The sum over a head at an index. -/
theorem total_apply (o : FVec Ideal S8x2048x8x128 .f32) (b : Fin 8) (r : Fin 2048) (h : Fin 8) :
    total o (ix4 b r h 0) = ∑ l : Fin 128, o (ix4 b r h l) := by
  pointwise [total]

/-- A square at an index. -/
theorem square_apply (o : FVec Ideal S8x2048x8x128 .f32) (i : S8x2048x8x128.Idx) : mulf o o i = (o i : EReal) * o i := rfl

/-- Each head over the root of its sum of squares. -/
def normed (o : FVec Ideal S8x2048x8x128 .f32) : FVec Ideal S8x2048x8x128 .f32 :=
  mulf o (broadcastInDim S8x2048x8x128 ![0, 1, 2, 3] bcast_S8x2048x8x1_S8x2048x8x128_0_1_2_3 (Host.rsqrt (addf (total (mulf o o)) (broadcastInDim S8x2048x8x1 ![] bcast_S_S8x2048x8x1 (constant S_ .f32 0x358637BD#32)))))

/-- The queries, head by head. -/
def queries (y : FVec Ideal S8x2048x3072 .f32) : FVec Ideal S8x2048x8x128 .f32 :=
  shapeCast S8x2048x8x128 (extractStridedSlice S8x2048x1024 ![0, 0, 0] y slices_S8x2048x3072_S8x2048x1024_0_0_0) shapeCasts_S8x2048x1024_S8x2048x8x128

/-- The keys, head by head. -/
def keys (y : FVec Ideal S8x2048x3072 .f32) : FVec Ideal S8x2048x8x128 .f32 :=
  shapeCast S8x2048x8x128 (extractStridedSlice S8x2048x1024 ![0, 0, 1024] y slices_S8x2048x3072_S8x2048x1024_0_0_1024) shapeCasts_S8x2048x1024_S8x2048x8x128

/-- The queries at an index. -/
theorem queries_apply (y : FVec Ideal S8x2048x3072 .f32) (b : Fin 8) (r : Fin 2048) (h : Fin 8) (l : Fin 128) :
    queries y (ix4 b r h l) = y (ix3 b r (col 0 (column h l))) := by
  have e : col 0 (column h l) = ⟨h.val * 128 + l.val, by omega⟩ := Fin.ext (by show 0 * 1024 + (h.val * 128 + l.val) = h.val * 128 + l.val; omega)
  rw [e]
  pointwise [queries]

/-- The keys at an index. -/
theorem keys_apply (y : FVec Ideal S8x2048x3072 .f32) (b : Fin 8) (r : Fin 2048) (h : Fin 8) (l : Fin 128) :
    keys y (ix4 b r h l) = y (ix3 b r (col 1 (column h l))) := by
  have e : col 1 (column h l) = ⟨1024 + (h.val * 128 + l.val), by omega⟩ := Fin.ext (by show 1 * 1024 + (h.val * 128 + l.val) = 1024 + (h.val * 128 + l.val); omega)
  rw [e]
  pointwise [keys]

/-- The reference's queries. -/
def result0 (o : FVec Ideal S8x2048x8x128 .f32) : FVec Ideal S8x2048x1024 .bf16 :=
  truncf .bf16 (shapeCast S8x2048x1024 (mulf (normed o) (broadcastInDim S8x2048x8x128 ![] bcast_S_S8x2048x8x128 (constant S_ .f32 0x3DB504F3#32))) shapeCasts_S8x2048x8x128_S8x2048x1024) bitsLt_bf16_f32

/-- The reference's keys. -/
def result1 (o : FVec Ideal S8x2048x8x128 .f32) : FVec Ideal S8x2048x1024 .bf16 :=
  truncf .bf16 (shapeCast S8x2048x1024 (normed o) shapeCasts_S8x2048x8x128_S8x2048x1024) bitsLt_bf16_f32

/-- The reference's values. -/
def result2 (y : FVec Ideal S8x2048x3072 .f32) : FVec Ideal S8x2048x1024 .bf16 :=
  truncf .bf16 (extractStridedSlice S8x2048x1024 ![0, 0, 2048] y slices_S8x2048x3072_S8x2048x1024_0_0_2048) bitsLt_bf16_f32

/-- The reference's queries at an index. -/
theorem result0_apply (o : FVec Ideal S8x2048x8x128 .f32) (b : Fin 8) (r : Fin 2048) (k : Fin 1024) :
    result0 o (ix3 b r k) = o (ix4 b r (headOf k) (placeOf k)) * Ideal.rsqrt (total (mulf o o) (ix4 b r (headOf k) 0) + Ideal.ofBits .f32 0x358637BD#32) * Ideal.ofBits .f32 0x3DB504F3#32 := by
  pointwise [result0, normed]
  rfl

/-- The reference's keys at an index. -/
theorem result1_apply (o : FVec Ideal S8x2048x8x128 .f32) (b : Fin 8) (r : Fin 2048) (k : Fin 1024) :
    result1 o (ix3 b r k) = o (ix4 b r (headOf k) (placeOf k)) * Ideal.rsqrt (total (mulf o o) (ix4 b r (headOf k) 0) + Ideal.ofBits .f32 0x358637BD#32) := by
  pointwise [result1, normed]
  rfl

/-- The reference's values at an index. -/
theorem result2_apply (y : FVec Ideal S8x2048x3072 .f32) (b : Fin 8) (r : Fin 2048) (k : Fin 1024) :
    result2 y (ix3 b r k) = y (ix3 b r (col 2 k)) := by
  rw [← Cert.DnPrepIdeal.Rows.col_2 k (by omega)]
  pointwise [result2]

end

end Cert.DnPrepReferenceIdeal.Rows
-- ==== Proof.DnPrepConv.lean ====
/- The delta-rule mixer's opening call: the reference's short convolution, at an index. -/
module

public import proofs.«01_k».proof.Proof.DnPrepKernel
public import proofs.«01_k».proof.Proof.Gen.DnPrepReferenceIdeal.Run

@[expose] public section

set_option maxRecDepth 16384

namespace Cert.DnPrepReferenceIdeal.Rows

open Idealize.ShloMosaic Idealize.ShloMosaic.TcCoe Idealize.SL.Sem Layer
open Cert.DnPrepReferenceIdeal Cert.DnPrepReferenceIdeal.Gen
open Cert.DnPrepIdeal.Rows (taps silu padded col far unit same conv out0 out1 out2 X W)

noncomputable section

/-- The convolved columns of the projection, two rows of zeros set before them and after them. -/
def cols (x : FVec Ideal S8x2048x8192 .f32) : FVec Ideal S8x2052x3072 .f32 :=
  pad S8x2052x3072 ![0, 2, 0] ![0, 2, 0] ![0, 0, 0] (extractStridedSlice S8x2048x3072 ![0, 0, 4096] x slices_S8x2048x8192_S8x2048x3072_0_0_4096) (sitofp .f32 (constantI S_ 32 0#32)) pads_S8x2048x3072_S8x2052x3072_000_220_000 h_S_

/-- The number nought is zero. -/
theorem nought : (FloatOps.sitofp (F := Ideal) .f32 (0#32 : BitVec 32) : EReal) = 0 := by
  show (((0#32 : BitVec 32).toInt : ℝ) : EReal) = 0
  simp

/-- The projection's column of a convolved one. -/
def shift (k : Fin 3072) : Fin 8192 := ⟨4096 + k.val, by omega⟩

/-- The padded columns at an index. -/
theorem cols_apply (x : FVec Ideal S8x2048x8192 .f32) (b : Fin 8) (r : Fin 2052) (k : Fin 3072) :
    cols x (ix3 b r k) = padded (fun u => x (ix3 b u (shift k))) r.val := by
  unfold cols padded
  rw [pad_apply]
  by_cases h : 2 ≤ r.val ∧ r.val - 2 < 2048
  · rw [dif_pos h, dif_pos (by
      intro a
      match a with
      | ⟨0, _⟩ => exact ⟨Nat.zero_le _, by show (b.val - 0) % 1 = 0; omega, by show (b.val - 0) / 1 < 8; omega⟩
      | ⟨1, _⟩ => exact ⟨h.1, by show (r.val - 2) % 1 = 0; omega, by show (r.val - 2) / 1 < 2048; omega⟩
      | ⟨2, _⟩ => exact ⟨Nat.zero_le _, by show (k.val - 0) % 1 = 0; omega, by show (k.val - 0) / 1 < 3072; omega⟩)]
    refine congrArg x (funext fun a => ?_)
    match a with
    | ⟨0, _⟩ => exact Fin.ext (by show 0 + (b.val - 0) / 1 = b.val; omega)
    | ⟨1, _⟩ => exact Fin.ext (by show 0 + (r.val - 2) / 1 = r.val - 2; omega)
    | ⟨2, _⟩ => exact Fin.ext (by show 4096 + (k.val - 0) / 1 = 4096 + k.val; omega)
  · rw [dif_neg h, dif_neg (fun g => h (by
      have g1 := g ⟨1, by decide⟩
      have g2 : (r.val - 2) / 1 < 2048 := g1.2.2
      exact ⟨g1.1, by omega⟩))]
    exact nought

/-- The padded row a tap of a token lies at. -/
def under (r : Fin 2048) (j : Fin 5) : Fin 2052 := ⟨r.val + j.val, by omega⟩

/-- The five shifted copies of the padded columns, weighted and summed. -/
def mix (p : FVec Ideal S8x2052x3072 .f32) (w : FVec Ideal S5x3072 .f32) : FVec Ideal S8x2048x3072 .f32 :=
  addf (addf (addf (addf (addf (broadcastInDim S8x2048x3072 ![] bcast_S_S8x2048x3072 (constant S_ .f32 0x00000000#32)) (mulf (extractStridedSlice S8x2048x3072 ![0, 0, 0] p slices_S8x2052x3072_S8x2048x3072_0_0_0) (broadcastInDim S8x2048x3072 ![0, 1, 2] bcast_S1x1x3072_S8x2048x3072_0_1_2 (broadcastInDim S1x1x3072 ![2] bcast_S3072_S1x1x3072_2 (shapeCast S3072 (extractStridedSlice S1x3072 ![0, 0] w slices_S5x3072_S1x3072_0_0) shapeCasts_S1x3072_S3072))))) (mulf (extractStridedSlice S8x2048x3072 ![0, 1, 0] p slices_S8x2052x3072_S8x2048x3072_0_1_0) (broadcastInDim S8x2048x3072 ![0, 1, 2] bcast_S1x1x3072_S8x2048x3072_0_1_2 (broadcastInDim S1x1x3072 ![2] bcast_S3072_S1x1x3072_2 (shapeCast S3072 (extractStridedSlice S1x3072 ![1, 0] w slices_S5x3072_S1x3072_1_0) shapeCasts_S1x3072_S3072))))) (mulf (extractStridedSlice S8x2048x3072 ![0, 2, 0] p slices_S8x2052x3072_S8x2048x3072_0_2_0) (broadcastInDim S8x2048x3072 ![0, 1, 2] bcast_S1x1x3072_S8x2048x3072_0_1_2 (broadcastInDim S1x1x3072 ![2] bcast_S3072_S1x1x3072_2 (shapeCast S3072 (extractStridedSlice S1x3072 ![2, 0] w slices_S5x3072_S1x3072_2_0) shapeCasts_S1x3072_S3072))))) (mulf (extractStridedSlice S8x2048x3072 ![0, 3, 0] p slices_S8x2052x3072_S8x2048x3072_0_3_0) (broadcastInDim S8x2048x3072 ![0, 1, 2] bcast_S1x1x3072_S8x2048x3072_0_1_2 (broadcastInDim S1x1x3072 ![2] bcast_S3072_S1x1x3072_2 (shapeCast S3072 (extractStridedSlice S1x3072 ![3, 0] w slices_S5x3072_S1x3072_3_0) shapeCasts_S1x3072_S3072))))) (mulf (extractStridedSlice S8x2048x3072 ![0, 4, 0] p slices_S8x2052x3072_S8x2048x3072_0_4_0) (broadcastInDim S8x2048x3072 ![0, 1, 2] bcast_S1x1x3072_S8x2048x3072_0_1_2 (broadcastInDim S1x1x3072 ![2] bcast_S3072_S1x1x3072_2 (shapeCast S3072 (extractStridedSlice S1x3072 ![4, 0] w slices_S5x3072_S1x3072_4_0) shapeCasts_S1x3072_S3072))))

/-- The padded row at tap 0. -/
theorem under_0 (r : Fin 2048) (h) : (⟨r.val, h⟩ : Fin 2052) = under r 0 := Fin.ext (by show r.val = r.val + 0; omega)

/-- The padded row at tap 1. -/
theorem under_1 (r : Fin 2048) (h) : (⟨1 + r.val, h⟩ : Fin 2052) = under r 1 := Fin.ext (by show 1 + r.val = r.val + 1; omega)

/-- The padded row at tap 2. -/
theorem under_2 (r : Fin 2048) (h) : (⟨2 + r.val, h⟩ : Fin 2052) = under r 2 := Fin.ext (by show 2 + r.val = r.val + 2; omega)

/-- The padded row at tap 3. -/
theorem under_3 (r : Fin 2048) (h) : (⟨3 + r.val, h⟩ : Fin 2052) = under r 3 := Fin.ext (by show 3 + r.val = r.val + 3; omega)

/-- The padded row at tap 4. -/
theorem under_4 (r : Fin 2048) (h) : (⟨4 + r.val, h⟩ : Fin 2052) = under r 4 := Fin.ext (by show 4 + r.val = r.val + 4; omega)

/-- The convolution at an index. -/
theorem mix_apply (p : FVec Ideal S8x2052x3072 .f32) (w : FVec Ideal S5x3072 .f32) (b : Fin 8) (r : Fin 2048) (k : Fin 3072) :
    mix p w (ix3 b r k) = taps (fun j => p (ix3 b (under r j) k)) (fun j => w (ix2 j k)) := by
  pointwise [mix]
  rw [under_0, under_1, under_2, under_3, under_4]
  rfl

/-- A value times its logistic, at every index. -/
def gated (y : FVec Ideal S8x2048x3072 .f32) : FVec Ideal S8x2048x3072 .f32 :=
  mulf y (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf y))))

/-- The gate at an index. -/
theorem gated_apply (y : FVec Ideal S8x2048x3072 .f32) (i : S8x2048x3072.Idx) : gated y i = silu (y i) := by
  pointwise [gated]
  unfold silu sigmoid
  rw [zero_sub]

/-- The convolved and gated columns. -/
def mixed (x : FVec Ideal S8x2048x8192 .f32) (w : FVec Ideal S5x3072 .f32) : FVec Ideal S8x2048x3072 .f32 := gated (mix (cols x) w)

/-- The reference's convolved and gated columns are the kernel's. -/
theorem mixed_apply (x : FVec Ideal S8x2048x8192 .f32) (w : FVec Ideal S5x3072 .f32) (b : Fin 8) (r : Fin 2048) (s : Fin 3) (k : Fin 1024) :
    mixed x w (ix3 b r (col s k)) = silu (taps (fun j => padded (fun u => x (ix3 b u (far s k))) (r.val + j.val)) (fun j => w (ix2 j (col s k)))) := by
  have e : shift (col s k) = far s k := Fin.ext (by show 4096 + (s.val * 1024 + k.val) = 4096 + s.val * 1024 + k.val; omega)
  unfold mixed
  rw [gated_apply, mix_apply]
  simp only [cols_apply, e]
  rfl

end

end Cert.DnPrepReferenceIdeal.Rows
-- ==== Proof.DnPrepValues.lean ====
/- The delta-rule mixer's opening call: the reference's three results, named. -/
module

public import proofs.«01_k».proof.Proof.DnPrepHeads
public import proofs.«01_k».proof.Proof.DnPrepConv
public import proofs.«01_k».proof.Proof.Gen.DnPrepReferenceIdeal.Run

@[expose] public section

set_option maxRecDepth 16384

namespace Cert.DnPrepReferenceIdeal.Rows

open Idealize.ShloMosaic Idealize.ShloMosaic.TcCoe Idealize.SL.Sem Layer
open Cert.DnPrepReferenceIdeal Cert.DnPrepReferenceIdeal.Gen
open Cert.DnPrepIdeal.Rows (taps silu padded col far unit same conv out0 out1 out2 X W)

noncomputable section

/-- The reference's queries, as its run gives them. -/
theorem value0 (m' : (ℓ : Loc nD τ sig) → Buf (Elt Ideal) ℓ) (c : Dev nD) :
    Cert.DnPrepReferenceIdeal.Value.res_main_v54 m' c = result0 (queries (mixed (m' ((c.tc : Thread nD τ).loc main_arg0)) (m' ((c.tc : Thread nD τ).loc main_arg1)))) := by
  unfold Cert.DnPrepReferenceIdeal.Value.res_main_v54 result0 queries normed total mixed gated mix cols
  rfl

/-- The reference's keys, as its run gives them. -/
theorem value1 (m' : (ℓ : Loc nD τ sig) → Buf (Elt Ideal) ℓ) (c : Dev nD) :
    Cert.DnPrepReferenceIdeal.Value.res_main_v65 m' c = result1 (keys (mixed (m' ((c.tc : Thread nD τ).loc main_arg0)) (m' ((c.tc : Thread nD τ).loc main_arg1)))) := by
  unfold Cert.DnPrepReferenceIdeal.Value.res_main_v65 result1 keys normed total mixed gated mix cols
  rfl

/-- The reference's values, as its run gives them. -/
theorem value2 (m' : (ℓ : Loc nD τ sig) → Buf (Elt Ideal) ℓ) (c : Dev nD) :
    Cert.DnPrepReferenceIdeal.Value.res_main_v66 m' c = result2 (mixed (m' ((c.tc : Thread nD τ).loc main_arg0)) (m' ((c.tc : Thread nD τ).loc main_arg1))) := by
  unfold Cert.DnPrepReferenceIdeal.Value.res_main_v66 result2 mixed gated mix cols
  rfl

end

end Cert.DnPrepReferenceIdeal.Rows
-- ==== Proof.DnPrepEquation.lean ====
/- The delta-rule mixer's opening call: kernel and reference give one result. -/
module

public import proofs.«01_k».proof.Proof.DnPrepValues
public import proofs.«01_k».proof.Proof.Gen.DnPrepReferenceIdeal.Run

@[expose] public section

set_option maxRecDepth 16384

namespace Cert.DnPrepReferenceIdeal.Rows

open Idealize.ShloMosaic Idealize.ShloMosaic.TcCoe Idealize.SL.Sem Layer
open Cert.DnPrepReferenceIdeal Cert.DnPrepReferenceIdeal.Gen
open Cert.DnPrepIdeal.Rows (taps silu padded col far unit same conv out0 out1 out2 X W)

noncomputable section

/-- The relations of shapes the precondition is written over. -/
instance preFacts : Cert.Pre_dn_prep_finite.Facts := ⟨by decide, by decide, by decide, by decide⟩

/-- A real times its logistic is real. -/
theorem silu_real {x : EReal} (hx : IsReal x) : IsReal (silu x) := by
  refine hx.mul ?_
  obtain ⟨a, rfl⟩ := hx
  exact ⟨_, DeltaScan.sigmoid_coe a⟩

/-- Five real taps against five real weights make a real. -/
theorem taps_real {x w : Fin 5 → EReal} (hx : ∀ j, IsReal (x j)) (hw : ∀ j, IsReal (w j)) : IsReal (taps x w) :=
  (((((hx 0).mul (hw 0)).add ((hx 1).mul (hw 1))).add ((hx 2).mul (hw 2))).add ((hx 3).mul (hw 3))).add ((hx 4).mul (hw 4))

/-- A real column is real once padded. -/
theorem padded_real {x : Fin 2048 → EReal} (hx : ∀ u, IsReal (x u)) (r : ℕ) : IsReal (padded x r) := by
  unfold padded
  by_cases h : 2 ≤ r ∧ r - 2 < 2048
  · rw [dif_pos h]
    exact hx _
  · rw [dif_neg h]
    exact ⟨0, EReal.coe_zero.symm⟩

/-- A real row against a head's ones is the head's sum. -/
theorem split_sum (f : Fin 1024 → EReal) (hf : ∀ z, IsReal (f z)) (k : Fin 1024) :
    split f (fun z => same z k) = ∑ l : Fin 128, f (column (headOf k) l) := by
  choose g hg using hf
  obtain rfl : f = fun z => (g z : EReal) := funext hg
  refine (split_group 8 128 rfl (by norm_num) g k 1 (fun l => by omega)).trans ?_
  rw [mul_one, DeltaScan.sum_coe]
  rfl

variable (m : (ℓ : Loc Cert.DnPrepIdeal.nD Cert.DnPrepIdeal.τ Cert.DnPrepIdeal.sig) → Buf (Elt Ideal) ℓ) (c : Dev Cert.DnPrepIdeal.nD)

/-- The queries' and keys' convolution is real where the columns and the weights are. -/
theorem conv_real (hX : ∀ (b : Fin 8) (u : Fin 2048) (k : Fin 2048), IsReal (X m c (ix3 b u ⟨4096 + k.val, by omega⟩)))
    (hW : ∀ (j : Fin 5) (k : Fin 2048), IsReal (W m c (ix2 j ⟨k.val, by omega⟩))) (s : Fin 3) (hs : s.val < 2) (b : Fin 8) (r : Fin 2048) (k : Fin 1024) :
    IsReal (conv m c s b r k) := by
  refine silu_real (taps_real (fun j => padded_real (fun u => ?_) _) (fun j => hW j ⟨s.val * 1024 + k.val, by omega⟩))
  have e : far s k = ⟨4096 + (⟨s.val * 1024 + k.val, by omega⟩ : Fin 2048).val, by show 4096 + (s.val * 1024 + k.val) < 8192; omega⟩ :=
    Fin.ext (by show 4096 + s.val * 1024 + k.val = 4096 + (s.val * 1024 + k.val); omega)
  show IsReal (X m c (ix3 b u (far s k)))
  rw [e]
  exact hX b u _

/-- The projection's columns for the queries and keys are real. -/
theorem given_X (h : Cert.Pre_DnPrepIdeal_dn_prep_finite m) (b : Fin 8) (u : Fin 2048) (k : Fin 2048) : IsReal (X m c (ix3 b u ⟨4096 + k.val, by omega⟩)) := by
  have e : extractStridedSlice Cert.Pre_dn_prep_finite.S8x2048x2048 ![0, 0, 4096] (X m c) Cert.Pre_dn_prep_finite.Facts.slices_S8x2048x8192_S8x2048x2048_0_0_4096 (ix3 b u k) = X m c (ix3 b u ⟨4096 + k.val, by omega⟩) := by
    pointwise
  rw [← e]
  exact ⟨_, Cert.Finite.real_f32 _ _ (h c).1 (ix3 b u k)⟩

/-- The weights for the queries and keys are real. -/
theorem given_W (h : Cert.Pre_DnPrepIdeal_dn_prep_finite m) (j : Fin 5) (k : Fin 2048) : IsReal (W m c (ix2 j ⟨k.val, by omega⟩)) := by
  have e : extractStridedSlice Cert.Pre_dn_prep_finite.S5x2048 ![0, 0] (W m c) Cert.Pre_dn_prep_finite.Facts.slices_S5x3072_S5x2048_0_0 (ix2 j k) = W m c (ix2 j ⟨k.val, by omega⟩) := by
    pointwise
  rw [← e]
  exact ⟨_, Cert.Finite.real_f32 _ _ (h c).2 (ix2 j k)⟩

/-- The reference's queries, head by head, are the kernel's. -/
theorem queries_eq (b : Fin 8) (r : Fin 2048) (h : Fin 8) (l : Fin 128) : queries (mixed (X m c) (W m c)) (ix4 b r h l) = conv m c 0 b r (column h l) :=
  (queries_apply _ b r h l).trans (mixed_apply _ _ b r 0 _)

/-- The kernel's product with the head-summing matrix is the reference's sum of squares of the queries, on real rows. -/
theorem queries_total (h : Cert.Pre_DnPrepIdeal_dn_prep_finite m) (b : Fin 8) (r : Fin 2048) (k : Fin 1024) :
    split (fun z => conv m c 0 b r z * conv m c 0 b r z) (fun z => same z k)
      = total (mulf (queries (mixed (X m c) (W m c))) (queries (mixed (X m c) (W m c)))) (ix4 b r (headOf k) 0) := by
  have hr : ∀ z, IsReal (conv m c 0 b r z) := conv_real m c (given_X m c h) (given_W m c h) 0 (by decide) b r
  refine (split_sum _ (fun z => (hr z).mul (hr z)) k).trans (Eq.trans ?_ (total_apply _ _ _ _).symm)
  refine Finset.sum_congr rfl fun l _ => ?_
  rw [square_apply, queries_eq]

/-- The reference's queries are the kernel's result. -/
theorem result0_eq (h : Cert.Pre_DnPrepIdeal_dn_prep_finite m) : result0 (queries (mixed (X m c) (W m c))) = out0 m c := by
  funext i
  obtain ⟨y, rfl⟩ : ∃ z : Fin 8 × Fin 2048 × Fin 1024, i = ix3 z.1 z.2.1 z.2.2 :=
    ⟨(i 0, i 1, i 2), by funext a; match a with | ⟨0, _⟩ => rfl | ⟨1, _⟩ => rfl | ⟨2, _⟩ => rfl⟩
  refine (result0_apply _ y.1 y.2.1 y.2.2).trans ?_
  rw [queries_eq, column_self, ← queries_total m c h]
  rfl

/-- The reference's keys, head by head, are the kernel's. -/
theorem keys_eq (b : Fin 8) (r : Fin 2048) (h : Fin 8) (l : Fin 128) : keys (mixed (X m c) (W m c)) (ix4 b r h l) = conv m c 1 b r (column h l) :=
  (keys_apply _ b r h l).trans (mixed_apply _ _ b r 1 _)

/-- The kernel's product with the head-summing matrix is the reference's sum of squares of the keys, on real rows. -/
theorem keys_total (h : Cert.Pre_DnPrepIdeal_dn_prep_finite m) (b : Fin 8) (r : Fin 2048) (k : Fin 1024) :
    split (fun z => conv m c 1 b r z * conv m c 1 b r z) (fun z => same z k)
      = total (mulf (keys (mixed (X m c) (W m c))) (keys (mixed (X m c) (W m c)))) (ix4 b r (headOf k) 0) := by
  have hr : ∀ z, IsReal (conv m c 1 b r z) := conv_real m c (given_X m c h) (given_W m c h) 1 (by decide) b r
  refine (split_sum _ (fun z => (hr z).mul (hr z)) k).trans (Eq.trans ?_ (total_apply _ _ _ _).symm)
  refine Finset.sum_congr rfl fun l _ => ?_
  rw [square_apply, keys_eq]

/-- The reference's keys are the kernel's result. -/
theorem result1_eq (h : Cert.Pre_DnPrepIdeal_dn_prep_finite m) : result1 (keys (mixed (X m c) (W m c))) = out1 m c := by
  funext i
  obtain ⟨y, rfl⟩ : ∃ z : Fin 8 × Fin 2048 × Fin 1024, i = ix3 z.1 z.2.1 z.2.2 :=
    ⟨(i 0, i 1, i 2), by funext a; match a with | ⟨0, _⟩ => rfl | ⟨1, _⟩ => rfl | ⟨2, _⟩ => rfl⟩
  refine (result1_apply _ y.1 y.2.1 y.2.2).trans ?_
  rw [keys_eq, column_self, ← keys_total m c h]
  rfl

/-- The reference's values are the kernel's result. -/
theorem result2_eq : result2 (mixed (X m c) (W m c)) = out2 m c := by
  funext i
  obtain ⟨y, rfl⟩ : ∃ z : Fin 8 × Fin 2048 × Fin 1024, i = ix3 z.1 z.2.1 z.2.2 :=
    ⟨(i 0, i 1, i 2), by funext a; match a with | ⟨0, _⟩ => rfl | ⟨1, _⟩ => rfl | ⟨2, _⟩ => rfl⟩
  exact (result2_apply _ y.1 y.2.1 y.2.2).trans (mixed_apply _ _ y.1 y.2.1 2 y.2.2)

/-- Kernel and reference, run on the same arguments, the queries' and keys' columns and weights finite, end with equal results. -/
theorem algebraic : Cert.algebraic_DnPrepIdeal_DnPrepReferenceIdeal_pre_dn_prep_finite := by
  intro m g m' g' hpre hagree
  refine ⟨fun c => out0 m c, fun c => out1 m c, fun c => out2 m c, ?_, ?_⟩
  · refine (θ_run _ _ _).mono (fun r h c => ?_) (Cert.DnPrepIdeal.Value.run_blocks m g)
    exact ⟨(h c).1.trans (Cert.DnPrepIdeal.Rows.array0 m c), (h c).2.1.trans (Cert.DnPrepIdeal.Rows.array1 m c), (h c).2.2.1.trans (Cert.DnPrepIdeal.Rows.array2 m c), (h c).2.2.2⟩
  · refine (θ_run _ _ _).mono (fun r h c => ?_) (Cert.DnPrepReferenceIdeal.Value.run m' g')
    obtain ⟨e0, e1⟩ := hagree c
    have e : mixed (m' ((c.tc : Thread nD τ).loc main_arg0)) (m' ((c.tc : Thread nD τ).loc main_arg1)) = mixed (X m c) (W m c) := congrArg₂ mixed e0 e1
    exact ⟨(h c).1.trans ((value0 m' c).trans ((congrArg (fun y => result0 (queries y)) e).trans (result0_eq m c hpre))),
      (h c).2.1.trans ((value1 m' c).trans ((congrArg (fun y => result1 (keys y)) e).trans (result1_eq m c hpre))),
      (h c).2.2.1.trans ((value2 m' c).trans ((congrArg result2 e).trans (result2_eq m c))), (h c).2.2.2⟩

/-- The reference ends with its arguments unchanged and, since it declares no semaphore, every counter at zero. -/
theorem reference_frame (m : (ℓ : Loc Cert.DnPrepReferenceIdeal.nD Cert.DnPrepReferenceIdeal.τ Cert.DnPrepReferenceIdeal.sig) → Buf (Elt Ideal) ℓ) (g : Dev Cert.DnPrepReferenceIdeal.nD → PrngReg) :
    θ_run (Cert.DnPrepReferenceIdeal.defs (F := Ideal)) (onTc (τ := Cert.DnPrepReferenceIdeal.τ) (Cert.DnPrepReferenceIdeal.main (F := Ideal))) ⟨m, fun _ => 0, g⟩ (fun r =>
      (∀ c : Dev Cert.DnPrepReferenceIdeal.nD,
        r.2.mem ((c.tc : Thread Cert.DnPrepReferenceIdeal.nD Cert.DnPrepReferenceIdeal.τ).loc Cert.DnPrepReferenceIdeal.main_arg0) = m ((c.tc : Thread Cert.DnPrepReferenceIdeal.nD Cert.DnPrepReferenceIdeal.τ).loc Cert.DnPrepReferenceIdeal.main_arg0) ∧ r.2.mem ((c.tc : Thread Cert.DnPrepReferenceIdeal.nD Cert.DnPrepReferenceIdeal.τ).loc Cert.DnPrepReferenceIdeal.main_arg1) = m ((c.tc : Thread Cert.DnPrepReferenceIdeal.nD Cert.DnPrepReferenceIdeal.τ).loc Cert.DnPrepReferenceIdeal.main_arg1))
      ∧ r.2.sem = fun _ => 0) :=
  (θ_run _ _ _).mono (fun r h => ⟨fun c => (h c).2.2.2, sem_eq_zero_of_no_sems (by decide) r.2⟩) (Cert.DnPrepReferenceIdeal.Value.run m g)

end

end Cert.DnPrepReferenceIdeal.Rows
-- ==== Proof.lean ====
module

public import proofs.«01_k».proof.Defs
public import proofs.«01_k».proof.Proof.Gen.Kernel
public import proofs.«01_k».proof.Proof.Gen.Kernel.Frame
public import proofs.«01_k».proof.Proof.DnPrepEquation
public import proofs.«01_k».proof.Proof.Gen.Ffn
public import proofs.«01_k».proof.Proof.Gen.Ffn.Frame
public import proofs.«01_k».proof.Proof.Gen.FfnIdeal.Value
public import proofs.«01_k».proof.Proof.Gen.FfnReferenceIdeal.Run
public import proofs.«01_k».proof.Proof.Gen.Merge
public import proofs.«01_k».proof.Proof.Gen.Merge.Frame
public import proofs.«01_k».proof.Proof.Gen.MergeIdeal.Value
public import proofs.«01_k».proof.Proof.Gen.MergeReferenceIdeal.Run
public import proofs.«01_k».proof.Proof.Gen.Proj
public import proofs.«01_k».proof.Proof.Gen.Proj.Frame
public import proofs.«01_k».proof.Proof.Gen.ProjIdeal.Value
public import proofs.«01_k».proof.Proof.Gen.ProjReferenceIdeal.Run
public import proofs.«01_k».proof.Proof.Gen.Ple
public import proofs.«01_k».proof.Proof.Gen.Ple.Frame
public import proofs.«01_k».proof.Proof.Gen.PleIdeal.Value
public import proofs.«01_k».proof.Proof.Gen.PleReferenceIdeal.Run
public import proofs.«01_k».proof.Proof.Gen.Final
public import proofs.«01_k».proof.Proof.Gen.Final.Frame
public import proofs.«01_k».proof.Proof.Gen.FinalIdeal.Value
public import proofs.«01_k».proof.Proof.Gen.FinalReferenceIdeal.Run
public import proofs.«01_k».proof.Proof.Gen.S5Proj
public import proofs.«01_k».proof.Proof.Gen.S5Proj.Frame
public import proofs.«01_k».proof.Proof.Gen.S5ProjIdeal.Value
public import proofs.«01_k».proof.Proof.Gen.S5ProjReferenceIdeal.Run
public import proofs.«01_k».proof.Proof.Gen.S5Post
public import proofs.«01_k».proof.Proof.Gen.S5Post.Frame
public import proofs.«01_k».proof.Proof.Gen.S5PostIdeal.Value
public import proofs.«01_k».proof.Proof.Gen.S5PostReferenceIdeal.Run
public import proofs.«01_k».proof.Proof.Gen.DnPost
public import proofs.«01_k».proof.Proof.Gen.DnPost.Frame
public import proofs.«01_k».proof.Proof.Gen.DnPostIdeal.Value
public import proofs.«01_k».proof.Proof.Gen.DnPostReferenceIdeal.Run
public import proofs.«01_k».proof.Proof.Gen.RwkvPost
public import proofs.«01_k».proof.Proof.Gen.RwkvPost.Frame
public import proofs.«01_k».proof.Proof.Gen.RwkvPostIdeal.Value
public import proofs.«01_k».proof.Proof.Gen.RwkvPostReferenceIdeal.Run
public import proofs.«01_k».proof.Proof.Gen.DnPrep
public import proofs.«01_k».proof.Proof.Gen.DnPrep.Frame
public import proofs.«01_k».proof.Proof.Gen.DnPrepIdeal.Value
public import proofs.«01_k».proof.Proof.Gen.DnPrepReferenceIdeal.Run
public import Idealize.ShloMosaic.Adequacy
public import Idealize.ShloMosaic.Init

@[expose] public section

noncomputable section

namespace Cert.Proof

open Idealize.ShloMosaic Idealize.SL.Sem

/-- Every claim: the frames are the generated ones and the references' own, nothing was rewritten, and the results are equal. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Merge.Gen.facts, Cert.MergeIdeal.Gen.facts, Cert.MergeReferenceIdeal.Gen.facts,
  Cert.Proj.Gen.facts, Cert.ProjIdeal.Gen.facts, Cert.ProjReferenceIdeal.Gen.facts,
  Cert.Ple.Gen.facts, Cert.PleIdeal.Gen.facts, Cert.PleReferenceIdeal.Gen.facts,
  Cert.Final.Gen.facts, Cert.FinalIdeal.Gen.facts, Cert.FinalReferenceIdeal.Gen.facts,
  Cert.S5Proj.Gen.facts, Cert.S5ProjIdeal.Gen.facts, Cert.S5ProjReferenceIdeal.Gen.facts,
  Cert.S5Post.Gen.facts, Cert.S5PostIdeal.Gen.facts, Cert.S5PostReferenceIdeal.Gen.facts,
  Cert.DnPost.Gen.facts, Cert.DnPostIdeal.Gen.facts, Cert.DnPostReferenceIdeal.Gen.facts,
  Cert.RwkvPost.Gen.facts, Cert.RwkvPostIdeal.Gen.facts, Cert.RwkvPostReferenceIdeal.Gen.facts,
  Cert.DnPrep.Gen.facts, Cert.DnPrepIdeal.Gen.facts, Cert.DnPrepReferenceIdeal.Gen.facts,
  Cert.Finite.preFacts, Cert.DnPostReferenceIdeal.Rows.preFacts, Cert.RwkvPostReferenceIdeal.Rows.preFacts, Cert.DnPrepReferenceIdeal.Rows.preFacts,
  fun m ρ _ => Cert.Kernel.Gen.frame m ρ,
  fun m ρ _ => Cert.KernelIdeal.Gen.frame m ρ,
  fun m ρ _ => Cert.KernelIdeal.Gen.frame m ρ,
  fun m ρ _ => Cert.Equation.reference_frame m ρ,
  fun m ρ _ => Cert.Equation.reference_frame m ρ,
  fun m ρ _ => Cert.Ffn.Gen.frame m ρ,
  fun m ρ _ => Cert.FfnIdeal.Gen.frame m ρ,
  fun m ρ _ => Cert.FfnReferenceIdeal.Rows.reference_frame m ρ,
  fun m ρ _ => Cert.Merge.Gen.frame m ρ,
  fun m ρ _ => Cert.MergeIdeal.Gen.frame m ρ,
  fun m ρ _ => Cert.MergeReferenceIdeal.Rows.reference_frame m ρ,
  fun m ρ _ => Cert.Proj.Gen.frame m ρ,
  fun m ρ _ => Cert.ProjIdeal.Gen.frame m ρ,
  fun m ρ _ => Cert.ProjReferenceIdeal.Rows.reference_frame m ρ,
  fun m ρ _ => Cert.Ple.Gen.frame m ρ,
  fun m ρ _ => Cert.PleIdeal.Gen.frame m ρ,
  fun m ρ _ => Cert.PleReferenceIdeal.Rows.reference_frame m ρ,
  fun m ρ _ => Cert.Final.Gen.frame m ρ,
  fun m ρ _ => Cert.FinalIdeal.Gen.frame m ρ,
  fun m ρ _ => Cert.FinalReferenceIdeal.Rows.reference_frame m ρ,
  fun m ρ _ => Cert.S5Proj.Gen.frame m ρ,
  fun m ρ _ => Cert.S5ProjIdeal.Gen.frame m ρ,
  fun m ρ _ => Cert.S5ProjReferenceIdeal.Rows.reference_frame m ρ,
  fun m ρ _ => Cert.S5Post.Gen.frame m ρ,
  fun m ρ _ => Cert.S5PostIdeal.Gen.frame m ρ,
  fun m ρ _ => Cert.S5PostReferenceIdeal.Rows.reference_frame m ρ,
  fun m ρ _ => Cert.DnPost.Gen.frame m ρ,
  fun m ρ _ => Cert.DnPostIdeal.Gen.frame m ρ,
  fun m ρ _ => Cert.DnPostIdeal.Gen.frame m ρ,
  fun m ρ _ => Cert.DnPostReferenceIdeal.Rows.reference_frame m ρ,
  fun m ρ _ => Cert.DnPostReferenceIdeal.Rows.reference_frame m ρ,
  fun m ρ _ => Cert.RwkvPost.Gen.frame m ρ,
  fun m ρ _ => Cert.RwkvPostIdeal.Gen.frame m ρ,
  fun m ρ _ => Cert.RwkvPostIdeal.Gen.frame m ρ,
  fun m ρ _ => Cert.RwkvPostReferenceIdeal.Rows.reference_frame m ρ,
  fun m ρ _ => Cert.RwkvPostReferenceIdeal.Rows.reference_frame m ρ,
  fun m ρ _ => Cert.DnPrep.Gen.frame m ρ,
  fun m ρ _ => Cert.DnPrepIdeal.Gen.frame m ρ,
  fun m ρ _ => Cert.DnPrepIdeal.Gen.frame m ρ,
  fun m ρ _ => Cert.DnPrepReferenceIdeal.Rows.reference_frame m ρ,
  fun m ρ _ => Cert.DnPrepReferenceIdeal.Rows.reference_frame m ρ,
  trivial,
  Cert.Equation.algebraic,
  trivial,
  Cert.FfnReferenceIdeal.Rows.algebraic,
  trivial,
  Cert.MergeReferenceIdeal.Rows.algebraic,
  trivial,
  Cert.ProjReferenceIdeal.Rows.algebraic,
  trivial,
  Cert.PleReferenceIdeal.Rows.algebraic,
  trivial,
  Cert.FinalReferenceIdeal.Rows.algebraic,
  trivial,
  Cert.S5ProjReferenceIdeal.Rows.algebraic,
  trivial,
  Cert.S5PostReferenceIdeal.Rows.algebraic,
  trivial,
  Cert.DnPostReferenceIdeal.Rows.algebraic,
  trivial,
  Cert.RwkvPostReferenceIdeal.Rows.algebraic,
  trivial,
  Cert.DnPrepReferenceIdeal.Rows.algebraic⟩

end Cert.Proof

end
